-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v148) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v26)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v61_0)) (v1 : (c : Dev Cert.Kernel7Ideal.nD) → Buf (Elt Ideal) ((c.tc : Thread Cert.Kernel7Ideal.nD Cert.Kernel7Ideal.τ).loc Cert.Kernel7Ideal.main_v61_1)) (v2 : (c : Dev Cert.Kernel7Ideal.nD) → Buf (Elt Ideal) ((c.tc : Thread Cert.Kernel7Ideal.nD Cert.Kernel7Ideal.τ).loc Cert.Kernel7Ideal.main_v61_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v61_0) = v0 c
          ∧ r.2.mem ((c.tc : Thread Cert.Kernel7Ideal.nD Cert.Kernel7Ideal.τ).loc Cert.Kernel7Ideal.main_v61_1) = v1 c
          ∧ r.2.mem ((c.tc : Thread Cert.Kernel7Ideal.nD Cert.Kernel7Ideal.τ).loc Cert.Kernel7Ideal.main_v61_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v90) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_v92) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)) (v1 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_v8) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_routed := hPre_routed)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S12288x3072 : Shape := ⟨2, ![12288, 3072]⟩
abbrev S12288x4096 : Shape := ⟨2, ![12288, 4096]⟩
abbrev S12288x64 : Shape := ⟨2, ![12288, 64]⟩
abbrev S2x256x4096 : Shape := ⟨3, ![2, 256, 4096]⟩
abbrev S2x256x64 : Shape := ⟨3, ![2, 256, 64]⟩
abbrev S_ : Shape := ⟨0, ![]⟩

class Facts : Prop where
  bcast_S_S12288x3072 : S_.BroadcastsInDim S12288x3072 (![] : Fin 0 → Fin S12288x3072.rank)
  reducesTo_S12288x3072_S_d0_1 : S12288x3072.ReducesTo [0, 1] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S12288x64 : S_.BroadcastsInDim S12288x64 (![] : Fin 0 → Fin S12288x64.rank)
  reducesTo_S12288x64_S_d0_1 : S12288x64.ReducesTo [0, 1] S_
  bcast_S_S2x256x4096 : S_.BroadcastsInDim S2x256x4096 (![] : Fin 0 → Fin S2x256x4096.rank)
  reducesTo_S2x256x4096_S_d0_1_2 : S2x256x4096.ReducesTo [0, 1, 2] S_
  bcast_S_S2x256x64 : S_.BroadcastsInDim S2x256x64 (![] : Fin 0 → Fin S2x256x64.rank)
  reducesTo_S2x256x64_S_d0_1_2 : S2x256x64.ReducesTo [0, 1, 2] S_

variable [Facts]

def fn_part1 {F : FTy → Type} [FloatOps F] (main_arg4 : FVec F S2x256x64 .f32) (main_v13 : IVec S_ 1) (main_v16 : IVec S2x256x4096 1) : IVec S_ 1 :=
  let main_c_5 : IVec S_ 1 := constantI S_ 1 1#1
  let main_v17 : IVec S_ 1 := (fun x v => Host.reduce IntOp.andi x v reducesTo_S2x256x4096_S_d0_1_2 h_S_) main_v16 main_c_5
  let main_v18 : IVec S_ 1 := andi main_v13 main_v17
  let main_v19 : FVec F S2x256x64 .f32 := Host.absf main_arg4
  let main_cst_6 : FVec F S_ .f32 := constant S_ .f32 0x7F800000#32
  let main_v20 : FVec F S2x256x64 .f32 := broadcastInDim S2x256x64 ![] bcast_S_S2x256x64 main_cst_6
  let main_v21 : IVec S2x256x64 1 := cmpf .olt main_v19 main_v20
  let main_c_7 : IVec S_ 1 := constantI S_ 1 1#1
  let main_v22 : IVec S_ 1 := (fun x v => Host.reduce IntOp.andi x v reducesTo_S2x256x64_S_d0_1_2 h_S_) main_v21 main_c_7
  let main_v23 : IVec S_ 1 := andi main_v18 main_v22
  main_v23

def fn {F : FTy → Type} [FloatOps F] (main_arg0 : FVec F S12288x3072 .f32) (main_arg1 : FVec F S12288x4096 .f32) (main_arg2 : FVec F S12288x64 .f32) (main_arg3 : FVec F S2x256x4096 .f32) (main_arg4 : FVec F S2x256x64 .f32) : IVec S_ 1 :=
  let main_v0 : FVec F S12288x3072 .f32 := Host.absf main_arg0
  let main_cst : FVec F S_ .f32 := constant S_ .f32 0x7F800000#32
  let main_v1 : FVec F S12288x3072 .f32 := broadcastInDim S12288x3072 ![] bcast_S_S12288x3072 main_cst
  let main_v2 : IVec S12288x3072 1 := cmpf .olt main_v0 main_v1
  let main_c : IVec S_ 1 := constantI S_ 1 1#1
  let main_v3 : IVec S_ 1 := (fun x v => Host.reduce IntOp.andi x v reducesTo_S12288x3072_S_d0_1 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S12288x64 .f32 := Host.absf main_arg2
  let main_cst_2 : FVec F S_ .f32 := constant S_ .f32 0x7F800000#32
  let main_v10 : FVec F S12288x64 .f32 := broadcastInDim S12288x64 ![] bcast_S_S12288x64 main_cst_2
  let main_v11 : IVec S12288x64 1 := cmpf .olt main_v9 main_v10
  let main_c_3 : IVec S_ 1 := constantI S_ 1 1#1
  let main_v12 : IVec S_ 1 := (fun x v => Host.reduce IntOp.andi x v reducesTo_S12288x64_S_d0_1 h_S_) main_v11 main_c_3
  let main_v13 : IVec S_ 1 := andi main_v8 main_v12
  let main_v14 : FVec F S2x256x4096 .f32 := Host.absf main_arg3
  let main_cst_4 : FVec F S_ .f32 := constant S_ .f32 0x7F800000#32
  let main_v15 : FVec F S2x256x4096 .f32 := broadcastInDim S2x256x4096 ![] bcast_S_S2x256x4096 main_cst_4
  let main_v16 : IVec S2x256x4096 1 := cmpf .olt main_v14 main_v15
  fn_part1 (F := F) main_arg4 main_v13 main_v16
-- ==== Pre_routed.lean ====
abbrev S32768x4096 : Shape := ⟨2, ![32768, 4096]⟩
abbrev S32 : Shape := ⟨1, ![32]⟩
abbrev S1 : Shape := ⟨1, ![1]⟩
abbrev S32768 : Shape := ⟨1, ![32768]⟩
abbrev S8x4096x2048 : Shape := ⟨3, ![8, 4096, 2048]⟩
abbrev S8x2048x4096 : Shape := ⟨3, ![8, 2048, 4096]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S32768x4096 .f32) (main_arg1 : IVec S32 32) (main_arg2 : IVec S1 32) (main_arg3 : FVec F S32768 .f32) (main_arg4 : FVec F S8x4096x2048 .f32) (main_arg5 : FVec F S8x4096x2048 .f32) (main_arg6 : FVec F S8x2048x4096 .f32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 1 := constantI S_ 1 1#1
  let main_v2 : IVec S_ 1 := (fun x v => Host.reduce IntOp.andi x v reducesTo_S32_S_d0 h_S_) main_v1 main_c_0
  let main_c_1 : IVec S_ 32 := constantI S_ 32 8#32
  let main_v3 : IVec S32 32 := broadcastInDim S32 ![] bcast_S_S32 main_c_1
  let main_v4 : IVec S32 1 := cmpi .slt main_arg1 main_v3
  let main_c_2 : IVec S_ 1 := constantI S_ 1 1#1
  let main_v5 : IVec S_ 1 := (fun x v => Host.reduce IntOp.andi x v reducesTo_S32_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 32#32
  let main_v11 : IVec S1 32 := broadcastInDim S1 ![] bcast_S_S1 main_c_5
  let main_v12 : IVec S1 1 := cmpi .sle main_arg2 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S12288x3072 : Shape := ⟨2, ![12288, 3072]⟩
abbrev S12288x4096 : Shape := ⟨2, ![12288, 4096]⟩
abbrev S12288x64 : Shape := ⟨2, ![12288, 64]⟩
abbrev S2x256x4096 : Shape := ⟨3, ![2, 256, 4096]⟩
abbrev S2x256x64 : Shape := ⟨3, ![2, 256, 64]⟩
abbrev S64 : Shape := ⟨1, ![64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S8192x64 : Shape := ⟨2, ![8192, 64]⟩
abbrev S1x2048x1x64 : Shape := ⟨4, ![1, 2048, 1, 64]⟩
abbrev S2x2048x1x64 : Shape := ⟨4, ![2, 2048, 1, 64]⟩
abbrev S4096x64 : Shape := ⟨2, ![4096, 64]⟩
abbrev S12288x128 : Shape := ⟨2, ![12288, 128]⟩
abbrev S12288x256 : Shape := ⟨2, ![12288, 256]⟩
abbrev S12288x16x192 : Shape := ⟨3, ![12288, 16, 192]⟩
abbrev S12288x16x64 : Shape := ⟨3, ![12288, 16, 64]⟩
abbrev S12288x16x128 : Shape := ⟨3, ![12288, 16, 128]⟩
abbrev S64x1 : Shape := ⟨2, ![64, 1]⟩
abbrev S12288x16x256 : Shape := ⟨3, ![12288, 16, 256]⟩
abbrev S512x4096 : Shape := ⟨2, ![512, 4096]⟩
abbrev S2x256x128 : Shape := ⟨3, ![2, 256, 128]⟩
abbrev S512x128 : Shape := ⟨2, ![512, 128]⟩
abbrev S4096x2048 : Shape := ⟨2, ![4096, 2048]⟩
abbrev S256x128 : Shape := ⟨2, ![256, 128]⟩
abbrev S256x512 : Shape := ⟨2, ![256, 512]⟩
abbrev S2048x512 : Shape := ⟨2, ![2048, 512]⟩
abbrev S2048x128 : Shape := ⟨2, ![2048, 128]⟩
abbrev S256x256 : Shape := ⟨2, ![256, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩

abbrev nBuf : Space → Nat
  | .hbm => 120
  | .vmem => 14
  | .smem => 0
  | _ => 0

abbrev bufTy : (tb : Table) → Fin (tcTables nBuf tb) → BufTy
  | .hbm, ⟨0, _⟩ => ⟨S12288x3072, .f32⟩
  | .hbm, ⟨1, _⟩ => ⟨S12288x4096, .f32⟩
  | .hbm, ⟨2, _⟩ => ⟨S12288x64, .f32⟩
  | .hbm, ⟨3, _⟩ => ⟨S2x256x4096, .f32⟩
  | .hbm, ⟨4, _⟩ => ⟨S2x256x64, .f32⟩
  | .hbm, ⟨5, _⟩ => ⟨S64, .i32⟩
  | .hbm, ⟨6, _⟩ => ⟨S2048, .i32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048, .f32⟩
  | .hbm, ⟨37, _⟩ => ⟨S2048x1, .f32⟩
  | .hbm, ⟨38, _⟩ => ⟨S1x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S_, .i32⟩
  | .hbm, ⟨57, _⟩ => ⟨S_, .i1⟩
  | .hbm, ⟨58, _⟩ => ⟨S2048, .i1⟩
  | .hbm, ⟨59, _⟩ => ⟨S2048, .i1⟩
  | .hbm, ⟨60, _⟩ => ⟨S2048, .i1⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048, .f32⟩
  | .hbm, ⟨65, _⟩ => ⟨S2048x1, .f32⟩
  | .hbm, ⟨66, _⟩ => ⟨S1x16, .f32⟩
  | .hbm, ⟨67, _⟩ => ⟨S2048x16, .f32⟩
  | .hbm, ⟨68, _⟩ => ⟨S2048x16, .f32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x64, .f32⟩
  | .hbm, ⟨75, _⟩ => ⟨S2048x16, .f32⟩
  | .hbm, ⟨76, _⟩ => ⟨S2048x16, .f32⟩
  | .hbm, ⟨77, _⟩ => ⟨S2048x16, .f32⟩
  | .hbm, ⟨78, _⟩ => ⟨S2048x16, .f32⟩
  | .hbm, ⟨79, _⟩ => ⟨S2048x16, .f32⟩
  | .hbm, ⟨80, _⟩ => ⟨S2048x16, .f32⟩
  | .hbm, ⟨81, _⟩ => ⟨S2048x64, .f32⟩
  | .hbm, ⟨82, _⟩ => ⟨S_, .f32⟩
  | .hbm, ⟨83, _⟩ => ⟨S8192x64, .f32⟩
  | .hbm, ⟨84, _⟩ => ⟨S1x2048x1x64, .f32⟩
  | .hbm, ⟨85, _⟩ => ⟨S2x2048x1x64, .f32⟩
  | .hbm, ⟨86, _⟩ => ⟨S4096x64, .f32⟩
  | .hbm, ⟨87, _⟩ => ⟨S12288x64, .f32⟩
  | .hbm, ⟨88, _⟩ => ⟨S_, .f32⟩
  | .hbm, ⟨89, _⟩ => ⟨S8192x64, .f32⟩
  | .hbm, ⟨90, _⟩ => ⟨S1x2048x1x64, .f32⟩
  | .hbm, ⟨91, _⟩ => ⟨S2x2048x1x64, .f32⟩
  | .hbm, ⟨92, _⟩ => ⟨S4096x64, .f32⟩
  | .hbm, ⟨93, _⟩ => ⟨S12288x64, .f32⟩
  | .hbm, ⟨94, _⟩ => ⟨S12288x128, .f32⟩
  | .hbm, ⟨95, _⟩ => ⟨S12288x256, .f32⟩
  | .hbm, ⟨96, _⟩ => ⟨S12288x16x192, .f32⟩
  | .hbm, ⟨97, _⟩ => ⟨S12288x16x64, .f32⟩
  | .hbm, ⟨98, _⟩ => ⟨S12288x16x128, .f32⟩
  | .hbm, ⟨99, _⟩ => ⟨S_, .i32⟩
  | .hbm, ⟨100, _⟩ => ⟨S64, .i32⟩
  | .hbm, ⟨101, _⟩ => ⟨S64, .i1⟩
  | .hbm, ⟨102, _⟩ => ⟨S_, .i32⟩
  | .hbm, ⟨103, _⟩ => ⟨S64, .i32⟩
  | .hbm, ⟨104, _⟩ => ⟨S64, .i32⟩
  | .hbm, ⟨105, _⟩ => ⟨S64, .i32⟩
  | .hbm, ⟨106, _⟩ => ⟨S64x1, .i32⟩
  | .hbm, ⟨107, _⟩ => ⟨S12288x16x64, .f32⟩
  | .hbm, ⟨108, _⟩ => ⟨S12288x16x256, .f32⟩
  | .hbm, ⟨109, _⟩ => ⟨S12288x4096, .f32⟩
  | .hbm, ⟨110, _⟩ => ⟨S12288x4096, .bf16⟩
  | .hbm, ⟨111, _⟩ => ⟨S12288x128, .f32⟩
  | .hbm, ⟨112, _⟩ => ⟨S12288x128, .bf16⟩
  | .hbm, ⟨113, _⟩ => ⟨S512x4096, .f32⟩
  | .hbm, ⟨114, _⟩ => ⟨S512x4096, .bf16⟩
  | .hbm, ⟨115, _⟩ => ⟨S2x256x128, .f32⟩
  | .hbm, ⟨116, _⟩ => ⟨S2x256x128, .bf16⟩
  | .hbm, ⟨117, _⟩ => ⟨S512x128, .bf16⟩
  | .hbm, ⟨118, _⟩ => ⟨S12288x4096, .bf16⟩
  | .hbm, ⟨119, _⟩ => ⟨S4096x2048, .f32⟩
  | .local _ .vmem, ⟨0, _⟩ => ⟨S256x128, .f32⟩
  | .local _ .vmem, ⟨1, _⟩ => ⟨S256x128, .f32⟩
  | .local _ .vmem, ⟨2, _⟩ => ⟨S256x512, .bf16⟩
  | .local _ .vmem, ⟨3, _⟩ => ⟨S256x512, .bf16⟩
  | .local _ .vmem, ⟨4, _⟩ => ⟨S2048x512, .bf16⟩
  | .local _ .vmem, ⟨5, _⟩ => ⟨S2048x512, .bf16⟩
  | .local _ .vmem, ⟨6, _⟩ => ⟨S2048x128, .bf16⟩
  | .local _ .vmem, ⟨7, _⟩ => ⟨S2048x128, .bf16⟩
  | .local _ .vmem, ⟨8, _⟩ => ⟨S256x512, .bf16⟩
  | .local _ .vmem, ⟨9, _⟩ => ⟨S256x512, .bf16⟩
  | .local _ .vmem, ⟨10, _⟩ => ⟨S256x128, .bf16⟩
  | .local _ .vmem, ⟨11, _⟩ => ⟨S256x128, .bf16⟩
  | .local _ .vmem, ⟨12, _⟩ => ⟨S256x256, .f32⟩
  | .local _ .vmem, ⟨13, _⟩ => ⟨S256x256, .f32⟩
  | _, _ => ⟨S12288x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_3 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst_4 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_5 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_c_6 : Ref sig .tc := ⟨.hbm, 99, rfl⟩
abbrev main_v50 : Ref sig .tc := ⟨.hbm, 100, rfl⟩
abbrev main_v51 : Ref sig .tc := ⟨.hbm, 101, rfl⟩
abbrev main_c_7 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg2
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S12288x3072 : Shape := ⟨2, ![12288, 3072]⟩
abbrev S12288x4096 : Shape := ⟨2, ![12288, 4096]⟩
abbrev S12288x64 : Shape := ⟨2, ![12288, 64]⟩
abbrev S2x256x4096 : Shape := ⟨3, ![2, 256, 4096]⟩
abbrev S2x256x64 : Shape := ⟨3, ![2, 256, 64]⟩
abbrev S4096x3072 : Shape := ⟨2, ![4096, 3072]⟩
abbrev S2x2048x16x192 : Shape := ⟨4, ![2, 2048, 16, 192]⟩
abbrev S4096x4096 : Shape := ⟨2, ![4096, 4096]⟩
abbrev S2x2048x16x256 : Shape := ⟨4, ![2, 2048, 16, 256]⟩
abbrev S2x256x16x256 : Shape := ⟨4, ![2, 256, 16, 256]⟩
abbrev S32 : Shape := ⟨1, ![32]⟩
abbrev S64 : Shape := ⟨1, ![64]⟩
abbrev S32x64 : Shape := ⟨2, ![32, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2x2048x16x128 : Shape := ⟨4, ![2, 2048, 16, 128]⟩
abbrev S2x2048x16x64 : Shape := ⟨4, ![2, 2048, 16, 64]⟩
abbrev S2048x1x16 : Shape := ⟨3, ![2048, 1, 16]⟩
abbrev S2x2048x16x32 : Shape := ⟨4, ![2, 2048, 16, 32]⟩
abbrev S2x2048x16x16 : Shape := ⟨4, ![2, 2048, 16, 16]⟩
abbrev S1x2048x1x16 : Shape := ⟨4, ![1, 2048, 1, 16]⟩
abbrev S2x256x16x128 : Shape := ⟨4, ![2, 256, 16, 128]⟩
abbrev S2x2304x16x128 : Shape := ⟨4, ![2, 2304, 16, 128]⟩
abbrev S4096x64 : Shape := ⟨2, ![4096, 64]⟩
abbrev S2x2048x64 : Shape := ⟨3, ![2, 2048, 64]⟩
abbrev S2x2304x64 : Shape := ⟨3, ![2, 2304, 64]⟩
abbrev S2x16x2048x2304 : Shape := ⟨4, ![2, 16, 2048, 2304]⟩
abbrev S2x2304x2048x16 : Shape := ⟨4, ![2, 2304, 2048, 16]⟩
abbrev S2x16x2048 : Shape := ⟨3, ![2, 16, 2048]⟩
abbrev S2x16x2048x1 : Shape := ⟨4, ![2, 16, 2048, 1]⟩
abbrev S2x16x128x2048 : Shape := ⟨4, ![2, 16, 128, 2048]⟩
abbrev S4096x2048 : Shape := ⟨2, ![4096, 2048]⟩

abbrev nBuf : Space → Nat
  | .hbm => 117
  | .vmem => 0
  | .smem => 0
  | _ => 0

abbrev bufTy : (tb : Table) → Fin (tcTables nBuf tb) → BufTy
  | .hbm, ⟨0, _⟩ => ⟨S12288x3072, .f32⟩
  | .hbm, ⟨1, _⟩ => ⟨S12288x4096, .f32⟩
  | .hbm, ⟨2, _⟩ => ⟨S12288x64, .f32⟩
  | .hbm, ⟨3, _⟩ => ⟨S2x256x4096, .f32⟩
  | .hbm, ⟨4, _⟩ => ⟨S2x256x64, .f32⟩
  | .hbm, ⟨5, _⟩ => ⟨S4096x3072, .f32⟩
  | .hbm, ⟨6, _⟩ => ⟨S2x2048x16x192, .f32⟩
  | .hbm, ⟨7, _⟩ => ⟨S4096x4096, .f32⟩
  | .hbm, ⟨8, _⟩ => ⟨S2x2048x16x256, .f32⟩
  | .hbm, ⟨9, _⟩ => ⟨S2x256x16x256, .f32⟩
  | .hbm, ⟨10, _⟩ => ⟨S32, .i32⟩
  | .hbm, ⟨11, _⟩ => ⟨S64, .i32⟩
  | .hbm, ⟨12, _⟩ => ⟨S32x64, .i32⟩
  | .hbm, ⟨13, _⟩ => ⟨S32x64, .i32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S2048, .i32⟩
  | .hbm, ⟨26, _⟩ => ⟨S2048, .f32⟩
  | .hbm, ⟨27, _⟩ => ⟨S2048x1, .f32⟩
  | .hbm, ⟨28, _⟩ => ⟨S1x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048, .i32⟩
  | .hbm, ⟨33, _⟩ => ⟨S2048, .f32⟩
  | .hbm, ⟨34, _⟩ => ⟨S2048x1, .f32⟩
  | .hbm, ⟨35, _⟩ => ⟨S1x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2x2048x16x128, .f32⟩
  | .hbm, ⟨40, _⟩ => ⟨S2x2048x16x64, .f32⟩
  | .hbm, ⟨41, _⟩ => ⟨S2048x1x16, .f32⟩
  | .hbm, ⟨42, _⟩ => ⟨S2048x1x16, .f32⟩
  | .hbm, ⟨43, _⟩ => ⟨S2x2048x16x32, .f32⟩
  | .hbm, ⟨44, _⟩ => ⟨S2x2048x16x32, .f32⟩
  | .hbm, ⟨45, _⟩ => ⟨S2x2048x16x16, .f32⟩
  | .hbm, ⟨46, _⟩ => ⟨S2x2048x16x16, .f32⟩
  | .hbm, ⟨47, _⟩ => ⟨S2048x1x16, .f32⟩
  | .hbm, ⟨48, _⟩ => ⟨S2048x1x16, .f32⟩
  | .hbm, ⟨49, _⟩ => ⟨S1x2048x1x16, .f32⟩
  | .hbm, ⟨50, _⟩ => ⟨S2x2048x16x16, .f32⟩
  | .hbm, ⟨51, _⟩ => ⟨S2x2048x16x16, .f32⟩
  | .hbm, ⟨52, _⟩ => ⟨S1x2048x1x16, .f32⟩
  | .hbm, ⟨53, _⟩ => ⟨S2x2048x16x16, .f32⟩
  | .hbm, ⟨54, _⟩ => ⟨S2x2048x16x16, .f32⟩
  | .hbm, ⟨55, _⟩ => ⟨S2x2048x16x16, .f32⟩
  | .hbm, ⟨56, _⟩ => ⟨S1x2048x1x16, .f32⟩
  | .hbm, ⟨57, _⟩ => ⟨S2x2048x16x16, .f32⟩
  | .hbm, ⟨58, _⟩ => ⟨S2x2048x16x16, .f32⟩
  | .hbm, ⟨59, _⟩ => ⟨S1x2048x1x16, .f32⟩
  | .hbm, ⟨60, _⟩ => ⟨S2x2048x16x16, .f32⟩
  | .hbm, ⟨61, _⟩ => ⟨S2x2048x16x16, .f32⟩
  | .hbm, ⟨62, _⟩ => ⟨S2x2048x16x16, .f32⟩
  | .hbm, ⟨63, _⟩ => ⟨S2x2048x16x32, .f32⟩
  | .hbm, ⟨64, _⟩ => ⟨S2x2048x16x16, .f32⟩
  | .hbm, ⟨65, _⟩ => ⟨S2x2048x16x16, .f32⟩
  | .hbm, ⟨66, _⟩ => ⟨S2048x1x16, .f32⟩
  | .hbm, ⟨67, _⟩ => ⟨S2048x1x16, .f32⟩
  | .hbm, ⟨68, _⟩ => ⟨S1x2048x1x16, .f32⟩
  | .hbm, ⟨69, _⟩ => ⟨S2x2048x16x16, .f32⟩
  | .hbm, ⟨70, _⟩ => ⟨S2x2048x16x16, .f32⟩
  | .hbm, ⟨71, _⟩ => ⟨S1x2048x1x16, .f32⟩
  | .hbm, ⟨72, _⟩ => ⟨S2x2048x16x16, .f32⟩
  | .hbm, ⟨73, _⟩ => ⟨S2x2048x16x16, .f32⟩
  | .hbm, ⟨74, _⟩ => ⟨S2x2048x16x16, .f32⟩
  | .hbm, ⟨75, _⟩ => ⟨S1x2048x1x16, .f32⟩
  | .hbm, ⟨76, _⟩ => ⟨S2x2048x16x16, .f32⟩
  | .hbm, ⟨77, _⟩ => ⟨S2x2048x16x16, .f32⟩
  | .hbm, ⟨78, _⟩ => ⟨S1x2048x1x16, .f32⟩
  | .hbm, ⟨79, _⟩ => ⟨S2x2048x16x16, .f32⟩
  | .hbm, ⟨80, _⟩ => ⟨S2x2048x16x16, .f32⟩
  | .hbm, ⟨81, _⟩ => ⟨S2x2048x16x16, .f32⟩
  | .hbm, ⟨82, _⟩ => ⟨S2x2048x16x32, .f32⟩
  | .hbm, ⟨83, _⟩ => ⟨S2x2048x16x64, .f32⟩
  | .hbm, ⟨84, _⟩ => ⟨S2x256x16x128, .f32⟩
  | .hbm, ⟨85, _⟩ => ⟨S2x2048x16x128, .f32⟩
  | .hbm, ⟨86, _⟩ => ⟨S2x2304x16x128, .f32⟩
  | .hbm, ⟨87, _⟩ => ⟨S4096x64, .f32⟩
  | .hbm, ⟨88, _⟩ => ⟨S2x2048x64, .f32⟩
  | .hbm, ⟨89, _⟩ => ⟨S2x2304x64, .f32⟩
  | .hbm, ⟨90, _⟩ => ⟨S2x256x16x128, .f32⟩
  | .hbm, ⟨91, _⟩ => ⟨S2x2048x16x128, .f32⟩
  | .hbm, ⟨92, _⟩ => ⟨S2x2304x16x128, .f32⟩
  | .hbm, ⟨93, _⟩ => ⟨S2x16x2048x2304, .f32⟩
  | .hbm, ⟨94, _⟩ => ⟨S2x2304x2048x16, .f32⟩
  | .hbm, ⟨95, _⟩ => ⟨S2x16x2048x2304, .f32⟩
  | .hbm, ⟨96, _⟩ => ⟨S2x16x2048x2304, .f32⟩
  | .hbm, ⟨97, _⟩ => ⟨S_, .f32⟩
  | .hbm, ⟨98, _⟩ => ⟨S2x16x2048x2304, .f32⟩
  | .hbm, ⟨99, _⟩ => ⟨S2x16x2048x2304, .f32⟩
  | .hbm, ⟨100, _⟩ => ⟨S_, .f32⟩
  | .hbm, ⟨101, _⟩ => ⟨S2x16x2048, .f32⟩
  | .hbm, ⟨102, _⟩ => ⟨S_, .f32⟩
  | .hbm, ⟨103, _⟩ => ⟨S2x16x2048, .f32⟩
  | .hbm, ⟨104, _⟩ => ⟨S2x16x2048, .f32⟩
  | .hbm, ⟨105, _⟩ => ⟨S2x16x2048x1, .f32⟩
  | .hbm, ⟨106, _⟩ => ⟨S2x16x2048x2304, .f32⟩
  | .hbm, ⟨107, _⟩ => ⟨S2x16x2048x2304, .f32⟩
  | .hbm, ⟨108, _⟩ => ⟨S2x16x2048x2304, .f32⟩
  | .hbm, ⟨109, _⟩ => ⟨S_, .f32⟩
  | .hbm, ⟨110, _⟩ => ⟨S2x16x2048, .f32⟩
  | .hbm, ⟨111, _⟩ => ⟨S2x16x2048x1, .f32⟩
  | .hbm, ⟨112, _⟩ => ⟨S2x16x2048x2304, .f32⟩
  | .hbm, ⟨113, _⟩ => ⟨S2x16x2048x2304, .f32⟩
  | .hbm, ⟨114, _⟩ => ⟨S2x16x128x2048, .f32⟩
  | .hbm, ⟨115, _⟩ => ⟨S2x2048x16x128, .f32⟩
  | .hbm, ⟨116, _⟩ => ⟨S4096x2048, .f32⟩
  | _, _ => ⟨S12288x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_cst_2 : Ref sig .tc := ⟨.hbm, 97, rfl⟩
abbrev main_v89 : Ref sig .tc := ⟨.hbm, 98, rfl⟩
abbrev main_v90 : Ref sig .tc := ⟨.hbm, 99, rfl⟩
abbrev main_cst_3 : Ref sig .tc := ⟨.hbm, 100, rfl⟩
abbrev main_v91 : Ref sig .tc := ⟨.hbm, 101, rfl⟩
abbrev main_cst_4 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_5 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩

abbrev nD : Nat := 1
abbrev τ : Topo := Topo.v7x

variable {F : FTy → Type} [FloatOps F]
-- ==== Kernel2.lean ====
abbrev S32x256x4096 : Shape := ⟨3, ![32, 256, 4096]⟩
abbrev S2x2048x4096 : Shape := ⟨3, ![2, 2048, 4096]⟩
abbrev S4096 : Shape := ⟨1, ![4096]⟩
abbrev S1x1x4096 : Shape := ⟨3, ![1, 1, 4096]⟩
abbrev S2x1x4096 : Shape := ⟨3, ![2, 1, 4096]⟩
abbrev S4096x11008 : Shape := ⟨2, ![4096, 11008]⟩
abbrev S11008x4096 : Shape := ⟨2, ![11008, 4096]⟩
abbrev S8192x4096 : Shape := ⟨2, ![8192, 4096]⟩
abbrev S4096x4096 : Shape := ⟨2, ![4096, 4096]⟩
abbrev S12288x4096 : Shape := ⟨2, ![12288, 4096]⟩
abbrev S_ : Shape := ⟨0, ![]⟩
abbrev S5x1x4096 : Shape := ⟨3, ![5, 1, 4096]⟩
abbrev S8x1x4096 : Shape := ⟨3, ![8, 1, 4096]⟩
abbrev S4096x11264 : Shape := ⟨2, ![4096, 11264]⟩
abbrev S11264x4096 : Shape := ⟨2, ![11264, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S12288x11264 : Shape := ⟨2, ![12288, 11264]⟩
abbrev S1024x4096 : Shape := ⟨2, ![1024, 4096]⟩
abbrev S4096x512 : Shape := ⟨2, ![4096, 512]⟩
abbrev S1024x512 : Shape := ⟨2, ![1024, 512]⟩
abbrev S512x11264 : Shape := ⟨2, ![512, 11264]⟩
abbrev S11264x512 : Shape := ⟨2, ![11264, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 36
  | .vmem => 27
  | .smem => 0
  | _ => 0

abbrev bufTy : (tb : Table) → Fin (tcTables nBuf tb) → BufTy
  | .hbm, ⟨0, _⟩ => ⟨S32x256x4096, .f32⟩
  | .hbm, ⟨1, _⟩ => ⟨S2x2048x4096, .f32⟩
  | .hbm, ⟨2, _⟩ => ⟨S4096, .f32⟩
  | .hbm, ⟨3, _⟩ => ⟨S1x1x4096, .f32⟩
  | .hbm, ⟨4, _⟩ => ⟨S1x1x4096, .f32⟩
  | .hbm, ⟨5, _⟩ => ⟨S1x1x4096, .f32⟩
  | .hbm, ⟨6, _⟩ => ⟨S2x1x4096, .f32⟩
  | .hbm, ⟨7, _⟩ => ⟨S2x1x4096, .f32⟩
  | .hbm, ⟨8, _⟩ => ⟨S2x1x4096, .f32⟩
  | .hbm, ⟨9, _⟩ => ⟨S4096x11008, .f32⟩
  | .hbm, ⟨10, _⟩ => ⟨S4096x11008, .f32⟩
  | .hbm, ⟨11, _⟩ => ⟨S11008x4096, .f32⟩
  | .hbm, ⟨12, _⟩ => ⟨S8192x4096, .f32⟩
  | .hbm, ⟨13, _⟩ => ⟨S4096x4096, .f32⟩
  | .hbm, ⟨14, _⟩ => ⟨S12288x4096, .f32⟩
  | .hbm, ⟨15, _⟩ => ⟨S_, .f32⟩
  | .hbm, ⟨16, _⟩ => ⟨S5x1x4096, .f32⟩
  | .hbm, ⟨17, _⟩ => ⟨S8x1x4096, .f32⟩
  | .hbm, ⟨18, _⟩ => ⟨S8x1x4096, .f32⟩
  | .hbm, ⟨19, _⟩ => ⟨S8x1x4096, .f32⟩
  | .hbm, ⟨20, _⟩ => ⟨S_, .i32⟩
  | .hbm, ⟨21, _⟩ => ⟨S_, .f32⟩
  | .hbm, ⟨22, _⟩ => ⟨S4096x11264, .f32⟩
  | .hbm, ⟨23, _⟩ => ⟨S4096x11264, .bf16⟩
  | .hbm, ⟨24, _⟩ => ⟨S_, .i32⟩
  | .hbm, ⟨25, _⟩ => ⟨S_, .f32⟩
  | .hbm, ⟨26, _⟩ => ⟨S4096x11264, .f32⟩
  | .hbm, ⟨27, _⟩ => ⟨S4096x11264, .bf16⟩
  | .hbm, ⟨28, _⟩ => ⟨S_, .i32⟩
  | .hbm, ⟨29, _⟩ => ⟨S_, .f32⟩
  | .hbm, ⟨30, _⟩ => ⟨S11264x4096, .f32⟩
  | .hbm, ⟨31, _⟩ => ⟨S11264x4096, .bf16⟩
  | .hbm, ⟨32, _⟩ => ⟨S1x4096, .f32⟩
  | .hbm, ⟨33, _⟩ => ⟨S12288x4096, .bf16⟩
  | .hbm, ⟨34, _⟩ => ⟨S12288x11264, .bf16⟩
  | .hbm, ⟨35, _⟩ => ⟨S12288x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | .local _ .vmem, ⟨9, _⟩ => ⟨S1024x4096, .bf16⟩
  | .local _ .vmem, ⟨10, _⟩ => ⟨S1024x4096, .bf16⟩
  | .local _ .vmem, ⟨11, _⟩ => ⟨S4096x512, .bf16⟩
  | .local _ .vmem, ⟨12, _⟩ => ⟨S4096x512, .bf16⟩
  | .local _ .vmem, ⟨13, _⟩ => ⟨S4096x512, .bf16⟩
  | .local _ .vmem, ⟨14, _⟩ => ⟨S4096x512, .bf16⟩
  | .local _ .vmem, ⟨15, _⟩ => ⟨S1024x512, .bf16⟩
  | .local _ .vmem, ⟨16, _⟩ => ⟨S1024x512, .bf16⟩
  | .local _ .vmem, ⟨17, _⟩ => ⟨S512x11264, .bf16⟩
  | .local _ .vmem, ⟨18, _⟩ => ⟨S512x11264, .bf16⟩
  | .local _ .vmem, ⟨19, _⟩ => ⟨S11264x512, .bf16⟩
  | .local _ .vmem, ⟨20, _⟩ => ⟨S11264x512, .bf16⟩
  | .local _ .vmem, ⟨21, _⟩ => ⟨S512x512, .f32⟩
  | .local _ .vmem, ⟨22, _⟩ => ⟨S512x512, .f32⟩
  | .local _ .vmem, ⟨23, _⟩ => ⟨S1x1x512, .f32⟩
  | .local _ .vmem, ⟨24, _⟩ => ⟨S1x1x512, .f32⟩
  | .local _ .vmem, ⟨25, _⟩ => ⟨S512x512, .f32⟩
  | .local _ .vmem, ⟨26, _⟩ => ⟨S512x512, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_call2_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![12, 22], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![24, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x11264 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S11264x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== Reference2Ideal.lean ====
abbrev S32x256x4096 : Shape := ⟨3, ![32, 256, 4096]⟩
abbrev S2x2048x4096 : Shape := ⟨3, ![2, 2048, 4096]⟩
abbrev S4096 : Shape := ⟨1, ![4096]⟩
abbrev S1x1x4096 : Shape := ⟨3, ![1, 1, 4096]⟩
abbrev S2x1x4096 : Shape := ⟨3, ![2, 1, 4096]⟩
abbrev S4096x11008 : Shape := ⟨2, ![4096, 11008]⟩
abbrev S11008x4096 : Shape := ⟨2, ![11008, 4096]⟩
abbrev S_ : Shape := ⟨0, ![]⟩
abbrev S32x256 : Shape := ⟨2, ![32, 256]⟩
abbrev S32x256x1 : Shape := ⟨3, ![32, 256, 1]⟩
abbrev S32x256x11008 : Shape := ⟨3, ![32, 256, 11008]⟩
abbrev S2x2048 : Shape := ⟨2, ![2, 2048]⟩
abbrev S2x2048x1 : Shape := ⟨3, ![2, 2048, 1]⟩
abbrev S2x2048x11008 : Shape := ⟨3, ![2, 2048, 11008]⟩
abbrev S8192x4096 : Shape := ⟨2, ![8192, 4096]⟩
abbrev S4096x4096 : Shape := ⟨2, ![4096, 4096]⟩
abbrev S12288x4096 : Shape := ⟨2, ![12288, 4096]⟩

abbrev nBuf : Space → Nat
  | .hbm => 93
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S2x2048x4096, .f32⟩
  | .hbm, ⟨2, _⟩ => ⟨S4096, .f32⟩
  | .hbm, ⟨3, _⟩ => ⟨S1x1x4096, .f32⟩
  | .hbm, ⟨4, _⟩ => ⟨S1x1x4096, .f32⟩
  | .hbm, ⟨5, _⟩ => ⟨S1x1x4096, .f32⟩
  | .hbm, ⟨6, _⟩ => ⟨S2x1x4096, .f32⟩
  | .hbm, ⟨7, _⟩ => ⟨S2x1x4096, .f32⟩
  | .hbm, ⟨8, _⟩ => ⟨S2x1x4096, .f32⟩
  | .hbm, ⟨9, _⟩ => ⟨S4096x11008, .f32⟩
  | .hbm, ⟨10, _⟩ => ⟨S4096x11008, .f32⟩
  | .hbm, ⟨11, _⟩ => ⟨S11008x4096, .f32⟩
  | .hbm, ⟨12, _⟩ => ⟨S32x256x4096, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x4096, .f32⟩
  | .hbm, ⟨24, _⟩ => ⟨S32x256x4096, .f32⟩
  | .hbm, ⟨25, _⟩ => ⟨S1x1x4096, .f32⟩
  | .hbm, ⟨26, _⟩ => ⟨S32x256x4096, .f32⟩
  | .hbm, ⟨27, _⟩ => ⟨S32x256x4096, .f32⟩
  | .hbm, ⟨28, _⟩ => ⟨S_, .f32⟩
  | .hbm, ⟨29, _⟩ => ⟨S1x1x4096, .f32⟩
  | .hbm, ⟨30, _⟩ => ⟨S1x1x4096, .f32⟩
  | .hbm, ⟨31, _⟩ => ⟨S32x256x4096, .f32⟩
  | .hbm, ⟨32, _⟩ => ⟨S32x256x4096, .f32⟩
  | .hbm, ⟨33, _⟩ => ⟨S32x256x4096, .f32⟩
  | .hbm, ⟨34, _⟩ => ⟨S32x256x4096, .f32⟩
  | .hbm, ⟨35, _⟩ => ⟨S32x256x11008, .f32⟩
  | .hbm, ⟨36, _⟩ => ⟨S32x256x11008, .f32⟩
  | .hbm, ⟨37, _⟩ => ⟨S32x256x11008, .f32⟩
  | .hbm, ⟨38, _⟩ => ⟨S32x256x11008, .f32⟩
  | .hbm, ⟨39, _⟩ => ⟨S_, .f32⟩
  | .hbm, ⟨40, _⟩ => ⟨S32x256x11008, .f32⟩
  | .hbm, ⟨41, _⟩ => ⟨S32x256x11008, .f32⟩
  | .hbm, ⟨42, _⟩ => ⟨S_, .f32⟩
  | .hbm, ⟨43, _⟩ => ⟨S32x256x11008, .f32⟩
  | .hbm, ⟨44, _⟩ => ⟨S32x256x11008, .f32⟩
  | .hbm, ⟨45, _⟩ => ⟨S32x256x11008, .f32⟩
  | .hbm, ⟨46, _⟩ => ⟨S32x256x11008, .f32⟩
  | .hbm, ⟨47, _⟩ => ⟨S32x256x4096, .f32⟩
  | .hbm, ⟨48, _⟩ => ⟨S32x256x4096, .f32⟩
  | .hbm, ⟨49, _⟩ => ⟨S32x256x4096, .f32⟩
  | .hbm, ⟨50, _⟩ => ⟨S32x256x4096, .f32⟩
  | .hbm, ⟨51, _⟩ => ⟨S2x2048x4096, .f32⟩
  | .hbm, ⟨52, _⟩ => ⟨S_, .f32⟩
  | .hbm, ⟨53, _⟩ => ⟨S2x2048, .f32⟩
  | .hbm, ⟨54, _⟩ => ⟨S2x2048x1, .f32⟩
  | .hbm, ⟨55, _⟩ => ⟨S_, .f32⟩
  | .hbm, ⟨56, _⟩ => ⟨S2x2048x1, .f32⟩
  | .hbm, ⟨57, _⟩ => ⟨S2x2048x1, .f32⟩
  | .hbm, ⟨58, _⟩ => ⟨S_, .f32⟩
  | .hbm, ⟨59, _⟩ => ⟨S2x2048x1, .f32⟩
  | .hbm, ⟨60, _⟩ => ⟨S2x2048x1, .f32⟩
  | .hbm, ⟨61, _⟩ => ⟨S2x2048x1, .f32⟩
  | .hbm, ⟨62, _⟩ => ⟨S2x2048x4096, .f32⟩
  | .hbm, ⟨63, _⟩ => ⟨S2x2048x4096, .f32⟩
  | .hbm, ⟨64, _⟩ => ⟨S1x1x4096, .f32⟩
  | .hbm, ⟨65, _⟩ => ⟨S2x2048x4096, .f32⟩
  | .hbm, ⟨66, _⟩ => ⟨S2x2048x4096, .f32⟩
  | .hbm, ⟨67, _⟩ => ⟨S_, .f32⟩
  | .hbm, ⟨68, _⟩ => ⟨S2x1x4096, .f32⟩
  | .hbm, ⟨69, _⟩ => ⟨S2x1x4096, .f32⟩
  | .hbm, ⟨70, _⟩ => ⟨S2x2048x4096, .f32⟩
  | .hbm, ⟨71, _⟩ => ⟨S2x2048x4096, .f32⟩
  | .hbm, ⟨72, _⟩ => ⟨S2x2048x4096, .f32⟩
  | .hbm, ⟨73, _⟩ => ⟨S2x2048x4096, .f32⟩
  | .hbm, ⟨74, _⟩ => ⟨S2x2048x11008, .f32⟩
  | .hbm, ⟨75, _⟩ => ⟨S2x2048x11008, .f32⟩
  | .hbm, ⟨76, _⟩ => ⟨S2x2048x11008, .f32⟩
  | .hbm, ⟨77, _⟩ => ⟨S2x2048x11008, .f32⟩
  | .hbm, ⟨78, _⟩ => ⟨S_, .f32⟩
  | .hbm, ⟨79, _⟩ => ⟨S2x2048x11008, .f32⟩
  | .hbm, ⟨80, _⟩ => ⟨S2x2048x11008, .f32⟩
  | .hbm, ⟨81, _⟩ => ⟨S_, .f32⟩
  | .hbm, ⟨82, _⟩ => ⟨S2x2048x11008, .f32⟩
  | .hbm, ⟨83, _⟩ => ⟨S2x2048x11008, .f32⟩
  | .hbm, ⟨84, _⟩ => ⟨S2x2048x11008, .f32⟩
  | .hbm, ⟨85, _⟩ => ⟨S2x2048x11008, .f32⟩
  | .hbm, ⟨86, _⟩ => ⟨S2x2048x4096, .f32⟩
  | .hbm, ⟨87, _⟩ => ⟨S2x2048x4096, .f32⟩
  | .hbm, ⟨88, _⟩ => ⟨S2x2048x4096, .f32⟩
  | .hbm, ⟨89, _⟩ => ⟨S2x2048x4096, .f32⟩
  | .hbm, ⟨90, _⟩ => ⟨S8192x4096, .f32⟩
  | .hbm, ⟨91, _⟩ => ⟨S4096x4096, .f32⟩
  | .hbm, ⟨92, _⟩ => ⟨S12288x4096, .f32⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩

abbrev nD : Nat := 1
abbrev τ : Topo := Topo.v7x

variable {F : FTy → Type} [FloatOps F]
-- ==== Kernel3.lean ====
abbrev S32768x4096 : Shape := ⟨2, ![32768, 4096]⟩
abbrev S32 : Shape := ⟨1, ![32]⟩
abbrev S1 : Shape := ⟨1, ![1]⟩
abbrev S32768 : Shape := ⟨1, ![32768]⟩
abbrev S8x4096x2048 : Shape := ⟨3, ![8, 4096, 2048]⟩
abbrev S8x2048x4096 : Shape := ⟨3, ![8, 2048, 4096]⟩
abbrev S32768x1 : Shape := ⟨2, ![32768, 1]⟩
abbrev S1024x4096 : Shape := ⟨2, ![1024, 4096]⟩
abbrev S1x4096x512 : Shape := ⟨3, ![1, 4096, 512]⟩
abbrev S1x2048x512 : Shape := ⟨3, ![1, 2048, 512]⟩
abbrev S1024x1 : Shape := ⟨2, ![1024, 1]⟩
abbrev S1024x512 : Shape := ⟨2, ![1024, 512]⟩
abbrev S4x1024x512 : Shape := ⟨3, ![4, 1024, 512]⟩
abbrev S4096x512 : Shape := ⟨2, ![4096, 512]⟩
abbrev S1x1024x512 : Shape := ⟨3, ![1, 1024, 512]⟩
abbrev S1x512x512 : Shape := ⟨3, ![1, 512, 512]⟩
abbrev S512x512 : Shape := ⟨2, ![512, 512]⟩

abbrev nBuf : Space → Nat
  | .hbm => 11
  | .vmem => 13
  | .smem => 2
  | _ => 0

abbrev bufTy : (tb : Table) → Fin (tcTables nBuf tb) → BufTy
  | .hbm, ⟨0, _⟩ => ⟨S32768x4096, .f32⟩
  | .hbm, ⟨1, _⟩ => ⟨S32768, .f32⟩
  | .hbm, ⟨2, _⟩ => ⟨S8x4096x2048, .f32⟩
  | .hbm, ⟨3, _⟩ => ⟨S8x4096x2048, .f32⟩
  | .hbm, ⟨4, _⟩ => ⟨S8x2048x4096, .f32⟩
  | .hbm, ⟨5, _⟩ => ⟨S32768x4096, .bf16⟩
  | .hbm, ⟨6, _⟩ => ⟨S8x4096x2048, .bf16⟩
  | .hbm, ⟨7, _⟩ => ⟨S8x4096x2048, .bf16⟩
  | .hbm, ⟨8, _⟩ => ⟨S8x2048x4096, .bf16⟩
  | .hbm, ⟨9, _⟩ => ⟨S32768x1, .f32⟩
  | .hbm, ⟨10, _⟩ => ⟨S32768x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x1, .f32⟩
  | .local _ .vmem, ⟨9, _⟩ => ⟨S1024x1, .f32⟩
  | .local _ .vmem, ⟨10, _⟩ => ⟨S1024x512, .f32⟩
  | .local _ .vmem, ⟨11, _⟩ => ⟨S1024x512, .f32⟩
  | .local _ .vmem, ⟨12, _⟩ => ⟨S4x1024x512, .bf16⟩
  | .local _ .smem, ⟨0, _⟩ => ⟨S32, .i32⟩
  | .local _ .smem, ⟨1, _⟩ => ⟨S1, .i32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 12], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 3 → Nat :=
  let arg1 : BitVec 32 := BitVec.ofNat 32 (i 1).val
  let v27 : Index := Scalar.indexCast arg1
  let c0_13 : Index := 0#32
  let c0_14 : Index := 0#32
  ![v27.toNat, 0, 0]
def k0_cond1 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c4_i32 : BitVec 32 := 4#32
  let v2 : BitVec 1 := Scalar.cmpi .slt arg1 c4_i32
  let v3 : BitVec 1 := Scalar.andi v1 v2
  let v4 : BitVec 32 := Scalar.extui v3
  let c0_i32 : BitVec 32 := 0#32
  let v5 : BitVec 1 := Scalar.cmpi .ne v4 c0_i32
  v5

def k0_chk1 (i : grid0.Coords) (v0 : BitVec 32) : Prop :=
  (∀ (k0_h1 : k0_cond1 i v0 = 1#1), ∀ a, (k0_off2 i) a + S1x1024x512.size a ≤ S4x1024x512.size a) ∧
  (∀ (k0_h1 : k0_cond1 i v0 = 1#1), ∀ (hinb : ∀ a, (k0_off2 i) a + S1x1024x512.size a ≤ S4x1024x512.size a), (Rect.unit (s := S4x1024x512) (k0_off2 i) S1x1024x512.size hinb).PackedRows (EltTy.packing .bf16))
theorem k0_off2_inb : ∀ (i : grid0.Coords) (v0 : BitVec 32) (k0_hw1 : k0_chk1 i v0), ∀ (k0_h1 : k0_cond1 i v0 = 1#1), ∀ a, (k0_off2 i) a + S1x1024x512.size a ≤ S4x1024x512.size a := fun i v0 k0_hw1 k0_h1 => k0_hw1.1 k0_h1
theorem k0_off2_packedbf16 : ∀ (i : grid0.Coords) (v0 : BitVec 32) (k0_hw1 : k0_chk1 i v0), ∀ (k0_h1 : k0_cond1 i v0 = 1#1), (Rect.unit (s := S4x1024x512) (k0_off2 i) S1x1024x512.size (k0_off2_inb i v0 k0_hw1 k0_h1)).PackedRows (EltTy.packing .bf16) := fun i v0 k0_hw1 k0_h1 => k0_hw1.2 k0_h1 (k0_off2_inb i v0 k0_hw1 k0_h1)

def k0_cond2 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c4_i32_0 : BitVec 32 := 4#32
  let v6 : BitVec 1 := Scalar.cmpi .sge arg1 c4_i32_0
  let v7 : BitVec 1 := Scalar.andi v1 v6
  let v8 : BitVec 32 := Scalar.extui v7
  let c0_i32_1 : BitVec 32 := 0#32
  let v9 : BitVec 1 := Scalar.cmpi .ne v8 c0_i32_1
  v9

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v10 : BitVec 1 := Scalar.xori v1 v_true
  let arg1 : BitVec 32 := BitVec.ofNat 32 (i 1).val
  let c4_i32_2 : BitVec 32 := 4#32
  let v11 : BitVec 1 := Scalar.cmpi .sge arg1 c4_i32_2
  let v12 : BitVec 1 := Scalar.andi v10 v11
  let v13 : BitVec 32 := Scalar.extui v12
  let c0_i32_3 : BitVec 32 := 0#32
  let v14 : BitVec 1 := Scalar.cmpi .ne v13 c0_i32_3
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, c0_i32.toNat, v5.toNat]

def cc0_transform_2 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, c0_i32.toNat, v5.toNat]

def cc0_transform_3 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c4_i32 : BitVec 32 := 4#32
  let v4 : BitVec 32 := Scalar.subi arg1 c4_i32
  let c0_i32 : BitVec 32 := 0#32
  let c7_i32 : BitVec 32 := 7#32
  let v5 : BitVec 32 := Scalar.maxsi c0_i32 v4
  let v6 : BitVec 32 := Scalar.minsi c7_i32 v5
  let c7_i32_0 : BitVec 32 := 7#32
  let v7 : BitVec 32 := Scalar.select v3 v6 c7_i32_0
  let c0_i32_1 : BitVec 32 := 0#32
  let c0_i32_2 : BitVec 32 := 0#32
  ![v1.toNat, c0_i32_1.toNat, v7.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S32768x4096 : Shape := ⟨2, ![32768, 4096]⟩
abbrev S32 : Shape := ⟨1, ![32]⟩
abbrev S1 : Shape := ⟨1, ![1]⟩
abbrev S32768 : Shape := ⟨1, ![32768]⟩
abbrev S8x4096x2048 : Shape := ⟨3, ![8, 4096, 2048]⟩
abbrev S8x2048x4096 : Shape := ⟨3, ![8, 2048, 4096]⟩
abbrev S32x1024 : Shape := ⟨2, ![32, 1024]⟩
abbrev S_ : Shape := ⟨0, ![]⟩
abbrev S32768x1 : Shape := ⟨2, ![32768, 1]⟩
abbrev S1x8 : Shape := ⟨2, ![1, 8]⟩
abbrev S32768x8 : Shape := ⟨2, ![32768, 8]⟩
abbrev S1x32768x4096 : Shape := ⟨3, ![1, 32768, 4096]⟩
abbrev S1x4096x2048 : Shape := ⟨3, ![1, 4096, 2048]⟩
abbrev S4096x2048 : Shape := ⟨2, ![4096, 2048]⟩
abbrev S1x2048x4096 : Shape := ⟨3, ![1, 2048, 4096]⟩
abbrev S2048x4096 : Shape := ⟨2, ![2048, 4096]⟩
abbrev S1x32768x2048 : Shape := ⟨3, ![1, 32768, 2048]⟩

abbrev nBuf : Space → Nat
  | .hbm => 230
  | .vmem => 0
  | .smem => 0
  | _ => 0

abbrev hbmTy0_0 (i : Nat) : BufTy := match i % 128 with
  | 0 => ⟨S32768x4096, .f32⟩
  | 1 => ⟨S32, .i32⟩
  | 2 => ⟨S1, .i32⟩
  | 3 => ⟨S32768, .f32⟩
  | 4 => ⟨S8x4096x2048, .f32⟩
  | 5 => ⟨S8x4096x2048, .f32⟩
  | 6 => ⟨S8x2048x4096, .f32⟩
  | 7 => ⟨S32x1024, .i32⟩
  | 8 => ⟨S32768, .i32⟩
  | 9 => ⟨S32768, .i32⟩
  | 10 => ⟨S_, .i32⟩
  | 11 => ⟨S_, .i32⟩
  | 12 => ⟨S_, .i32⟩
  | 13 => ⟨S32768, .i32⟩
  | 14 => ⟨S32768, .i1⟩
  | 15 => ⟨S32768x1, .i32⟩
  | 16 => ⟨S1x8, .i32⟩
  | 17 => ⟨S32768x8, .i32⟩
  | 18 => ⟨S32768x8, .i32⟩
  | 19 => ⟨S32768x8, .i1⟩
  | 20 => ⟨S32768x8, .f32⟩
  | 21 => ⟨S_, .f32⟩
  | 22 => ⟨S_, .f32⟩
  | 23 => ⟨S32768, .f32⟩
  | 24 => ⟨S32768, .f32⟩
  | 25 => ⟨S32768x1, .f32⟩
  | 26 => ⟨S32768x8, .f32⟩
  | 27 => ⟨S32768x8, .f32⟩
  | 28 => ⟨S_, .f32⟩
  | 29 => ⟨S32768x4096, .f32⟩
  | 30 => ⟨S32768x1, .f32⟩
  | 31 => ⟨S1x32768x4096, .f32⟩
  | 32 => ⟨S1x4096x2048, .f32⟩
  | 33 => ⟨S4096x2048, .f32⟩
  | 34 => ⟨S1x4096x2048, .f32⟩
  | 35 => ⟨S4096x2048, .f32⟩
  | 36 => ⟨S1x2048x4096, .f32⟩
  | 37 => ⟨S2048x4096, .f32⟩
  | 38 => ⟨S1x32768x2048, .f32⟩
  | 39 => ⟨S1x32768x2048, .f32⟩
  | 40 => ⟨S1x32768x2048, .f32⟩
  | 41 => ⟨S1x32768x2048, .f32⟩
  | 42 => ⟨S_, .f32⟩
  | 43 => ⟨S1x32768x2048, .f32⟩
  | 44 => ⟨S1x32768x2048, .f32⟩
  | 45 => ⟨S_, .f32⟩
  | 46 => ⟨S1x32768x2048, .f32⟩
  | 47 => ⟨S1x32768x2048, .f32⟩
  | 48 => ⟨S1x32768x2048, .f32⟩
  | 49 => ⟨S1x32768x2048, .f32⟩
  | 50 => ⟨S1x32768x4096, .f32⟩
  | 51 => ⟨S32768x4096, .f32⟩
  | 52 => ⟨S32768x4096, .f32⟩
  | 53 => ⟨S32768x4096, .f32⟩
  | 54 => ⟨S32768x4096, .f32⟩
  | 55 => ⟨S32768x1, .f32⟩
  | 56 => ⟨S1x32768x4096, .f32⟩
  | 57 => ⟨S1x4096x2048, .f32⟩
  | 58 => ⟨S4096x2048, .f32⟩
  | 59 => ⟨S1x4096x2048, .f32⟩
  | 60 => ⟨S4096x2048, .f32⟩
  | 61 => ⟨S1x2048x4096, .f32⟩
  | 62 => ⟨S2048x4096, .f32⟩
  | 63 => ⟨S1x32768x2048, .f32⟩
  | 64 => ⟨S1x32768x2048, .f32⟩
  | 65 => ⟨S1x32768x2048, .f32⟩
  | 66 => ⟨S1x32768x2048, .f32⟩
  | 67 => ⟨S_, .f32⟩
  | 68 => ⟨S1x32768x2048, .f32⟩
  | 69 => ⟨S1x32768x2048, .f32⟩
  | 70 => ⟨S_, .f32⟩
  | 71 => ⟨S1x32768x2048, .f32⟩
  | 72 => ⟨S1x32768x2048, .f32⟩
  | 73 => ⟨S1x32768x2048, .f32⟩
  | 74 => ⟨S1x32768x2048, .f32⟩
  | 75 => ⟨S1x32768x4096, .f32⟩
  | 76 => ⟨S32768x4096, .f32⟩
  | 77 => ⟨S32768x4096, .f32⟩
  | 78 => ⟨S32768x4096, .f32⟩
  | 79 => ⟨S32768x4096, .f32⟩
  | 80 => ⟨S32768x1, .f32⟩
  | 81 => ⟨S1x32768x4096, .f32⟩
  | 82 => ⟨S1x4096x2048, .f32⟩
  | 83 => ⟨S4096x2048, .f32⟩
  | 84 => ⟨S1x4096x2048, .f32⟩
  | 85 => ⟨S4096x2048, .f32⟩
  | 86 => ⟨S1x2048x4096, .f32⟩
  | 87 => ⟨S2048x4096, .f32⟩
  | 88 => ⟨S1x32768x2048, .f32⟩
  | 89 => ⟨S1x32768x2048, .f32⟩
  | 90 => ⟨S1x32768x2048, .f32⟩
  | 91 => ⟨S1x32768x2048, .f32⟩
  | 92 => ⟨S_, .f32⟩
  | 93 => ⟨S1x32768x2048, .f32⟩
  | 94 => ⟨S1x32768x2048, .f32⟩
  | 95 => ⟨S_, .f32⟩
  | 96 => ⟨S1x32768x2048, .f32⟩
  | 97 => ⟨S1x32768x2048, .f32⟩
  | 98 => ⟨S1x32768x2048, .f32⟩
  | 99 => ⟨S1x32768x2048, .f32⟩
  | 100 => ⟨S1x32768x4096, .f32⟩
  | 101 => ⟨S32768x4096, .f32⟩
  | 102 => ⟨S32768x4096, .f32⟩
  | 103 => ⟨S32768x4096, .f32⟩
  | 104 => ⟨S32768x4096, .f32⟩
  | 105 => ⟨S32768x1, .f32⟩
  | 106 => ⟨S1x32768x4096, .f32⟩
  | 107 => ⟨S1x4096x2048, .f32⟩
  | 108 => ⟨S4096x2048, .f32⟩
  | 109 => ⟨S1x4096x2048, .f32⟩
  | 110 => ⟨S4096x2048, .f32⟩
  | 111 => ⟨S1x2048x4096, .f32⟩
  | 112 => ⟨S2048x4096, .f32⟩
  | 113 => ⟨S1x32768x2048, .f32⟩
  | 114 => ⟨S1x32768x2048, .f32⟩
  | 115 => ⟨S1x32768x2048, .f32⟩
  | 116 => ⟨S1x32768x2048, .f32⟩
  | 117 => ⟨S_, .f32⟩
  | 118 => ⟨S1x32768x2048, .f32⟩
  | 119 => ⟨S1x32768x2048, .f32⟩
  | 120 => ⟨S_, .f32⟩
  | 121 => ⟨S1x32768x2048, .f32⟩
  | 122 => ⟨S1x32768x2048, .f32⟩
  | 123 => ⟨S1x32768x2048, .f32⟩
  | 124 => ⟨S1x32768x2048, .f32⟩
  | 125 => ⟨S1x32768x4096, .f32⟩
  | 126 => ⟨S32768x4096, .f32⟩
  | 127 => ⟨S32768x4096, .f32⟩
  | _ => ⟨S32768x4096, .f32⟩

abbrev hbmTy0_1 (i : Nat) : BufTy := match i % 128 with
  | 0 => ⟨S32768x4096, .f32⟩
  | 1 => ⟨S32768x4096, .f32⟩
  | 2 => ⟨S32768x1, .f32⟩
  | 3 => ⟨S1x32768x4096, .f32⟩
  | 4 => ⟨S1x4096x2048, .f32⟩
  | 5 => ⟨S4096x2048, .f32⟩
  | 6 => ⟨S1x4096x2048, .f32⟩
  | 7 => ⟨S4096x2048, .f32⟩
  | 8 => ⟨S1x2048x4096, .f32⟩
  | 9 => ⟨S2048x4096, .f32⟩
  | 10 => ⟨S1x32768x2048, .f32⟩
  | 11 => ⟨S1x32768x2048, .f32⟩
  | 12 => ⟨S1x32768x2048, .f32⟩
  | 13 => ⟨S1x32768x2048, .f32⟩
  | 14 => ⟨S_, .f32⟩
  | 15 => ⟨S1x32768x2048, .f32⟩
  | 16 => ⟨S1x32768x2048, .f32⟩
  | 17 => ⟨S_, .f32⟩
  | 18 => ⟨S1x32768x2048, .f32⟩
  | 19 => ⟨S1x32768x2048, .f32⟩
  | 20 => ⟨S1x32768x2048, .f32⟩
  | 21 => ⟨S1x32768x2048, .f32⟩
  | 22 => ⟨S1x32768x4096, .f32⟩
  | 23 => ⟨S32768x4096, .f32⟩
  | 24 => ⟨S32768x4096, .f32⟩
  | 25 => ⟨S32768x4096, .f32⟩
  | 26 => ⟨S32768x4096, .f32⟩
  | 27 => ⟨S32768x1, .f32⟩
  | 28 => ⟨S1x32768x4096, .f32⟩
  | 29 => ⟨S1x4096x2048, .f32⟩
  | 30 => ⟨S4096x2048, .f32⟩
  | 31 => ⟨S1x4096x2048, .f32⟩
  | 32 => ⟨S4096x2048, .f32⟩
  | 33 => ⟨S1x2048x4096, .f32⟩
  | 34 => ⟨S2048x4096, .f32⟩
  | 35 => ⟨S1x32768x2048, .f32⟩
  | 36 => ⟨S1x32768x2048, .f32⟩
  | 37 => ⟨S1x32768x2048, .f32⟩
  | 38 => ⟨S1x32768x2048, .f32⟩
  | 39 => ⟨S_, .f32⟩
  | 40 => ⟨S1x32768x2048, .f32⟩
  | 41 => ⟨S1x32768x2048, .f32⟩
  | 42 => ⟨S_, .f32⟩
  | 43 => ⟨S1x32768x2048, .f32⟩
  | 44 => ⟨S1x32768x2048, .f32⟩
  | 45 => ⟨S1x32768x2048, .f32⟩
  | 46 => ⟨S1x32768x2048, .f32⟩
  | 47 => ⟨S1x32768x4096, .f32⟩
  | 48 => ⟨S32768x4096, .f32⟩
  | 49 => ⟨S32768x4096, .f32⟩
  | 50 => ⟨S32768x4096, .f32⟩
  | 51 => ⟨S32768x4096, .f32⟩
  | 52 => ⟨S32768x1, .f32⟩
  | 53 => ⟨S1x32768x4096, .f32⟩
  | 54 => ⟨S1x4096x2048, .f32⟩
  | 55 => ⟨S4096x2048, .f32⟩
  | 56 => ⟨S1x4096x2048, .f32⟩
  | 57 => ⟨S4096x2048, .f32⟩
  | 58 => ⟨S1x2048x4096, .f32⟩
  | 59 => ⟨S2048x4096, .f32⟩
  | 60 => ⟨S1x32768x2048, .f32⟩
  | 61 => ⟨S1x32768x2048, .f32⟩
  | 62 => ⟨S1x32768x2048, .f32⟩
  | 63 => ⟨S1x32768x2048, .f32⟩
  | 64 => ⟨S_, .f32⟩
  | 65 => ⟨S1x32768x2048, .f32⟩
  | 66 => ⟨S1x32768x2048, .f32⟩
  | 67 => ⟨S_, .f32⟩
  | 68 => ⟨S1x32768x2048, .f32⟩
  | 69 => ⟨S1x32768x2048, .f32⟩
  | 70 => ⟨S1x32768x2048, .f32⟩
  | 71 => ⟨S1x32768x2048, .f32⟩
  | 72 => ⟨S1x32768x4096, .f32⟩
  | 73 => ⟨S32768x4096, .f32⟩
  | 74 => ⟨S32768x4096, .f32⟩
  | 75 => ⟨S32768x4096, .f32⟩
  | 76 => ⟨S32768x4096, .f32⟩
  | 77 => ⟨S32768x1, .f32⟩
  | 78 => ⟨S1x32768x4096, .f32⟩
  | 79 => ⟨S1x4096x2048, .f32⟩
  | 80 => ⟨S4096x2048, .f32⟩
  | 81 => ⟨S1x4096x2048, .f32⟩
  | 82 => ⟨S4096x2048, .f32⟩
  | 83 => ⟨S1x2048x4096, .f32⟩
  | 84 => ⟨S2048x4096, .f32⟩
  | 85 => ⟨S1x32768x2048, .f32⟩
  | 86 => ⟨S1x32768x2048, .f32⟩
  | 87 => ⟨S1x32768x2048, .f32⟩
  | 88 => ⟨S1x32768x2048, .f32⟩
  | 89 => ⟨S_, .f32⟩
  | 90 => ⟨S1x32768x2048, .f32⟩
  | 91 => ⟨S1x32768x2048, .f32⟩
  | 92 => ⟨S_, .f32⟩
  | 93 => ⟨S1x32768x2048, .f32⟩
  | 94 => ⟨S1x32768x2048, .f32⟩
  | 95 => ⟨S1x32768x2048, .f32⟩
  | 96 => ⟨S1x32768x2048, .f32⟩
  | 97 => ⟨S1x32768x4096, .f32⟩
  | 98 => ⟨S32768x4096, .f32⟩
  | 99 => ⟨S32768x4096, .f32⟩
  | 100 => ⟨S32768x4096, .f32⟩
  | 101 => ⟨S32768x4096, .f32⟩
  | _ => ⟨S32768x4096, .f32⟩

abbrev hbmTy (i : Nat) : BufTy := match i / 128 with
  | 0 => hbmTy0_0 i
  | 1 => hbmTy0_1 i
  | _ => ⟨S32768x4096, .f32⟩

abbrev bufTy : (tb : Table) → Fin (tcTables nBuf tb) → BufTy
  | .hbm, ⟨i, _⟩ => hbmTy i
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call4_v0 : Ref sig .tc := ⟨.hbm, 90, rfl⟩
abbrev main_call4_v1 : Ref sig .tc := ⟨.hbm, 91, rfl⟩
abbrev main_call4_cst : Ref sig .tc := ⟨.hbm, 92, rfl⟩
abbrev main_call4_v2 : Ref sig .tc := ⟨.hbm, 93, rfl⟩
abbrev main_call4_v3 : Ref sig .tc := ⟨.hbm, 94, rfl⟩
abbrev main_call4_cst_0 : Ref sig .tc := ⟨.hbm, 95, rfl⟩
abbrev main_call4_v4 : Ref sig .tc := ⟨.hbm, 96, rfl⟩
abbrev main_call4_v5 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_call5_v0 : Ref sig .tc := ⟨.hbm, 115, rfl⟩
abbrev main_call5_v1 : Ref sig .tc := ⟨.hbm, 116, rfl⟩
abbrev main_call5_cst : Ref sig .tc := ⟨.hbm, 117, rfl⟩
abbrev main_call5_v2 : Ref sig .tc := ⟨.hbm, 118, rfl⟩
abbrev main_call5_v3 : Ref sig .tc := ⟨.hbm, 119, rfl⟩
abbrev main_call5_cst_0 : Ref sig .tc := ⟨.hbm, 120, rfl⟩
abbrev main_call5_v4 : Ref sig .tc := ⟨.hbm, 121, rfl⟩
abbrev main_call5_v5 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_call6_v0 : Ref sig .tc := ⟨.hbm, 140, rfl⟩
abbrev main_call6_v1 : Ref sig .tc := ⟨.hbm, 141, rfl⟩
abbrev main_call6_cst : Ref sig .tc := ⟨.hbm, 142, rfl⟩
abbrev main_call6_v2 : Ref sig .tc := ⟨.hbm, 143, rfl⟩
abbrev main_call6_v3 : Ref sig .tc := ⟨.hbm, 144, rfl⟩
abbrev main_call6_cst_0 : Ref sig .tc := ⟨.hbm, 145, rfl⟩
abbrev main_call6_v4 : Ref sig .tc := ⟨.hbm, 146, rfl⟩
abbrev main_call6_v5 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_call7_v0 : Ref sig .tc := ⟨.hbm, 165, rfl⟩
abbrev main_call7_v1 : Ref sig .tc := ⟨.hbm, 166, rfl⟩
abbrev main_call7_cst : Ref sig .tc := ⟨.hbm, 167, rfl⟩
abbrev main_call7_v2 : Ref sig .tc := ⟨.hbm, 168, rfl⟩
abbrev main_call7_v3 : Ref sig .tc := ⟨.hbm, 169, rfl⟩
abbrev main_call7_cst_0 : Ref sig .tc := ⟨.hbm, 170, rfl⟩
abbrev main_call7_v4 : Ref sig .tc := ⟨.hbm, 171, rfl⟩
abbrev main_call7_v5 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_call8_v0 : Ref sig .tc := ⟨.hbm, 190, rfl⟩
abbrev main_call8_v1 : Ref sig .tc := ⟨.hbm, 191, rfl⟩
abbrev main_call8_cst : Ref sig .tc := ⟨.hbm, 192, rfl⟩
abbrev main_call8_v2 : Ref sig .tc := ⟨.hbm, 193, rfl⟩
abbrev main_call8_v3 : Ref sig .tc := ⟨.hbm, 194, rfl⟩
abbrev main_call8_cst_0 : Ref sig .tc := ⟨.hbm, 195, rfl⟩
abbrev main_call8_v4 : Ref sig .tc := ⟨.hbm, 196, rfl⟩
abbrev main_call8_v5 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_call9_v0 : Ref sig .tc := ⟨.hbm, 215, rfl⟩
abbrev main_call9_v1 : Ref sig .tc := ⟨.hbm, 216, rfl⟩
abbrev main_call9_cst : Ref sig .tc := ⟨.hbm, 217, rfl⟩
abbrev main_call9_v2 : Ref sig .tc := ⟨.hbm, 218, rfl⟩
abbrev main_call9_v3 : Ref sig .tc := ⟨.hbm, 219, rfl⟩
abbrev main_call9_cst_0 : Ref sig .tc := ⟨.hbm, 220, rfl⟩
abbrev main_call9_v4 : Ref sig .tc := ⟨.hbm, 221, rfl⟩
abbrev main_call9_v5 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩

abbrev nD : Nat := 1
abbrev τ : Topo := Topo.v7x

variable {F : FTy → Type} [FloatOps F]
-- ==== Kernel4.lean ====
abbrev S32x256x4096 : Shape := ⟨3, ![32, 256, 4096]⟩
abbrev S2x2048x4096 : Shape := ⟨3, ![2, 2048, 4096]⟩
abbrev S4096 : Shape := ⟨1, ![4096]⟩
abbrev S1x1x4096 : Shape := ⟨3, ![1, 1, 4096]⟩
abbrev S2x1x4096 : Shape := ⟨3, ![2, 1, 4096]⟩
abbrev S4096x5440 : Shape := ⟨2, ![4096, 5440]⟩
abbrev S64 : Shape := ⟨1, ![64]⟩
abbrev S8192x4096 : Shape := ⟨2, ![8192, 4096]⟩
abbrev S4096x4096 : Shape := ⟨2, ![4096, 4096]⟩
abbrev S12288x4096 : Shape := ⟨2, ![12288, 4096]⟩
abbrev S_ : Shape := ⟨0, ![]⟩
abbrev S5x1x4096 : Shape := ⟨3, ![5, 1, 4096]⟩
abbrev S8x1x4096 : Shape := ⟨3, ![8, 1, 4096]⟩
abbrev S4096x768 : Shape := ⟨2, ![4096, 768]⟩
abbrev S4096x512 : Shape := ⟨2, ![4096, 512]⟩
abbrev S4096x64 : Shape := ⟨2, ![4096, 64]⟩
abbrev S64x1 : Shape := ⟨2, ![64, 1]⟩
abbrev S4096x5632 : Shape := ⟨2, ![4096, 5632]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S12288x5632 : Shape := ⟨2, ![12288, 5632]⟩
abbrev S1024x4096 : Shape := ⟨2, ![1024, 4096]⟩
abbrev S1024x512 : Shape := ⟨2, ![1024, 512]⟩

abbrev nBuf : Space → Nat
  | .hbm => 34
  | .vmem => 15
  | .smem => 0
  | _ => 0

abbrev bufTy : (tb : Table) → Fin (tcTables nBuf tb) → BufTy
  | .hbm, ⟨0, _⟩ => ⟨S32x256x4096, .f32⟩
  | .hbm, ⟨1, _⟩ => ⟨S2x2048x4096, .f32⟩
  | .hbm, ⟨2, _⟩ => ⟨S4096, .f32⟩
  | .hbm, ⟨3, _⟩ => ⟨S1x1x4096, .f32⟩
  | .hbm, ⟨4, _⟩ => ⟨S1x1x4096, .f32⟩
  | .hbm, ⟨5, _⟩ => ⟨S2x1x4096, .f32⟩
  | .hbm, ⟨6, _⟩ => ⟨S2x1x4096, .f32⟩
  | .hbm, ⟨7, _⟩ => ⟨S4096x5440, .f32⟩
  | .hbm, ⟨8, _⟩ => ⟨S64, .i32⟩
  | .hbm, ⟨9, _⟩ => ⟨S8192x4096, .f32⟩
  | .hbm, ⟨10, _⟩ => ⟨S4096x4096, .f32⟩
  | .hbm, ⟨11, _⟩ => ⟨S12288x4096, .f32⟩
  | .hbm, ⟨12, _⟩ => ⟨S_, .f32⟩
  | .hbm, ⟨13, _⟩ => ⟨S5x1x4096, .f32⟩
  | .hbm, ⟨14, _⟩ => ⟨S8x1x4096, .f32⟩
  | .hbm, ⟨15, _⟩ => ⟨S8x1x4096, .f32⟩
  | .hbm, ⟨16, _⟩ => ⟨S4096x768, .f32⟩
  | .hbm, ⟨17, _⟩ => ⟨S4096x512, .f32⟩
  | .hbm, ⟨18, _⟩ => ⟨S4096x64, .f32⟩
  | .hbm, ⟨19, _⟩ => ⟨S_, .i32⟩
  | .hbm, ⟨20, _⟩ => ⟨S64, .i32⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S64x1, .i32⟩
  | .hbm, ⟨27, _⟩ => ⟨S4096x64, .f32⟩
  | .hbm, ⟨28, _⟩ => ⟨S4096x4096, .f32⟩
  | .hbm, ⟨29, _⟩ => ⟨S4096x5632, .f32⟩
  | .hbm, ⟨30, _⟩ => ⟨S4096x5632, .bf16⟩
  | .hbm, ⟨31, _⟩ => ⟨S1x4096, .f32⟩
  | .hbm, ⟨32, _⟩ => ⟨S12288x4096, .bf16⟩
  | .hbm, ⟨33, _⟩ => ⟨S12288x5632, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | .local _ .vmem, ⟨9, _⟩ => ⟨S1024x4096, .bf16⟩
  | .local _ .vmem, ⟨10, _⟩ => ⟨S1024x4096, .bf16⟩
  | .local _ .vmem, ⟨11, _⟩ => ⟨S4096x512, .bf16⟩
  | .local _ .vmem, ⟨12, _⟩ => ⟨S4096x512, .bf16⟩
  | .local _ .vmem, ⟨13, _⟩ => ⟨S1024x512, .f32⟩
  | .local _ .vmem, ⟨14, _⟩ => ⟨S1024x512, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![12, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference4Ideal.lean ====
abbrev S32x256x4096 : Shape := ⟨3, ![32, 256, 4096]⟩
abbrev S2x2048x4096 : Shape := ⟨3, ![2, 2048, 4096]⟩
abbrev S4096 : Shape := ⟨1, ![4096]⟩
abbrev S1x1x4096 : Shape := ⟨3, ![1, 1, 4096]⟩
abbrev S2x1x4096 : Shape := ⟨3, ![2, 1, 4096]⟩
abbrev S4096x5440 : Shape := ⟨2, ![4096, 5440]⟩
abbrev S_ : Shape := ⟨0, ![]⟩
abbrev S32x256 : Shape := ⟨2, ![32, 256]⟩
abbrev S32x256x1 : Shape := ⟨3, ![32, 256, 1]⟩
abbrev S32x256x5440 : Shape := ⟨3, ![32, 256, 5440]⟩
abbrev S2x2048 : Shape := ⟨2, ![2, 2048]⟩
abbrev S2x2048x1 : Shape := ⟨3, ![2, 2048, 1]⟩
abbrev S2x2048x5440 : Shape := ⟨3, ![2, 2048, 5440]⟩
abbrev S8192x5440 : Shape := ⟨2, ![8192, 5440]⟩
abbrev S12288x5440 : Shape := ⟨2, ![12288, 5440]⟩
abbrev S12288x768 : Shape := ⟨2, ![12288, 768]⟩
abbrev S12288x512 : Shape := ⟨2, ![12288, 512]⟩
abbrev S12288x64 : Shape := ⟨2, ![12288, 64]⟩
abbrev S12288x4096 : Shape := ⟨2, ![12288, 4096]⟩
abbrev S12288x16 : Shape := ⟨2, ![12288, 16]⟩
abbrev S12288x5632 : Shape := ⟨2, ![12288, 5632]⟩

abbrev nBuf : Space → Nat
  | .hbm => 68
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S2x2048x4096, .f32⟩
  | .hbm, ⟨2, _⟩ => ⟨S4096, .f32⟩
  | .hbm, ⟨3, _⟩ => ⟨S1x1x4096, .f32⟩
  | .hbm, ⟨4, _⟩ => ⟨S1x1x4096, .f32⟩
  | .hbm, ⟨5, _⟩ => ⟨S2x1x4096, .f32⟩
  | .hbm, ⟨6, _⟩ => ⟨S2x1x4096, .f32⟩
  | .hbm, ⟨7, _⟩ => ⟨S4096x5440, .f32⟩
  | .hbm, ⟨8, _⟩ => ⟨S32x256x4096, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x4096, .f32⟩
  | .hbm, ⟨20, _⟩ => ⟨S32x256x4096, .f32⟩
  | .hbm, ⟨21, _⟩ => ⟨S1x1x4096, .f32⟩
  | .hbm, ⟨22, _⟩ => ⟨S32x256x4096, .f32⟩
  | .hbm, ⟨23, _⟩ => ⟨S32x256x4096, .f32⟩
  | .hbm, ⟨24, _⟩ => ⟨S_, .f32⟩
  | .hbm, ⟨25, _⟩ => ⟨S1x1x4096, .f32⟩
  | .hbm, ⟨26, _⟩ => ⟨S1x1x4096, .f32⟩
  | .hbm, ⟨27, _⟩ => ⟨S32x256x4096, .f32⟩
  | .hbm, ⟨28, _⟩ => ⟨S32x256x4096, .f32⟩
  | .hbm, ⟨29, _⟩ => ⟨S32x256x4096, .f32⟩
  | .hbm, ⟨30, _⟩ => ⟨S32x256x4096, .f32⟩
  | .hbm, ⟨31, _⟩ => ⟨S32x256x5440, .f32⟩
  | .hbm, ⟨32, _⟩ => ⟨S2x2048x4096, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1, .f32⟩
  | .hbm, ⟨43, _⟩ => ⟨S2x2048x4096, .f32⟩
  | .hbm, ⟨44, _⟩ => ⟨S2x2048x4096, .f32⟩
  | .hbm, ⟨45, _⟩ => ⟨S1x1x4096, .f32⟩
  | .hbm, ⟨46, _⟩ => ⟨S2x2048x4096, .f32⟩
  | .hbm, ⟨47, _⟩ => ⟨S2x2048x4096, .f32⟩
  | .hbm, ⟨48, _⟩ => ⟨S_, .f32⟩
  | .hbm, ⟨49, _⟩ => ⟨S2x1x4096, .f32⟩
  | .hbm, ⟨50, _⟩ => ⟨S2x1x4096, .f32⟩
  | .hbm, ⟨51, _⟩ => ⟨S2x2048x4096, .f32⟩
  | .hbm, ⟨52, _⟩ => ⟨S2x2048x4096, .f32⟩
  | .hbm, ⟨53, _⟩ => ⟨S2x2048x4096, .f32⟩
  | .hbm, ⟨54, _⟩ => ⟨S2x2048x4096, .f32⟩
  | .hbm, ⟨55, _⟩ => ⟨S2x2048x5440, .f32⟩
  | .hbm, ⟨56, _⟩ => ⟨S8192x5440, .f32⟩
  | .hbm, ⟨57, _⟩ => ⟨S4096x5440, .f32⟩
  | .hbm, ⟨58, _⟩ => ⟨S12288x5440, .f32⟩
  | .hbm, ⟨59, _⟩ => ⟨S12288x768, .f32⟩
  | .hbm, ⟨60, _⟩ => ⟨S12288x512, .f32⟩
  | .hbm, ⟨61, _⟩ => ⟨S12288x64, .f32⟩
  | .hbm, ⟨62, _⟩ => ⟨S12288x4096, .f32⟩
  | .hbm, ⟨63, _⟩ => ⟨S12288x16, .f32⟩
  | .hbm, ⟨64, _⟩ => ⟨S12288x16, .f32⟩
  | .hbm, ⟨65, _⟩ => ⟨S12288x16, .f32⟩
  | .hbm, ⟨66, _⟩ => ⟨S12288x16, .f32⟩
  | .hbm, ⟨67, _⟩ => ⟨S12288x5632, .f32⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel5.lean ====
abbrev S32x256x4096 : Shape := ⟨3, ![32, 256, 4096]⟩
abbrev S2x2048x4096 : Shape := ⟨3, ![2, 2048, 4096]⟩
abbrev S1x1x4096 : Shape := ⟨3, ![1, 1, 4096]⟩
abbrev S2x1x4096 : Shape := ⟨3, ![2, 1, 4096]⟩
abbrev S4096x4096 : Shape := ⟨2, ![4096, 4096]⟩
abbrev S8192x4096 : Shape := ⟨2, ![8192, 4096]⟩
abbrev S12288x4096 : Shape := ⟨2, ![12288, 4096]⟩
abbrev S_ : Shape := ⟨0, ![]⟩
abbrev S5x1x4096 : Shape := ⟨3, ![5, 1, 4096]⟩
abbrev S8x1x4096 : Shape := ⟨3, ![8, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 19
  | .vmem => 10
  | .smem => 0
  | _ => 0

abbrev bufTy : (tb : Table) → Fin (tcTables nBuf tb) → BufTy
  | .hbm, ⟨0, _⟩ => ⟨S32x256x4096, .f32⟩
  | .hbm, ⟨1, _⟩ => ⟨S2x2048x4096, .f32⟩
  | .hbm, ⟨2, _⟩ => ⟨S32x256x4096, .f32⟩
  | .hbm, ⟨3, _⟩ => ⟨S2x2048x4096, .f32⟩
  | .hbm, ⟨4, _⟩ => ⟨S1x1x4096, .f32⟩
  | .hbm, ⟨5, _⟩ => ⟨S2x1x4096, .f32⟩
  | .hbm, ⟨6, _⟩ => ⟨S4096x4096, .f32⟩
  | .hbm, ⟨7, _⟩ => ⟨S8192x4096, .f32⟩
  | .hbm, ⟨8, _⟩ => ⟨S4096x4096, .f32⟩
  | .hbm, ⟨9, _⟩ => ⟨S12288x4096, .f32⟩
  | .hbm, ⟨10, _⟩ => ⟨S8192x4096, .f32⟩
  | .hbm, ⟨11, _⟩ => ⟨S4096x4096, .f32⟩
  | .hbm, ⟨12, _⟩ => ⟨S12288x4096, .f32⟩
  | .hbm, ⟨13, _⟩ => ⟨S12288x4096, .bf16⟩
  | .hbm, ⟨14, _⟩ => ⟨S_, .f32⟩
  | .hbm, ⟨15, _⟩ => ⟨S5x1x4096, .f32⟩
  | .hbm, ⟨16, _⟩ => ⟨S8x1x4096, .f32⟩
  | .hbm, ⟨17, _⟩ => ⟨S4096x4096, .bf16⟩
  | .hbm, ⟨18, _⟩ => ⟨S12288x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S32x256x4096 : Shape := ⟨3, ![32, 256, 4096]⟩
abbrev S2x2048x4096 : Shape := ⟨3, ![2, 2048, 4096]⟩
abbrev S1x1x4096 : Shape := ⟨3, ![1, 1, 4096]⟩
abbrev S2x1x4096 : Shape := ⟨3, ![2, 1, 4096]⟩
abbrev S4096x4096 : Shape := ⟨2, ![4096, 4096]⟩
abbrev S8192x4096 : Shape := ⟨2, ![8192, 4096]⟩
abbrev S12288x4096 : Shape := ⟨2, ![12288, 4096]⟩

abbrev nBuf : Space → Nat
  | .hbm => 18
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S2x2048x4096, .f32⟩
  | .hbm, ⟨2, _⟩ => ⟨S32x256x4096, .f32⟩
  | .hbm, ⟨3, _⟩ => ⟨S2x2048x4096, .f32⟩
  | .hbm, ⟨4, _⟩ => ⟨S1x1x4096, .f32⟩
  | .hbm, ⟨5, _⟩ => ⟨S2x1x4096, .f32⟩
  | .hbm, ⟨6, _⟩ => ⟨S4096x4096, .f32⟩
  | .hbm, ⟨7, _⟩ => ⟨S32x256x4096, .f32⟩
  | .hbm, ⟨8, _⟩ => ⟨S32x256x4096, .f32⟩
  | .hbm, ⟨9, _⟩ => ⟨S32x256x4096, .f32⟩
  | .hbm, ⟨10, _⟩ => ⟨S32x256x4096, .f32⟩
  | .hbm, ⟨11, _⟩ => ⟨S2x2048x4096, .f32⟩
  | .hbm, ⟨12, _⟩ => ⟨S2x2048x4096, .f32⟩
  | .hbm, ⟨13, _⟩ => ⟨S2x2048x4096, .f32⟩
  | .hbm, ⟨14, _⟩ => ⟨S2x2048x4096, .f32⟩
  | .hbm, ⟨15, _⟩ => ⟨S8192x4096, .f32⟩
  | .hbm, ⟨16, _⟩ => ⟨S4096x4096, .f32⟩
  | .hbm, ⟨17, _⟩ => ⟨S12288x4096, .f32⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel6.lean ====
abbrev S12288x5440 : Shape := ⟨2, ![12288, 5440]⟩
abbrev S768 : Shape := ⟨1, ![768]⟩
abbrev S768x3072 : Shape := ⟨2, ![768, 3072]⟩
abbrev S64 : Shape := ⟨1, ![64]⟩
abbrev S768x16x192 : Shape := ⟨3, ![768, 16, 192]⟩
abbrev S768x16x64 : Shape := ⟨3, ![768, 16, 64]⟩
abbrev S768x16x128 : Shape := ⟨3, ![768, 16, 128]⟩
abbrev S_ : Shape := ⟨0, ![]⟩
abbrev S64x1 : Shape := ⟨2, ![64, 1]⟩
abbrev S768x16x256 : Shape := ⟨3, ![768, 16, 256]⟩
abbrev S768x4096 : Shape := ⟨2, ![768, 4096]⟩
abbrev S12288x64 : Shape := ⟨2, ![12288, 64]⟩
abbrev S12288x512 : Shape := ⟨2, ![12288, 512]⟩
abbrev S12288x768 : Shape := ⟨2, ![12288, 768]⟩
abbrev S12288x4096 : Shape := ⟨2, ![12288, 4096]⟩
abbrev S12288x5632 : Shape := ⟨2, ![12288, 5632]⟩
abbrev S1x768 : Shape := ⟨2, ![1, 768]⟩
abbrev S256x768 : Shape := ⟨2, ![256, 768]⟩
abbrev S256x4096 : Shape := ⟨2, ![256, 4096]⟩
abbrev S256 : Shape := ⟨1, ![256]⟩
abbrev S256x1 : Shape := ⟨2, ![256, 1]⟩

abbrev nBuf : Space → Nat
  | .hbm => 36
  | .vmem => 6
  | .smem => 0
  | _ => 0

abbrev bufTy : (tb : Table) → Fin (tcTables nBuf tb) → BufTy
  | .hbm, ⟨0, _⟩ => ⟨S12288x5440, .f32⟩
  | .hbm, ⟨1, _⟩ => ⟨S768, .f32⟩
  | .hbm, ⟨2, _⟩ => ⟨S768x3072, .f32⟩
  | .hbm, ⟨3, _⟩ => ⟨S64, .i32⟩
  | .hbm, ⟨4, _⟩ => ⟨S64, .i32⟩
  | .hbm, ⟨5, _⟩ => ⟨S768x16x192, .f32⟩
  | .hbm, ⟨6, _⟩ => ⟨S768x16x64, .f32⟩
  | .hbm, ⟨7, _⟩ => ⟨S768x16x128, .f32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S768x16x64, .f32⟩
  | .hbm, ⟨17, _⟩ => ⟨S768x16x256, .f32⟩
  | .hbm, ⟨18, _⟩ => ⟨S768x4096, .f32⟩
  | .hbm, ⟨19, _⟩ => ⟨S768x4096, .bf16⟩
  | .hbm, ⟨20, _⟩ => ⟨S12288x64, .f32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S12288x64, .f32⟩
  | .hbm, ⟨30, _⟩ => ⟨S12288x512, .f32⟩
  | .hbm, ⟨31, _⟩ => ⟨S12288x768, .f32⟩
  | .hbm, ⟨32, _⟩ => ⟨S12288x4096, .f32⟩
  | .hbm, ⟨33, _⟩ => ⟨S12288x5632, .f32⟩
  | .hbm, ⟨34, _⟩ => ⟨S1x768, .f32⟩
  | .hbm, ⟨35, _⟩ => ⟨S12288x4096, .bf16⟩
  | .local _ .vmem, ⟨0, _⟩ => ⟨S256x768, .f32⟩
  | .local _ .vmem, ⟨1, _⟩ => ⟨S256x768, .f32⟩
  | .local _ .vmem, ⟨2, _⟩ => ⟨S1x768, .f32⟩
  | .local _ .vmem, ⟨3, _⟩ => ⟨S768x4096, .bf16⟩
  | .local _ .vmem, ⟨4, _⟩ => ⟨S256x4096, .bf16⟩
  | .local _ .vmem, ⟨5, _⟩ => ⟨S256x4096, .bf16⟩
  | _, _ => ⟨S12288x5440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![48, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S12288x5440 : Shape := ⟨2, ![12288, 5440]⟩
abbrev S768 : Shape := ⟨1, ![768]⟩
abbrev S768x3072 : Shape := ⟨2, ![768, 3072]⟩
abbrev S12288x768 : Shape := ⟨2, ![12288, 768]⟩
abbrev S12288x512 : Shape := ⟨2, ![12288, 512]⟩
abbrev S12288x64 : Shape := ⟨2, ![12288, 64]⟩
abbrev S12288x4096 : Shape := ⟨2, ![12288, 4096]⟩
abbrev S_ : Shape := ⟨0, ![]⟩
abbrev S12288 : Shape := ⟨1, ![12288]⟩
abbrev S12288x1 : Shape := ⟨2, ![12288, 1]⟩
abbrev S1x768 : Shape := ⟨2, ![1, 768]⟩
abbrev S12288x3072 : Shape := ⟨2, ![12288, 3072]⟩
abbrev S12288x16x192 : Shape := ⟨3, ![12288, 16, 192]⟩
abbrev S12288x16x64 : Shape := ⟨3, ![12288, 16, 64]⟩
abbrev S12288x16x16 : Shape := ⟨3, ![12288, 16, 16]⟩
abbrev S12288x16x256 : Shape := ⟨3, ![12288, 16, 256]⟩

abbrev nBuf : Space → Nat
  | .hbm => 33
  | .vmem => 0
  | .smem => 0
  | _ => 0

abbrev bufTy : (tb : Table) → Fin (tcTables nBuf tb) → BufTy
  | .hbm, ⟨0, _⟩ => ⟨S12288x5440, .f32⟩
  | .hbm, ⟨1, _⟩ => ⟨S768, .f32⟩
  | .hbm, ⟨2, _⟩ => ⟨S768x3072, .f32⟩
  | .hbm, ⟨3, _⟩ => ⟨S12288x768, .f32⟩
  | .hbm, ⟨4, _⟩ => ⟨S12288x512, .f32⟩
  | .hbm, ⟨5, _⟩ => ⟨S12288x64, .f32⟩
  | .hbm, ⟨6, _⟩ => ⟨S12288x4096, .f32⟩
  | .hbm, ⟨7, _⟩ => ⟨S12288x768, .f32⟩
  | .hbm, ⟨8, _⟩ => ⟨S_, .f32⟩
  | .hbm, ⟨9, _⟩ => ⟨S12288, .f32⟩
  | .hbm, ⟨10, _⟩ => ⟨S12288x1, .f32⟩
  | .hbm, ⟨11, _⟩ => ⟨S_, .f32⟩
  | .hbm, ⟨12, _⟩ => ⟨S12288x1, .f32⟩
  | .hbm, ⟨13, _⟩ => ⟨S12288x1, .f32⟩
  | .hbm, ⟨14, _⟩ => ⟨S_, .f32⟩
  | .hbm, ⟨15, _⟩ => ⟨S12288x1, .f32⟩
  | .hbm, ⟨16, _⟩ => ⟨S12288x1, .f32⟩
  | .hbm, ⟨17, _⟩ => ⟨S12288x1, .f32⟩
  | .hbm, ⟨18, _⟩ => ⟨S12288x768, .f32⟩
  | .hbm, ⟨19, _⟩ => ⟨S12288x768, .f32⟩
  | .hbm, ⟨20, _⟩ => ⟨S1x768, .f32⟩
  | .hbm, ⟨21, _⟩ => ⟨S12288x768, .f32⟩
  | .hbm, ⟨22, _⟩ => ⟨S12288x768, .f32⟩
  | .hbm, ⟨23, _⟩ => ⟨S12288x3072, .f32⟩
  | .hbm, ⟨24, _⟩ => ⟨S12288x16x192, .f32⟩
  | .hbm, ⟨25, _⟩ => ⟨S12288x16x64, .f32⟩
  | .hbm, ⟨26, _⟩ => ⟨S12288x16x16, .f32⟩
  | .hbm, ⟨27, _⟩ => ⟨S12288x16x16, .f32⟩
  | .hbm, ⟨28, _⟩ => ⟨S12288x16x16, .f32⟩
  | .hbm, ⟨29, _⟩ => ⟨S12288x16x16, .f32⟩
  | .hbm, ⟨30, _⟩ => ⟨S12288x16x256, .f32⟩
  | .hbm, ⟨31, _⟩ => ⟨S12288x4096, .f32⟩
  | .hbm, ⟨32, _⟩ => ⟨S12288x4096, .bf16⟩
  | _, _ => ⟨S12288x5440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel7.lean ====
abbrev S12288x5440 : Shape := ⟨2, ![12288, 5440]⟩
abbrev S512 : Shape := ⟨1, ![512]⟩
abbrev S512x4096 : Shape := ⟨2, ![512, 4096]⟩
abbrev S64 : Shape := ⟨1, ![64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S8192x64 : Shape := ⟨2, ![8192, 64]⟩
abbrev S1x2048x1x64 : Shape := ⟨4, ![1, 2048, 1, 64]⟩
abbrev S2x2048x1x64 : Shape := ⟨4, ![2, 2048, 1, 64]⟩
abbrev S4096x64 : Shape := ⟨2, ![4096, 64]⟩
abbrev S12288x64 : Shape := ⟨2, ![12288, 64]⟩
abbrev S12288x128 : Shape := ⟨2, ![12288, 128]⟩
abbrev S12288x256 : Shape := ⟨2, ![12288, 256]⟩
abbrev S64x1 : Shape := ⟨2, ![64, 1]⟩
abbrev S12288x512 : Shape := ⟨2, ![12288, 512]⟩
abbrev S12288x768 : Shape := ⟨2, ![12288, 768]⟩
abbrev S12288x4096 : Shape := ⟨2, ![12288, 4096]⟩
abbrev S12288x5632 : Shape := ⟨2, ![12288, 5632]⟩
abbrev S1x512 : Shape := ⟨2, ![1, 512]⟩
abbrev S256x512 : Shape := ⟨2, ![256, 512]⟩
abbrev S256x256 : Shape := ⟨2, ![256, 256]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 113
  | .vmem => 14
  | .smem => 0
  | _ => 0

abbrev bufTy : (tb : Table) → Fin (tcTables nBuf tb) → BufTy
  | .hbm, ⟨0, _⟩ => ⟨S12288x5440, .f32⟩
  | .hbm, ⟨1, _⟩ => ⟨S512, .f32⟩
  | .hbm, ⟨2, _⟩ => ⟨S512x4096, .f32⟩
  | .hbm, ⟨3, _⟩ => ⟨S64, .i32⟩
  | .hbm, ⟨4, _⟩ => ⟨S2048, .i32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048, .f32⟩
  | .hbm, ⟨35, _⟩ => ⟨S2048x1, .f32⟩
  | .hbm, ⟨36, _⟩ => ⟨S1x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S_, .i32⟩
  | .hbm, ⟨55, _⟩ => ⟨S_, .i1⟩
  | .hbm, ⟨56, _⟩ => ⟨S2048, .i1⟩
  | .hbm, ⟨57, _⟩ => ⟨S2048, .i1⟩
  | .hbm, ⟨58, _⟩ => ⟨S2048, .i1⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048, .f32⟩
  | .hbm, ⟨63, _⟩ => ⟨S2048x1, .f32⟩
  | .hbm, ⟨64, _⟩ => ⟨S1x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S2048x64, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S2048x16, .f32⟩
  | .hbm, ⟨77, _⟩ => ⟨S2048x16, .f32⟩
  | .hbm, ⟨78, _⟩ => ⟨S2048x16, .f32⟩
  | .hbm, ⟨79, _⟩ => ⟨S2048x64, .f32⟩
  | .hbm, ⟨80, _⟩ => ⟨S_, .f32⟩
  | .hbm, ⟨81, _⟩ => ⟨S8192x64, .f32⟩
  | .hbm, ⟨82, _⟩ => ⟨S1x2048x1x64, .f32⟩
  | .hbm, ⟨83, _⟩ => ⟨S2x2048x1x64, .f32⟩
  | .hbm, ⟨84, _⟩ => ⟨S4096x64, .f32⟩
  | .hbm, ⟨85, _⟩ => ⟨S12288x64, .f32⟩
  | .hbm, ⟨86, _⟩ => ⟨S_, .f32⟩
  | .hbm, ⟨87, _⟩ => ⟨S8192x64, .f32⟩
  | .hbm, ⟨88, _⟩ => ⟨S1x2048x1x64, .f32⟩
  | .hbm, ⟨89, _⟩ => ⟨S2x2048x1x64, .f32⟩
  | .hbm, ⟨90, _⟩ => ⟨S4096x64, .f32⟩
  | .hbm, ⟨91, _⟩ => ⟨S12288x64, .f32⟩
  | .hbm, ⟨92, _⟩ => ⟨S12288x128, .f32⟩
  | .hbm, ⟨93, _⟩ => ⟨S12288x256, .f32⟩
  | .hbm, ⟨94, _⟩ => ⟨S12288x64, .f32⟩
  | .hbm, ⟨95, _⟩ => ⟨S_, .i32⟩
  | .hbm, ⟨96, _⟩ => ⟨S64, .i32⟩
  | .hbm, ⟨97, _⟩ => ⟨S64, .i1⟩
  | .hbm, ⟨98, _⟩ => ⟨S_, .i32⟩
  | .hbm, ⟨99, _⟩ => ⟨S64, .i32⟩
  | .hbm, ⟨100, _⟩ => ⟨S64, .i32⟩
  | .hbm, ⟨101, _⟩ => ⟨S64, .i32⟩
  | .hbm, ⟨102, _⟩ => ⟨S64x1, .i32⟩
  | .hbm, ⟨103, _⟩ => ⟨S12288x64, .f32⟩
  | .hbm, ⟨104, _⟩ => ⟨S12288x512, .f32⟩
  | .hbm, ⟨105, _⟩ => ⟨S12288x768, .f32⟩
  | .hbm, ⟨106, _⟩ => ⟨S12288x4096, .f32⟩
  | .hbm, ⟨107, _⟩ => ⟨S12288x5632, .f32⟩
  | .hbm, ⟨108, _⟩ => ⟨S512x4096, .bf16⟩
  | .hbm, ⟨109, _⟩ => ⟨S1x512, .f32⟩
  | .hbm, ⟨110, _⟩ => ⟨S12288x4096, .bf16⟩
  | .hbm, ⟨111, _⟩ => ⟨S12288x512, .f32⟩
  | .hbm, ⟨112, _⟩ => ⟨S12288x128, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S512x4096, .bf16⟩
  | .local _ .vmem, ⟨8, _⟩ => ⟨S256x4096, .bf16⟩
  | .local _ .vmem, ⟨9, _⟩ => ⟨S256x4096, .bf16⟩
  | .local _ .vmem, ⟨10, _⟩ => ⟨S256x512, .f32⟩
  | .local _ .vmem, ⟨11, _⟩ => ⟨S256x512, .f32⟩
  | .local _ .vmem, ⟨12, _⟩ => ⟨S256x128, .bf16⟩
  | .local _ .vmem, ⟨13, _⟩ => ⟨S256x128, .bf16⟩
  | _, _ => ⟨S12288x5440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_4 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_5 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_c_6 : Ref sig .tc := ⟨.hbm, 95, rfl⟩
abbrev main_v48 : Ref sig .tc := ⟨.hbm, 96, rfl⟩
abbrev main_v49 : Ref sig .tc := ⟨.hbm, 97, rfl⟩
abbrev main_c_7 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61_0 : Ref sig .tc := ⟨.hbm, 110, rfl⟩
abbrev main_v61_1 : Ref sig .tc := ⟨.hbm, 111, rfl⟩
abbrev main_v61_2 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![48, 1], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference7Ideal.lean ====
abbrev S12288x5440 : Shape := ⟨2, ![12288, 5440]⟩
abbrev S512 : Shape := ⟨1, ![512]⟩
abbrev S512x4096 : Shape := ⟨2, ![512, 4096]⟩
abbrev S12288x768 : Shape := ⟨2, ![12288, 768]⟩
abbrev S12288x512 : Shape := ⟨2, ![12288, 512]⟩
abbrev S12288x64 : Shape := ⟨2, ![12288, 64]⟩
abbrev S12288x4096 : Shape := ⟨2, ![12288, 4096]⟩
abbrev S_ : Shape := ⟨0, ![]⟩
abbrev S12288 : Shape := ⟨1, ![12288]⟩
abbrev S12288x1 : Shape := ⟨2, ![12288, 1]⟩
abbrev S1x512 : Shape := ⟨2, ![1, 512]⟩
abbrev S32 : Shape := ⟨1, ![32]⟩
abbrev S64 : Shape := ⟨1, ![64]⟩
abbrev S32x64 : Shape := ⟨2, ![32, 64]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S4096x64 : Shape := ⟨2, ![4096, 64]⟩
abbrev S2x2048x64 : Shape := ⟨3, ![2, 2048, 64]⟩
abbrev S2x2048x32 : Shape := ⟨3, ![2, 2048, 32]⟩
abbrev S2x2048x16 : Shape := ⟨3, ![2, 2048, 16]⟩
abbrev S1x2048x16 : Shape := ⟨3, ![1, 2048, 16]⟩
abbrev S8192x64 : Shape := ⟨2, ![8192, 64]⟩
abbrev S12288x128 : Shape := ⟨2, ![12288, 128]⟩

abbrev nBuf : Space → Nat
  | .hbm => 102
  | .vmem => 0
  | .smem => 0
  | _ => 0

abbrev bufTy : (tb : Table) → Fin (tcTables nBuf tb) → BufTy
  | .hbm, ⟨0, _⟩ => ⟨S12288x5440, .f32⟩
  | .hbm, ⟨1, _⟩ => ⟨S512, .f32⟩
  | .hbm, ⟨2, _⟩ => ⟨S512x4096, .f32⟩
  | .hbm, ⟨3, _⟩ => ⟨S12288x768, .f32⟩
  | .hbm, ⟨4, _⟩ => ⟨S12288x512, .f32⟩
  | .hbm, ⟨5, _⟩ => ⟨S12288x64, .f32⟩
  | .hbm, ⟨6, _⟩ => ⟨S12288x4096, .f32⟩
  | .hbm, ⟨7, _⟩ => ⟨S12288x512, .f32⟩
  | .hbm, ⟨8, _⟩ => ⟨S_, .f32⟩
  | .hbm, ⟨9, _⟩ => ⟨S12288, .f32⟩
  | .hbm, ⟨10, _⟩ => ⟨S12288x1, .f32⟩
  | .hbm, ⟨11, _⟩ => ⟨S_, .f32⟩
  | .hbm, ⟨12, _⟩ => ⟨S12288x1, .f32⟩
  | .hbm, ⟨13, _⟩ => ⟨S12288x1, .f32⟩
  | .hbm, ⟨14, _⟩ => ⟨S_, .f32⟩
  | .hbm, ⟨15, _⟩ => ⟨S12288x1, .f32⟩
  | .hbm, ⟨16, _⟩ => ⟨S12288x1, .f32⟩
  | .hbm, ⟨17, _⟩ => ⟨S12288x1, .f32⟩
  | .hbm, ⟨18, _⟩ => ⟨S12288x512, .f32⟩
  | .hbm, ⟨19, _⟩ => ⟨S12288x512, .f32⟩
  | .hbm, ⟨20, _⟩ => ⟨S1x512, .f32⟩
  | .hbm, ⟨21, _⟩ => ⟨S12288x512, .f32⟩
  | .hbm, ⟨22, _⟩ => ⟨S12288x512, .f32⟩
  | .hbm, ⟨23, _⟩ => ⟨S12288x4096, .f32⟩
  | .hbm, ⟨24, _⟩ => ⟨S32, .i32⟩
  | .hbm, ⟨25, _⟩ => ⟨S64, .i32⟩
  | .hbm, ⟨26, _⟩ => ⟨S32x64, .i32⟩
  | .hbm, ⟨27, _⟩ => ⟨S32x64, .i32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S2048, .i32⟩
  | .hbm, ⟨40, _⟩ => ⟨S2048, .f32⟩
  | .hbm, ⟨41, _⟩ => ⟨S2048x1, .f32⟩
  | .hbm, ⟨42, _⟩ => ⟨S1x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048, .i32⟩
  | .hbm, ⟨47, _⟩ => ⟨S2048, .f32⟩
  | .hbm, ⟨48, _⟩ => ⟨S2048x1, .f32⟩
  | .hbm, ⟨49, _⟩ => ⟨S1x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S4096x64, .f32⟩
  | .hbm, ⟨54, _⟩ => ⟨S2x2048x64, .f32⟩
  | .hbm, ⟨55, _⟩ => ⟨S2x2048x32, .f32⟩
  | .hbm, ⟨56, _⟩ => ⟨S2x2048x32, .f32⟩
  | .hbm, ⟨57, _⟩ => ⟨S2x2048x16, .f32⟩
  | .hbm, ⟨58, _⟩ => ⟨S2x2048x16, .f32⟩
  | .hbm, ⟨59, _⟩ => ⟨S2048x16, .f32⟩
  | .hbm, ⟨60, _⟩ => ⟨S2048x16, .f32⟩
  | .hbm, ⟨61, _⟩ => ⟨S1x2048x16, .f32⟩
  | .hbm, ⟨62, _⟩ => ⟨S2x2048x16, .f32⟩
  | .hbm, ⟨63, _⟩ => ⟨S2x2048x16, .f32⟩
  | .hbm, ⟨64, _⟩ => ⟨S1x2048x16, .f32⟩
  | .hbm, ⟨65, _⟩ => ⟨S2x2048x16, .f32⟩
  | .hbm, ⟨66, _⟩ => ⟨S2x2048x16, .f32⟩
  | .hbm, ⟨67, _⟩ => ⟨S2x2048x16, .f32⟩
  | .hbm, ⟨68, _⟩ => ⟨S1x2048x16, .f32⟩
  | .hbm, ⟨69, _⟩ => ⟨S2x2048x16, .f32⟩
  | .hbm, ⟨70, _⟩ => ⟨S2x2048x16, .f32⟩
  | .hbm, ⟨71, _⟩ => ⟨S1x2048x16, .f32⟩
  | .hbm, ⟨72, _⟩ => ⟨S2x2048x16, .f32⟩
  | .hbm, ⟨73, _⟩ => ⟨S2x2048x16, .f32⟩
  | .hbm, ⟨74, _⟩ => ⟨S2x2048x16, .f32⟩
  | .hbm, ⟨75, _⟩ => ⟨S2x2048x32, .f32⟩
  | .hbm, ⟨76, _⟩ => ⟨S2x2048x16, .f32⟩
  | .hbm, ⟨77, _⟩ => ⟨S2x2048x16, .f32⟩
  | .hbm, ⟨78, _⟩ => ⟨S2048x16, .f32⟩
  | .hbm, ⟨79, _⟩ => ⟨S2048x16, .f32⟩
  | .hbm, ⟨80, _⟩ => ⟨S1x2048x16, .f32⟩
  | .hbm, ⟨81, _⟩ => ⟨S2x2048x16, .f32⟩
  | .hbm, ⟨82, _⟩ => ⟨S2x2048x16, .f32⟩
  | .hbm, ⟨83, _⟩ => ⟨S1x2048x16, .f32⟩
  | .hbm, ⟨84, _⟩ => ⟨S2x2048x16, .f32⟩
  | .hbm, ⟨85, _⟩ => ⟨S2x2048x16, .f32⟩
  | .hbm, ⟨86, _⟩ => ⟨S2x2048x16, .f32⟩
  | .hbm, ⟨87, _⟩ => ⟨S1x2048x16, .f32⟩
  | .hbm, ⟨88, _⟩ => ⟨S2x2048x16, .f32⟩
  | .hbm, ⟨89, _⟩ => ⟨S2x2048x16, .f32⟩
  | .hbm, ⟨90, _⟩ => ⟨S1x2048x16, .f32⟩
  | .hbm, ⟨91, _⟩ => ⟨S2x2048x16, .f32⟩
  | .hbm, ⟨92, _⟩ => ⟨S2x2048x16, .f32⟩
  | .hbm, ⟨93, _⟩ => ⟨S2x2048x16, .f32⟩
  | .hbm, ⟨94, _⟩ => ⟨S2x2048x32, .f32⟩
  | .hbm, ⟨95, _⟩ => ⟨S2x2048x64, .f32⟩
  | .hbm, ⟨96, _⟩ => ⟨S4096x64, .f32⟩
  | .hbm, ⟨97, _⟩ => ⟨S8192x64, .f32⟩
  | .hbm, ⟨98, _⟩ => ⟨S12288x64, .f32⟩
  | .hbm, ⟨99, _⟩ => ⟨S12288x4096, .bf16⟩
  | .hbm, ⟨100, _⟩ => ⟨S12288x128, .f32⟩
  | .hbm, ⟨101, _⟩ => ⟨S12288x128, .bf16⟩
  | _, _ => ⟨S12288x5440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩

abbrev nD : Nat := 1
abbrev τ : Topo := Topo.v7x

variable {F : FTy → Type} [FloatOps F]
-- ==== Kernel8.lean ====
abbrev S2x256x512 : Shape := ⟨3, ![2, 256, 512]⟩
abbrev S512x4096 : Shape := ⟨2, ![512, 4096]⟩
abbrev S512x512 : Shape := ⟨2, ![512, 512]⟩
abbrev S256x512 : Shape := ⟨2, ![256, 512]⟩
abbrev S256x4096 : Shape := ⟨2, ![256, 4096]⟩

abbrev nBuf : Space → Nat
  | .hbm => 5
  | .vmem => 5
  | .smem => 0
  | _ => 0

abbrev bufTy : (tb : Table) → Fin (tcTables nBuf tb) → BufTy
  | .hbm, ⟨0, _⟩ => ⟨S2x256x512, .f32⟩
  | .hbm, ⟨1, _⟩ => ⟨S512x4096, .f32⟩
  | .hbm, ⟨2, _⟩ => ⟨S512x512, .f32⟩
  | .hbm, ⟨3, _⟩ => ⟨S512x4096, .bf16⟩
  | .hbm, ⟨4, _⟩ => ⟨S512x4096, .bf16⟩
  | .local _ .vmem, ⟨0, _⟩ => ⟨S256x512, .f32⟩
  | .local _ .vmem, ⟨1, _⟩ => ⟨S256x512, .f32⟩
  | .local _ .vmem, ⟨2, _⟩ => ⟨S512x4096, .bf16⟩
  | .local _ .vmem, ⟨3, _⟩ => ⟨S256x4096, .bf16⟩
  | .local _ .vmem, ⟨4, _⟩ => ⟨S256x4096, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2x256x512 : Shape := ⟨3, ![2, 256, 512]⟩
abbrev S512x4096 : Shape := ⟨2, ![512, 4096]⟩
abbrev S2x256x4096 : Shape := ⟨3, ![2, 256, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x4096, .f32⟩
  | .hbm, ⟨2, _⟩ => ⟨S2x256x4096, .f32⟩
  | .hbm, ⟨3, _⟩ => ⟨S512x4096, .f32⟩
  | .hbm, ⟨4, _⟩ => ⟨S512x4096, .bf16⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S32x256x4096 : Shape := ⟨3, ![32, 256, 4096]⟩
abbrev S2x2048x4096 : Shape := ⟨3, ![2, 2048, 4096]⟩
abbrev S4096 : Shape := ⟨1, ![4096]⟩
abbrev S8192x4096 : Shape := ⟨2, ![8192, 4096]⟩
abbrev S4096x4096 : Shape := ⟨2, ![4096, 4096]⟩
abbrev S12288x4096 : Shape := ⟨2, ![12288, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S32x256x4096, .f32⟩
  | .hbm, ⟨1, _⟩ => ⟨S2x2048x4096, .f32⟩
  | .hbm, ⟨2, _⟩ => ⟨S4096, .f32⟩
  | .hbm, ⟨3, _⟩ => ⟨S8192x4096, .f32⟩
  | .hbm, ⟨4, _⟩ => ⟨S4096x4096, .f32⟩
  | .hbm, ⟨5, _⟩ => ⟨S12288x4096, .f32⟩
  | .hbm, ⟨6, _⟩ => ⟨S1x4096, .f32⟩
  | .hbm, ⟨7, _⟩ => ⟨S8192x4096, .f32⟩
  | .hbm, ⟨8, _⟩ => ⟨S32x256x4096, .f32⟩
  | .hbm, ⟨9, _⟩ => ⟨S1x4096, .f32⟩
  | .hbm, ⟨10, _⟩ => ⟨S4096x4096, .f32⟩
  | .hbm, ⟨11, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference9Ideal.lean ====
abbrev S32x256x4096 : Shape := ⟨3, ![32, 256, 4096]⟩
abbrev S2x2048x4096 : Shape := ⟨3, ![2, 2048, 4096]⟩
abbrev S4096 : Shape := ⟨1, ![4096]⟩
abbrev S_ : Shape := ⟨0, ![]⟩
abbrev S32x256 : Shape := ⟨2, ![32, 256]⟩
abbrev S32x256x1 : Shape := ⟨3, ![32, 256, 1]⟩
abbrev S1x1x4096 : Shape := ⟨3, ![1, 1, 4096]⟩
abbrev S2x2048 : Shape := ⟨2, ![2, 2048]⟩
abbrev S2x2048x1 : Shape := ⟨3, ![2, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S2x2048x4096, .f32⟩
  | .hbm, ⟨2, _⟩ => ⟨S4096, .f32⟩
  | .hbm, ⟨3, _⟩ => ⟨S32x256x4096, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S32x256x1, .f32⟩
  | .hbm, ⟨14, _⟩ => ⟨S32x256x4096, .f32⟩
  | .hbm, ⟨15, _⟩ => ⟨S32x256x4096, .f32⟩
  | .hbm, ⟨16, _⟩ => ⟨S1x1x4096, .f32⟩
  | .hbm, ⟨17, _⟩ => ⟨S32x256x4096, .f32⟩
  | .hbm, ⟨18, _⟩ => ⟨S32x256x4096, .f32⟩
  | .hbm, ⟨19, _⟩ => ⟨S2x2048x4096, .f32⟩
  | .hbm, ⟨20, _⟩ => ⟨S_, .f32⟩
  | .hbm, ⟨21, _⟩ => ⟨S2x2048, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x4096, .f32⟩
  | .hbm, ⟨31, _⟩ => ⟨S2x2048x4096, .f32⟩
  | .hbm, ⟨32, _⟩ => ⟨S1x1x4096, .f32⟩
  | .hbm, ⟨33, _⟩ => ⟨S2x2048x4096, .f32⟩
  | .hbm, ⟨34, _⟩ => ⟨S2x2048x4096, .f32⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.AttnMath.lean ====
module

public import Idealize.ShloMosaic.Lib.Pipeline.ValueKit

/-! One element of softmax attention over a latent part (2048 keys) and a cached part (256 keys), as arithmetic on the
extended reals. -/

@[expose] public section
noncomputable section
namespace Cert.AttnMath
open Idealize.ShloMosaic

/-- The score of one key: the two 128-long products, added and scaled. -/
def score (w : EReal) (qa qb ka kb : Fin 128 → EReal) : EReal :=
  (∑ x, qa x * ka x + ∑ x, qb x * kb x) * w

/-- The shared maximum of the scores of both parts, from the seed `n`. -/
def top2 (n : EReal) (s : Fin 2048 → EReal) (c : Fin 256 → EReal) : EReal :=
  max (Finset.univ.fold max n s) (Finset.univ.fold max n c)

/-- Softmax over both parts with one shared maximum, weighting the values and dividing once at the end. -/
def attend (n : EReal) (s : Fin 2048 → EReal) (c : Fin 256 → EReal) (v : Fin 2048 → EReal) (u : Fin 256 → EReal) :
    EReal :=
  Ideal.div (∑ x, Ideal.exp (s x - top2 n s c) * v x + ∑ x, Ideal.exp (c x - top2 n s c) * u x)
    (∑ x, Ideal.exp (s x - top2 n s c) + ∑ x, Ideal.exp (c x - top2 n s c))

/-- Equal queries and keys give equal scores. -/
theorem score_congr {w : EReal} {qa qb ka kb qa' qb' ka' kb' : Fin 128 → EReal} (h1 : ∀ x, qa x = qa' x)
    (h2 : ∀ x, qb x = qb' x) (h3 : ∀ x, ka x = ka' x) (h4 : ∀ x, kb x = kb' x) :
    score w qa qb ka kb = score w qa' qb' ka' kb' := by
  rw [funext h1, funext h2, funext h3, funext h4]

/-- Equal scores and values give equal attention. -/
theorem attend_congr {n : EReal} {s s' v v' : Fin 2048 → EReal} {c c' u u' : Fin 256 → EReal} (h1 : ∀ x, s x = s' x)
    (h2 : ∀ x, c x = c' x) (h3 : ∀ x, v x = v' x) (h4 : ∀ x, u x = u' x) :
    attend n s c v u = attend n s' c' v' u' := by
  rw [funext h1, funext h2, funext h3, funext h4]

/-- The real numbers inside the extended reals: a finite sum is taken on either side. -/
theorem coe_sum {n : Nat} (g : Fin n → ℝ) : ((∑ i, g i : ℝ) : EReal) = ∑ i, (g i : EReal) := by
  have h : ∀ t : Finset (Fin n), ((∑ i ∈ t, g i : ℝ) : EReal) = ∑ i ∈ t, (g i : EReal) := by
    intro t
    induction t using Finset.cons_induction with
    | empty => simp
    | cons i t hi ih => rw [Finset.sum_cons, Finset.sum_cons, EReal.coe_add, ih]
  exact h _

/-- Being a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

theorem IsR.sum {n : Nat} {f : Fin n → EReal} (hf : ∀ i, IsR (f i)) : IsR (∑ i, f i) := by
  choose g hg using hf
  refine ⟨∑ i, g i, ?_⟩
  rw [coe_sum]
  exact Finset.sum_congr rfl fun i _ => hg i

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A value whose absolute value is below infinity is a real number. -/
theorem IsR.of_bounds {x : EReal} (h1 : x ≠ ⊥) (h2 : x ≠ ⊤) : IsR x := by
  induction x using EReal.rec with
  | bot => exact absurd rfl h1
  | coe r => exact ⟨r, rfl⟩
  | top => exact absurd rfl h2

/-- A score of real queries and keys is real. -/
theorem IsR.score {w : EReal} {qa qb ka kb : Fin 128 → EReal} (hw : IsR w) (h1 : ∀ x, IsR (qa x)) (h2 : ∀ x, IsR (qb x))
    (h3 : ∀ x, IsR (ka x)) (h4 : ∀ x, IsR (kb x)) : IsR (score w qa qb ka kb) :=
  ((IsR.sum fun x => (h1 x).mul (h3 x)).add (IsR.sum fun x => (h2 x).mul (h4 x))).mul hw

/-- The rotary product: the lanes times cosine and the swapped lanes times signed sine, summed apart against the same
    keys, is the rotated lanes against the keys. -/
theorem rope_sum (q p C S k : Fin 64 → EReal) (hq : ∀ j, IsR (q j)) (hp : ∀ j, IsR (p j)) (hC : ∀ j, IsR (C j))
    (hS : ∀ j, IsR (S j)) (hk : ∀ j, IsR (k j)) (qb kb : Fin 128 → EReal)
    (e1 : ∀ j : Fin 64, qb ⟨j.val, by omega⟩ * kb ⟨j.val, by omega⟩ = q j * C j * k j)
    (e2 : ∀ j : Fin 64, qb ⟨64 + j.val, by omega⟩ * kb ⟨64 + j.val, by omega⟩ = p j * S j * k j) :
    ∑ x, qb x * kb x = ∑ j, k j * (q j * C j + p j * S j) := by
  have h := Fin.sum_univ_add (a := 64) (b := 64) (fun x : Fin (64 + 64) => qb x * kb x)
  refine h.trans ?_
  rw [← Finset.sum_add_distrib]
  refine Finset.sum_congr rfl fun j _ => ?_
  refine (congrArg₂ (· + ·) (e1 j) (e2 j)).trans ?_
  obtain ⟨a, ha⟩ := hq j
  obtain ⟨b, hb⟩ := hp j
  obtain ⟨c, hc⟩ := hC j
  obtain ⟨d, hd⟩ := hS j
  obtain ⟨e, he⟩ := hk j
  rw [ha, hb, hc, hd, he]
  norm_cast
  congr 1
  ring

/-- The largest of 256 cached and 2048 latent scores, taken at once, is the larger of the two largest. -/
theorem top_concat (n : EReal) (T : Fin 2304 → EReal) (s : Fin 2048 → EReal) (c : Fin 256 → EReal)
    (hc : ∀ y : Fin 256, T ⟨y.val, by omega⟩ = c y) (hs : ∀ y : Fin 2048, T ⟨256 + y.val, by omega⟩ = s y) :
    max n (Finset.univ.fold max n T) = top2 n s c := by
  refine eq_of_forall_ge_iff fun z => ?_
  unfold top2
  simp only [max_le_iff, Finset.fold_max_le, Finset.mem_univ, forall_const]
  constructor
  · rintro ⟨h1, -, h2⟩
    exact ⟨⟨h1, fun y => hs y ▸ h2 _⟩, ⟨h1, fun y => hc y ▸ h2 _⟩⟩
  · rintro ⟨⟨h1, h2⟩, -, h3⟩
    refine ⟨h1, h1, fun y => ?_⟩
    by_cases g : y.val < 256
    · exact (hc ⟨y.val, g⟩).symm ▸ h3 ⟨y.val, g⟩
    · have e := hs (⟨y.val - 256, by omega⟩ : Fin 2048)
      have e2 : (⟨256 + (y.val - 256), by omega⟩ : Fin 2304) = y := Fin.ext (by show 256 + (y.val - 256) = y.val; omega)
      rw [← e2]
      exact e.symm ▸ h2 _

/-- The shared maximum of real scores is real. -/
theorem top_real (n : EReal) (hn : n ≠ ⊤) (s : Fin 2048 → EReal) (c : Fin 256 → EReal) (hs : ∀ y, IsR (s y))
    (hc : ∀ y, IsR (c y)) : IsR (top2 n s c) := by
  refine IsR.of_bounds ?_ ?_
  · intro e
    obtain ⟨r, hr⟩ := hs 0
    have h : s 0 ≤ top2 n s c :=
      le_trans (((Finset.fold_max_le (f := s) (b := n) (s := Finset.univ) _).mp le_rfl).2 0 (Finset.mem_univ _))
        (le_max_left _ _)
    rw [e, hr] at h
    exact absurd h (not_le.mpr (EReal.bot_lt_coe r))
  · have h : top2 n s c < ⊤ := by
      unfold top2
      rw [max_lt_iff, Finset.fold_max_lt, Finset.fold_max_lt]
      refine ⟨⟨lt_top_iff_ne_top.mpr hn, fun y _ => ?_⟩, ⟨lt_top_iff_ne_top.mpr hn, fun y _ => ?_⟩⟩
      · obtain ⟨r, hr⟩ := hs y
        rw [hr]; exact EReal.coe_lt_top r
      · obtain ⟨r, hr⟩ := hc y
        rw [hr]; exact EReal.coe_lt_top r
    exact h.ne

/-- Dividing a weight before the product is dividing the sum of products at the end, for a positive real divisor. -/
theorem div_real (x : EReal) (l : ℝ) (hl : 0 < l) : Ideal.div x (l : EReal) = x * ((l⁻¹ : ℝ) : EReal) := by
  unfold Ideal.div
  rw [if_neg (by exact_mod_cast hl.ne'), EReal.coe_inv]

/-- A sum times a nonnegative real constant. -/
theorem sum_mul_real {n : Nat} (f : Fin n → EReal) (a : ℝ) (ha : 0 ≤ a) :
    (∑ i, f i) * (a : EReal) = ∑ i, f i * (a : EReal) := by
  have h : ∀ t : Finset (Fin n), (∑ i ∈ t, f i) * (a : EReal) = ∑ i ∈ t, f i * (a : EReal) := by
    intro t
    induction t using Finset.cons_induction with
    | empty => simp
    | cons i t hi ih =>
      rw [Finset.sum_cons, Finset.sum_cons, ← ih]
      exact EReal.right_distrib_of_nonneg_of_ne_top (by exact_mod_cast ha) (EReal.coe_ne_top a) _ _
  exact h _

/-- Softmax over the cached and latent keys at once, its weights divided before the product with the values, is
    softmax over the two parts with one division at the end, where the scores are real. -/
theorem attend_concat (n : EReal) (hn : n ≠ ⊤) (T V : Fin 2304 → EReal) (s v : Fin 2048 → EReal) (c u : Fin 256 → EReal)
    (hs : ∀ y, IsR (s y)) (hc : ∀ y, IsR (c y))
    (Tc : ∀ y : Fin 256, T ⟨y.val, by omega⟩ = c y) (Ts : ∀ y : Fin 2048, T ⟨256 + y.val, by omega⟩ = s y)
    (Vc : ∀ y : Fin 256, V ⟨y.val, by omega⟩ = u y) (Vs : ∀ y : Fin 2048, V ⟨256 + y.val, by omega⟩ = v y) :
    ∑ y, V y * Ideal.div (Ideal.exp (T y - max n (Finset.univ.fold max n T)))
      (∑ y, Ideal.exp (T y - max n (Finset.univ.fold max n T))) = attend n s c v u := by
  rw [top_concat n T s c Tc Ts]
  obtain ⟨m, hm⟩ := top_real n hn s c hs hc
  unfold attend
  rw [hm]
  choose s' hs' using hs
  choose c' hc' using hc
  have sub : ∀ a b : ℝ, Ideal.exp ((a : EReal) - (b : EReal)) = ((Real.exp (a - b) : ℝ) : EReal) := by
    intro a b
    rw [← EReal.coe_sub]; rfl
  have split : ∀ f : Fin 2304 → EReal, ∑ y, f y = ∑ y : Fin 256, f ⟨y.val, by omega⟩
      + ∑ y : Fin 2048, f ⟨256 + y.val, by omega⟩ := fun f => Fin.sum_univ_add (a := 256) (b := 2048) f
  have lsum : ∑ y, Ideal.exp (s y - (m : EReal)) + ∑ y, Ideal.exp (c y - (m : EReal))
      = ((∑ y, Real.exp (s' y - m) + ∑ y, Real.exp (c' y - m) : ℝ) : EReal) := by
    rw [EReal.coe_add, coe_sum, coe_sum]
    refine congrArg₂ (· + ·) ?_ ?_
    · exact Finset.sum_congr rfl fun y _ => by rw [hs' y, sub]
    · exact Finset.sum_congr rfl fun y _ => by rw [hc' y, sub]
  have lT : ∑ y, Ideal.exp (T y - (m : EReal))
      = ∑ y, Ideal.exp (s y - (m : EReal)) + ∑ y, Ideal.exp (c y - (m : EReal)) := by
    refine (split _).trans ((add_comm _ _).trans (congrArg₂ (· + ·) ?_ ?_))
    · exact Finset.sum_congr rfl fun y _ => congrArg (fun a => Ideal.exp (a - (m : EReal))) (Ts y)
    · exact Finset.sum_congr rfl fun y _ => congrArg (fun a => Ideal.exp (a - (m : EReal))) (Tc y)
  have lpos : 0 < ∑ y, Real.exp (s' y - m) + ∑ y, Real.exp (c' y - m) :=
    add_pos (Finset.sum_pos (fun y _ => Real.exp_pos _) ⟨0, Finset.mem_univ _⟩)
      (Finset.sum_pos (fun y _ => Real.exp_pos _) ⟨0, Finset.mem_univ _⟩)
  rw [lT, lsum]
  have hL : 0 ≤ (∑ y, Real.exp (s' y - m) + ∑ y, Real.exp (c' y - m))⁻¹ := (inv_pos.mpr lpos).le
  have dv : ∀ x, Ideal.div x ((∑ y, Real.exp (s' y - m) + ∑ y, Real.exp (c' y - m) : ℝ) : EReal)
      = x * (((∑ y, Real.exp (s' y - m) + ∑ y, Real.exp (c' y - m))⁻¹ : ℝ) : EReal) := fun x => div_real x _ lpos
  simp only [dv]
  generalize (∑ y, Real.exp (s' y - m) + ∑ y, Real.exp (c' y - m))⁻¹ = L at hL ⊢
  rw [EReal.right_distrib_of_nonneg_of_ne_top (by exact_mod_cast hL) (EReal.coe_ne_top L), sum_mul_real _ _ hL,
    sum_mul_real _ _ hL]
  refine (split _).trans ((add_comm _ _).trans (congrArg₂ (· + ·) ?_ ?_))
  · exact Finset.sum_congr rfl fun y _ => by rw [Ts y, Vs y, ← mul_assoc, mul_comm (v y)]
  · exact Finset.sum_congr rfl fun y _ => by rw [Tc y, Vc y, ← mul_assoc, mul_comm (u y)]

end Cert.AttnMath
-- ==== Proof.AttnPre.lean ====
module

public import proofs.«01_k».proof.Proof.Gen.Pre_finite
public import proofs.«01_k».proof.Proof.AttnMath
public import Idealize.ShloMosaic.Lib.ReduceAll
public import Idealize.ShloMosaic.Lib.Affine

/-! What the precondition says: every element of every argument is a real number. -/

@[expose] public section
set_option maxRecDepth 16384
noncomputable section
namespace Cert.AttnPre
open Idealize.ShloMosaic Cert.AttnMath Cert.Pre_finite

/-- An extended real whose absolute value compares below infinity is a real number. -/
theorem real_of_lt (x : EReal) (h : FloatOps.cmpf (F := Ideal) (φ := .f32) .olt (FloatOps.hostAbsf (F := Ideal) (φ := .f32) x)
    (FloatOps.ofBits (F := Ideal) .f32 0x7F800000#32) = 1#1) : IsR x := by
  have e : FloatOps.ofBits (F := Ideal) .f32 0x7F800000#32 = (⊤ : EReal) := by
    show Ideal.ofBits .f32 0x7F800000#32 = ⊤
    simp [Ideal.ofBits, Ideal.ieee]
  rw [e] at h
  refine IsR.of_bounds (fun g => ?_) (fun g => ?_)
  · subst g
    exact absurd h (by simp [FloatOps.cmpf, FloatOps.hostAbsf, Ideal.cmp])
  · subst g
    exact absurd h (by simp [FloatOps.cmpf, FloatOps.hostAbsf, Ideal.cmp])

instance : Subsingleton S_.Idx := ⟨fun a b => funext fun k => k.elim0⟩

/-- An array all of whose absolute values compare below infinity holds real numbers. -/
theorem real_of_all {s : Shape} {axes : List (Fin s.rank)} (x : FVec Ideal s .f32)
    (bc : S_.BroadcastsInDim s (![] : Fin 0 → Fin s.rank)) (red : s.ReducesTo axes S_) (hu : 0 < S_.numel) (j : S_.Idx)
    (h : Host.reduce IntOp.andi (cmpf .olt (Host.absf x) (broadcastInDim s ![] bc (constant (F := Ideal) S_ .f32 0x7F800000#32)))
      (constantI S_ 1 1#1) red hu j = 1#1) (i : s.Idx) : IsR (x i) :=
  real_of_lt _ (Host.reduce_andi_all _ _ red hu j h i)

/-- The precondition, read: all five arguments hold real numbers. -/
theorem real [Facts] (x0 : FVec Ideal S12288x3072 .f32) (x1 : FVec Ideal S12288x4096 .f32) (x2 : FVec Ideal S12288x64 .f32)
    (x3 : FVec Ideal S2x256x4096 .f32) (x4 : FVec Ideal S2x256x64 .f32)
    (h : fn (F := Ideal) x0 x1 x2 x3 x4 = fun _ => 1#1) :
    (∀ i, IsR (x0 i)) ∧ (∀ i, IsR (x1 i)) ∧ (∀ i, IsR (x2 i)) ∧ (∀ i, IsR (x3 i)) ∧ ∀ i, IsR (x4 i) := by
  have h' := congrFun h (fun k => k.elim0)
  dsimp only [fn, fn_part1] at h'
  obtain ⟨h', h4⟩ := IntOp.andi_eq_one.mp h'
  obtain ⟨h', h3⟩ := IntOp.andi_eq_one.mp h'
  obtain ⟨h', h2⟩ := IntOp.andi_eq_one.mp h'
  obtain ⟨h0, h1⟩ := IntOp.andi_eq_one.mp h'
  exact ⟨real_of_all _ _ _ _ _ h0, real_of_all _ _ _ _ _ h1, real_of_all _ _ _ _ _ h2, real_of_all _ _ _ _ _ h3,
    real_of_all _ _ _ _ _ h4⟩

end Cert.AttnPre
-- ==== Proof.AttnPrep.lean ====
module

public import proofs.«01_k».proof.Proof.Gen.KernelIdeal.Value
public import Idealize.ShloMosaic.Lib.Pipeline.ValueKit
public import Idealize.ShloMosaic.Lib.StableHlo.RunRead

@[expose] public section

/-! The arrays that the attention call reads, as functions of the five arguments: one definition per operation of the
    host code before the call, and for each of the call's six input arrays the theorem that the call finds it so. -/

noncomputable section

namespace Cert.AttnPrep

open Cert.KernelIdeal Cert.KernelIdeal.Gen Idealize.ShloMosaic Idealize.ShloMosaic.TcCoe Idealize.SL.Sem

variable {F : FTy → Type} [FloatOps F]

def h_cst_4 : (⟨S_, .f32⟩ : BufTy).Contents (Elt F) :=
  (constant S_ .f32 0x3F800000#32)
def h_v35 : (⟨S8192x64, .f32⟩ : BufTy).Contents (Elt F) :=
  (broadcastInDim S8192x64 ![] bcast_S_S8192x64) (h_cst_4 (F := F))
def h_v0 : (⟨S2048, .i32⟩ : BufTy).Contents (Elt F) :=
  (iotaInDim S2048 32 0)
def h_call0_v3 : (⟨S2048, .i32⟩ : BufTy).Contents (Elt F) :=
  (signi) (h_v0 (F := F))
def h_c_2 : (⟨S_, .i32⟩ : BufTy).Contents (Elt F) :=
  (constantI S_ 32 64#32)
def h_call0_v0 : (⟨S_, .i32⟩ : BufTy).Contents (Elt F) :=
  (id) (h_c_2 (F := F))
def h_call0_v4 : (⟨S_, .i32⟩ : BufTy).Contents (Elt F) :=
  (signi) (h_call0_v0 (F := F))
def h_call0_v5 : (⟨S2048, .i32⟩ : BufTy).Contents (Elt F) :=
  ((broadcastInDim S2048 ![] bcast_S_S2048)) (h_call0_v4 (F := F))
def h_call0_v6 : (⟨S2048, .i1⟩ : BufTy).Contents (Elt F) :=
  ((cmpi .ne)) (h_call0_v3 (F := F)) (h_call0_v5 (F := F))
def h_call0_v7 : (⟨S2048, .i32⟩ : BufTy).Contents (Elt F) :=
  ((broadcastInDim S2048 ![] bcast_S_S2048)) (h_call0_v0 (F := F))
def h_call0_v8 : (⟨S2048, .i32⟩ : BufTy).Contents (Elt F) :=
  (Host.remsi) (h_v0 (F := F)) (h_call0_v7 (F := F))
def h_call0_c : (⟨S_, .i32⟩ : BufTy).Contents (Elt F) :=
  (constantI S_ 32 0#32)
def h_call0_v9 : (⟨S2048, .i32⟩ : BufTy).Contents (Elt F) :=
  ((broadcastInDim S2048 ![] bcast_S_S2048)) (h_call0_c (F := F))
def h_call0_v10 : (⟨S2048, .i1⟩ : BufTy).Contents (Elt F) :=
  ((cmpi .ne)) (h_call0_v8 (F := F)) (h_call0_v9 (F := F))
def h_call0_v11 : (⟨S2048, .i1⟩ : BufTy).Contents (Elt F) :=
  (andi) (h_call0_v6 (F := F)) (h_call0_v10 (F := F))
def h_call0_v1 : (⟨S2048, .i32⟩ : BufTy).Contents (Elt F) :=
  ((broadcastInDim S2048 ![] bcast_S_S2048)) (h_call0_v0 (F := F))
def h_call0_v2 : (⟨S2048, .i32⟩ : BufTy).Contents (Elt F) :=
  (Host.divsi) (h_v0 (F := F)) (h_call0_v1 (F := F))
def h_call0_c_0 : (⟨S_, .i32⟩ : BufTy).Contents (Elt F) :=
  (constantI S_ 32 1#32)
def h_call0_v12 : (⟨S2048, .i32⟩ : BufTy).Contents (Elt F) :=
  ((broadcastInDim S2048 ![] bcast_S_S2048)) (h_call0_c_0 (F := F))
def h_call0_v13 : (⟨S2048, .i32⟩ : BufTy).Contents (Elt F) :=
  (subi) (h_call0_v2 (F := F)) (h_call0_v12 (F := F))
def h_v9 : (⟨S2048, .i32⟩ : BufTy).Contents (Elt F) :=
  (select) (h_call0_v11 (F := F)) (h_call0_v13 (F := F)) (h_call0_v2 (F := F))
def h_v10 : (⟨S2048, .f32⟩ : BufTy).Contents (Elt F) :=
  (sitofp .f32) (h_v9 (F := F))
def h_v11 : (⟨S2048x1, .f32⟩ : BufTy).Contents (Elt F) :=
  (broadcastInDim S2048x1 ![0] bcast_S2048_S2048x1_0) (h_v10 (F := F))
def h_v13 : (⟨S2048x16, .f32⟩ : BufTy).Contents (Elt F) :=
  (broadcastInDim S2048x16 ![0, 1] bcast_S2048x1_S2048x16_0_1) (h_v11 (F := F))
def h_cst_1 : (⟨S_, .f32⟩ : BufTy).Contents (Elt F) :=
  (constant S_ .f32 0x461C4000#32)
def h_v7 : (⟨S16, .f32⟩ : BufTy).Contents (Elt F) :=
  (broadcastInDim S16 ![] bcast_S_S16) (h_cst_1 (F := F))
def h_v1 : (⟨S16, .f32⟩ : BufTy).Contents (Elt F) :=
  (sitofp .f32 (iotaInDim S16 32 0))
def h_v2 : (⟨S16, .f32⟩ : BufTy).Contents (Elt F) :=
  (Host.negf) (h_v1 (F := F))
def h_cst : (⟨S_, .f32⟩ : BufTy).Contents (Elt F) :=
  (constant S_ .f32 0x40000000#32)
def h_v3 : (⟨S16, .f32⟩ : BufTy).Contents (Elt F) :=
  (broadcastInDim S16 ![] bcast_S_S16) (h_cst (F := F))
def h_v4 : (⟨S16, .f32⟩ : BufTy).Contents (Elt F) :=
  (mulf) (h_v2 (F := F)) (h_v3 (F := F))
def h_cst_0 : (⟨S_, .f32⟩ : BufTy).Contents (Elt F) :=
  (constant S_ .f32 0x42000000#32)
def h_v5 : (⟨S16, .f32⟩ : BufTy).Contents (Elt F) :=
  (broadcastInDim S16 ![] bcast_S_S16) (h_cst_0 (F := F))
def h_v6 : (⟨S16, .f32⟩ : BufTy).Contents (Elt F) :=
  (Host.divf) (h_v4 (F := F)) (h_v5 (F := F))
def h_v8 : (⟨S16, .f32⟩ : BufTy).Contents (Elt F) :=
  (Host.powf) (h_v7 (F := F)) (h_v6 (F := F))
def h_v12 : (⟨S1x16, .f32⟩ : BufTy).Contents (Elt F) :=
  (broadcastInDim S1x16 ![1] bcast_S16_S1x16_1) (h_v8 (F := F))
def h_v14 : (⟨S2048x16, .f32⟩ : BufTy).Contents (Elt F) :=
  (broadcastInDim S2048x16 ![0, 1] bcast_S1x16_S2048x16_0_1) (h_v12 (F := F))
def h_v15 : (⟨S2048x16, .f32⟩ : BufTy).Contents (Elt F) :=
  (mulf) (h_v13 (F := F)) (h_v14 (F := F))
def h_v23 : (⟨S2048x16, .f32⟩ : BufTy).Contents (Elt F) :=
  (Host.cos) (h_v15 (F := F))
def h_v24 : (⟨S2048x16, .f32⟩ : BufTy).Contents (Elt F) :=
  (Host.cos) (h_v15 (F := F))
def h_c_3 : (⟨S_, .i32⟩ : BufTy).Contents (Elt F) :=
  (constantI S_ 32 64#32)
def h_call1_v0 : (⟨S_, .i32⟩ : BufTy).Contents (Elt F) :=
  (id) (h_c_3 (F := F))
def h_call1_c : (⟨S_, .i32⟩ : BufTy).Contents (Elt F) :=
  (constantI S_ 32 0#32)
def h_call1_v1 : (⟨S_, .i1⟩ : BufTy).Contents (Elt F) :=
  ((cmpi .eq)) (h_call1_v0 (F := F)) (h_call1_c (F := F))
def h_call1_c_0 : (⟨S_, .i32⟩ : BufTy).Contents (Elt F) :=
  (constantI S_ 32 1#32)
def h_call1_v2 : (⟨S_, .i32⟩ : BufTy).Contents (Elt F) :=
  (select) (h_call1_v1 (F := F)) (h_call1_c_0 (F := F)) (h_call1_v0 (F := F))
def h_call1_v3 : (⟨S2048, .i32⟩ : BufTy).Contents (Elt F) :=
  ((broadcastInDim S2048 ![] bcast_S_S2048)) (h_call1_v2 (F := F))
def h_call1_v4 : (⟨S2048, .i32⟩ : BufTy).Contents (Elt F) :=
  (Host.remsi) (h_v0 (F := F)) (h_call1_v3 (F := F))
def h_call1_c_2 : (⟨S_, .i32⟩ : BufTy).Contents (Elt F) :=
  (constantI S_ 32 0#32)
def h_call1_v7 : (⟨S2048, .i32⟩ : BufTy).Contents (Elt F) :=
  ((broadcastInDim S2048 ![] bcast_S_S2048)) (h_call1_c_2 (F := F))
def h_call1_v8 : (⟨S2048, .i1⟩ : BufTy).Contents (Elt F) :=
  ((cmpi .slt)) (h_call1_v4 (F := F)) (h_call1_v7 (F := F))
def h_call1_c_3 : (⟨S_, .i32⟩ : BufTy).Contents (Elt F) :=
  (constantI S_ 32 0#32)
def h_call1_v9 : (⟨S_, .i1⟩ : BufTy).Contents (Elt F) :=
  ((cmpi .slt)) (h_call1_v2 (F := F)) (h_call1_c_3 (F := F))
def h_call1_v10 : (⟨S2048, .i1⟩ : BufTy).Contents (Elt F) :=
  ((broadcastInDim S2048 ![] bcast_S_S2048)) (h_call1_v9 (F := F))
def h_call1_v11 : (⟨S2048, .i1⟩ : BufTy).Contents (Elt F) :=
  ((cmpi .ne)) (h_call1_v8 (F := F)) (h_call1_v10 (F := F))
def h_call1_c_1 : (⟨S_, .i32⟩ : BufTy).Contents (Elt F) :=
  (constantI S_ 32 0#32)
def h_call1_v5 : (⟨S2048, .i32⟩ : BufTy).Contents (Elt F) :=
  ((broadcastInDim S2048 ![] bcast_S_S2048)) (h_call1_c_1 (F := F))
def h_call1_v6 : (⟨S2048, .i1⟩ : BufTy).Contents (Elt F) :=
  ((cmpi .ne)) (h_call1_v4 (F := F)) (h_call1_v5 (F := F))
def h_call1_v12 : (⟨S2048, .i1⟩ : BufTy).Contents (Elt F) :=
  (andi) (h_call1_v11 (F := F)) (h_call1_v6 (F := F))
def h_call1_v13 : (⟨S2048, .i32⟩ : BufTy).Contents (Elt F) :=
  ((broadcastInDim S2048 ![] bcast_S_S2048)) (h_call1_v2 (F := F))
def h_call1_v14 : (⟨S2048, .i32⟩ : BufTy).Contents (Elt F) :=
  (addi) (h_call1_v4 (F := F)) (h_call1_v13 (F := F))
def h_v16 : (⟨S2048, .i32⟩ : BufTy).Contents (Elt F) :=
  (select) (h_call1_v12 (F := F)) (h_call1_v14 (F := F)) (h_call1_v4 (F := F))
def h_v17 : (⟨S2048, .f32⟩ : BufTy).Contents (Elt F) :=
  (sitofp .f32) (h_v16 (F := F))
def h_v18 : (⟨S2048x1, .f32⟩ : BufTy).Contents (Elt F) :=
  (broadcastInDim S2048x1 ![0] bcast_S2048_S2048x1_0) (h_v17 (F := F))
def h_v20 : (⟨S2048x16, .f32⟩ : BufTy).Contents (Elt F) :=
  (broadcastInDim S2048x16 ![0, 1] bcast_S2048x1_S2048x16_0_1) (h_v18 (F := F))
def h_v19 : (⟨S1x16, .f32⟩ : BufTy).Contents (Elt F) :=
  (broadcastInDim S1x16 ![1] bcast_S16_S1x16_1) (h_v8 (F := F))
def h_v21 : (⟨S2048x16, .f32⟩ : BufTy).Contents (Elt F) :=
  (broadcastInDim S2048x16 ![0, 1] bcast_S1x16_S2048x16_0_1) (h_v19 (F := F))
def h_v22 : (⟨S2048x16, .f32⟩ : BufTy).Contents (Elt F) :=
  (mulf) (h_v20 (F := F)) (h_v21 (F := F))
def h_v25 : (⟨S2048x16, .f32⟩ : BufTy).Contents (Elt F) :=
  (Host.cos) (h_v22 (F := F))
def h_v26 : (⟨S2048x16, .f32⟩ : BufTy).Contents (Elt F) :=
  (Host.cos) (h_v22 (F := F))
def h_v27 : (⟨S2048x64, .f32⟩ : BufTy).Contents (Elt F) :=
  concatenate S2048x64 1 [⟨S2048x16, (h_v23 (F := F))⟩, ⟨S2048x16, (h_v24 (F := F))⟩, ⟨S2048x16, (h_v25 (F := F))⟩, ⟨S2048x16, (h_v26 (F := F))⟩] concatenates_S2048x16_S2048x16_S2048x16_S2048x16_S2048x64_d1
def h_v36 : (⟨S1x2048x1x64, .f32⟩ : BufTy).Contents (Elt F) :=
  shapeCast _ (h_v27 (F := F)) shapeCasts_S2048x64_S1x2048x1x64
def h_v37 : (⟨S2x2048x1x64, .f32⟩ : BufTy).Contents (Elt F) :=
  (broadcastInDim S2x2048x1x64 ![0, 1, 2, 3] bcast_S1x2048x1x64_S2x2048x1x64_0_1_2_3) (h_v36 (F := F))
def h_v38 : (⟨S4096x64, .f32⟩ : BufTy).Contents (Elt F) :=
  shapeCast _ (h_v37 (F := F)) shapeCasts_S2x2048x1x64_S4096x64
def h_v39 : (⟨S12288x64, .f32⟩ : BufTy).Contents (Elt F) :=
  ((fun a b => concatenate S12288x64 0 [⟨S8192x64, a⟩, ⟨S4096x64, b⟩] concatenates_S8192x64_S4096x64_S12288x64_d0)) (h_v35 (F := F)) (h_v38 (F := F))
def h_cst_5 : (⟨S_, .f32⟩ : BufTy).Contents (Elt F) :=
  (constant S_ .f32 0x00000000#32)
def h_v40 : (⟨S8192x64, .f32⟩ : BufTy).Contents (Elt F) :=
  (broadcastInDim S8192x64 ![] bcast_S_S8192x64) (h_cst_5 (F := F))
def h_v28 : (⟨S2048x16, .f32⟩ : BufTy).Contents (Elt F) :=
  (Host.sin) (h_v15 (F := F))
def h_v29 : (⟨S2048x16, .f32⟩ : BufTy).Contents (Elt F) :=
  (Host.negf) (h_v28 (F := F))
def h_v30 : (⟨S2048x16, .f32⟩ : BufTy).Contents (Elt F) :=
  (Host.sin) (h_v15 (F := F))
def h_v31 : (⟨S2048x16, .f32⟩ : BufTy).Contents (Elt F) :=
  (Host.sin) (h_v22 (F := F))
def h_v32 : (⟨S2048x16, .f32⟩ : BufTy).Contents (Elt F) :=
  (Host.negf) (h_v31 (F := F))
def h_v33 : (⟨S2048x16, .f32⟩ : BufTy).Contents (Elt F) :=
  (Host.sin) (h_v22 (F := F))
def h_v34 : (⟨S2048x64, .f32⟩ : BufTy).Contents (Elt F) :=
  concatenate S2048x64 1 [⟨S2048x16, (h_v29 (F := F))⟩, ⟨S2048x16, (h_v30 (F := F))⟩, ⟨S2048x16, (h_v32 (F := F))⟩, ⟨S2048x16, (h_v33 (F := F))⟩] concatenates_S2048x16_S2048x16_S2048x16_S2048x16_S2048x64_d1
def h_v41 : (⟨S1x2048x1x64, .f32⟩ : BufTy).Contents (Elt F) :=
  shapeCast _ (h_v34 (F := F)) shapeCasts_S2048x64_S1x2048x1x64
def h_v42 : (⟨S2x2048x1x64, .f32⟩ : BufTy).Contents (Elt F) :=
  (broadcastInDim S2x2048x1x64 ![0, 1, 2, 3] bcast_S1x2048x1x64_S2x2048x1x64_0_1_2_3) (h_v41 (F := F))
def h_v43 : (⟨S4096x64, .f32⟩ : BufTy).Contents (Elt F) :=
  shapeCast _ (h_v42 (F := F)) shapeCasts_S2x2048x1x64_S4096x64
def h_v44 : (⟨S12288x64, .f32⟩ : BufTy).Contents (Elt F) :=
  ((fun a b => concatenate S12288x64 0 [⟨S8192x64, a⟩, ⟨S4096x64, b⟩] concatenates_S8192x64_S4096x64_S12288x64_d0)) (h_v40 (F := F)) (h_v43 (F := F))
def h_v45 : (⟨S12288x128, .f32⟩ : BufTy).Contents (Elt F) :=
  ((fun a b => concatenate S12288x128 1 [⟨S12288x64, a⟩, ⟨S12288x64, b⟩] concatenates_S12288x64_S12288x64_S12288x128_d1)) (h_v39 (F := F)) (h_v44 (F := F))
def h_v47 (x0 : (⟨S12288x3072, .f32⟩ : BufTy).Contents (Elt F)) : (⟨S12288x16x192, .f32⟩ : BufTy).Contents (Elt F) :=
  shapeCast _ x0 shapeCasts_S12288x3072_S12288x16x192
def h_v49 (x0 : (⟨S12288x3072, .f32⟩ : BufTy).Contents (Elt F)) : (⟨S12288x16x128, .f32⟩ : BufTy).Contents (Elt F) :=
  ((extractStridedSlice S12288x16x128 ![0, 0, 0] · slices_S12288x16x192_S12288x16x128_0_0_0)) (h_v47 (F := F) x0)
def h_v48 (x0 : (⟨S12288x3072, .f32⟩ : BufTy).Contents (Elt F)) : (⟨S12288x16x64, .f32⟩ : BufTy).Contents (Elt F) :=
  ((extractStridedSlice S12288x16x64 ![0, 0, 128] · slices_S12288x16x192_S12288x16x64_0_0_128)) (h_v47 (F := F) x0)
def h_c : (⟨S64, .i32⟩ : BufTy).Contents (Elt F) :=
  (fun i => lit0 (S64.rowMajor i))
def h_c_6 : (⟨S_, .i32⟩ : BufTy).Contents (Elt F) :=
  (constantI S_ 32 0#32)
def h_v50 : (⟨S64, .i32⟩ : BufTy).Contents (Elt F) :=
  (broadcastInDim S64 ![] bcast_S_S64) (h_c_6 (F := F))
def h_v51 : (⟨S64, .i1⟩ : BufTy).Contents (Elt F) :=
  (cmpi .slt) (h_c (F := F)) (h_v50 (F := F))
def h_c_7 : (⟨S_, .i32⟩ : BufTy).Contents (Elt F) :=
  (constantI S_ 32 64#32)
def h_v52 : (⟨S64, .i32⟩ : BufTy).Contents (Elt F) :=
  (broadcastInDim S64 ![] bcast_S_S64) (h_c_7 (F := F))
def h_v53 : (⟨S64, .i32⟩ : BufTy).Contents (Elt F) :=
  (addi) (h_c (F := F)) (h_v52 (F := F))
def h_v54 : (⟨S64, .i32⟩ : BufTy).Contents (Elt F) :=
  (select) (h_v51 (F := F)) (h_v53 (F := F)) (h_c (F := F))
def h_v55 : (⟨S64x1, .i32⟩ : BufTy).Contents (Elt F) :=
  (broadcastInDim S64x1 ![0] bcast_S64_S64x1_0) (h_v54 (F := F))
def h_v56 (x0 : (⟨S12288x3072, .f32⟩ : BufTy).Contents (Elt F)) : (⟨S12288x16x64, .f32⟩ : BufTy).Contents (Elt F) :=
  ((fun x i => Host.gather gather_S12288x16x64_S64x1_S12288x16x64_01_2_n_n_2_1_12288161 x i)) (h_v48 (F := F) x0) (h_v55 (F := F))
def h_v57 (x0 : (⟨S12288x3072, .f32⟩ : BufTy).Contents (Elt F)) : (⟨S12288x16x256, .f32⟩ : BufTy).Contents (Elt F) :=
  concatenate S12288x16x256 2 [⟨S12288x16x128, (h_v49 (F := F) x0)⟩, ⟨S12288x16x64, (h_v48 (F := F) x0)⟩, ⟨S12288x16x64, (h_v56 (F := F) x0)⟩] concatenates_S12288x16x128_S12288x16x64_S12288x16x64_S12288x16x256_d2
def h_v58 (x0 : (⟨S12288x3072, .f32⟩ : BufTy).Contents (Elt F)) : (⟨S12288x4096, .f32⟩ : BufTy).Contents (Elt F) :=
  shapeCast _ (h_v57 (F := F) x0) shapeCasts_S12288x16x256_S12288x4096
def h_v59 (x0 : (⟨S12288x3072, .f32⟩ : BufTy).Contents (Elt F)) : (⟨S12288x4096, .bf16⟩ : BufTy).Contents (Elt F) :=
  ((truncf .bf16 · bitsLt_bf16_f32)) (h_v58 (F := F) x0)
def h_v60 (x2 : (⟨S12288x64, .f32⟩ : BufTy).Contents (Elt F)) : (⟨S12288x128, .f32⟩ : BufTy).Contents (Elt F) :=
  ((fun a b => concatenate S12288x128 1 [⟨S12288x64, a⟩, ⟨S12288x64, b⟩] concatenates_S12288x64_S12288x64_S12288x128_d1)) x2 x2
def h_v61 (x2 : (⟨S12288x64, .f32⟩ : BufTy).Contents (Elt F)) : (⟨S12288x128, .bf16⟩ : BufTy).Contents (Elt F) :=
  ((truncf .bf16 · bitsLt_bf16_f32)) (h_v60 (F := F) x2)
def h_v62 (x3 : (⟨S2x256x4096, .f32⟩ : BufTy).Contents (Elt F)) : (⟨S512x4096, .f32⟩ : BufTy).Contents (Elt F) :=
  shapeCast _ x3 shapeCasts_S2x256x4096_S512x4096
def h_v63 (x3 : (⟨S2x256x4096, .f32⟩ : BufTy).Contents (Elt F)) : (⟨S512x4096, .bf16⟩ : BufTy).Contents (Elt F) :=
  ((truncf .bf16 · bitsLt_bf16_f32)) (h_v62 (F := F) x3)
def h_v64 (x4 : (⟨S2x256x64, .f32⟩ : BufTy).Contents (Elt F)) : (⟨S2x256x128, .f32⟩ : BufTy).Contents (Elt F) :=
  ((fun a b => concatenate S2x256x128 2 [⟨S2x256x64, a⟩, ⟨S2x256x64, b⟩] concatenates_S2x256x64_S2x256x64_S2x256x128_d2)) x4 x4
def h_v65 (x4 : (⟨S2x256x64, .f32⟩ : BufTy).Contents (Elt F)) : (⟨S2x256x128, .bf16⟩ : BufTy).Contents (Elt F) :=
  ((truncf .bf16 · bitsLt_bf16_f32)) (h_v64 (F := F) x4)
def h_v66 (x4 : (⟨S2x256x64, .f32⟩ : BufTy).Contents (Elt F)) : (⟨S512x128, .bf16⟩ : BufTy).Contents (Elt F) :=
  shapeCast _ (h_v65 (F := F) x4) shapeCasts_S2x256x128_S512x128
def h_v67 (x1 : (⟨S12288x4096, .f32⟩ : BufTy).Contents (Elt F)) : (⟨S12288x4096, .bf16⟩ : BufTy).Contents (Elt F) :=
  ((truncf .bf16 · bitsLt_bf16_f32)) x1

/-- Two lines of operations one after the other. -/
theorem after_two {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- A buffer that no operation from position `i` on writes holds after the first `i` operations what it holds after all. -/
theorem upto_read {τ : Topo} {sig : RefSig} {Val : EltTy → Type} {ops : List (HloOp τ sig Val)} (i : ℕ) (W : List (Ref sig .tc))
    (hW : (ops.drop i).map HloOp.writes = W.map fun w => {Proc.devRef (τ := τ) .tc w}) {r : Ref sig .tc} (hr : r ∉ W)
    (V : Valuation τ sig Val) :
    StableHlo.upto ops V i (Proc.devRef .tc r) = StableHlo.after ops V (Proc.devRef .tc r) := by
  have h := after_two (ops.take i) (ops.drop i) V
  rw [List.take_append_drop] at h
  rw [h, StableHlo.after_unwritten W hW hr]
  rfl

variable (m : (ℓ : Loc nD τ sig) → Buf (Elt F) ℓ) (c : Dev nD)

/-- Equal arguments give equal values, for a function of four arguments. -/
theorem congr_four {A B C D E : Sort*} (f : A → B → C → D → E) {a a' : A} {b b' : B} {c c' : C} {d d' : D}
    (ha : a = a') (hb : b = b') (hc : c = c') (hd : d = d') : f a b c d = f a' b' c' d' := by
  subst ha hb hc hd; rfl

/-- The host operations before the call, in one list. -/
abbrev pre : List (HloOp τ sig (Elt F)) := List.flatten [hostOps0, hostOps0_1, hostOps0_2, hostOps0_3, hostOps0_4]

set_option maxHeartbeats 2000000 in
set_option maxRecDepth 8192 in
/-- What the host code leaves in `main_v23`. -/
theorem V_main_v23 : V m c main_v23 = h_v23 (F := F) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v24`. -/
theorem V_main_v24 : V m c main_v24 = h_v24 (F := F) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v25`. -/
theorem V_main_v25 : V m c main_v25 = h_v25 (F := F) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v26`. -/
theorem V_main_v26 : V m c main_v26 = h_v26 (F := F) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v29`. -/
theorem V_main_v29 : V m c main_v29 = h_v29 (F := F) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v30`. -/
theorem V_main_v30 : V m c main_v30 = h_v30 (F := F) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v32`. -/
theorem V_main_v32 : V m c main_v32 = h_v32 (F := F) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v33`. -/
theorem V_main_v33 : V m c main_v33 = h_v33 (F := F) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v35`. -/
theorem V_main_v35 : V m c main_v35 = h_v35 (F := F) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v40`. -/
theorem V_main_v40 : V m c main_v40 = h_v40 (F := F) := by
  simp only [V, hostOps0, hostOps0_1, hostOps0_2, hostOps0_3, hostOps0_4, List.flatten_cons, List.flatten_nil, List.append_nil, List.cons_append, List.nil_append]
  after_results_simp <;> rfl

set_option maxRecDepth 8192 in
/-- What the host code leaves in `main_v27`. -/
theorem V_main_v27 : V m c main_v27 = h_v27 (F := F) := by
  have h := StableHlo.after_last_write (ops := pre (F := F)) (i := 69) (r := main_v27) [main_v28, main_v29, main_v30, main_v31, main_v32, main_v33, main_v34, main_cst_4, main_v35, main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 69 [main_v27, main_v28, main_v29, main_v30, main_v31, main_v32, main_v33, main_v34, main_cst_4, main_v35, main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v23) (by decide) (fun b => m (c, b))).trans (V_main_v23 m c)
  have e1 := (upto_read (ops := pre) 69 [main_v27, main_v28, main_v29, main_v30, main_v31, main_v32, main_v33, main_v34, main_cst_4, main_v35, main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v24) (by decide) (fun b => m (c, b))).trans (V_main_v24 m c)
  have e2 := (upto_read (ops := pre) 69 [main_v27, main_v28, main_v29, main_v30, main_v31, main_v32, main_v33, main_v34, main_cst_4, main_v35, main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v25) (by decide) (fun b => m (c, b))).trans (V_main_v25 m c)
  have e3 := (upto_read (ops := pre) 69 [main_v27, main_v28, main_v29, main_v30, main_v31, main_v32, main_v33, main_v34, main_cst_4, main_v35, main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v26) (by decide) (fun b => m (c, b))).trans (V_main_v26 m c)
  rw [StableHlo.nary4_result] at h
  generalize StableHlo.upto pre (fun b => m (c, b)) 69 = U at h e0 e1 e2 e3
  exact h.trans (congr_four (fun a b c d => (concatenate S2048x64 1 [⟨S2048x16, a⟩, ⟨S2048x16, b⟩, ⟨S2048x16, c⟩, ⟨S2048x16, d⟩] concatenates_S2048x16_S2048x16_S2048x16_S2048x16_S2048x64_d1 : (⟨S2048x64, .f32⟩ : BufTy).Contents (Elt F))) e0 e1 e2 e3)

set_option maxRecDepth 8192 in
/-- What the host code leaves in `main_v34`. -/
theorem V_main_v34 : V m c main_v34 = h_v34 (F := F) := by
  have h := StableHlo.after_last_write (ops := pre (F := F)) (i := 76) (r := main_v34) [main_cst_4, main_v35, main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 76 [main_v34, main_cst_4, main_v35, main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v29) (by decide) (fun b => m (c, b))).trans (V_main_v29 m c)
  have e1 := (upto_read (ops := pre) 76 [main_v34, main_cst_4, main_v35, main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v30) (by decide) (fun b => m (c, b))).trans (V_main_v30 m c)
  have e2 := (upto_read (ops := pre) 76 [main_v34, main_cst_4, main_v35, main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v32) (by decide) (fun b => m (c, b))).trans (V_main_v32 m c)
  have e3 := (upto_read (ops := pre) 76 [main_v34, main_cst_4, main_v35, main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v33) (by decide) (fun b => m (c, b))).trans (V_main_v33 m c)
  rw [StableHlo.nary4_result] at h
  generalize StableHlo.upto pre (fun b => m (c, b)) 76 = U at h e0 e1 e2 e3
  exact h.trans (congr_four (fun a b c d => (concatenate S2048x64 1 [⟨S2048x16, a⟩, ⟨S2048x16, b⟩, ⟨S2048x16, c⟩, ⟨S2048x16, d⟩] concatenates_S2048x16_S2048x16_S2048x16_S2048x16_S2048x64_d1 : (⟨S2048x64, .f32⟩ : BufTy).Contents (Elt F))) e0 e1 e2 e3)

set_option maxRecDepth 8192 in
/-- What the host code leaves in `main_v36`. -/
theorem V_main_v36 : V m c main_v36 = h_v36 (F := F) := by
  have h := StableHlo.after_last_write (ops := pre (F := F)) (i := 79) (r := main_v36) [main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 79 [main_v36, main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v27) (by decide) (fun b => m (c, b))).trans (V_main_v27 m c)
  rw [StableHlo.reshape_result] at h
  exact h.trans (congrArg (fun x : (⟨S2048x64, .f32⟩ : BufTy).Contents (Elt F) => (shapeCast _ x shapeCasts_S2048x64_S1x2048x1x64 : (⟨S1x2048x1x64, .f32⟩ : BufTy).Contents (Elt F))) e0)

set_option maxRecDepth 8192 in
/-- What the host code leaves in `main_v37`. -/
theorem V_main_v37 : V m c main_v37 = h_v37 (F := F) := by
  have h := StableHlo.after_last_write (ops := pre (F := F)) (i := 80) (r := main_v37) [main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 80 [main_v37, main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v36) (by decide) (fun b => m (c, b))).trans (V_main_v36 m c)
  rw [StableHlo.unary_result] at h
  exact h.trans (congrArg (broadcastInDim S2x2048x1x64 ![0, 1, 2, 3] bcast_S1x2048x1x64_S2x2048x1x64_0_1_2_3 : (⟨S1x2048x1x64, .f32⟩ : BufTy).Contents (Elt F) → (⟨S2x2048x1x64, .f32⟩ : BufTy).Contents (Elt F)) e0)

set_option maxRecDepth 8192 in
/-- What the host code leaves in `main_v38`. -/
theorem V_main_v38 : V m c main_v38 = h_v38 (F := F) := by
  have h := StableHlo.after_last_write (ops := pre (F := F)) (i := 81) (r := main_v38) [main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 81 [main_v38, main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v37) (by decide) (fun b => m (c, b))).trans (V_main_v37 m c)
  rw [StableHlo.reshape_result] at h
  exact h.trans (congrArg (fun x : (⟨S2x2048x1x64, .f32⟩ : BufTy).Contents (Elt F) => (shapeCast _ x shapeCasts_S2x2048x1x64_S4096x64 : (⟨S4096x64, .f32⟩ : BufTy).Contents (Elt F))) e0)

set_option maxRecDepth 8192 in
/-- What the host code leaves in `main_v41`. -/
theorem V_main_v41 : V m c main_v41 = h_v41 (F := F) := by
  have h := StableHlo.after_last_write (ops := pre (F := F)) (i := 85) (r := main_v41) [main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 85 [main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v34) (by decide) (fun b => m (c, b))).trans (V_main_v34 m c)
  rw [StableHlo.reshape_result] at h
  exact h.trans (congrArg (fun x : (⟨S2048x64, .f32⟩ : BufTy).Contents (Elt F) => (shapeCast _ x shapeCasts_S2048x64_S1x2048x1x64 : (⟨S1x2048x1x64, .f32⟩ : BufTy).Contents (Elt F))) e0)

set_option maxRecDepth 8192 in
/-- What the host code leaves in `main_v42`. -/
theorem V_main_v42 : V m c main_v42 = h_v42 (F := F) := by
  have h := StableHlo.after_last_write (ops := pre (F := F)) (i := 86) (r := main_v42) [main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 86 [main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v41) (by decide) (fun b => m (c, b))).trans (V_main_v41 m c)
  rw [StableHlo.unary_result] at h
  exact h.trans (congrArg (broadcastInDim S2x2048x1x64 ![0, 1, 2, 3] bcast_S1x2048x1x64_S2x2048x1x64_0_1_2_3 : (⟨S1x2048x1x64, .f32⟩ : BufTy).Contents (Elt F) → (⟨S2x2048x1x64, .f32⟩ : BufTy).Contents (Elt F)) e0)

set_option maxRecDepth 8192 in
/-- What the host code leaves in `main_v43`. -/
theorem V_main_v43 : V m c main_v43 = h_v43 (F := F) := by
  have h := StableHlo.after_last_write (ops := pre (F := F)) (i := 87) (r := main_v43) [main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 87 [main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v42) (by decide) (fun b => m (c, b))).trans (V_main_v42 m c)
  rw [StableHlo.reshape_result] at h
  exact h.trans (congrArg (fun x : (⟨S2x2048x1x64, .f32⟩ : BufTy).Contents (Elt F) => (shapeCast _ x shapeCasts_S2x2048x1x64_S4096x64 : (⟨S4096x64, .f32⟩ : BufTy).Contents (Elt F))) e0)

set_option maxRecDepth 8192 in
/-- What the host code leaves in `main_v39`. -/
theorem V_main_v39 : V m c main_v39 = h_v39 (F := F) := by
  have h := StableHlo.after_last_write (ops := pre (F := F)) (i := 82) (r := main_v39) [main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 82 [main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v35) (by decide) (fun b => m (c, b))).trans (V_main_v35 m c)
  have e1 := (upto_read (ops := pre) 82 [main_v39, main_cst_5, main_v40, main_v41, main_v42, main_v43, main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v38) (by decide) (fun b => m (c, b))).trans (V_main_v38 m c)
  rw [StableHlo.binary_result] at h
  exact h.trans (congrArg₂ ((fun a b => concatenate S12288x64 0 [⟨S8192x64, a⟩, ⟨S4096x64, b⟩] concatenates_S8192x64_S4096x64_S12288x64_d0) : (⟨S8192x64, .f32⟩ : BufTy).Contents (Elt F) → (⟨S4096x64, .f32⟩ : BufTy).Contents (Elt F) → (⟨S12288x64, .f32⟩ : BufTy).Contents (Elt F)) e0 e1)

set_option maxRecDepth 8192 in
/-- What the host code leaves in `main_v44`. -/
theorem V_main_v44 : V m c main_v44 = h_v44 (F := F) := by
  have h := StableHlo.after_last_write (ops := pre (F := F)) (i := 88) (r := main_v44) [main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 88 [main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v40) (by decide) (fun b => m (c, b))).trans (V_main_v40 m c)
  have e1 := (upto_read (ops := pre) 88 [main_v44, main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v43) (by decide) (fun b => m (c, b))).trans (V_main_v43 m c)
  rw [StableHlo.binary_result] at h
  exact h.trans (congrArg₂ ((fun a b => concatenate S12288x64 0 [⟨S8192x64, a⟩, ⟨S4096x64, b⟩] concatenates_S8192x64_S4096x64_S12288x64_d0) : (⟨S8192x64, .f32⟩ : BufTy).Contents (Elt F) → (⟨S4096x64, .f32⟩ : BufTy).Contents (Elt F) → (⟨S12288x64, .f32⟩ : BufTy).Contents (Elt F)) e0 e1)

set_option maxRecDepth 8192 in
/-- What the host code leaves in `main_v45`. -/
theorem V_main_v45 : V m c main_v45 = h_v45 (F := F) := by
  have h := StableHlo.after_last_write (ops := pre (F := F)) (i := 89) (r := main_v45) [main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl rfl (by decide) (fun b => m (c, b))
  have e0 := (upto_read (ops := pre) 89 [main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v39) (by decide) (fun b => m (c, b))).trans (V_main_v39 m c)
  have e1 := (upto_read (ops := pre) 89 [main_v45, main_v46, main_v47, main_v48, main_v49, main_c_6, main_v50, main_v51, main_c_7, main_v52, main_v53, main_v54, main_v55, main_v56, main_v57, main_v58, main_v59, main_v60, main_v61, main_v62, main_v63, main_v64, main_v65, main_v66, main_v67] rfl (r := main_v44) (by decide) (fun b => m (c, b))).trans (V_main_v44 m c)
  rw [StableHlo.binary_result] at h
  exact h.trans (congrArg₂ ((fun a b => concatenate S12288x128 1 [⟨S12288x64, a⟩, ⟨S12288x64, b⟩] concatenates_S12288x64_S12288x64_S12288x128_d1) : (⟨S12288x64, .f32⟩ : BufTy).Contents (Elt F) → (⟨S12288x64, .f32⟩ : BufTy).Contents (Elt F) → (⟨S12288x128, .f32⟩ : BufTy).Contents (Elt F)) e0 e1)

set_option maxHeartbeats 2000000 in
set_option maxRecDepth 8192 in
/-- What the host code leaves in `main_v59`. -/
theorem V_main_v59 : V m c main_v59 = h_v59 (F := F) (m ((c : Thread nD τ).loc main_arg0)) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v67`. -/
theorem V_main_v67 : V m c main_v67 = h_v67 (F := F) (m ((c : Thread nD τ).loc main_arg1)) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v61`. -/
theorem V_main_v61 : V m c main_v61 = h_v61 (F := F) (m ((c : Thread nD τ).loc main_arg2)) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v63`. -/
theorem V_main_v63 : V m c main_v63 = h_v63 (F := F) (m ((c : Thread nD τ).loc main_arg3)) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v66`. -/
theorem V_main_v66 : V m c main_v66 = h_v66 (F := F) (m ((c : Thread nD τ).loc main_arg4)) := by
  simp only [V, hostOps0, hostOps0_1, hostOps0_2, hostOps0_3, hostOps0_4, List.flatten_cons, List.flatten_nil, List.append_nil, List.cons_append, List.nil_append]
  after_results_simp <;> rfl

end Cert.AttnPrep

end
-- ==== Proof.AttnIn.lean ====
module

public import proofs.«01_k».proof.Proof.AttnPrep
public import Idealize.ShloMosaic.Lib.Pipeline.ValueKit

/-! The arrays the host prepares for the attention call, element by element. -/

@[expose] public section
set_option maxRecDepth 16384
noncomputable section
namespace Cert.AttnIn
open Cert.KernelIdeal Cert.KernelIdeal.Gen Idealize.ShloMosaic Idealize.ShloMosaic.TcCoe Idealize.SL.Sem Cert.AttnPrep

/-- The host's permutation table: within each group of 32, the two halves of 16 trade places. -/
def swap (j : Fin 64) : Fin 64 := ⟨if j.val % 32 < 16 then j.val + 16 else j.val - 16, by split <;> omega⟩

theorem v55_at (j : Fin 64) : h_v55 (F := Ideal) (ix2 j (0 : Fin 1)) = BitVec.ofNat 32 (swap j).val := by
  revert j
  decide +kernel

theorem swap_word (j : Fin 64) : min (BitVec.ofNat 32 (swap j).val).toInt.toNat 63 = (swap j).val := by
  revert j
  decide +kernel

/-- The host's gather reads lane `swap j`. -/
theorem gather_at (x : (⟨S12288x16x64, .f32⟩ : BufTy).Contents (Elt Ideal)) (r : Fin 12288) (h : Fin 16) (j : Fin 64) :
    Host.gather gather_S12288x16x64_S64x1_S12288x16x64_01_2_n_n_2_1_12288161 x (h_v55 (F := Ideal)) (ix3 r h j)
      = x (ix3 r h (swap j)) := by
  unfold Host.gather
  refine congrArg x (funext fun a => Fin.ext ?_)
  have hb : ∀ a' : Fin 3, a' ∉ gather_S12288x16x64_S64x1_S12288x16x64_01_2_n_n_2_1_12288161.operandBatchingDims :=
    fun a' => List.not_mem_nil
  match a with
  | ⟨0, _⟩ =>
    show GatherDims.start _ (ix3 r h j) (h_v55 (F := Ideal)) 0 + GatherDims.batchCoord _ (ix3 r h j) 0
      + GatherDims.offCoord _ (ix3 r h j) 0 = r.val
    rw [GatherDims.batchCoord_eq_zero _ _ _ (hb 0)]
    unfold GatherDims.start
    rw [dif_neg (by decide)]
    simp only [Nat.zero_add]
    rfl
  | ⟨1, _⟩ =>
    show GatherDims.start _ (ix3 r h j) (h_v55 (F := Ideal)) 1 + GatherDims.batchCoord _ (ix3 r h j) 1
      + GatherDims.offCoord _ (ix3 r h j) 1 = h.val
    rw [GatherDims.batchCoord_eq_zero _ _ _ (hb 1)]
    unfold GatherDims.start
    rw [dif_neg (by decide)]
    simp only [Nat.zero_add]
    rfl
  | ⟨2, _⟩ =>
    show GatherDims.start _ (ix3 r h j) (h_v55 (F := Ideal)) 2 + GatherDims.batchCoord _ (ix3 r h j) 2
      + GatherDims.offCoord _ (ix3 r h j) 2 = (swap j).val
    rw [GatherDims.batchCoord_eq_zero _ _ _ (hb 2),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S12288x16x64_S64x1_S12288x16x64_01_2_n_n_2_1_12288161.startIndexMap from
      List.mem_singleton.mpr rfl)]
    refine Eq.trans ?_ (swap_word j)
    rw [← v55_at j]
    have hsi : gather_S12288x16x64_S64x1_S12288x16x64_01_2_n_n_2_1_12288161.siIdx (ix3 r h j)
        ⟨List.idxOf (2 : Fin 3) gather_S12288x16x64_S64x1_S12288x16x64_01_2_n_n_2_1_12288161.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-- The row number of token `i` on the 64-wide grid. -/
theorem v9_at (i : Fin 2048) : h_v9 (F := Ideal) (ix1 i) = BitVec.ofNat 32 (i.val / 64) := by
  revert i
  decide +kernel

/-- The column number of token `i` on the 64-wide grid. -/
theorem v16_at (i : Fin 2048) : h_v16 (F := Ideal) (ix1 i) = BitVec.ofNat 32 (i.val % 64) := by
  revert i
  decide +kernel

/-- The cosine half of the table, at token `i`. -/
theorem v27_at (i : Fin 2048) (j : Fin 64) : h_v27 (F := Ideal) (ix2 i j) =
    if h : j.val < 16 then Ideal.cos (h_v15 (F := Ideal) (ix2 i (⟨j.val, h⟩ : Fin 16)))
    else if h : j.val < 32 then Ideal.cos (h_v15 (F := Ideal) (ix2 i (⟨j.val - 16, by omega⟩ : Fin 16)))
    else if h : j.val < 48 then Ideal.cos (h_v22 (F := Ideal) (ix2 i (⟨j.val - 32, by omega⟩ : Fin 16)))
    else Ideal.cos (h_v22 (F := Ideal) (ix2 i (⟨j.val - 48, by omega⟩ : Fin 16))) := by
  pointwise [h_v27, h_v23, h_v24, h_v25, h_v26]
  by_cases h1 : j.val < 16
  · rw [dif_pos h1, dif_pos h1]
  rw [dif_neg h1, dif_neg h1]
  by_cases h2 : j.val < 32
  · rw [dif_pos (show j.val - 16 < 16 by omega), dif_pos h2]
  rw [dif_neg (show ¬ j.val - 16 < 16 by omega), dif_neg h2]
  by_cases h3 : j.val < 48
  · rw [dif_pos (show j.val - 16 - 16 < 16 by omega), dif_pos h3]; rfl
  rw [dif_neg (show ¬ j.val - 16 - 16 < 16 by omega), dif_neg h3]; rfl

/-- The signed sine half of the table, at token `i`. -/
theorem v34_at (i : Fin 2048) (j : Fin 64) : h_v34 (F := Ideal) (ix2 i j) =
    if h : j.val < 16 then -Ideal.sin (h_v15 (F := Ideal) (ix2 i (⟨j.val, h⟩ : Fin 16)))
    else if h : j.val < 32 then Ideal.sin (h_v15 (F := Ideal) (ix2 i (⟨j.val - 16, by omega⟩ : Fin 16)))
    else if h : j.val < 48 then -Ideal.sin (h_v22 (F := Ideal) (ix2 i (⟨j.val - 32, by omega⟩ : Fin 16)))
    else Ideal.sin (h_v22 (F := Ideal) (ix2 i (⟨j.val - 48, by omega⟩ : Fin 16))) := by
  pointwise [h_v34, h_v28, h_v29, h_v30, h_v31, h_v32, h_v33]
  by_cases h1 : j.val < 16
  · rw [dif_pos h1, dif_pos h1]
  rw [dif_neg h1, dif_neg h1]
  by_cases h2 : j.val < 32
  · rw [dif_pos (show j.val - 16 < 16 by omega), dif_pos h2]
  rw [dif_neg (show ¬ j.val - 16 < 16 by omega), dif_neg h2]
  by_cases h3 : j.val < 48
  · rw [dif_pos (show j.val - 16 - 16 < 16 by omega), dif_pos h3]; rfl
  rw [dif_neg (show ¬ j.val - 16 - 16 < 16 by omega), dif_neg h3]; rfl

/-- Rows 8192 on of the table, left half. -/
theorem v39_at (r : Fin 4096) (j : Fin 64) : h_v39 (F := Ideal) (ix2 (⟨8192 + r.val, by omega⟩ : Fin 12288) j) =
    h_v27 (F := Ideal) (ix2 (⟨r.val % 2048, by omega⟩ : Fin 2048) j) := by
  pointwise [h_v39, h_v38, h_v37, h_v36]

/-- Rows 8192 on of the table, right half. -/
theorem v44_at (r : Fin 4096) (j : Fin 64) : h_v44 (F := Ideal) (ix2 (⟨8192 + r.val, by omega⟩ : Fin 12288) j) =
    h_v34 (F := Ideal) (ix2 (⟨r.val % 2048, by omega⟩ : Fin 2048) j) := by
  pointwise [h_v44, h_v43, h_v42, h_v41]

/-- The table at row `8192 + r`: cosines, then signed sines. -/
theorem v45_at (r : Fin 4096) (j : Fin 128) : h_v45 (F := Ideal) (ix2 (⟨8192 + r.val, by omega⟩ : Fin 12288) j) =
    if h : j.val < 64 then h_v27 (F := Ideal) (ix2 (⟨r.val % 2048, by omega⟩ : Fin 2048) (⟨j.val, h⟩ : Fin 64))
    else h_v34 (F := Ideal) (ix2 (⟨r.val % 2048, by omega⟩ : Fin 2048) (⟨j.val - 64, by omega⟩ : Fin 64)) := by
  pointwise [h_v45]
  by_cases h : j.val < 64
  · rw [dif_pos h, dif_pos h]
    exact v39_at r (⟨j.val, h⟩ : Fin 64)
  · rw [dif_neg h, dif_neg h]
    exact v44_at r (⟨j.val - 64, by omega⟩ : Fin 64)

/-- The angle of the row axis: row number times inverse frequency. -/
theorem v15_at (i : Fin 2048) (f : Fin 16) : h_v15 (F := Ideal) (ix2 i f) =
    FloatOps.sitofp (F := Ideal) .f32 (BitVec.ofNat 32 (i.val / 64)) * h_v8 (F := Ideal) (ix1 f) := by
  pointwise [h_v15, h_v13, h_v14, h_v11, h_v12, h_v10]
  rw [v9_at]

/-- The angle of the column axis: column number times inverse frequency. -/
theorem v22_at (i : Fin 2048) (f : Fin 16) : h_v22 (F := Ideal) (ix2 i f) =
    FloatOps.sitofp (F := Ideal) .f32 (BitVec.ofNat 32 (i.val % 64)) * h_v8 (F := Ideal) (ix1 f) := by
  pointwise [h_v22, h_v20, h_v21, h_v18, h_v19, h_v17]
  rw [v16_at]

/-- The rotary lanes of the queries. -/
theorem v48_at (x0 : (⟨S12288x3072, .f32⟩ : BufTy).Contents (Elt Ideal)) (r : Fin 12288) (h : Fin 16) (j : Fin 64) :
    h_v48 (F := Ideal) x0 (ix3 r h j) = x0 (ix2 r (⟨h.val * 192 + (128 + j.val), by omega⟩ : Fin 3072)) := by
  pointwise [h_v48, h_v47]

/-- The plain lanes of the queries. -/
theorem v49_at (x0 : (⟨S12288x3072, .f32⟩ : BufTy).Contents (Elt Ideal)) (r : Fin 12288) (h : Fin 16) (j : Fin 128) :
    h_v49 (F := Ideal) x0 (ix3 r h j) = x0 (ix2 r (⟨h.val * 192 + j.val, by omega⟩ : Fin 3072)) := by
  pointwise [h_v49, h_v47]

/-- The packed queries by head: 128 plain lanes, 64 rotary lanes, the 64 rotary lanes permuted. -/
theorem v57_at (x0 : (⟨S12288x3072, .f32⟩ : BufTy).Contents (Elt Ideal)) (r : Fin 12288) (h : Fin 16) (j : Fin 256) :
    h_v57 (F := Ideal) x0 (ix3 r h j) =
      if g : j.val < 128 then x0 (ix2 r (⟨h.val * 192 + j.val, by omega⟩ : Fin 3072))
      else if g' : j.val < 192 then x0 (ix2 r (⟨h.val * 192 + (128 + (j.val - 128)), by omega⟩ : Fin 3072))
      else x0 (ix2 r (⟨h.val * 192 + (128 + (swap (⟨j.val - 192, by omega⟩ : Fin 64)).val), by omega⟩ : Fin 3072)) := by
  pointwise [h_v57]
  by_cases g : j.val < 128
  · rw [dif_pos g, dif_pos g]
    exact v49_at x0 r h (⟨j.val, g⟩ : Fin 128)
  rw [dif_neg g, dif_neg g]
  by_cases g' : j.val < 192
  · rw [dif_pos (show j.val - 128 < 64 by omega), dif_pos g']
    exact v48_at x0 r h (⟨j.val - 128, by omega⟩ : Fin 64)
  · rw [dif_neg (show ¬ j.val - 128 < 64 by omega), dif_neg g']
    refine Eq.trans ?_ (v48_at x0 r h (swap (⟨j.val - 192, by omega⟩ : Fin 64)))
    exact gather_at (h_v48 (F := Ideal) x0) r h (⟨j.val - 192, by omega⟩ : Fin 64)

/-- The packed queries, by column. -/
theorem v59_at (x0 : (⟨S12288x3072, .f32⟩ : BufTy).Contents (Elt Ideal)) (r : Fin 12288) (h : Fin 16) (j : Fin 256) :
    h_v59 (F := Ideal) x0 (ix2 r (⟨h.val * 256 + j.val, by omega⟩ : Fin 4096)) = h_v57 (F := Ideal) x0 (ix3 r h j) := by
  pointwise [h_v59, h_v58]

/-- The rotated keys, side by side twice. -/
theorem v61_at (x2 : (⟨S12288x64, .f32⟩ : BufTy).Contents (Elt Ideal)) (r : Fin 12288) (j : Fin 128) :
    h_v61 (F := Ideal) x2 (ix2 r j) = x2 (ix2 r (⟨j.val % 64, by omega⟩ : Fin 64)) := by
  pointwise [h_v61, h_v60]
  by_cases g : j.val < 64
  · rw [dif_pos g]
    exact congrArg (fun k => x2 (ix2 r k)) (Fin.ext (by show j.val = j.val % 64; omega))
  · rw [dif_neg g]
    exact congrArg (fun k => x2 (ix2 r k)) (Fin.ext (by show j.val - 64 = j.val % 64; omega))

/-- The cached rotary keys, side by side twice. -/
theorem v66_at (x4 : (⟨S2x256x64, .f32⟩ : BufTy).Contents (Elt Ideal)) (b : Fin 2) (r : Fin 256) (j : Fin 128) :
    h_v66 (F := Ideal) x4 (ix2 (⟨b.val * 256 + r.val, by omega⟩ : Fin 512) j)
      = x4 (ix3 b r (⟨j.val % 64, by omega⟩ : Fin 64)) := by
  pointwise [h_v66, h_v65, h_v64]
  by_cases g : j.val < 64
  · rw [dif_pos g]
    exact congrArg (fun k => x4 (ix3 b r k)) (Fin.ext (by show j.val = j.val % 64; omega))
  · rw [dif_neg g]
    exact congrArg (fun k => x4 (ix3 b r k)) (Fin.ext (by show j.val - 64 = j.val % 64; omega))

/-- The cached keys and values, flattened. -/
theorem v63_at (x3 : (⟨S2x256x4096, .f32⟩ : BufTy).Contents (Elt Ideal)) (b : Fin 2) (r : Fin 256) (j : Fin 4096) :
    h_v63 (F := Ideal) x3 (ix2 (⟨b.val * 256 + r.val, by omega⟩ : Fin 512) j) = x3 (ix3 b r j) := by
  pointwise [h_v63, h_v62]

/-- The keys and values, rounded. -/
theorem v67_at (x1 : (⟨S12288x4096, .f32⟩ : BufTy).Contents (Elt Ideal)) (r : Fin 12288) (j : Fin 4096) :
    h_v67 (F := Ideal) x1 (ix2 r j) = x1 (ix2 r j) := by
  pointwise [h_v67]

end Cert.AttnIn
-- ==== Proof.AttnRef.lean ====
module

public import proofs.«01_k».proof.Proof.Gen.ReferenceIdeal.Read
public import Idealize.ShloMosaic.Lib.Pipeline.ValueKit

/-! The plain attention, element by element. -/

@[expose] public section
set_option maxRecDepth 16384
noncomputable section
namespace Cert.AttnRef
open Cert.ReferenceIdeal Cert.ReferenceIdeal.Gen Idealize.ShloMosaic Idealize.ShloMosaic.TcCoe Idealize.SL.Sem
open Cert.ReferenceIdeal.Read

/-- The row number of token `i` on the 64-wide grid. -/
theorem row_at (i : Fin 2048) : val_main_v17 (F := Ideal) (ix1 i) = BitVec.ofNat 32 (i.val / 64) := by
  revert i
  decide +kernel

/-- The column number of token `i` on the 64-wide grid. -/
theorem col_at (i : Fin 2048) : val_main_v24 (F := Ideal) (ix1 i) = BitVec.ofNat 32 (i.val % 64) := by
  revert i
  decide +kernel

/-- The angle of the row axis. -/
theorem angR (i : Fin 2048) (f : Fin 16) : val_main_v23 (F := Ideal) (ix2 i f) =
    FloatOps.sitofp (F := Ideal) .f32 (BitVec.ofNat 32 (i.val / 64)) * val_main_v16 (F := Ideal) (ix1 f) := by
  pointwise [val_main_v23, val_main_v22, val_main_v21, val_main_v20, val_main_v19, val_main_v18]
  rw [row_at]

/-- The angle of the column axis. -/
theorem angC (i : Fin 2048) (f : Fin 16) : val_main_v30 (F := Ideal) (ix2 i f) =
    FloatOps.sitofp (F := Ideal) .f32 (BitVec.ofNat 32 (i.val % 64)) * val_main_v16 (F := Ideal) (ix1 f) := by
  pointwise [val_main_v30, val_main_v29, val_main_v28, val_main_v27, val_main_v26, val_main_v25]
  rw [col_at]
/-- Dropping the last axis keeps the first three coordinates. -/
theorem drop_at (i : S2x16x2048x2304.Idx) : reducesTo_S2x16x2048x2304_S2x16x2048_d3.drop i
    = ix3 (i 0 : Fin 2) (i 1 : Fin 16) (i 2 : Fin 2048) := by
  funext a
  match a with
  | ⟨0, _⟩ => rfl
  | ⟨1, _⟩ => rfl
  | ⟨2, _⟩ => rfl

/-- The maximum over the last axis, from the seed. -/
theorem reduce_max_at (x : FVec Ideal S2x16x2048x2304 .f32) (z : FVec Ideal S_ .f32)
    (b : Fin 2) (h : Fin 16) (i : Fin 2048) :
    Host.reduce FloatOps.maximumf x z reducesTo_S2x16x2048x2304_S2x16x2048_d3 h_S_ (ix3 b h i)
      = Finset.univ.fold max (z (Shape.Idx.first h_S_)) (fun k : Fin 2304 => x (ix4 b h i k)) := by
  rw [Host.reduce_eq_fold]
  have e : (Finset.univ.filter fun j : S2x16x2048x2304.Idx => reducesTo_S2x16x2048x2304_S2x16x2048_d3.drop j = ix3 b h i)
      = Finset.univ.image (fun k : Fin 2304 => ix4 b h i k) := by
    ext j
    simp only [Finset.mem_filter, Finset.mem_univ, true_and, Finset.mem_image]
    rw [drop_at]
    constructor
    · intro g
      refine ⟨(j 3 : Fin 2304), ?_⟩
      funext a
      match a with
      | ⟨0, _⟩ => exact (congrFun g 0).symm
      | ⟨1, _⟩ => exact (congrFun g 1).symm
      | ⟨2, _⟩ => exact (congrFun g 2).symm
      | ⟨3, _⟩ => rfl
    · rintro ⟨k, rfl⟩
      rfl
  rw [e, Finset.fold_image]
  · rfl
  · intro k _ k' _ g
    exact congrFun g 3

/-- The plain lanes of the queries. -/
theorem q_at (x0 : (⟨S12288x3072, .f32⟩ : BufTy).Contents (Elt Ideal)) (b : Fin 2) (i : Fin 2048) (h : Fin 16) (d : Fin 128) :
    val_main_v31 (F := Ideal) x0 (ix4 b i h d) =
      x0 (ix2 (⟨8192 + (b.val * 2048 + i.val), by omega⟩ : Fin 12288) (⟨h.val * 192 + d.val, by omega⟩ : Fin 3072)) := by
  pointwise [val_main_v31, val_main_v1, val_main_v0]

/-- The rotary lanes of the queries, before the rotation. -/
theorem r_at (x0 : (⟨S12288x3072, .f32⟩ : BufTy).Contents (Elt Ideal)) (b : Fin 2) (i : Fin 2048) (h : Fin 16) (d : Fin 64) :
    val_main_v32 (F := Ideal) x0 (ix4 b i h d) =
      x0 (ix2 (⟨8192 + (b.val * 2048 + i.val), by omega⟩ : Fin 12288)
        (⟨h.val * 192 + (128 + d.val), by omega⟩ : Fin 3072)) := by
  pointwise [val_main_v32, val_main_v1, val_main_v0]

/-- The plain lanes of the keys: the cached ones, then the latent ones. -/
theorem k_at (x1 : (⟨S12288x4096, .f32⟩ : BufTy).Contents (Elt Ideal))
    (x3 : (⟨S2x256x4096, .f32⟩ : BufTy).Contents (Elt Ideal)) (b : Fin 2) (y : Fin 2304) (h : Fin 16) (d : Fin 128) :
    val_main_v78 (F := Ideal) x1 x3 (ix4 b y h d) =
      if g : y.val < 256 then x3 (ix3 b (⟨y.val, g⟩ : Fin 256) (⟨h.val * 256 + d.val, by omega⟩ : Fin 4096))
      else x1 (ix2 (⟨8192 + (b.val * 2048 + (y.val - 256)), by omega⟩ : Fin 12288)
        (⟨h.val * 256 + d.val, by omega⟩ : Fin 4096)) := by
  pointwise [val_main_v78, val_main_v76, val_main_v77, val_main_v2, val_main_v3, val_main_v4]

/-- The values: the cached ones, then the latent ones. -/
theorem v_at (x1 : (⟨S12288x4096, .f32⟩ : BufTy).Contents (Elt Ideal))
    (x3 : (⟨S2x256x4096, .f32⟩ : BufTy).Contents (Elt Ideal)) (b : Fin 2) (y : Fin 2304) (h : Fin 16) (d : Fin 128) :
    val_main_v84 (F := Ideal) x1 x3 (ix4 b y h d) =
      if g : y.val < 256 then x3 (ix3 b (⟨y.val, g⟩ : Fin 256) (⟨h.val * 256 + (128 + d.val), by omega⟩ : Fin 4096))
      else x1 (ix2 (⟨8192 + (b.val * 2048 + (y.val - 256)), by omega⟩ : Fin 12288)
        (⟨h.val * 256 + (128 + d.val), by omega⟩ : Fin 4096)) := by
  pointwise [val_main_v84, val_main_v82, val_main_v83, val_main_v2, val_main_v3, val_main_v4]

/-- The rotary keys: the cached ones, then the latent ones. -/
theorem kr_at (x2 : (⟨S12288x64, .f32⟩ : BufTy).Contents (Elt Ideal)) (x4 : (⟨S2x256x64, .f32⟩ : BufTy).Contents (Elt Ideal)) (b : Fin 2) (y : Fin 2304) (d : Fin 64) :
    val_main_v81 (F := Ideal) x2 x4 (ix3 b y d) =
      if g : y.val < 256 then x4 (ix3 b (⟨y.val, g⟩ : Fin 256) d)
      else x2 (ix2 (⟨8192 + (b.val * 2048 + (y.val - 256)), by omega⟩ : Fin 12288) d) := by
  pointwise [val_main_v81, val_main_v80, val_main_v79]

/-- The rotated queries, by quarter of the 64 lanes. -/
theorem a_at (x0 : (⟨S12288x3072, .f32⟩ : BufTy).Contents (Elt Ideal)) (b : Fin 2) (i : Fin 2048) (h : Fin 16) (d : Fin 64) :
    val_main_v75 (F := Ideal) x0 (ix4 b i h d) =
      if g1 : d.val < 16 then
        val_main_v32 (F := Ideal) x0 (ix4 b i h d) * Ideal.cos (val_main_v23 (F := Ideal) (ix2 i (⟨d.val, g1⟩ : Fin 16)))
        - val_main_v32 (F := Ideal) x0 (ix4 b i h (⟨16 + d.val, by omega⟩ : Fin 64))
          * Ideal.sin (val_main_v23 (F := Ideal) (ix2 i (⟨d.val, g1⟩ : Fin 16)))
      else if g2 : d.val < 32 then
        val_main_v32 (F := Ideal) x0 (ix4 b i h d)
          * Ideal.cos (val_main_v23 (F := Ideal) (ix2 i (⟨d.val - 16, by omega⟩ : Fin 16)))
        + val_main_v32 (F := Ideal) x0 (ix4 b i h (⟨d.val - 16, by omega⟩ : Fin 64))
          * Ideal.sin (val_main_v23 (F := Ideal) (ix2 i (⟨d.val - 16, by omega⟩ : Fin 16)))
      else if g3 : d.val < 48 then
        val_main_v32 (F := Ideal) x0 (ix4 b i h d)
          * Ideal.cos (val_main_v30 (F := Ideal) (ix2 i (⟨d.val - 32, by omega⟩ : Fin 16)))
        - val_main_v32 (F := Ideal) x0 (ix4 b i h (⟨16 + d.val, by omega⟩ : Fin 64))
          * Ideal.sin (val_main_v30 (F := Ideal) (ix2 i (⟨d.val - 32, by omega⟩ : Fin 16)))
      else
        val_main_v32 (F := Ideal) x0 (ix4 b i h d)
          * Ideal.cos (val_main_v30 (F := Ideal) (ix2 i (⟨d.val - 48, by omega⟩ : Fin 16)))
        + val_main_v32 (F := Ideal) x0 (ix4 b i h (⟨d.val - 16, by omega⟩ : Fin 64))
          * Ideal.sin (val_main_v30 (F := Ideal) (ix2 i (⟨d.val - 48, by omega⟩ : Fin 16))) := by
  have p1 : ∀ e : Fin 16, val_main_v47 (F := Ideal) x0 (ix4 b i h e)
      = val_main_v32 (F := Ideal) x0 (ix4 b i h (⟨e.val, by omega⟩ : Fin 64)) * Ideal.cos (val_main_v23 (F := Ideal) (ix2 i e))
        - val_main_v32 (F := Ideal) x0 (ix4 b i h (⟨16 + e.val, by omega⟩ : Fin 64))
          * Ideal.sin (val_main_v23 (F := Ideal) (ix2 i e)) := by
    intro e
    pointwise [val_main_v47, val_main_v46, val_main_v45, val_main_v44, val_main_v43, val_main_v42, val_main_v41,
      val_main_v40, val_main_v39, val_main_v33, val_main_v38, val_main_v37, val_main_v35]
  have p2 : ∀ e : Fin 16, val_main_v54 (F := Ideal) x0 (ix4 b i h e)
      = val_main_v32 (F := Ideal) x0 (ix4 b i h (⟨16 + e.val, by omega⟩ : Fin 64)) * Ideal.cos (val_main_v23 (F := Ideal) (ix2 i e))
        + val_main_v32 (F := Ideal) x0 (ix4 b i h (⟨e.val, by omega⟩ : Fin 64))
          * Ideal.sin (val_main_v23 (F := Ideal) (ix2 i e)) := by
    intro e
    pointwise [val_main_v54, val_main_v53, val_main_v52, val_main_v51, val_main_v50, val_main_v49, val_main_v48,
      val_main_v40, val_main_v39, val_main_v33, val_main_v38, val_main_v37, val_main_v35]
  have p3 : ∀ e : Fin 16, val_main_v66 (F := Ideal) x0 (ix4 b i h e)
      = val_main_v32 (F := Ideal) x0 (ix4 b i h (⟨32 + e.val, by omega⟩ : Fin 64)) * Ideal.cos (val_main_v30 (F := Ideal) (ix2 i e))
        - val_main_v32 (F := Ideal) x0 (ix4 b i h (⟨32 + (16 + e.val), by omega⟩ : Fin 64))
          * Ideal.sin (val_main_v30 (F := Ideal) (ix2 i e)) := by
    intro e
    pointwise [val_main_v66, val_main_v65, val_main_v64, val_main_v63, val_main_v62, val_main_v61, val_main_v60,
      val_main_v59, val_main_v58, val_main_v34, val_main_v57, val_main_v56, val_main_v36]
  have p4 : ∀ e : Fin 16, val_main_v73 (F := Ideal) x0 (ix4 b i h e)
      = val_main_v32 (F := Ideal) x0 (ix4 b i h (⟨32 + (16 + e.val), by omega⟩ : Fin 64)) * Ideal.cos (val_main_v30 (F := Ideal) (ix2 i e))
        + val_main_v32 (F := Ideal) x0 (ix4 b i h (⟨32 + e.val, by omega⟩ : Fin 64))
          * Ideal.sin (val_main_v30 (F := Ideal) (ix2 i e)) := by
    intro e
    pointwise [val_main_v73, val_main_v72, val_main_v71, val_main_v70, val_main_v69, val_main_v68, val_main_v67,
      val_main_v59, val_main_v58, val_main_v34, val_main_v57, val_main_v56, val_main_v36]
  have at_eq : ∀ e e' : Fin 64, e.val = e'.val → val_main_v32 (F := Ideal) x0 (ix4 b i h e)
      = val_main_v32 (F := Ideal) x0 (ix4 b i h e') := fun e e' g => by rw [Fin.ext g]
  pointwise [val_main_v75, val_main_v74, val_main_v55]
  by_cases g1 : d.val < 16
  · rw [dif_pos (show d.val < 32 by omega), dif_pos g1, dif_pos g1]
    exact p1 (⟨d.val, g1⟩ : Fin 16)
  by_cases g2 : d.val < 32
  · rw [dif_pos g2, dif_neg g1, dif_neg g1, dif_pos g2]
    refine (p2 (⟨d.val - 16, by omega⟩ : Fin 16)).trans ?_
    rw [at_eq (⟨16 + (d.val - 16), by omega⟩ : Fin 64) d (by show 16 + (d.val - 16) = d.val; omega)]
  by_cases g3 : d.val < 48
  · rw [dif_neg g2, dif_pos (show d.val - 32 < 16 by omega), dif_neg g1, dif_neg g2, dif_pos g3]
    refine (p3 (⟨d.val - 32, by omega⟩ : Fin 16)).trans ?_
    rw [at_eq (⟨32 + (d.val - 32), by omega⟩ : Fin 64) d (by show 32 + (d.val - 32) = d.val; omega),
      at_eq (⟨32 + (16 + (d.val - 32)), by omega⟩ : Fin 64) (⟨16 + d.val, by omega⟩ : Fin 64)
        (by show 32 + (16 + (d.val - 32)) = 16 + d.val; omega)]
  · rw [dif_neg g2, dif_neg (show ¬ d.val - 32 < 16 by omega), dif_neg g1, dif_neg g2, dif_neg g3]
    refine (p4 (⟨d.val - 48, by omega⟩ : Fin 16)).trans ?_
    rw [at_eq (⟨32 + (d.val - 48), by omega⟩ : Fin 64) (⟨d.val - 16, by omega⟩ : Fin 64)
        (by show 32 + (d.val - 48) = d.val - 16; omega),
      at_eq (⟨32 + (16 + (d.val - 48)), by omega⟩ : Fin 64) d (by show 32 + (16 + (d.val - 48)) = d.val; omega)]

/-- The scaled score of query `i` and key `y`. -/
theorem s_at (x0 : (⟨S12288x3072, .f32⟩ : BufTy).Contents (Elt Ideal)) (x1 : (⟨S12288x4096, .f32⟩ : BufTy).Contents (Elt Ideal))
    (x2 : (⟨S12288x64, .f32⟩ : BufTy).Contents (Elt Ideal)) (x3 : (⟨S2x256x4096, .f32⟩ : BufTy).Contents (Elt Ideal))
    (x4 : (⟨S2x256x64, .f32⟩ : BufTy).Contents (Elt Ideal))
    (b : Fin 2) (h : Fin 16) (i : Fin 2048) (y : Fin 2304) :
    val_main_v90 (F := Ideal) x0 x1 x2 x3 x4 (ix4 b h i y) =
      (∑ d : Fin 128, val_main_v31 (F := Ideal) x0 (ix4 b i h d) * val_main_v78 (F := Ideal) x1 x3 (ix4 b y h d) +
        ∑ j : Fin 64, val_main_v81 (F := Ideal) x2 x4 (ix3 b y j) * val_main_v75 (F := Ideal) x0 (ix4 b i h j)) *
      Ideal.ofBits .f32 1033096506#32 := by
  pointwise [val_main_v90, val_main_v89, val_main_cst_2, val_main_v88, val_main_v87, val_main_v86, val_main_v85]

/-- The fold of the scores of query `i`. -/
theorem m91_at (x0 : (⟨S12288x3072, .f32⟩ : BufTy).Contents (Elt Ideal)) (x1 : (⟨S12288x4096, .f32⟩ : BufTy).Contents (Elt Ideal))
    (x2 : (⟨S12288x64, .f32⟩ : BufTy).Contents (Elt Ideal)) (x3 : (⟨S2x256x4096, .f32⟩ : BufTy).Contents (Elt Ideal))
    (x4 : (⟨S2x256x64, .f32⟩ : BufTy).Contents (Elt Ideal))
    (b : Fin 2) (h : Fin 16) (i : Fin 2048) : val_main_v91 (F := Ideal) x0 x1 x2 x3 x4 (ix3 b h i) = Finset.univ.fold max
      (val_main_cst_3 (F := Ideal) (Shape.Idx.first h_S_))
      (fun y : Fin 2304 => val_main_v90 (F := Ideal) x0 x1 x2 x3 x4 (ix4 b h i y)) := by
  unfold val_main_v91
  generalize val_main_v90 (F := Ideal) x0 x1 x2 x3 x4 = X
  generalize val_main_cst_3 (F := Ideal) = Z
  exact reduce_max_at X Z b h i

/-- The seed joined to that fold. -/
theorem m93_at (x0 : (⟨S12288x3072, .f32⟩ : BufTy).Contents (Elt Ideal)) (x1 : (⟨S12288x4096, .f32⟩ : BufTy).Contents (Elt Ideal))
    (x2 : (⟨S12288x64, .f32⟩ : BufTy).Contents (Elt Ideal)) (x3 : (⟨S2x256x4096, .f32⟩ : BufTy).Contents (Elt Ideal))
    (x4 : (⟨S2x256x64, .f32⟩ : BufTy).Contents (Elt Ideal))
    (b : Fin 2) (h : Fin 16) (i : Fin 2048) : val_main_v93 (F := Ideal) x0 x1 x2 x3 x4 (ix3 b h i) =
      max (Ideal.ofBits .f32 4286578688#32) (val_main_v91 (F := Ideal) x0 x1 x2 x3 x4 (ix3 b h i)) := by
  rw [val_main_v93_apply, val_main_v92_apply, val_main_cst_4_apply]
  generalize val_main_v91 (F := Ideal) x0 x1 x2 x3 x4 = X
  rfl

/-- The largest score of query `i`. -/
theorem m_at (x0 : (⟨S12288x3072, .f32⟩ : BufTy).Contents (Elt Ideal)) (x1 : (⟨S12288x4096, .f32⟩ : BufTy).Contents (Elt Ideal))
    (x2 : (⟨S12288x64, .f32⟩ : BufTy).Contents (Elt Ideal)) (x3 : (⟨S2x256x4096, .f32⟩ : BufTy).Contents (Elt Ideal))
    (x4 : (⟨S2x256x64, .f32⟩ : BufTy).Contents (Elt Ideal))
    (b : Fin 2) (h : Fin 16) (i : Fin 2048) : val_main_v93 (F := Ideal) x0 x1 x2 x3 x4 (ix3 b h i) =
      max (Ideal.ofBits .f32 4286578688#32) (Finset.univ.fold max (Ideal.ofBits .f32 4286578688#32)
        (fun y : Fin 2304 => val_main_v90 (F := Ideal) x0 x1 x2 x3 x4 (ix4 b h i y))) := by
  rw [m93_at, m91_at, val_main_cst_3_apply]
  generalize val_main_v90 (F := Ideal) x0 x1 x2 x3 x4 = X
  rfl

/-- One element of the attention: the softmax weights of its query against one value column. -/
theorem o_at (x0 : (⟨S12288x3072, .f32⟩ : BufTy).Contents (Elt Ideal)) (x1 : (⟨S12288x4096, .f32⟩ : BufTy).Contents (Elt Ideal))
    (x2 : (⟨S12288x64, .f32⟩ : BufTy).Contents (Elt Ideal)) (x3 : (⟨S2x256x4096, .f32⟩ : BufTy).Contents (Elt Ideal))
    (x4 : (⟨S2x256x64, .f32⟩ : BufTy).Contents (Elt Ideal))
    (b : Fin 2) (i : Fin 2048) (h : Fin 16) (d : Fin 128) : val_main_v103 (F := Ideal) x0 x1 x2 x3 x4 (ix4 b i h d) =
      ∑ y : Fin 2304, val_main_v84 (F := Ideal) x1 x3 (ix4 b y h d) *
        Ideal.div (Ideal.exp (val_main_v90 (F := Ideal) x0 x1 x2 x3 x4 (ix4 b h i y)
            - val_main_v93 (F := Ideal) x0 x1 x2 x3 x4 (ix3 b h i)))
          (∑ y : Fin 2304, Ideal.exp (val_main_v90 (F := Ideal) x0 x1 x2 x3 x4 (ix4 b h i y)
            - val_main_v93 (F := Ideal) x0 x1 x2 x3 x4 (ix3 b h i))) := by
  pointwise [val_main_v103, val_main_v102, val_main_v101, val_main_v100, val_main_v99, val_main_v98, val_main_v97,
    val_main_v96, val_main_v95, val_main_v94, val_main_cst_5]

/-- The result, by batch, token, head and lane. -/
theorem f_at (x0 : (⟨S12288x3072, .f32⟩ : BufTy).Contents (Elt Ideal)) (x1 : (⟨S12288x4096, .f32⟩ : BufTy).Contents (Elt Ideal))
    (x2 : (⟨S12288x64, .f32⟩ : BufTy).Contents (Elt Ideal)) (x3 : (⟨S2x256x4096, .f32⟩ : BufTy).Contents (Elt Ideal))
    (x4 : (⟨S2x256x64, .f32⟩ : BufTy).Contents (Elt Ideal))
    (r : Fin 4096) (c : Fin 2048) : val_main_v104 (F := Ideal) x0 x1 x2 x3 x4 (ix2 r c) =
      val_main_v103 (F := Ideal) x0 x1 x2 x3 x4 (ix4 (⟨r.val / 2048, by omega⟩ : Fin 2) (⟨r.val % 2048, by omega⟩ : Fin 2048)
        (⟨c.val / 128, by omega⟩ : Fin 16) (⟨c.val % 128, by omega⟩ : Fin 128)) := by
  pointwise [val_main_v104]

end Cert.AttnRef
-- ==== Proof.AttnBlock.lean ====
module

public import proofs.«01_k».proof.Proof.Gen.KernelIdeal.Value
public import proofs.«01_k».proof.Proof.AttnMath

/-! What one grid point of the attention kernel writes, element by element. -/

@[expose] public section
set_option maxRecDepth 16384
noncomputable section
namespace Cert.AttnBlock
open Cert.KernelIdeal Cert.KernelIdeal.Gen Idealize.ShloMosaic Idealize.ShloMosaic.TcCoe Idealize.SL.Sem
open Cert.AttnMath

/-- The element a grid point writes at row `i`, value column `vo + d`, from query and key columns at `o`. -/
def elem (x0 : Vec Ideal S256x128 .f32) (x1 : Vec Ideal S256x512 .bf16) (x2 : Vec Ideal S2048x512 .bf16)
    (x3 : Vec Ideal S2048x128 .bf16) (x4 : Vec Ideal S256x512 .bf16) (x5 : Vec Ideal S256x128 .bf16)
    (o : Nat) (ho : o + 256 ≤ 512) (i : Fin 256) (d : Fin 128) : EReal :=
  attend (Ideal.ofBits .f32 4286578688)
    (fun y => score (Ideal.ofBits .f32 1033096506) (fun x => x1 (ix2 i (⟨o + x.val, by omega⟩ : Fin 512)))
      (fun x => x1 (ix2 i (⟨o + 128 + x.val, by omega⟩ : Fin 512)) * x0 (ix2 i x))
      (fun x => x2 (ix2 y (⟨o + x.val, by omega⟩ : Fin 512))) (fun x => x3 (ix2 y x)))
    (fun y => score (Ideal.ofBits .f32 1033096506) (fun x => x1 (ix2 i (⟨o + x.val, by omega⟩ : Fin 512)))
      (fun x => x1 (ix2 i (⟨o + 128 + x.val, by omega⟩ : Fin 512)) * x0 (ix2 i x))
      (fun x => x4 (ix2 y (⟨o + x.val, by omega⟩ : Fin 512))) (fun x => x5 (ix2 y x)))
    (fun y => x2 (ix2 y (⟨o + 128 + d.val, by omega⟩ : Fin 512)))
    (fun y => x4 (ix2 y (⟨o + 128 + d.val, by omega⟩ : Fin 512)))

/-- Equal positions give equal elements. -/
theorem elem_congr (x0 : Vec Ideal S256x128 .f32) (x1 : Vec Ideal S256x512 .bf16) (x2 : Vec Ideal S2048x512 .bf16)
    (x3 : Vec Ideal S2048x128 .bf16) (x4 : Vec Ideal S256x512 .bf16) (x5 : Vec Ideal S256x128 .bf16)
    {o o' : Nat} {ho : o + 256 ≤ 512} {ho' : o' + 256 ≤ 512} {i i' : Fin 256} {d d' : Fin 128}
    (e : o = o') (ei : i = i') (ed : d = d') :
    elem x0 x1 x2 x3 x4 x5 o ho i d = elem x0 x1 x2 x3 x4 x5 o' ho' i' d' := by
  subst e ei ed; rfl

/-- Every element of the block a grid point writes: two heads side by side, each one `elem`. -/
theorem out_at (x0 : Vec Ideal S256x128 .f32) (x1 : Vec Ideal S256x512 .bf16) (x2 : Vec Ideal S2048x512 .bf16)
    (x3 : Vec Ideal S2048x128 .bf16) (x4 : Vec Ideal S256x512 .bf16) (x5 : Vec Ideal S256x128 .bf16)
    (y : S256x256.Idx) : out0_6 (F := Ideal) x0 x1 x2 x3 x4 x5 y =
      elem x0 x1 x2 x3 x4 x5 ((y 1).val / 128 * 256) (by have := (y 1).isLt; change (y 1).val < 256 at this; omega)
        (y 0) ⟨(y 1).val % 128, by omega⟩ := by
  unfold_out out0_6
  canon_tiles y h
  · refine Eq.trans ?_ (elem_congr x0 x1 x2 x3 x4 x5 (o := 256) (ho := by omega) (i := y 0) (d := y 1) (by omega)
      (Fin.ext h0.symm) (Fin.ext (by show (y 1).val = _ % 128; omega)))
    pointwise [k0_pay1, k0_pay2, k0_pay3, k0_pay12, k0_pay13, k0_pay14, k0_pay15]
    rfl
  · refine Eq.trans ?_ (elem_congr x0 x1 x2 x3 x4 x5 (o := 0) (ho := by omega) (i := y 0) (d := y 1) (by omega)
      (Fin.ext h0.symm) (Fin.ext (by show (y 1).val = _ % 128; omega)))
    pointwise [k0_pay11, k0_pay2, k0_pay3, k0_pay4, k0_pay5, k0_pay6, k0_pay7, k0_pay8, k0_pay9, k0_pay10, elem, attend,
      top2, score]
    rfl

/-- The index maps of the windows, over the grid's points. -/
theorem idx : ∀ t : Fin cfg0.N, win0_0.index t = ![32 + t.val / 64 * 8 + t.val % 8, 0]
    ∧ win0_1.index t = ![32 + t.val / 64 * 8 + t.val % 8, t.val / 8 % 8]
    ∧ win0_2.index t = ![4 + t.val / 64, t.val / 8 % 8]
    ∧ win0_3.index t = ![4 + t.val / 64, 0]
    ∧ win0_4.index t = ![t.val / 64, t.val / 8 % 8]
    ∧ win0_5.index t = ![t.val / 64, 0]
    ∧ win0_6.index t = ![t.val / 64 * 8 + t.val % 8, t.val / 8 % 8] :=
  (by decide +kernel : ∀ t : Fin grid0.N, _)

/-- The attention output as a function of the six arrays the call reads: row `r`, column `j`. -/
def result (A0 : Vec Ideal S12288x128 .f32) (A1 : Vec Ideal S12288x4096 .bf16) (A2 : Vec Ideal S12288x4096 .bf16)
    (A3 : Vec Ideal S12288x128 .bf16) (A4 : Vec Ideal S512x4096 .bf16) (A5 : Vec Ideal S512x128 .bf16)
    (r : Fin 4096) (j : Fin 2048) : EReal :=
  attend (Ideal.ofBits .f32 4286578688)
    (fun y => score (Ideal.ofBits .f32 1033096506)
      (fun x => A1 (ix2 (⟨8192 + r.val, by omega⟩ : Fin 12288) (⟨j.val / 128 * 256 + x.val, by omega⟩ : Fin 4096)))
      (fun x => A1 (ix2 (⟨8192 + r.val, by omega⟩ : Fin 12288) (⟨j.val / 128 * 256 + 128 + x.val, by omega⟩ : Fin 4096))
        * A0 (ix2 (⟨8192 + r.val, by omega⟩ : Fin 12288) x))
      (fun x => A2 (ix2 (⟨8192 + r.val / 2048 * 2048 + y.val, by omega⟩ : Fin 12288)
        (⟨j.val / 128 * 256 + x.val, by omega⟩ : Fin 4096)))
      (fun x => A3 (ix2 (⟨8192 + r.val / 2048 * 2048 + y.val, by omega⟩ : Fin 12288) x)))
    (fun y => score (Ideal.ofBits .f32 1033096506)
      (fun x => A1 (ix2 (⟨8192 + r.val, by omega⟩ : Fin 12288) (⟨j.val / 128 * 256 + x.val, by omega⟩ : Fin 4096)))
      (fun x => A1 (ix2 (⟨8192 + r.val, by omega⟩ : Fin 12288) (⟨j.val / 128 * 256 + 128 + x.val, by omega⟩ : Fin 4096))
        * A0 (ix2 (⟨8192 + r.val, by omega⟩ : Fin 12288) x))
      (fun x => A4 (ix2 (⟨r.val / 2048 * 256 + y.val, by omega⟩ : Fin 512)
        (⟨j.val / 128 * 256 + x.val, by omega⟩ : Fin 4096)))
      (fun x => A5 (ix2 (⟨r.val / 2048 * 256 + y.val, by omega⟩ : Fin 512) x)))
    (fun y => A2 (ix2 (⟨8192 + r.val / 2048 * 2048 + y.val, by omega⟩ : Fin 12288)
      (⟨j.val / 128 * 256 + 128 + j.val % 128, by omega⟩ : Fin 4096)))
    (fun y => A4 (ix2 (⟨r.val / 2048 * 256 + y.val, by omega⟩ : Fin 512)
      (⟨j.val / 128 * 256 + 128 + j.val % 128, by omega⟩ : Fin 4096)))

variable (m : (ℓ : Loc nD τ sig) → Buf (Elt Ideal) ℓ)

set_option maxHeartbeats 2000000 in
/-- The array the call leaves, over the six arrays it is given. -/
theorem final (c : Dev nD) : (dats m 0 c).arrAt 6 cfg0.N = fun i : S4096x2048.Idx =>
    result (V m c main_v45) (V m c main_v59) (V m c main_v67) (V m c main_v61) (V m c main_v63) (V m c main_v66)
      (i 0) (i 1) := by
  refine (dats m 0 c).arrAt_eq_of_covers 6 _ (by decide +kernel) fun t hf y => ?_
  blk_simp
  rw [after0_6]
  refine Eq.trans (out_at _ _ _ _ _ _ _) ?_
  unfold elem result
  refine attend_congr
    (fun k => score_congr (fun x => ?_) (fun x => congrArg₂ _ ?_ ?_) (fun x => ?_) (fun x => ?_))
    (fun k => score_congr (fun x => ?_) (fun x => congrArg₂ _ ?_ ?_) (fun x => ?_) (fun x => ?_))
    (fun k => ?_) (fun k => ?_)
  all_goals blk_ext [iblk, idx t]

end Cert.AttnBlock
-- ==== Proof.AttnValue.lean ====
module

public import proofs.«01_k».proof.Proof.AttnIn
public import proofs.«01_k».proof.Proof.AttnRef
public import proofs.«01_k».proof.Proof.AttnBlock

/-! The attention kernel's output is the plain attention, for real arguments. -/

@[expose] public section
set_option maxRecDepth 16384
noncomputable section
namespace Cert.AttnValue
open Idealize.ShloMosaic Idealize.ShloMosaic.TcCoe Idealize.SL.Sem
open Cert.AttnMath Cert.AttnPrep Cert.AttnIn Cert.AttnRef Cert.AttnBlock
open Cert.ReferenceIdeal.Read
open Cert.ReferenceIdeal (S12288x3072 S12288x4096 S12288x64 S2x256x4096 S2x256x64)

/-- Equal positions in a two-axis array hold the same element. -/
theorem at2 {a b : Nat} (x : (⟨2, ![a, b]⟩ : Shape).Idx → EReal) {r r' : Fin a} {c c' : Fin b} (hr : r.val = r'.val)
    (hc : c.val = c'.val) : x (ix2 r c) = x (ix2 r' c') := by
  rw [Fin.ext hr, Fin.ext hc]

/-- Both sides take the same inverse frequencies. -/
theorem freq_at (f : Fin 16) : h_v8 (F := Ideal) (ix1 f) = val_main_v16 (F := Ideal) (ix1 f) := by
  pointwise [h_v8, h_v7, h_v6, h_v5, h_v4, h_v3, h_v2, h_v1, h_cst_1, h_cst, h_cst_0,
    val_main_v16, val_main_v15, val_main_v14, val_main_v13, val_main_v12, val_main_v11, val_main_v10, val_main_v9,
    val_main_cst_1, val_main_cst, val_main_cst_0]

/-- The row angles agree. -/
theorem row_eq (i : Fin 2048) (f : Fin 16) : val_main_v23 (F := Ideal) (ix2 i f) = h_v15 (F := Ideal) (ix2 i f) := by
  rw [angR, v15_at, freq_at]

/-- The column angles agree. -/
theorem col_eq (i : Fin 2048) (f : Fin 16) : val_main_v30 (F := Ideal) (ix2 i f) = h_v22 (F := Ideal) (ix2 i f) := by
  rw [angC, v22_at, freq_at]

/-- The exponent's divisor is thirty-two. -/
theorem bits_32 : Ideal.ofBits .f32 1107296256#32 = ((32 : ℝ) : EReal) := by
  simp [Ideal.ofBits, Ideal.ieee, -EReal.coe_mul]; norm_num

/-- The exponent's factor is a real number. -/
theorem bits_2 : IsR (Ideal.ofBits .f32 1073741824#32) := by
  simp only [Ideal.ofBits, Ideal.ieee]
  rw [if_neg (by decide), if_neg (by decide)]
  exact ⟨_, rfl⟩

/-- The base of the frequencies is a real number. -/
theorem bits_base : IsR (Ideal.ofBits .f32 1176256512#32) := by
  simp only [Ideal.ofBits, Ideal.ieee]
  rw [if_neg (by decide), if_neg (by decide)]
  exact ⟨_, rfl⟩

/-- The scale of the scores is a real number. -/
theorem bits_scale : IsR (Ideal.ofBits .f32 1033096506#32) := by
  simp only [Ideal.ofBits, Ideal.ieee]
  rw [if_neg (by decide), if_neg (by decide)]
  exact ⟨_, rfl⟩

/-- The seed of the maximum is not plus infinity. -/
theorem bits_seed : Ideal.ofBits .f32 4286578688#32 ≠ ⊤ := by
  simp [Ideal.ofBits, Ideal.ieee]

/-- A frequency is a real number. -/
theorem freq_real (f : Fin 16) : IsR (h_v8 (F := Ideal) (ix1 f)) := by
  have e : h_v8 (F := Ideal) (ix1 f) = Ideal.pow (Ideal.ofBits .f32 1176256512#32)
      (Ideal.div (-(FloatOps.sitofp (F := Ideal) .f32 (BitVec.ofNat 32 f.val)) * Ideal.ofBits .f32 1073741824#32)
        (Ideal.ofBits .f32 1107296256#32)) := by
    pointwise [h_v8, h_v7, h_v6, h_v5, h_v4, h_v3, h_v2, h_v1, h_cst_1, h_cst, h_cst_0]
  obtain ⟨a, ha⟩ := bits_base
  obtain ⟨b, hb⟩ := bits_2
  rw [e, bits_32, div_real _ 32 (by norm_num), ha, hb]
  have hs : IsR (FloatOps.sitofp (F := Ideal) .f32 (BitVec.ofNat 32 f.val)) := ⟨_, rfl⟩
  obtain ⟨s, hs⟩ := (hs.neg.mul ⟨b, rfl⟩).mul ⟨(32 : ℝ)⁻¹, rfl⟩
  rw [hs]
  exact ⟨Real.rpow a s, rfl⟩

/-- The row angles are real. -/
theorem row_real (i : Fin 2048) (f : Fin 16) : IsR (h_v15 (F := Ideal) (ix2 i f)) := by
  rw [v15_at]
  exact IsR.mul ⟨_, rfl⟩ (freq_real f)

/-- The column angles are real. -/
theorem col_real (i : Fin 2048) (f : Fin 16) : IsR (h_v22 (F := Ideal) (ix2 i f)) := by
  rw [v22_at]
  exact IsR.mul ⟨_, rfl⟩ (freq_real f)

/-- The cosines are real. -/
theorem cos_real (i : Fin 2048) (j : Fin 64) : IsR (h_v27 (F := Ideal) (ix2 i j)) := by
  rw [v27_at]
  split
  · exact (row_real _ _).cos
  split
  · exact (row_real _ _).cos
  split
  · exact (col_real _ _).cos
  · exact (col_real _ _).cos

/-- The signed sines are real. -/
theorem sin_real (i : Fin 2048) (j : Fin 64) : IsR (h_v34 (F := Ideal) (ix2 i j)) := by
  rw [v34_at]
  split
  · exact (row_real _ _).sin.neg
  split
  · exact (row_real _ _).sin
  split
  · exact (col_real _ _).sin.neg
  · exact (col_real _ _).sin

/-- The rotation is the lanes times cosine plus the swapped lanes times signed sine. -/
theorem rot_at (x0 : (⟨S12288x3072, .f32⟩ : BufTy).Contents (Elt Ideal)) (b : Fin 2) (i : Fin 2048) (h : Fin 16) (d : Fin 64) :
    val_main_v75 (F := Ideal) x0 (ix4 b i h d) =
      val_main_v32 (F := Ideal) x0 (ix4 b i h d) * h_v27 (F := Ideal) (ix2 i d)
      + val_main_v32 (F := Ideal) x0 (ix4 b i h (swap d)) * h_v34 (F := Ideal) (ix2 i d) := by
  rw [a_at, v27_at, v34_at]
  have sub : ∀ a x y : EReal, a - x * y = a + x * -y := fun a x y => by rw [sub_eq_add_neg, mul_neg]
  have sw : ∀ e : Fin 64, (swap d).val = e.val → val_main_v32 (F := Ideal) x0 (ix4 b i h (swap d))
      = val_main_v32 (F := Ideal) x0 (ix4 b i h e) := fun e g => by rw [Fin.ext g]
  by_cases g1 : d.val < 16
  · rw [dif_pos g1, dif_pos g1, dif_pos g1, row_eq, sub, sw (⟨16 + d.val, by omega⟩ : Fin 64) (by
      show (if d.val % 32 < 16 then d.val + 16 else d.val - 16) = 16 + d.val
      split <;> omega)]
  by_cases g2 : d.val < 32
  · rw [dif_neg g1, dif_neg g1, dif_neg g1, dif_pos g2, dif_pos g2, dif_pos g2, row_eq,
      sw (⟨d.val - 16, by omega⟩ : Fin 64) (by
      show (if d.val % 32 < 16 then d.val + 16 else d.val - 16) = d.val - 16
      split <;> omega)]
  by_cases g3 : d.val < 48
  · rw [dif_neg g1, dif_neg g1, dif_neg g1, dif_neg g2, dif_neg g2, dif_neg g2, dif_pos g3, dif_pos g3, dif_pos g3, col_eq,
      sub, sw (⟨16 + d.val, by omega⟩ : Fin 64) (by
      show (if d.val % 32 < 16 then d.val + 16 else d.val - 16) = 16 + d.val
      split <;> omega)]
  · rw [dif_neg g1, dif_neg g1, dif_neg g1, dif_neg g2, dif_neg g2, dif_neg g2, dif_neg g3, dif_neg g3, dif_neg g3, col_eq,
      sw (⟨d.val - 16, by omega⟩ : Fin 64) (by
      show (if d.val % 32 < 16 then d.val + 16 else d.val - 16) = d.val - 16
      split <;> omega)]

section
variable (x0 : (⟨S12288x3072, .f32⟩ : BufTy).Contents (Elt Ideal)) (r : Fin 4096) (h : Fin 16)

/-- The packed plain lanes are the plain lanes. -/
theorem plain_at (x : Fin 128) : h_v59 (F := Ideal) x0
    (ix2 (⟨8192 + r.val, by omega⟩ : Fin 12288) (⟨h.val * 256 + x.val, by omega⟩ : Fin 4096))
      = val_main_v31 (F := Ideal) x0 (ix4 (⟨r.val / 2048, by omega⟩ : Fin 2) (⟨r.val % 2048, by omega⟩ : Fin 2048) h x) := by
  refine (v59_at x0 (⟨8192 + r.val, by omega⟩ : Fin 12288) h (⟨x.val, by omega⟩ : Fin 256)).trans ?_
  rw [v57_at, dif_pos x.isLt, q_at]
  exact at2 x0 (by show 8192 + r.val = 8192 + (r.val / 2048 * 2048 + r.val % 2048); omega) rfl

/-- The packed rotary lanes are the rotary lanes. -/
theorem rotary_at (j : Fin 64) : h_v59 (F := Ideal) x0
    (ix2 (⟨8192 + r.val, by omega⟩ : Fin 12288) (⟨h.val * 256 + 128 + j.val, by omega⟩ : Fin 4096))
      = val_main_v32 (F := Ideal) x0 (ix4 (⟨r.val / 2048, by omega⟩ : Fin 2) (⟨r.val % 2048, by omega⟩ : Fin 2048) h j) := by
  refine (at2 (h_v59 (F := Ideal) x0) (c' := (⟨h.val * 256 + (128 + j.val), by omega⟩ : Fin 4096)) rfl
    (by show h.val * 256 + 128 + j.val = h.val * 256 + (128 + j.val); omega)).trans ?_
  refine (v59_at x0 (⟨8192 + r.val, by omega⟩ : Fin 12288) h (⟨128 + j.val, by omega⟩ : Fin 256)).trans ?_
  rw [v57_at, dif_neg (by show ¬ 128 + j.val < 128; omega), dif_pos (by show 128 + j.val < 192; omega), r_at]
  exact at2 x0 (by show 8192 + r.val = 8192 + (r.val / 2048 * 2048 + r.val % 2048); omega)
    (by show h.val * 192 + (128 + (128 + j.val - 128)) = h.val * 192 + (128 + j.val); omega)

/-- The packed swapped lanes are the rotary lanes swapped. -/
theorem swapped_at (j : Fin 64) : h_v59 (F := Ideal) x0
    (ix2 (⟨8192 + r.val, by omega⟩ : Fin 12288) (⟨h.val * 256 + 128 + (64 + j.val), by omega⟩ : Fin 4096))
      = val_main_v32 (F := Ideal) x0 (ix4 (⟨r.val / 2048, by omega⟩ : Fin 2) (⟨r.val % 2048, by omega⟩ : Fin 2048) h
        (swap j)) := by
  refine (at2 (h_v59 (F := Ideal) x0) (c' := (⟨h.val * 256 + (192 + j.val), by omega⟩ : Fin 4096)) rfl
    (by show h.val * 256 + 128 + (64 + j.val) = h.val * 256 + (192 + j.val); omega)).trans ?_
  refine (v59_at x0 (⟨8192 + r.val, by omega⟩ : Fin 12288) h (⟨192 + j.val, by omega⟩ : Fin 256)).trans ?_
  have e : (⟨192 + j.val - 192, by omega⟩ : Fin 64) = j := Fin.ext (by show 192 + j.val - 192 = j.val; omega)
  rw [v57_at, dif_neg (by show ¬ 192 + j.val < 128; omega), dif_neg (by show ¬ 192 + j.val < 192; omega), r_at]
  refine at2 x0 (by show 8192 + r.val = 8192 + (r.val / 2048 * 2048 + r.val % 2048); omega) ?_
  show h.val * 192 + (128 + (swap (⟨192 + j.val - 192, by omega⟩ : Fin 64)).val) = h.val * 192 + (128 + (swap j).val)
  rw [e]

variable (x1 : (⟨S12288x4096, .f32⟩ : BufTy).Contents (Elt Ideal)) (x2 : (⟨S12288x64, .f32⟩ : BufTy).Contents (Elt Ideal))
  (x3 : (⟨S2x256x4096, .f32⟩ : BufTy).Contents (Elt Ideal)) (x4 : (⟨S2x256x64, .f32⟩ : BufTy).Contents (Elt Ideal))

/-- The kernel's score of one key is the plain score, for keys laid out as the kernel reads them. -/
theorem score_at (h0 : ∀ i, IsR (x0 i)) (y : Fin 2304) (hk : ∀ j : Fin 64, IsR (val_main_v81 (F := Ideal) x2 x4
      (ix3 (⟨r.val / 2048, by omega⟩ : Fin 2) y j))) (ka kb : Fin 128 → EReal)
    (ha : ∀ x, ka x = val_main_v78 (F := Ideal) x1 x3 (ix4 (⟨r.val / 2048, by omega⟩ : Fin 2) y h x))
    (hb1 : ∀ j : Fin 64, kb ⟨j.val, by omega⟩ = val_main_v81 (F := Ideal) x2 x4 (ix3 (⟨r.val / 2048, by omega⟩ : Fin 2) y j))
    (hb2 : ∀ j : Fin 64, kb ⟨64 + j.val, by omega⟩
      = val_main_v81 (F := Ideal) x2 x4 (ix3 (⟨r.val / 2048, by omega⟩ : Fin 2) y j)) :
    val_main_v90 (F := Ideal) x0 x1 x2 x3 x4 (ix4 (⟨r.val / 2048, by omega⟩ : Fin 2) h (⟨r.val % 2048, by omega⟩ : Fin 2048) y)
      = score (Ideal.ofBits .f32 1033096506)
        (fun x => h_v59 (F := Ideal) x0
          (ix2 (⟨8192 + r.val, by omega⟩ : Fin 12288) (⟨h.val * 256 + x.val, by omega⟩ : Fin 4096)))
        (fun x => h_v59 (F := Ideal) x0
          (ix2 (⟨8192 + r.val, by omega⟩ : Fin 12288) (⟨h.val * 256 + 128 + x.val, by omega⟩ : Fin 4096))
          * h_v45 (F := Ideal) (ix2 (⟨8192 + r.val, by omega⟩ : Fin 12288) x)) ka kb := by
  rw [s_at]
  unfold score
  refine congrArg (· * Ideal.ofBits .f32 1033096506#32) (congrArg₂ (· + ·) ?_ ?_)
  · exact Finset.sum_congr rfl fun d _ => congrArg₂ (· * ·) (plain_at x0 r h d).symm (ha d).symm
  · refine Eq.trans (Finset.sum_congr rfl fun j _ => congrArg₂ (· * ·) rfl (rot_at x0 _ _ h j)) (Eq.symm ?_)
    refine rope_sum
      (fun j => val_main_v32 (F := Ideal) x0 (ix4 (⟨r.val / 2048, by omega⟩ : Fin 2) (⟨r.val % 2048, by omega⟩ : Fin 2048) h j))
      (fun j => val_main_v32 (F := Ideal) x0 (ix4 (⟨r.val / 2048, by omega⟩ : Fin 2) (⟨r.val % 2048, by omega⟩ : Fin 2048) h
        (swap j)))
      (fun j => h_v27 (F := Ideal) (ix2 (⟨r.val % 2048, by omega⟩ : Fin 2048) j))
      (fun j => h_v34 (F := Ideal) (ix2 (⟨r.val % 2048, by omega⟩ : Fin 2048) j))
      (fun j => val_main_v81 (F := Ideal) x2 x4 (ix3 (⟨r.val / 2048, by omega⟩ : Fin 2) y j))
      (fun j => (r_at x0 _ _ h j).symm ▸ h0 _) (fun j => (r_at x0 _ _ h (swap j)).symm ▸ h0 _)
      (fun j => cos_real _ j) (fun j => sin_real _ j) hk _ kb (fun j => ?_) (fun j => ?_)
    · refine congrArg₂ (· * ·) (congrArg₂ (· * ·) (rotary_at x0 r h j) ?_) (hb1 j)
      exact (v45_at r (⟨j.val, by omega⟩ : Fin 128)).trans (dif_pos j.isLt)
    · refine congrArg₂ (· * ·) (congrArg₂ (· * ·) (swapped_at x0 r h j) ?_) (hb2 j)
      refine (v45_at r (⟨64 + j.val, by omega⟩ : Fin 128)).trans
        ((dif_neg (by show ¬ 64 + j.val < 64; omega)).trans (at2 (h_v34 (F := Ideal)) rfl
          (by show 64 + j.val - 64 = j.val; omega)))

end

/-- Element by element, the kernel's output is the plain attention of the same five arrays. -/
theorem value (x0 : (⟨S12288x3072, .f32⟩ : BufTy).Contents (Elt Ideal)) (x1 : (⟨S12288x4096, .f32⟩ : BufTy).Contents (Elt Ideal))
    (x2 : (⟨S12288x64, .f32⟩ : BufTy).Contents (Elt Ideal)) (x3 : (⟨S2x256x4096, .f32⟩ : BufTy).Contents (Elt Ideal))
    (x4 : (⟨S2x256x64, .f32⟩ : BufTy).Contents (Elt Ideal)) (h0 : ∀ i, IsR (x0 i)) (h1 : ∀ i, IsR (x1 i))
    (h2 : ∀ i, IsR (x2 i)) (h3 : ∀ i, IsR (x3 i)) (h4 : ∀ i, IsR (x4 i)) (r : Fin 4096) (c : Fin 2048) :
    result (h_v45 (F := Ideal)) (h_v59 (F := Ideal) x0) (h_v67 (F := Ideal) x1) (h_v61 (F := Ideal) x2)
      (h_v63 (F := Ideal) x3) (h_v66 (F := Ideal) x4) r c = val_main_v104 (F := Ideal) x0 x1 x2 x3 x4 (ix2 r c) := by
  rw [f_at, o_at, m_at]
  have hq : ∀ (k : Fin 4096), IsR (h_v59 (F := Ideal) x0 (ix2 (⟨8192 + r.val, by omega⟩ : Fin 12288) k)) := by
    intro k
    have e := v59_at x0 (⟨8192 + r.val, by omega⟩ : Fin 12288) (⟨k.val / 256, by omega⟩ : Fin 16)
      (⟨k.val % 256, by omega⟩ : Fin 256)
    rw [at2 (h_v59 (F := Ideal) x0) (c' := (⟨k.val / 256 * 256 + k.val % 256, by omega⟩ : Fin 4096)) rfl
      (by show k.val = k.val / 256 * 256 + k.val % 256; omega), e, v57_at]
    split
    · exact h0 _
    split
    · exact h0 _
    · exact h0 _
  have ht : ∀ x : Fin 128, IsR (h_v45 (F := Ideal) (ix2 (⟨8192 + r.val, by omega⟩ : Fin 12288) x)) := by
    intro x
    rw [v45_at]
    split
    · exact cos_real _ _
    · exact sin_real _ _
  have kl : ∀ (y : Fin 2048) (k : Fin 4096), h_v67 (F := Ideal) x1
      (ix2 (⟨8192 + r.val / 2048 * 2048 + y.val, by omega⟩ : Fin 12288) k)
      = x1 (ix2 (⟨8192 + (r.val / 2048 * 2048 + (256 + y.val - 256)), by omega⟩ : Fin 12288) k) := fun y k => by
    rw [v67_at]
    exact at2 x1 (by show 8192 + r.val / 2048 * 2048 + y.val = 8192 + (r.val / 2048 * 2048 + (256 + y.val - 256)); omega) rfl
  have rl : ∀ (y : Fin 2048) (x : Fin 128), h_v61 (F := Ideal) x2
      (ix2 (⟨8192 + r.val / 2048 * 2048 + y.val, by omega⟩ : Fin 12288) x)
      = val_main_v81 (F := Ideal) x2 x4 (ix3 (⟨r.val / 2048, by omega⟩ : Fin 2) (⟨256 + y.val, by omega⟩ : Fin 2304)
        (⟨x.val % 64, by omega⟩ : Fin 64)) := fun y x => by
    rw [v61_at, kr_at, dif_neg (by show ¬ 256 + y.val < 256; omega)]
    exact at2 x2 (by show 8192 + r.val / 2048 * 2048 + y.val = 8192 + (r.val / 2048 * 2048 + (256 + y.val - 256)); omega) rfl
  have rc : ∀ (y : Fin 256) (x : Fin 128), h_v66 (F := Ideal) x4
      (ix2 (⟨r.val / 2048 * 256 + y.val, by omega⟩ : Fin 512) x)
      = val_main_v81 (F := Ideal) x2 x4 (ix3 (⟨r.val / 2048, by omega⟩ : Fin 2) (⟨y.val, by omega⟩ : Fin 2304)
        (⟨x.val % 64, by omega⟩ : Fin 64)) := fun y x => by
    rw [kr_at, dif_pos y.isLt]
    exact v66_at x4 (⟨r.val / 2048, by omega⟩ : Fin 2) y x
  have kc : ∀ (y : Fin 256) (k : Fin 4096), h_v63 (F := Ideal) x3 (ix2 (⟨r.val / 2048 * 256 + y.val, by omega⟩ : Fin 512) k)
      = x3 (ix3 (⟨r.val / 2048, by omega⟩ : Fin 2) y k) := fun y k => v63_at x3 (⟨r.val / 2048, by omega⟩ : Fin 2) y k
  have hkr : ∀ (y : Fin 2304) (j : Fin 64), IsR (val_main_v81 (F := Ideal) x2 x4
      (ix3 (⟨r.val / 2048, by omega⟩ : Fin 2) y j)) := by
    intro y j
    rw [kr_at]
    split
    · exact h4 _
    · exact h2 _
  unfold result
  refine Eq.symm (attend_concat _ bits_seed _ _ _ _ _ _ (fun y => ?_) (fun y => ?_) (fun y => ?_) (fun y => ?_) (fun y => ?_)
    (fun y => ?_))
  · refine IsR.score bits_scale (fun x => hq _) (fun x => (hq _).mul (ht x)) (fun x => ?_) (fun x => ?_)
    · rw [kl]; exact h1 _
    · rw [rl]; exact hkr _ _
  · refine IsR.score bits_scale (fun x => hq _) (fun x => (hq _).mul (ht x)) (fun x => ?_) (fun x => ?_)
    · rw [kc]; exact h3 _
    · rw [rc]; exact hkr _ _
  · refine score_at x0 r (⟨c.val / 128, by omega⟩ : Fin 16) x1 x2 x3 x4 h0 (⟨y.val, by omega⟩ : Fin 2304) (hkr _) _ _
      (fun x => ?_) (fun j => ?_) (fun j => ?_)
    · rw [k_at, dif_pos y.isLt]
      exact kc y _
    · refine (rc y (⟨j.val, by omega⟩ : Fin 128)).trans (congrArg (fun k => val_main_v81 (F := Ideal) x2 x4
        (ix3 (⟨r.val / 2048, by omega⟩ : Fin 2) (⟨y.val, by omega⟩ : Fin 2304) k)) (Fin.ext ?_))
      show j.val % 64 = j.val
      omega
    · refine (rc y (⟨64 + j.val, by omega⟩ : Fin 128)).trans (congrArg (fun k => val_main_v81 (F := Ideal) x2 x4
        (ix3 (⟨r.val / 2048, by omega⟩ : Fin 2) (⟨y.val, by omega⟩ : Fin 2304) k)) (Fin.ext ?_))
      show (64 + j.val) % 64 = j.val
      omega
  · refine score_at x0 r (⟨c.val / 128, by omega⟩ : Fin 16) x1 x2 x3 x4 h0 (⟨256 + y.val, by omega⟩ : Fin 2304) (hkr _) _ _
      (fun x => ?_) (fun j => ?_) (fun j => ?_)
    · rw [k_at, dif_neg (by show ¬ 256 + y.val < 256; omega)]
      exact kl y _
    · refine (rl y (⟨j.val, by omega⟩ : Fin 128)).trans (congrArg (fun k => val_main_v81 (F := Ideal) x2 x4
        (ix3 (⟨r.val / 2048, by omega⟩ : Fin 2) (⟨256 + y.val, by omega⟩ : Fin 2304) k)) (Fin.ext ?_))
      show j.val % 64 = j.val
      omega
    · refine (rl y (⟨64 + j.val, by omega⟩ : Fin 128)).trans (congrArg (fun k => val_main_v81 (F := Ideal) x2 x4
        (ix3 (⟨r.val / 2048, by omega⟩ : Fin 2) (⟨256 + y.val, by omega⟩ : Fin 2304) k)) (Fin.ext ?_))
      show (64 + j.val) % 64 = j.val
      omega
  · rw [v_at, dif_pos y.isLt]
    refine Eq.symm ((kc y _).trans (congrArg (fun k => x3 (ix3 (⟨r.val / 2048, by omega⟩ : Fin 2) y k)) (Fin.ext ?_)))
    show c.val / 128 * 256 + 128 + c.val % 128 = c.val / 128 * 256 + (128 + c.val % 128)
    omega
  · rw [v_at, dif_neg (by show ¬ 256 + y.val < 256; omega)]
    refine Eq.symm ((kl y _).trans (at2 x1 rfl ?_))
    show c.val / 128 * 256 + 128 + c.val % 128 = c.val / 128 * 256 + (128 + c.val % 128)
    omega

end Cert.AttnValue
-- ==== Proof.FfnRun.lean ====
module

public import proofs.«01_k».proof.Proof.Gen.Kernel2Ideal.Frame

/-! The run of the feed-forward sublayer, with what it leaves in every buffer. -/

@[expose] public section
set_option maxRecDepth 16384
noncomputable section
namespace Cert.FfnRun
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with each buffer of the program holding its contents after the last call. -/
theorem run : θ_run defs (onTc (τ := τ) (main (F := F))) ⟨m, fun _ => 0, ρ⟩ (fun r => ∀ c : Dev nD,
      ∀ b ∈ Pipeline.ucRefs τ sig, r.2.mem ((c : Thread nD τ).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => h)

/-- Every run ends with the result buffer as after the last call, and the arguments unchanged. -/
theorem run_result : θ_run defs (onTc (τ := τ) (main (F := F))) ⟨m, fun _ => 0, ρ⟩ (fun r => ∀ c : Dev nD,
      r.2.mem ((c.tc : Thread nD τ).loc main_v16) = W10 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v16 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c)⟩) (run m ρ)

end Cert.FfnRun
-- ==== Proof.FfnMath.lean ====
module

public import Idealize.ShloMosaic.Lib.Pipeline.ValueKit
public import Idealize.ShloMosaic.Lib.Pointwise

/-! The feed-forward sublayer row by row: the modulated normalization of a row, a hidden unit, an output element. -/

@[expose] public section
noncomputable section
namespace Cert.FfnMath
open Idealize.ShloMosaic

/-- The modulation of each token: one for the prompt's 8192 tokens, one for each of the two sample rows of 2048. -/
def sel (r : Fin 12288) : Fin 8 := ⟨if r.val < 8192 then 0 else 1 + (r.val - 8192) / 2048, by split <;> omega⟩

/-- Element `d` of a row normalized by its root mean square, weighted by `g`, scaled and shifted. -/
def modulated (x g shift scale : Fin 4096 → EReal) (d : Fin 4096) : EReal :=
  x d * Ideal.rsqrt (Ideal.div (∑ k, x k * x k) (Ideal.ofBits .f32 1166016512#32) + Ideal.ofBits .f32 897988541#32) * g d
    * (1 + scale d) + shift d

/-- A hidden unit: the gate's value times its logistic, times the unit's value. -/
def unit (h wg wu : Fin 4096 → EReal) : EReal :=
  (∑ k, h k * wg k) * Ideal.logistic (∑ k, h k * wg k) * ∑ k, h k * wu k

end Cert.FfnMath
-- ==== Proof.FfnBlock.lean ====
module

public import proofs.«01_k».proof.Proof.Gen.Kernel2Ideal.Frame
public import Idealize.ShloMosaic.Lib.Pipeline.Value
public import Idealize.ShloMosaic.Lib.Pipeline.ValueKit
public import Idealize.ShloMosaic.Lib.UnfoldOut
public import proofs.«01_k».proof.Proof.FfnMath

/-! What each of the three calls of the feed-forward sublayer leaves in its output array, element by element. -/

@[expose] public section
set_option maxRecDepth 16384
noncomputable section
namespace Cert.FfnBlock
open Cert.Kernel2Ideal Cert.Kernel2Ideal.Gen Idealize.ShloMosaic Idealize.ShloMosaic.TcCoe Idealize.SL.Sem
open Cert.FfnMath

/-- What a point of the normalization call writes. -/
theorem out0_at (x0 : Vec Ideal S256x4096 .f32) (x1 : Vec Ideal S1x4096 .f32) (x2 x3 : Vec Ideal S1x1x4096 .f32)
    (y : S256x4096.Idx) : out0_4 (F := Ideal) x0 x1 x2 x3 y =
      modulated (fun k => x0 (ix2 (y 0) k)) (fun k => x1 (ix2 (0 : Fin 1) k)) (fun k => x2 (ix3 (0 : Fin 1) (0 : Fin 1) k))
        (fun k => x3 (ix3 (0 : Fin 1) (0 : Fin 1) k)) (y 1) := by
  unfold out0_4
  canon_tiles y h
  rename_i z
  obtain rfl : z = y := funext fun a => match a with
    | ⟨0, _⟩ => Fin.ext h0
    | ⟨1, _⟩ => Fin.ext h1
  pointwise [k0_pay1, modulated]

/-- What a point of the up-projection call writes. -/
theorem out1_at (x0 : Vec Ideal S1024x4096 .bf16) (x1 x2 : Vec Ideal S4096x512 .bf16)
    (y : S1024x512.Idx) : out1_3 (F := Ideal) x0 x1 x2 y =
      FfnMath.unit (fun k => x0 (ix2 (y 0) k)) (fun k => x1 (ix2 k (y 1))) (fun k => x2 (ix2 k (y 1))) := by
  unfold out1_3
  canon_tiles y h
  rename_i z
  obtain rfl : z = y := funext fun a => match a with
    | ⟨0, _⟩ => Fin.ext h0
    | ⟨1, _⟩ => Fin.ext h1
  pointwise [k1_pay1, FfnMath.unit]

/-- What a point of the down-projection call writes. -/
theorem out2_at (x0 : Vec Ideal S512x11264 .bf16) (x1 : Vec Ideal S11264x512 .bf16) (x2 : Vec Ideal S512x512 .f32)
    (x3 : Vec Ideal S1x1x512 .f32) (y : S512x512.Idx) : out2_4 (F := Ideal) x0 x1 x2 x3 y =
      x2 y + x3 (ix3 (0 : Fin 1) (0 : Fin 1) (y 1)) * ∑ k : Fin 11264, x0 (ix2 (y 0) k) * x1 (ix2 k (y 1)) := by
  unfold out2_4
  canon_tiles y h
  rename_i z
  obtain rfl : z = y := funext fun a => match a with
    | ⟨0, _⟩ => Fin.ext h0
    | ⟨1, _⟩ => Fin.ext h1
  pointwise [k2_pay1]

/-- The index maps of the normalization call's windows, over the grid's points. -/
theorem idx0 : ∀ t : Fin cfg0.N, win0_0.index t = ![t.val, 0] ∧ win0_1.index t = ![0, 0]
    ∧ win0_2.index t = ![if t.val < 32 then 0 else 1 + (t.val - 32) / 8, 0, 0]
    ∧ win0_3.index t = ![if t.val < 32 then 0 else 1 + (t.val - 32) / 8, 0, 0]
    ∧ win0_4.index t = ![t.val, 0] :=
  (by decide +kernel : ∀ t : Fin grid0.N, _)

/-- The index maps of the up-projection call's windows. -/
theorem idx1 : ∀ t : Fin cfg1.N, win1_0.index t = ![t.val / 22, 0] ∧ win1_1.index t = ![0, t.val % 22]
    ∧ win1_2.index t = ![0, t.val % 22] ∧ win1_3.index t = ![t.val / 22, t.val % 22] :=
  (by decide +kernel : ∀ t : Fin grid1.N, _)

/-- The index maps of the down-projection call's windows. -/
theorem idx2 : ∀ t : Fin cfg2.N, win2_0.index t = ![t.val / 8, 0] ∧ win2_1.index t = ![0, t.val % 8]
    ∧ win2_2.index t = ![t.val / 8, t.val % 8]
    ∧ win2_3.index t = ![if t.val / 8 < 16 then 0 else 1 + (t.val / 8 - 16) / 4, 0, t.val % 8]
    ∧ win2_4.index t = ![t.val / 8, t.val % 8] :=
  (by decide +kernel : ∀ t : Fin grid2.N, _)

/-- The normalized rows over the arrays the call is given: every row modulated by its own token's entry. -/
def rows (A2 : Vec Ideal S12288x4096 .f32) (A13 : Vec Ideal S1x4096 .f32) (A4 A5 : Vec Ideal S8x1x4096 .f32) :
    Vec Ideal S12288x4096 .bf16 := fun i =>
  modulated (fun k => A2 (ix2 (i 0) k)) (fun k => A13 (ix2 (0 : Fin 1) k)) (fun k => A4 (ix3 (sel (i 0)) (0 : Fin 1) k))
    (fun k => A5 (ix3 (sel (i 0)) (0 : Fin 1) k)) (i 1)

/-- The hidden units over the arrays the call is given. -/
def units (H : Vec Ideal S12288x4096 .bf16) (A8 A10 : Vec Ideal S4096x11264 .bf16) : Vec Ideal S12288x11264 .bf16 := fun i =>
  FfnMath.unit (fun k => H (ix2 (i 0) k)) (fun k => A8 (ix2 k (i 1))) (fun k => A10 (ix2 k (i 1)))

/-- The output over the arrays the call is given: the input plus the gated projection of the hidden units. -/
def down (U : Vec Ideal S12288x11264 .bf16) (A12 : Vec Ideal S11264x4096 .bf16) (A2 : Vec Ideal S12288x4096 .f32)
    (A6 : Vec Ideal S8x1x4096 .f32) : Vec Ideal S12288x4096 .f32 := fun i =>
  A2 (ix2 (i 0) (i 1)) + A6 (ix3 (sel (i 0)) (0 : Fin 1) (i 1)) * ∑ k : Fin 11264, U (ix2 (i 0) k) * A12 (ix2 k (i 1))

variable (V : (c : Dev nD) → (b : Ref sig .tc) → Buf (Elt Ideal) ((c : Thread nD τ).loc b)) (c : Dev nD)

set_option maxHeartbeats 1000000 in
/-- What the normalization call leaves. -/
theorem final0 : (dat0 V c).arrAt 4 cfg0.N = rows (V c main_v2) (V c main_v13) (V c main_v4) (V c main_v5) := by
  unfold rows
  refine (dat0 V c).arrAt_eq_of_covers 4 _ (by decide +kernel) fun t hf y => ?_
  blk_simp
  rw [after0_4]
  refine Eq.trans (out0_at _ _ _ _ _) ?_
  unfold modulated
  beta_reduce
  refine congrArg₂ (· + ·) (congrArg₂ (· * ·) (congrArg₂ (· * ·) (congrArg₂ (· * ·) ?_ (congrArg Ideal.rsqrt (congrArg₂ (· + ·)
    (congrArg₂ Ideal.div (Finset.sum_congr rfl fun k _ => congrArg₂ (· * ·) ?_ ?_) rfl) rfl))) ?_) (congrArg₂ (· + ·) rfl ?_)) ?_
  · blk_ext [iblk0, idx0 t]
  · blk_ext [iblk0, idx0 t]
  · blk_ext [iblk0, idx0 t]
  · blk_ext [iblk0, idx0 t]
  · blk_ext [iblk0, idx0 t, sel]
    split <;> split <;> omega
  · blk_ext [iblk0, idx0 t, sel]
    split <;> split <;> omega

set_option maxHeartbeats 1000000 in
/-- What the up-projection call leaves. -/
theorem final1 : (dat1 V c).arrAt 3 cfg1.N = units (V c main_v14) (V c main_v8) (V c main_v10) := by
  unfold units
  refine (dat1 V c).arrAt_eq_of_covers 3 _ (by decide +kernel) fun t hf y => ?_
  blk_simp
  rw [after1_3]
  refine Eq.trans (out1_at _ _ _ _) ?_
  unfold FfnMath.unit
  refine congrArg₂ (· * ·) (congrArg₂ (· * ·) (Finset.sum_congr rfl fun k _ => congrArg₂ (· * ·) ?_ ?_) (congrArg Ideal.logistic
    (Finset.sum_congr rfl fun k _ => congrArg₂ (· * ·) ?_ ?_))) (Finset.sum_congr rfl fun k _ => congrArg₂ (· * ·) ?_ ?_)
  all_goals blk_ext [iblk1, idx1 t]

set_option maxHeartbeats 1000000 in
/-- What the down-projection call leaves: the input plus the gated projection. -/
theorem final2 : (dat2 V c).arrAt 4 cfg2.N = down (V c main_v15) (V c main_v12) (V c main_v2) (V c main_v6) := by
  unfold down
  refine (dat2 V c).arrAt_eq_of_covers 4 _ (by decide +kernel) fun t hf y => ?_
  blk_simp
  rw [after2_4]
  refine Eq.trans (out2_at _ _ _ _ _) ?_
  refine congrArg₂ (· + ·) ?_ (congrArg₂ (· * ·) ?_ (Finset.sum_congr rfl fun k _ => congrArg₂ (· * ·) ?_ ?_))
  · blk_ext [iblk2, idx2 t]
  · blk_ext [iblk2, idx2 t, sel]
    split <;> split <;> omega
  · blk_ext [iblk2, idx2 t]
  · blk_ext [iblk2, idx2 t]

end Cert.FfnBlock
-- ==== Proof.FfnHost.lean ====
module

public import proofs.«01_k».proof.Proof.Gen.Kernel2Ideal.Frame
public import Idealize.ShloMosaic.Lib.Pipeline.ValueKit
public import Idealize.ShloMosaic.Lib.StableHlo.RunRead
public import proofs.«01_k».proof.Proof.FfnMath

/-! The arrays that the feed-forward sublayer's calls read, as functions of the arguments, and their elements. -/

@[expose] public section
set_option maxRecDepth 16384
noncomputable section
namespace Cert.FfnHost
open Cert.Kernel2Ideal Cert.Kernel2Ideal.Gen Idealize.ShloMosaic Idealize.ShloMosaic.TcCoe Idealize.SL.Sem Cert.FfnMath

/-- All tokens, one row each: the prompt's, then the samples'. -/
def tokens (x : (⟨S32x256x4096, .f32⟩ : BufTy).Contents (Elt Ideal)) (y : (⟨S2x2048x4096, .f32⟩ : BufTy).Contents (Elt Ideal)) :
    (⟨S12288x4096, .f32⟩ : BufTy).Contents (Elt Ideal) :=
  concatenate S12288x4096 0 [⟨S8192x4096, shapeCast S8192x4096 x shapeCasts_S32x256x4096_S8192x4096⟩,
    ⟨S4096x4096, shapeCast S4096x4096 y shapeCasts_S2x2048x4096_S4096x4096⟩] concatenates_S8192x4096_S4096x4096_S12288x4096_d0

/-- A modulation table: the prompt's entry, the two samples' entries, five rows of zeros. -/
def table (x : (⟨S1x1x4096, .f32⟩ : BufTy).Contents (Elt Ideal)) (y : (⟨S2x1x4096, .f32⟩ : BufTy).Contents (Elt Ideal)) :
    (⟨S8x1x4096, .f32⟩ : BufTy).Contents (Elt Ideal) :=
  concatenate S8x1x4096 0 [⟨S1x1x4096, x⟩, ⟨S2x1x4096, y⟩,
    ⟨S5x1x4096, broadcastInDim S5x1x4096 ![] bcast_S_S5x1x4096 (constant (F := Ideal) S_ .f32 0x00000000#32)⟩]
    concatenates_S1x1x4096_S2x1x4096_S5x1x4096_S8x1x4096_d0

/-- The padding value: the integer zero as a float. -/
def zero : (⟨S_, .f32⟩ : BufTy).Contents (Elt Ideal) := sitofp (F := Ideal) .f32 (constantI S_ 32 0#32)

/-- A weight with its columns padded by zeros. -/
def wide (w : (⟨S4096x11008, .f32⟩ : BufTy).Contents (Elt Ideal)) : (⟨S4096x11264, .bf16⟩ : BufTy).Contents (Elt Ideal) :=
  truncf (F := Ideal) (s := S4096x11264) (φ := .f32) .bf16 (pad S4096x11264 ![0, 0] ![0, 256] ![0, 0] w zero
    pads_S4096x11008_S4096x11264_000_02560 h_S_) bitsLt_bf16_f32

/-- A weight with its rows padded by zeros. -/
def tall (w : (⟨S11008x4096, .f32⟩ : BufTy).Contents (Elt Ideal)) : (⟨S11264x4096, .bf16⟩ : BufTy).Contents (Elt Ideal) :=
  truncf (F := Ideal) (s := S11264x4096) (φ := .f32) .bf16 (pad S11264x4096 ![0, 0] ![256, 0] ![0, 0] w zero
    pads_S11008x4096_S11264x4096_02560_000 h_S_) bitsLt_bf16_f32

/-- The norm's weight as one row. -/
def row (w : (⟨S4096, .f32⟩ : BufTy).Contents (Elt Ideal)) : (⟨S1x4096, .f32⟩ : BufTy).Contents (Elt Ideal) :=
  shapeCast S1x4096 w shapeCasts_S4096_S1x4096

variable (m : (ℓ : Loc nD τ sig) → Buf (Elt Ideal) ℓ) (ρ : Dev nD → PrngReg) (c : Dev nD)

/-- The tokens as the calls find them. -/
theorem V_main_v2 : V7 m ρ c main_v2 = tokens (m ((c : Thread nD τ).loc main_arg0)) (m ((c : Thread nD τ).loc main_arg1)) := by
  simp only [V7, W7, W6, W5, W4, W3, W2, W1, hostOps0, hostOps0_1, hostOps0_2, hostOps0_3, hostOps0_4, hostOps0_5, hostOps0_6]
  after_results_simp <;> rfl

/-- The shift table as the calls find it. -/
theorem V_main_v4 : V7 m ρ c main_v4 = table (m ((c : Thread nD τ).loc main_arg3)) (m ((c : Thread nD τ).loc main_arg6)) := by
  simp only [V7, W7, W6, W5, W4, W3, W2, W1, hostOps0, hostOps0_1, hostOps0_2, hostOps0_3, hostOps0_4, hostOps0_5, hostOps0_6]
  after_results_simp <;> rfl

/-- The scale table as the calls find it. -/
theorem V_main_v5 : V7 m ρ c main_v5 = table (m ((c : Thread nD τ).loc main_arg4)) (m ((c : Thread nD τ).loc main_arg7)) := by
  simp only [V7, W7, W6, W5, W4, W3, W2, W1, hostOps0, hostOps0_1, hostOps0_2, hostOps0_3, hostOps0_4, hostOps0_5, hostOps0_6]
  after_results_simp <;> rfl

/-- The gate table as the calls find it. -/
theorem V_main_v6 : V7 m ρ c main_v6 = table (m ((c : Thread nD τ).loc main_arg5)) (m ((c : Thread nD τ).loc main_arg8)) := by
  simp only [V7, W7, W6, W5, W4, W3, W2, W1, hostOps0, hostOps0_1, hostOps0_2, hostOps0_3, hostOps0_4, hostOps0_5, hostOps0_6]
  after_results_simp <;> rfl

/-- The gate's weight as the calls find it. -/
theorem V_main_v8 : V7 m ρ c main_v8 = wide (m ((c : Thread nD τ).loc main_arg9)) := by
  simp only [V7, W7, W6, W5, W4, W3, W2, W1, hostOps0, hostOps0_1, hostOps0_2, hostOps0_3, hostOps0_4, hostOps0_5, hostOps0_6]
  after_results_simp <;> rfl

/-- The up-projection's weight as the calls find it. -/
theorem V_main_v10 : V7 m ρ c main_v10 = wide (m ((c : Thread nD τ).loc main_arg10)) := by
  simp only [V7, W7, W6, W5, W4, W3, W2, W1, hostOps0, hostOps0_1, hostOps0_2, hostOps0_3, hostOps0_4, hostOps0_5, hostOps0_6]
  after_results_simp <;> rfl

/-- The down-projection's weight as the calls find it. -/
theorem V_main_v12 : V7 m ρ c main_v12 = tall (m ((c : Thread nD τ).loc main_arg11)) := by
  simp only [V7, W7, W6, W5, W4, W3, W2, W1, hostOps0, hostOps0_1, hostOps0_2, hostOps0_3, hostOps0_4, hostOps0_5, hostOps0_6]
  after_results_simp <;> rfl

/-- The norm's weight as the calls find it. -/
theorem V_main_v13 : V7 m ρ c main_v13 = row (m ((c : Thread nD τ).loc main_arg2)) := by
  simp only [V7, W7, W6, W5, W4, W3, W2, W1, hostOps0, hostOps0_1, hostOps0_2, hostOps0_3, hostOps0_4, hostOps0_5, hostOps0_6]
  after_results_simp <;> rfl

/-- A prompt token's row. -/
theorem tokens_prompt (x : (⟨S32x256x4096, .f32⟩ : BufTy).Contents (Elt Ideal)) (y : (⟨S2x2048x4096, .f32⟩ : BufTy).Contents (Elt Ideal))
    (r : Fin 12288) (h : r.val < 8192) (d : Fin 4096) : tokens x y (ix2 r d) =
      x (ix3 (⟨r.val / 256, by omega⟩ : Fin 32) (⟨r.val % 256, by omega⟩ : Fin 256) d) := by
  pointwise [tokens]
  rw [dif_pos h]

/-- A sample token's row. -/
theorem tokens_sample (x : (⟨S32x256x4096, .f32⟩ : BufTy).Contents (Elt Ideal)) (y : (⟨S2x2048x4096, .f32⟩ : BufTy).Contents (Elt Ideal))
    (r : Fin 12288) (h : ¬ r.val < 8192) (d : Fin 4096) : tokens x y (ix2 r d) =
      y (ix3 (⟨(r.val - 8192) / 2048, by omega⟩ : Fin 2) (⟨(r.val - 8192) % 2048, by omega⟩ : Fin 2048) d) := by
  pointwise [tokens]
  rw [dif_neg h]

/-- The prompt's entry of a modulation table. -/
theorem table_prompt (x : (⟨S1x1x4096, .f32⟩ : BufTy).Contents (Elt Ideal)) (y : (⟨S2x1x4096, .f32⟩ : BufTy).Contents (Elt Ideal))
    (r : Fin 12288) (h : r.val < 8192) (d : Fin 4096) : table x y (ix3 (sel r) (0 : Fin 1) d) = x (ix3 (0 : Fin 1) (0 : Fin 1) d) := by
  have e : sel r = 0 := Fin.ext (by unfold sel; exact if_pos h)
  rw [e]
  pointwise [table]

/-- A sample's entry of a modulation table. -/
theorem table_sample (x : (⟨S1x1x4096, .f32⟩ : BufTy).Contents (Elt Ideal)) (y : (⟨S2x1x4096, .f32⟩ : BufTy).Contents (Elt Ideal))
    (r : Fin 12288) (h : ¬ r.val < 8192) (d : Fin 4096) : table x y (ix3 (sel r) (0 : Fin 1) d) =
      y (ix3 (⟨(r.val - 8192) / 2048, by omega⟩ : Fin 2) (0 : Fin 1) d) := by
  have e : (sel r).val = 1 + (r.val - 8192) / 2048 := by unfold sel; exact if_neg h
  generalize sel r = s at e
  pointwise [table]
  rw [dif_neg (show ¬ s.val < 1 by omega), dif_pos (show s.val - 1 < 2 by omega)]
  exact congrArg (fun u => y (ix3 u (0 : Fin 1) d)) (Fin.ext (by show s.val - 1 = (r.val - 8192) / 2048; omega))

/-- The norm's weight, read as a row. -/
theorem row_at (w : (⟨S4096, .f32⟩ : BufTy).Contents (Elt Ideal)) (d : Fin 4096) : row w (ix2 (0 : Fin 1) d) = w (ix1 d) := by
  pointwise [row]

/-- The padding value is zero. -/
theorem zero_at : FloatOps.sitofp (F := Ideal) .f32 (0#32) = (0 : EReal) := by
  show (((0#32 : BitVec 32).toInt : ℝ) : EReal) = 0
  simp

/-- A column-padded weight: the weight, then zeros. -/
theorem wide_at (w : (⟨S4096x11008, .f32⟩ : BufTy).Contents (Elt Ideal)) (k : Fin 4096) (j : Fin 11264) : wide w (ix2 k j) =
    if h : j.val < 11008 then w (ix2 k (⟨j.val, h⟩ : Fin 11008)) else 0 := by
  pointwise [wide, zero]
  simp only [zero_at]

/-- A row-padded weight: the weight, then zeros. -/
theorem tall_at (w : (⟨S11008x4096, .f32⟩ : BufTy).Contents (Elt Ideal)) (j : Fin 11264) (d : Fin 4096) : tall w (ix2 j d) =
    if h : j.val < 11008 then w (ix2 (⟨j.val, h⟩ : Fin 11008) d) else 0 := by
  pointwise [tall, zero]
  simp only [zero_at]

end Cert.FfnHost
-- ==== Proof.FfnRef.lean ====
module

public import proofs.«01_k».proof.Proof.Gen.Reference2Ideal.Read
public import Idealize.ShloMosaic.Lib.Pipeline.ValueKit
public import proofs.«01_k».proof.Proof.FfnMath

/-! The plain feed-forward sublayer, element by element. -/

@[expose] public section
set_option maxRecDepth 16384
noncomputable section
namespace Cert.FfnRef
open Cert.Reference2Ideal Cert.Reference2Ideal.Gen Idealize.ShloMosaic Idealize.ShloMosaic.TcCoe Idealize.SL.Sem
open Cert.Reference2Ideal.Read Cert.FfnMath

/-- A prompt token's modulated row. -/
theorem prompt_row (x0 : (⟨S32x256x4096, .f32⟩ : BufTy).Contents (Elt Ideal)) (x2 : (⟨S4096, .f32⟩ : BufTy).Contents (Elt Ideal)) (x3 x4 : (⟨S1x1x4096, .f32⟩ : BufTy).Contents (Elt Ideal)) (b : Fin 32) (t : Fin 256) (d : Fin 4096) :
    val_main_v18 (F := Ideal) x0 x2 x3 x4 (ix3 b t d) = modulated (fun k => x0 (ix3 b t k)) (fun k => x2 (ix1 k))
      (fun k => x3 (ix3 (0 : Fin 1) (0 : Fin 1) k)) (fun k => x4 (ix3 (0 : Fin 1) (0 : Fin 1) k)) d := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, modulated]

/-- A prompt token's hidden unit. -/
theorem prompt_unit (x0 : (⟨S32x256x4096, .f32⟩ : BufTy).Contents (Elt Ideal)) (x2 : (⟨S4096, .f32⟩ : BufTy).Contents (Elt Ideal)) (x3 x4 : (⟨S1x1x4096, .f32⟩ : BufTy).Contents (Elt Ideal))
    (x9 x10 : (⟨S4096x11008, .f32⟩ : BufTy).Contents (Elt Ideal)) (b : Fin 32) (t : Fin 256) (j : Fin 11008) :
    val_main_v22 (F := Ideal) x0 x2 x3 x4 x9 x10 (ix3 b t j) = FfnMath.unit (modulated (fun k => x0 (ix3 b t k)) (fun k => x2 (ix1 k))
      (fun k => x3 (ix3 (0 : Fin 1) (0 : Fin 1) k)) (fun k => x4 (ix3 (0 : Fin 1) (0 : Fin 1) k))) (fun k => x9 (ix2 k j)) (fun k => x10 (ix2 k j)) := by
  simp only [FfnMath.unit, ← prompt_row]
  pointwise [val_main_v22, val_main_v21, val_main_v20, val_main_v19, val_main_call0_v5, val_main_call0_v4, val_main_call0_v3, val_main_call0_v2, val_main_call0_v1, val_main_call0_v0, val_main_call0_cst, val_main_call0_cst_0]
  rfl

/-- A prompt token's output. -/
theorem prompt_out (x0 : (⟨S32x256x4096, .f32⟩ : BufTy).Contents (Elt Ideal)) (x2 : (⟨S4096, .f32⟩ : BufTy).Contents (Elt Ideal)) (x3 x4 x5 : (⟨S1x1x4096, .f32⟩ : BufTy).Contents (Elt Ideal))
    (x9 x10 : (⟨S4096x11008, .f32⟩ : BufTy).Contents (Elt Ideal)) (x11 : (⟨S11008x4096, .f32⟩ : BufTy).Contents (Elt Ideal)) (b : Fin 32) (t : Fin 256) (d : Fin 4096) :
    val_main_v26 (F := Ideal) x0 x2 x3 x4 x5 x9 x10 x11 (ix3 b t d) = x0 (ix3 b t d) + x5 (ix3 (0 : Fin 1) (0 : Fin 1) d) *
      ∑ j : Fin 11008, FfnMath.unit (modulated (fun k => x0 (ix3 b t k)) (fun k => x2 (ix1 k))
      (fun k => x3 (ix3 (0 : Fin 1) (0 : Fin 1) k)) (fun k => x4 (ix3 (0 : Fin 1) (0 : Fin 1) k))) (fun k => x9 (ix2 k j)) (fun k => x10 (ix2 k j))
        * x11 (ix2 j d) := by
  simp only [← prompt_unit]
  pointwise [val_main_v26, val_main_v25, val_main_v24, val_main_v23]

/-- A sample token's modulated row. -/
theorem sample_row (x1 : (⟨S2x2048x4096, .f32⟩ : BufTy).Contents (Elt Ideal)) (x2 : (⟨S4096, .f32⟩ : BufTy).Contents (Elt Ideal)) (x6 x7 : (⟨S2x1x4096, .f32⟩ : BufTy).Contents (Elt Ideal)) (b : Fin 2) (t : Fin 2048) (d : Fin 4096) :
    val_main_v45 (F := Ideal) x1 x2 x6 x7 (ix3 b t d) = modulated (fun k => x1 (ix3 b t k)) (fun k => x2 (ix1 k))
      (fun k => x6 (ix3 b (0 : Fin 1) k)) (fun k => x7 (ix3 b (0 : Fin 1) k)) d := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst_3, val_main_cst_4, val_main_cst_5, val_main_cst_6, modulated]

/-- A sample token's hidden unit. -/
theorem sample_unit (x1 : (⟨S2x2048x4096, .f32⟩ : BufTy).Contents (Elt Ideal)) (x2 : (⟨S4096, .f32⟩ : BufTy).Contents (Elt Ideal)) (x6 x7 : (⟨S2x1x4096, .f32⟩ : BufTy).Contents (Elt Ideal))
    (x9 x10 : (⟨S4096x11008, .f32⟩ : BufTy).Contents (Elt Ideal)) (b : Fin 2) (t : Fin 2048) (j : Fin 11008) :
    val_main_v49 (F := Ideal) x1 x2 x6 x7 x9 x10 (ix3 b t j) = FfnMath.unit (modulated (fun k => x1 (ix3 b t k)) (fun k => x2 (ix1 k))
      (fun k => x6 (ix3 b (0 : Fin 1) k)) (fun k => x7 (ix3 b (0 : Fin 1) k))) (fun k => x9 (ix2 k j)) (fun k => x10 (ix2 k j)) := by
  simp only [FfnMath.unit, ← sample_row]
  pointwise [val_main_v49, val_main_v48, val_main_v47, val_main_v46, val_main_call1_v5, val_main_call1_v4, val_main_call1_v3, val_main_call1_v2, val_main_call1_v1, val_main_call1_v0, val_main_call1_cst, val_main_call1_cst_0]
  rfl

/-- A sample token's output. -/
theorem sample_out (x1 : (⟨S2x2048x4096, .f32⟩ : BufTy).Contents (Elt Ideal)) (x2 : (⟨S4096, .f32⟩ : BufTy).Contents (Elt Ideal)) (x6 x7 x8 : (⟨S2x1x4096, .f32⟩ : BufTy).Contents (Elt Ideal))
    (x9 x10 : (⟨S4096x11008, .f32⟩ : BufTy).Contents (Elt Ideal)) (x11 : (⟨S11008x4096, .f32⟩ : BufTy).Contents (Elt Ideal)) (b : Fin 2) (t : Fin 2048) (d : Fin 4096) :
    val_main_v53 (F := Ideal) x1 x2 x6 x7 x8 x9 x10 x11 (ix3 b t d) = x1 (ix3 b t d) + x8 (ix3 b (0 : Fin 1) d) *
      ∑ j : Fin 11008, FfnMath.unit (modulated (fun k => x1 (ix3 b t k)) (fun k => x2 (ix1 k))
      (fun k => x6 (ix3 b (0 : Fin 1) k)) (fun k => x7 (ix3 b (0 : Fin 1) k))) (fun k => x9 (ix2 k j)) (fun k => x10 (ix2 k j))
        * x11 (ix2 j d) := by
  simp only [← sample_unit]
  pointwise [val_main_v53, val_main_v52, val_main_v51, val_main_v50]

end Cert.FfnRef
-- ==== Proof.FfnValue.lean ====
module

public import proofs.«01_k».proof.Proof.FfnBlock
public import proofs.«01_k».proof.Proof.FfnHost
public import proofs.«01_k».proof.Proof.FfnRef

/-! The feed-forward sublayer's calls leave what the plain feed-forward sublayer computes. -/

@[expose] public section
set_option maxRecDepth 16384
noncomputable section
namespace Cert.FfnValue
open Cert.Kernel2Ideal Cert.Kernel2Ideal.Gen Idealize.ShloMosaic Idealize.ShloMosaic.TcCoe Idealize.SL.Sem
open Cert.FfnMath Cert.FfnHost Cert.FfnBlock

/-- A sum over the padded hidden units is the sum over the hidden units: the added rows of the weight are zeros. -/
theorem sum_padded (f : Fin 11264 → EReal) (g : Fin 11008 → EReal) (x11 : (⟨S11008x4096, .f32⟩ : BufTy).Contents (Elt Ideal)) (d : Fin 4096)
    (h : ∀ j : Fin 11008, f (⟨j.val, by omega⟩ : Fin 11264) = g j) :
    ∑ k : Fin 11264, f k * tall x11 (ix2 k d) = ∑ j : Fin 11008, g j * x11 (ix2 j d) := by
  have e1 : ∀ j : Fin 11008, f (Fin.castAdd 256 j) * tall x11 (ix2 (Fin.castAdd 256 j : Fin 11264) d) = g j * x11 (ix2 j d) := fun j => by
    rw [tall_at, dif_pos (show (Fin.castAdd 256 j).val < 11008 from j.isLt)]
    exact congrArg₂ (· * ·) (h j) rfl
  have e2 : ∀ j : Fin 256, f (Fin.natAdd 11008 j) * tall x11 (ix2 (Fin.natAdd 11008 j : Fin 11264) d) = 0 := fun j => by
    rw [tall_at, dif_neg (show ¬ (Fin.natAdd 11008 j).val < 11008 by simp), mul_zero]
  refine Eq.trans (Fin.sum_univ_add (a := 11008) (b := 256) (fun k : Fin 11264 => f k * tall x11 (ix2 k d))) ?_
  refine Eq.trans (congrArg₂ (· + ·) (Finset.sum_congr rfl fun j _ => e1 j) (Finset.sum_congr rfl fun j _ => e2 j)) ?_
  simp

/-- A hidden unit over the padded weights. -/
theorem unit_padded (v : Fin 4096 → EReal) (x9 x10 : (⟨S4096x11008, .f32⟩ : BufTy).Contents (Elt Ideal)) (j : Fin 11008) :
    FfnMath.unit v (fun k => wide x9 (ix2 k (⟨j.val, by omega⟩ : Fin 11264))) (fun k => wide x10 (ix2 k (⟨j.val, by omega⟩ : Fin 11264)))
      = FfnMath.unit v (fun k => x9 (ix2 k j)) (fun k => x10 (ix2 k j)) := by
  have e : ∀ (w : (⟨S4096x11008, .f32⟩ : BufTy).Contents (Elt Ideal)) (k : Fin 4096),
      wide w (ix2 k (⟨j.val, by omega⟩ : Fin 11264)) = w (ix2 k j) := fun w k => by
    rw [wide_at, dif_pos j.isLt]
  simp only [e]

variable (x0 : (⟨S32x256x4096, .f32⟩ : BufTy).Contents (Elt Ideal)) (x1 : (⟨S2x2048x4096, .f32⟩ : BufTy).Contents (Elt Ideal))
  (x2 : (⟨S4096, .f32⟩ : BufTy).Contents (Elt Ideal)) (x3 x4 x5 : (⟨S1x1x4096, .f32⟩ : BufTy).Contents (Elt Ideal))
  (x6 x7 x8 : (⟨S2x1x4096, .f32⟩ : BufTy).Contents (Elt Ideal)) (x9 x10 : (⟨S4096x11008, .f32⟩ : BufTy).Contents (Elt Ideal))
  (x11 : (⟨S11008x4096, .f32⟩ : BufTy).Contents (Elt Ideal))

/-- What the three calls leave, as a function of the arguments. -/
def out : (⟨S12288x4096, .f32⟩ : BufTy).Contents (Elt Ideal) :=
  down (units (rows (tokens x0 x1) (row x2) (table x3 x6) (table x4 x7)) (wide x9) (wide x10)) (tall x11) (tokens x0 x1) (table x5 x8)

/-- The calls' output is the plain output. -/
theorem value : out x0 x1 x2 x3 x4 x5 x6 x7 x8 x9 x10 x11
    = Cert.Reference2Ideal.Read.val_main_v56 (F := Ideal) x0 x1 x2 x3 x4 x5 x6 x7 x8 x9 x10 x11 := by
  funext i
  obtain ⟨r, d, rfl⟩ : ∃ (r : Fin 12288) (d : Fin 4096), i = ix2 r d := ⟨i 0, i 1, (ix2_eta i).symm⟩
  have lhs : out x0 x1 x2 x3 x4 x5 x6 x7 x8 x9 x10 x11 (ix2 r d) = tokens x0 x1 (ix2 r d) + table x5 x8 (ix3 (sel r) (0 : Fin 1) d) *
      ∑ k : Fin 11264, FfnMath.unit (modulated (fun k => tokens x0 x1 (ix2 r k)) (fun k => row x2 (ix2 (0 : Fin 1) k))
        (fun k => table x3 x6 (ix3 (sel r) (0 : Fin 1) k)) (fun k => table x4 x7 (ix3 (sel r) (0 : Fin 1) k)))
        (fun u => wide x9 (ix2 u k)) (fun u => wide x10 (ix2 u k)) * tall x11 (ix2 k d) := rfl
  rw [lhs, sum_padded _ _ x11 d (unit_padded _ x9 x10)]
  by_cases h : r.val < 8192
  · simp only [tokens_prompt x0 x1 r h, table_prompt _ _ r h, row_at]
    pointwise [Cert.Reference2Ideal.Read.val_main_v56, Cert.Reference2Ideal.Read.val_main_v55, Cert.Reference2Ideal.Read.val_main_v54]
    rw [dif_pos h]
    exact (FfnRef.prompt_out x0 x2 x3 x4 x5 x9 x10 x11 _ _ d).symm
  · simp only [tokens_sample x0 x1 r h, table_sample _ _ r h, row_at]
    pointwise [Cert.Reference2Ideal.Read.val_main_v56, Cert.Reference2Ideal.Read.val_main_v55, Cert.Reference2Ideal.Read.val_main_v54]
    rw [dif_neg h]
    exact (FfnRef.sample_out x1 x2 x6 x7 x8 x9 x10 x11 _ _ d).symm

variable (m : (ℓ : Loc nD τ sig) → Buf (Elt Ideal) ℓ) (ρ : Dev nD → PrngReg) (c : Dev nD)

/-- The program's result buffer after the last call. -/
theorem result : W10 m ρ c (Proc.devRef .tc main_v16) = out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) := by
  have h14 : V8 m ρ c main_v14 = rows (V7 m ρ c main_v2) (V7 m ρ c main_v13) (V7 m ρ c main_v4) (V7 m ρ c main_v5) :=
    (W8_arr m ρ c 4).trans (final0 (V7 m ρ) c)
  have h15 : V9 m ρ c main_v15 = units (V8 m ρ c main_v14) (V8 m ρ c main_v8) (V8 m ρ c main_v10) :=
    (W9_arr m ρ c 3).trans (final1 (V8 m ρ) c)
  have h16 : W10 m ρ c (Proc.devRef .tc main_v16) = down (V9 m ρ c main_v15) (V9 m ρ c main_v12) (V9 m ρ c main_v2) (V9 m ρ c main_v6) :=
    (W10_arr m ρ c 4).trans (final2 (V9 m ρ) c)
  have h8 : V8 m ρ c main_v8 = V7 m ρ c main_v8 := W8_of m ρ c main_v8 (by decide)
  have h10 : V8 m ρ c main_v10 = V7 m ρ c main_v10 := W8_of m ρ c main_v10 (by decide)
  have h12 : V9 m ρ c main_v12 = V7 m ρ c main_v12 := (W9_of m ρ c main_v12 (by decide)).trans (W8_of m ρ c main_v12 (by decide))
  have h2 : V9 m ρ c main_v2 = V7 m ρ c main_v2 := (W9_of m ρ c main_v2 (by decide)).trans (W8_of m ρ c main_v2 (by decide))
  have h6 : V9 m ρ c main_v6 = V7 m ρ c main_v6 := (W9_of m ρ c main_v6 (by decide)).trans (W8_of m ρ c main_v6 (by decide))
  rw [h16, h15, h14, h8, h10, h12, h2, h6, V_main_v2, V_main_v4, V_main_v5, V_main_v6, V_main_v8, V_main_v10, V_main_v12, V_main_v13]
  rfl

end Cert.FfnValue
-- ==== Proof.MoeBody.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.RegionsLoop
public import Idealize.ShloMosaic.Lib.Pipeline.RegionArraysT
public import Idealize.ShloMosaic.Lib.Pipeline.FrameSuffix
public import Idealize.ShloMosaic.Lib.Ring
public import Idealize.ShloMosaic.Lib.Tactic
public import Idealize.ShloMosaic.Lib.WordCmp

/-! The body of the experts call, case by case. -/

@[expose] public section
set_option maxRecDepth 16384
noncomputable section
namespace Cert.Kernel3Ideal.Moe
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources an assertion of the run owns. -/
abbrev MM (F : FTy → Type) [FloatOps F] : Type := MT nD τ sig Unit (Elt F) ℕ (UR sig nD τ) ℕ

/-! ## The rectangles the body reads and writes -/

abbrev rX : Rect S1024x4096 := Rect.unit (s := S1024x4096) ![0, 0] S1024x4096.size inb_S1024x4096_S1024x4096_0_0
abbrev rW : Rect S1x4096x512 := Rect.unit (s := S1x4096x512) ![0, 0, 0] S1x4096x512.size inb_S1x4096x512_S1x4096x512_0_0_0
abbrev rO : Rect S1024x512 := Rect.unit (s := S1024x512) ![0, 0] S1024x512.size inb_S1024x512_S1024x512_0_0
abbrev rG : Rect S1024x1 := Rect.unit (s := S1024x1) ![0, 0] S1024x1.size inb_S1024x1_S1024x1_0_0
abbrev rD0 : Rect S1x2048x512 := Rect.unit (s := S1x2048x512) ![0, 0, 0] S1x512x512.size inb_S1x2048x512_S1x512x512_0_0_0
abbrev rD1 : Rect S1x2048x512 := Rect.unit (s := S1x2048x512) ![0, 512, 0] S1x512x512.size inb_S1x2048x512_S1x512x512_0_512_0
abbrev rD2 : Rect S1x2048x512 := Rect.unit (s := S1x2048x512) ![0, 1024, 0] S1x512x512.size inb_S1x2048x512_S1x512x512_0_1024_0
abbrev rD3 : Rect S1x2048x512 := Rect.unit (s := S1x2048x512) ![0, 1536, 0] S1x512x512.size inb_S1x2048x512_S1x512x512_0_1536_0
abbrev rS0 : Rect S4x1024x512 := Rect.unit (s := S4x1024x512) ![0, 0, 0] S1x1024x512.size inb_S4x1024x512_S1x1024x512_0_0_0
abbrev rS1 : Rect S4x1024x512 := Rect.unit (s := S4x1024x512) ![1, 0, 0] S1x1024x512.size inb_S4x1024x512_S1x1024x512_1_0_0
abbrev rS2 : Rect S4x1024x512 := Rect.unit (s := S4x1024x512) ![2, 0, 0] S1x1024x512.size inb_S4x1024x512_S1x1024x512_2_0_0
abbrev rS3 : Rect S4x1024x512 := Rect.unit (s := S4x1024x512) ![3, 0, 0] S1x1024x512.size inb_S4x1024x512_S1x1024x512_3_0_0

/-- One block of hidden activations, from a tile of rows and the two blocks of weights. -/
def hblk (x0 : Vec F S1024x4096 .bf16) (x1 x2 : Vec F S1x4096x512 .bf16) : Vec F S1x1024x512 .bf16 :=
  k0_pay1 (View.ld x0 rX) (View.ld x1 rW) (View.ld x2 rW)

/-- The result block of a used tile, from its four blocks of hidden activations. -/
def outB (h0 h1 h2 h3 : Vec F S1x1024x512 .bf16) (x3 : Vec F S1x2048x512 .bf16) (x4 : Vec F S1024x1 .f32) : Vec F S1024x512 .f32 :=
  View.canon [⟨rO, k0_pay3 h0 (View.ld x3 rD0) h1 (View.ld x3 rD1) h2 (View.ld x3 rD2) h3 (View.ld x3 rD3) (View.ld x4 rG)⟩]

/-- The result block of an unused tile. -/
def outZ : Vec F S1024x512 .f32 := View.canon [⟨rO, k0_pay2⟩]

theorem coverO (p0 : Vec F S1024x512 .f32) (y : S1024x512.Idx) :
    ∃ pc ∈ ([⟨rO, p0⟩] : List (View.Piece (Elt F) S1024x512 .f32)), y ∈ pc.1.set :=
  View.cover_of_tiled [⟨rO, p0⟩] S1024x512.size (by rfl) y

/-- What one store leaves in a buffer: its payload on its rectangle, the old contents elsewhere. -/
theorem read_one {κ : Kind} {sp : Space} {s : Shape} {e : EltTy} (v : View sig κ sp s e) (f : v.ty.Contents (Elt F)) (r : Rect s)
    (p : r.shape.Idx → Elt F e) : v.read (Elt F) (v.writes (Elt F) f [⟨r, p⟩]) = r.overlay (v.read (Elt F) f) p := by
  funext y
  by_cases hy : y ∈ r.set
  · obtain ⟨x, rfl⟩ : ∃ x, r.emb x = y := r.exists_idx_of_mem hy
    rw [View.read_writes_cons_emb, r.overlay_emb]
  · have hy' : y ∉ Finset.univ.map r.emb := by rwa [Rect.map_emb_univ]
    rw [View.writes_cons, View.read_slice_write_of_not_mem r _ _ _ hy', r.overlay_of_not_mem _ _ hy]
    rfl

/-! ## The three conditions -/

/-- Tile `i 0` is used: it comes before the count `w`. -/
abbrev liveB (i : grid0.Coords) (w : BitVec 32) : BitVec 1 := Scalar.cmpi .slt (BitVec.ofNat 32 (i 0).val) w

theorem cond1_aux : ∀ (b : BitVec 1) (k : Fin 12), (Scalar.cmpi .ne (Scalar.extui (Scalar.andi b (Scalar.cmpi .slt (BitVec.ofNat 32 k.val) 4#32)) : BitVec 32) 0#32 = 1#1) ↔ (b = 1#1 ∧ k.val < 4) := by decide
theorem cond2_aux : ∀ (b : BitVec 1) (k : Fin 12), (Scalar.cmpi .ne (Scalar.extui (Scalar.andi b (Scalar.cmpi .sge (BitVec.ofNat 32 k.val) 4#32)) : BitVec 32) 0#32 = 1#1) ↔ (b = 1#1 ∧ 4 ≤ k.val) := by decide
theorem cond3_aux : ∀ (b : BitVec 1) (k : Fin 12), (Scalar.cmpi .ne (Scalar.extui (Scalar.andi (Scalar.xori b 1#1) (Scalar.cmpi .sge (BitVec.ofNat 32 k.val) 4#32)) : BitVec 32) 0#32 = 1#1) ↔ (b ≠ 1#1 ∧ 4 ≤ k.val) := by decide
theorem cond1_iff (i : grid0.Coords) (w : BitVec 32) : k0_cond1 i w = 1#1 ↔ (liveB i w = 1#1 ∧ (i 1).val < 4) := cond1_aux (liveB i w) (i 1)
theorem cond2_iff (i : grid0.Coords) (w : BitVec 32) : k0_cond2 i w = 1#1 ↔ (liveB i w = 1#1 ∧ 4 ≤ (i 1).val) := cond2_aux (liveB i w) (i 1)
theorem cond3_iff (i : grid0.Coords) (w : BitVec 32) : k0_cond3 i w = 1#1 ↔ (liveB i w ≠ 1#1 ∧ 4 ≤ (i 1).val) := cond3_aux (liveB i w) (i 1)

theorem off2_aux : ∀ k : Fin 12, (Scalar.indexCast (BitVec.ofNat 32 k.val) : BitVec 32).toNat = k.val := by decide
theorem off2_eq (i : grid0.Coords) : k0_off2 i = ![(i 1).val, 0, 0] := by
  unfold k0_off2; exact congrArg (fun n => (![n, 0, 0] : Fin 3 → Nat)) (off2_aux (i 1))

/-- The slab a point writes lies inside the scratch buffer. -/
theorem chk (i : grid0.Coords) (w : BitVec 32) : k0_chk1 i w := by
  refine ⟨fun h a => ?_, fun h hinb => .inr ⟨by decide, rfl, .inl ⟨?_, ?_⟩⟩⟩
  · have h4 := ((cond1_iff i w).1 h).2
    rw [off2_eq]
    have ha : a.val = 0 ∨ a.val = 1 ∨ a.val = 2 := by have := a.isLt; change a.val < 3 at this; omega
    obtain ⟨a, hlt⟩ := a
    rcases ha with rfl | rfl | rfl
    · show (i 1).val + 1 ≤ 4; omega
    · show 0 + 1024 ≤ 1024; omega
    · show 0 + 512 ≤ 512; omega
  · exact (show (2 : Nat) ∣ 0 by decide)
  · exact (show (2 : Nat) ∣ 1024 by decide)

set_option maxHeartbeats 1000000 in
/-- A used tile, one of the first four steps: the body writes a slab of hidden activations. -/
theorem sound_A (c : Dev nD) (E : Set ℕ) (i : grid0.Coords) (arg2 : Memref sig .tc .smem S32 .i32) (harg2 : arg2.IsWhole) (arg3 : Memref sig .tc .smem S1 .i32) (harg3 : arg3.IsWhole) (arg4 : Memref sig .tc .vmem S1024x4096 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x2048x512 .bf16) (harg7 : arg7.IsWhole) (arg8 : Memref sig .tc .vmem S1024x1 .f32) (harg8 : arg8.IsWhole) (arg9 : Memref sig .tc .vmem S1024x512 .f32) (harg9 : arg9.IsWhole) (arg10 : Memref sig .tc .vmem S4x1024x512 .bf16) (harg10 : arg10.IsWhole)
    (n : Vec F S1 .i32) (x0 : Vec F S1024x4096 .bf16) (x1 x2 : Vec F S1x4096x512 .bf16) (z : Vec F S4x1024x512 .bf16)
    (w : BitVec 32) (hn : ∀ y, n y = w) (h1 : k0_cond1 i w = 1#1) (h2 : ¬ k0_cond2 i w = 1#1) (h3 : ¬ k0_cond3 i w = 1#1)
    (K : PUnit → sProp (MM F)) :
    iprop(owns (c : Thread nD τ) arg3 fullShare n ∗ owns (c : Thread nD τ) arg4 fullShare x0 ∗ owns (c : Thread nD τ) arg5 fullShare x1 ∗ owns (c : Thread nD τ) arg6 fullShare x2 ∗ owns (c : Thread nD τ) arg10 fullShare z
        ∗ (iprop(owns (c : Thread nD τ) arg3 fullShare n ∗ owns (c : Thread nD τ) arg4 fullShare x0 ∗ owns (c : Thread nD τ) arg5 fullShare x1 ∗ owns (c : Thread nD τ) arg6 fullShare x2 ∗ owns (c : Thread nD τ) arg10 fullShare ((Rect.unit (s := S4x1024x512) (k0_off2 i) S1x1024x512.size (k0_off2_inb i w (chk i w) h1)).overlay z (hblk x0 x1 x2))) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  have h0 := chk i w
  simp only [cc0_moe_experts_eq_skeleton, k0_part1_eq_skeleton]; unfold cc0_moe_experts_skel
  unfold owns
  iintro ⟨⟨%f3, %hf3, H3⟩, ⟨%f4, %hf4, H4⟩, ⟨%f5, %hf5, H5⟩, ⟨%f6, %hf6, H6⟩, ⟨%f10, %hf10, H10⟩, Hk⟩
  subst hf3 hf4 hf5 hf6 hf10
  sl_exec
  generalize hr : sound_A.sl.r c arg3 f3 = w'
  obtain rfl : w' = w := hr.symm.trans (hn _)
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H10
  ipureintro
  exact read_one _ _ _ _

set_option maxHeartbeats 1000000 in
/-- A used tile, one of the last eight steps: the body writes the result block from the four slabs. -/
theorem sound_B (c : Dev nD) (E : Set ℕ) (i : grid0.Coords) (arg2 : Memref sig .tc .smem S32 .i32) (harg2 : arg2.IsWhole) (arg3 : Memref sig .tc .smem S1 .i32) (harg3 : arg3.IsWhole) (arg4 : Memref sig .tc .vmem S1024x4096 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x2048x512 .bf16) (harg7 : arg7.IsWhole) (arg8 : Memref sig .tc .vmem S1024x1 .f32) (harg8 : arg8.IsWhole) (arg9 : Memref sig .tc .vmem S1024x512 .f32) (harg9 : arg9.IsWhole) (arg10 : Memref sig .tc .vmem S4x1024x512 .bf16) (harg10 : arg10.IsWhole)
    (n : Vec F S1 .i32) (x3 : Vec F S1x2048x512 .bf16) (x4 : Vec F S1024x1 .f32) (z : Vec F S4x1024x512 .bf16)
    (w : BitVec 32) (hn : ∀ y, n y = w) (h1 : ¬ k0_cond1 i w = 1#1) (h2 : k0_cond2 i w = 1#1) (h3 : ¬ k0_cond3 i w = 1#1)
    (K : PUnit → sProp (MM F)) :
    iprop(owns (c : Thread nD τ) arg3 fullShare n ∗ owns (c : Thread nD τ) arg7 fullShare x3 ∗ owns (c : Thread nD τ) arg8 fullShare x4 ∗ owns (c : Thread nD τ) arg10 fullShare z ∗ (∃ d, owns (c : Thread nD τ) arg9 fullShare d)
        ∗ (iprop(owns (c : Thread nD τ) arg3 fullShare n ∗ owns (c : Thread nD τ) arg7 fullShare x3 ∗ owns (c : Thread nD τ) arg8 fullShare x4 ∗ owns (c : Thread nD τ) arg10 fullShare z ∗ owns (c : Thread nD τ) arg9 fullShare (outB (View.ld z rS0) (View.ld z rS1) (View.ld z rS2) (View.ld z rS3) x3 x4)) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  have h0 := chk i w
  simp only [cc0_moe_experts_eq_skeleton, k0_part1_eq_skeleton]; unfold cc0_moe_experts_skel
  unfold owns
  iintro ⟨⟨%f3, %hf3, H3⟩, ⟨%f7, %hf7, H7⟩, ⟨%f8, %hf8, H8⟩, ⟨%f10, %hf10, H10⟩, ⟨%d9, %f9, -, H9⟩, Hk⟩
  subst hf3 hf7 hf8 hf10
  sl_exec
  generalize hr : sound_B.sl.r c arg3 f3 = w'
  obtain rfl : w' = w := hr.symm.trans (hn _)
  sl_exec
  sl_step
  iapply Hk
  isplitl [H3]
  · iexists f3; isplitr; · ipureintro; rfl
    iexact H3
  isplitl [H7]
  · iexists f7; isplitr; · ipureintro; rfl
    iexact H7
  isplitl [H8]
  · iexists f8; isplitr; · ipureintro; rfl
    iexact H8
  isplitl [H10]
  · iexists f10; isplitr; · ipureintro; rfl
    iexact H10
  iexists _; isplitr
  swap; · iexact H9
  ipureintro
  exact View.read_writes_eq_canon _ _ _ (coverO _)

set_option maxHeartbeats 1000000 in
/-- An unused tile, one of the last eight steps: the body writes zeros. -/
theorem sound_C (c : Dev nD) (E : Set ℕ) (i : grid0.Coords) (arg2 : Memref sig .tc .smem S32 .i32) (harg2 : arg2.IsWhole) (arg3 : Memref sig .tc .smem S1 .i32) (harg3 : arg3.IsWhole) (arg4 : Memref sig .tc .vmem S1024x4096 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x2048x512 .bf16) (harg7 : arg7.IsWhole) (arg8 : Memref sig .tc .vmem S1024x1 .f32) (harg8 : arg8.IsWhole) (arg9 : Memref sig .tc .vmem S1024x512 .f32) (harg9 : arg9.IsWhole) (arg10 : Memref sig .tc .vmem S4x1024x512 .bf16) (harg10 : arg10.IsWhole)
    (n : Vec F S1 .i32)
    (w : BitVec 32) (hn : ∀ y, n y = w) (h1 : ¬ k0_cond1 i w = 1#1) (h2 : ¬ k0_cond2 i w = 1#1) (h3 : k0_cond3 i w = 1#1)
    (K : PUnit → sProp (MM F)) :
    iprop(owns (c : Thread nD τ) arg3 fullShare n ∗ (∃ d, owns (c : Thread nD τ) arg9 fullShare d)
        ∗ (iprop(owns (c : Thread nD τ) arg3 fullShare n ∗ owns (c : Thread nD τ) arg9 fullShare outZ) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  have h0 := chk i w
  simp only [cc0_moe_experts_eq_skeleton, k0_part1_eq_skeleton]; unfold cc0_moe_experts_skel
  unfold owns
  iintro ⟨⟨%f3, %hf3, H3⟩, ⟨%d9, %f9, -, H9⟩, Hk⟩
  subst hf3
  sl_exec
  generalize hr : sound_C.sl.r c arg3 f3 = w'
  obtain rfl : w' = w := hr.symm.trans (hn _)
  sl_exec
  sl_step
  iapply Hk
  isplitl [H3]
  · iexists f3; isplitr; · ipureintro; rfl
    iexact H3
  iexists _; isplitr
  swap; · iexact H9
  ipureintro
  exact View.read_writes_eq_canon _ _ _ (coverO _)

set_option maxHeartbeats 1000000 in
/-- An unused tile, one of the first four steps: the body writes nothing. -/
theorem sound_D (c : Dev nD) (E : Set ℕ) (i : grid0.Coords) (arg2 : Memref sig .tc .smem S32 .i32) (harg2 : arg2.IsWhole) (arg3 : Memref sig .tc .smem S1 .i32) (harg3 : arg3.IsWhole) (arg4 : Memref sig .tc .vmem S1024x4096 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x2048x512 .bf16) (harg7 : arg7.IsWhole) (arg8 : Memref sig .tc .vmem S1024x1 .f32) (harg8 : arg8.IsWhole) (arg9 : Memref sig .tc .vmem S1024x512 .f32) (harg9 : arg9.IsWhole) (arg10 : Memref sig .tc .vmem S4x1024x512 .bf16) (harg10 : arg10.IsWhole)
    (n : Vec F S1 .i32)
    (w : BitVec 32) (hn : ∀ y, n y = w) (h1 : ¬ k0_cond1 i w = 1#1) (h2 : ¬ k0_cond2 i w = 1#1) (h3 : ¬ k0_cond3 i w = 1#1)
    (K : PUnit → sProp (MM F)) :
    iprop(owns (c : Thread nD τ) arg3 fullShare n
        ∗ (iprop(owns (c : Thread nD τ) arg3 fullShare n) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  have h0 := chk i w
  simp only [cc0_moe_experts_eq_skeleton, k0_part1_eq_skeleton]; unfold cc0_moe_experts_skel
  unfold owns
  iintro ⟨⟨%f3, %hf3, H3⟩, Hk⟩
  subst hf3
  sl_exec
  generalize hr : sound_D.sl.r c arg3 f3 = w'
  obtain rfl : w' = w := hr.symm.trans (hn _)
  sl_exec
  sl_step
  iapply Hk
  iexists f3; isplitr; · ipureintro; rfl
  iexact H3

end Cert.Kernel3Ideal.Moe
-- ==== Proof.MoeDat.lean ====
module

public import proofs.«01_k».proof.Proof.MoeBody

/-! The proof data of the experts call, and its body obligation. -/

@[expose] public section
set_option maxRecDepth 16384
noncomputable section
namespace Cert.Kernel3Ideal.Moe
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid -/

/-- Point `t` is step `t % 12` of tile `t / 12`. -/
theorem coords_eq : ∀ t : Fin grid0.N, (grid0.coords t 0).val = t.val / 12 ∧ (grid0.coords t 1).val = t.val % 12 := by decide +kernel

theorem lt_N (t : Fin grid0.N) : t.val < 384 := N_0 ▸ t.isLt

/-! ## The scratch buffer's slabs -/

theorem inbS (k : Fin 4) (a : Fin 3) : (![k.val, 0, 0] : Fin 3 → Nat) a + S1x1024x512.size a ≤ S4x1024x512.size a := by
  revert k a; decide

/-- Slab `k` of the scratch buffer. -/
abbrev rS (k : Fin 4) : Rect S4x1024x512 := Rect.unit (s := S4x1024x512) ![k.val, 0, 0] S1x1024x512.size (inbS k)

theorem off_rS (off : Fin 3 → Nat) (h : ∀ a, off a + S1x1024x512.size a ≤ S4x1024x512.size a) (k : Fin 4) (e : off = ![k.val, 0, 0]) :
    Rect.unit (s := S4x1024x512) off S1x1024x512.size h = rS k := by subst e; rfl

theorem ld_overlay_same (z : Vec F S4x1024x512 .bf16) (k : Fin 4) (p : Vec F S1x1024x512 .bf16) :
    View.ld ((rS k).overlay z p) (rS k) = p := funext fun x => (rS k).overlay_emb z p x

theorem ld_overlay_ne (z : Vec F S4x1024x512 .bf16) (k j : Fin 4) (hj : j ≠ k) (p : Vec F S1x1024x512 .bf16) :
    View.ld ((rS k).overlay z p) (rS j) = View.ld z (rS j) := funext fun x => by
  refine (rS k).overlay_of_not_mem z p ?_
  intro hm
  obtain ⟨x', hx'⟩ := (rS k).exists_idx_of_mem hm
  have h0 := congrArg (fun y : S4x1024x512.Idx => (y 0).val) hx'
  have e1 : (x' 0).val = 0 := by have := (x' 0).isLt; change (x' 0).val < 1 at this; omega
  have e2 : (x 0).val = 0 := by have := (x 0).isLt; change (x 0).val < 1 at this; omega
  have h0' : k.val + 1 * (x' 0).val = j.val + 1 * (x 0).val := h0
  exact hj (Fin.ext (by omega))

section Regions
variable (a : (pcfg0 (F := F)).Adm)
variable (V : (c : Dev nD) → (b : Ref sig .tc) → Buf (Elt F) ((c : Thread nD τ).loc b))

/-- The table of the count. -/
abbrev nTab : Vec F S1 .i32 := a.1 1
/-- The count of used tiles. -/
abbrev nW : BitVec 32 := a.1.atD 1 ![0]

theorem nTab_eq (y : S1.Idx) : nTab a y = nW a := by
  refine Eq.trans ?_ (dif_pos (show ∀ b : Fin 1, (![0] : Fin 1 → ℕ) b + 1 ≤ S1.size b from by decide)).symm
  refine congrArg (nTab a) (funext fun b => Fin.ext ?_)
  obtain ⟨b, hb⟩ := b
  obtain rfl : b = 0 := by change b < 1 at hb; omega
  have h := (y ⟨0, hb⟩).isLt
  change (y ⟨0, hb⟩).val < 1 at h
  show (y ⟨0, hb⟩).val = 0
  omega

/-- Window `w`'s block at point `t`, read off its array as the region finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before_0_of {c : Dev nD} (dat : Dat τ (Elt F) Unit ℕ (UR sig nD τ) ℕ (cfg0 a) c) (hA : dat.A 0 = V c (Pipeline.arrRef spec0 0))
    (hafter : ∀ t, dat.after 0 t = iblk a V c 0 t) (t : Fin (cfg0 a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg0 a) c) (hA : dat.A 1 = V c (Pipeline.arrRef spec0 1))
    (hafter : ∀ t, dat.after 1 t = iblk a V c 1 t) (t : Fin (cfg0 a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfg0 a) c) (hA : dat.A 2 = V c (Pipeline.arrRef spec0 2))
    (hafter : ∀ t, dat.after 2 t = iblk a V c 2 t) (t : Fin (cfg0 a).N) (d) : dat.before 2 t d = iblk a V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfg0 a) c) (hA : dat.A 3 = V c (Pipeline.arrRef spec0 3))
    (hafter : ∀ t, dat.after 3 t = iblk a V c 3 t) (t : Fin (cfg0 a).N) (d) : dat.before 3 t d = iblk a V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (cfg0 a) c) (hA : dat.A 4 = V c (Pipeline.arrRef spec0 4))
    (hafter : ∀ t, dat.after 4 t = iblk a V c 4 t) (t : Fin (cfg0 a).N) (d) : dat.before 4 t d = iblk a V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem N_pos : 0 < grid0.N := by rw [N_0]; omega

/-- Tile `q` is used. -/
abbrev liveQ (q : ℕ) : Prop := Scalar.cmpi .slt (BitVec.ofNat 32 q) (nW a) = 1#1

/-- The slab of hidden activations point number `p` computes. -/
def hsl (c : Dev nD) (p : ℕ) : Vec F S1x1024x512 .bf16 :=
  hblk (iblk a V c 0 ⟨p % grid0.N, Nat.mod_lt _ N_pos⟩) (iblk a V c 1 ⟨p % grid0.N, Nat.mod_lt _ N_pos⟩) (iblk a V c 2 ⟨p % grid0.N, Nat.mod_lt _ N_pos⟩)

theorem hsl_eq (c : Dev nD) (t : Fin (cfg0 a).N) : hsl a V c t.val = hblk (iblk a V c 0 t) (iblk a V c 1 t) (iblk a V c 2 t) := by
  have e : (⟨t.val % grid0.N, Nat.mod_lt _ N_pos⟩ : Fin (cfg0 a).N) = t := Fin.ext (Nat.mod_eq_of_lt t.isLt)
  unfold hsl; rw [e]

/-- What the result window's buffer holds after a point that writes it. -/
def outAt (c : Dev nD) (t : Fin (cfg0 a).N) : Vec F S1024x512 .f32 :=
  haveI := Classical.propDecidable (liveQ a (t.val / 12))
  if liveQ a (t.val / 12) then
    outB (hsl a V c (12 * (t.val / 12))) (hsl a V c (12 * (t.val / 12) + 1)) (hsl a V c (12 * (t.val / 12) + 2)) (hsl a V c (12 * (t.val / 12) + 3))
      (iblk a V c 3 t) (iblk a V c 4 t)
  else outZ

/-- Before point `n` the slabs the used tile has written so far hold its hidden activations. -/
def Inv (c : Dev nD) (n : ℕ) (z : Vec F S4x1024x512 .bf16) : Prop :=
  ∀ k : Fin 4, k.val < n % 12 → liveQ a (n / 12) → View.ld z (rS k) = hsl a V c (12 * (n / 12) + k.val)

/-- The invariant before point `n`: the two tables, the generator register, and the scratch buffer. -/
def ΦM (c : Dev nD) (n : ℕ) : sProp (MM F) :=
  iprop((((c : Thread nD τ).loc main_arg1) ↦{fullShare} (show Buf (Elt F) ((c : Thread nD τ).loc main_arg1) from a.1 0))
    ∗ owns (c : Thread nD τ) (Memref.whole main_arg2) fullShare (nTab a)
    ∗ (∃ r, prngReg c r)
    ∗ ∃ z : Vec F S4x1024x512 .bf16, ⌜Inv a V c n z⌝ ∗ owns (c : Thread nD τ) (Memref.whole cc0_scratch0) fullShare z)

/-- The proof data of the experts call. -/
def dat (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => iblk a V c 4 t
    | ⟨5, _⟩ => outAt a V c t
  Φ t := ΦM a V c t.val
  q _ := fullShare
  owed _ := 0

theorem A_eq (c : Dev nD) (w : Fin (cfg0 a).W) : (dat a V c).A w = V c (Pipeline.arrRef spec0 w) := by
  dsimp only [dat]
theorem after_0 (c : Dev nD) (t : Fin (cfg0 a).N) : (dat a V c).after 0 t = iblk a V c 0 t := rfl
theorem after_1 (c : Dev nD) (t : Fin (cfg0 a).N) : (dat a V c).after 1 t = iblk a V c 1 t := rfl
theorem after_2 (c : Dev nD) (t : Fin (cfg0 a).N) : (dat a V c).after 2 t = iblk a V c 2 t := rfl
theorem after_3 (c : Dev nD) (t : Fin (cfg0 a).N) : (dat a V c).after 3 t = iblk a V c 3 t := rfl
theorem after_4 (c : Dev nD) (t : Fin (cfg0 a).N) : (dat a V c).after 4 t = iblk a V c 4 t := rfl
theorem after_5 (c : Dev nD) (t : Fin (cfg0 a).N) : (dat a V c).after 5 t = outAt a V c t := rfl
theorem before_0 (c : Dev nD) (t : Fin (cfg0 a).N) (d) : (dat a V c).before 0 t d = iblk a V c 0 t :=
  before_0_of a V (dat a V c) (A_eq a V c 0) (after_0 a V c) t d
theorem before_1 (c : Dev nD) (t : Fin (cfg0 a).N) (d) : (dat a V c).before 1 t d = iblk a V c 1 t :=
  before_1_of a V (dat a V c) (A_eq a V c 1) (after_1 a V c) t d
theorem before_2 (c : Dev nD) (t : Fin (cfg0 a).N) (d) : (dat a V c).before 2 t d = iblk a V c 2 t :=
  before_2_of a V (dat a V c) (A_eq a V c 2) (after_2 a V c) t d
theorem before_3 (c : Dev nD) (t : Fin (cfg0 a).N) (d) : (dat a V c).before 3 t d = iblk a V c 3 t :=
  before_3_of a V (dat a V c) (A_eq a V c 3) (after_3 a V c) t d
theorem before_4 (c : Dev nD) (t : Fin (cfg0 a).N) (d) : (dat a V c).before 4 t d = iblk a V c 4 t :=
  before_4_of a V (dat a V c) (A_eq a V c 4) (after_4 a V c) t d
abbrev st_0 (t : Fin (cfg0 a).N) := ((cfg0 a).win 0).stage ((cfg0 a).slots t 0)
abbrev st_1 (t : Fin (cfg0 a).N) := ((cfg0 a).win 1).stage ((cfg0 a).slots t 1)
abbrev st_2 (t : Fin (cfg0 a).N) := ((cfg0 a).win 2).stage ((cfg0 a).slots t 2)
abbrev st_3 (t : Fin (cfg0 a).N) := ((cfg0 a).win 3).stage ((cfg0 a).slots t 3)
abbrev st_4 (t : Fin (cfg0 a).N) := ((cfg0 a).win 4).stage ((cfg0 a).slots t 4)
abbrev st_5 (t : Fin (cfg0 a).N) := ((cfg0 a).win 5).stage ((cfg0 a).slots t 5)

/-- The body at point `t`. -/
abbrev bodyAt (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (Memref.whole cc0_scratch0) (Memref.isWhole_whole _)

theorem defs₀_row (t : Fin (cfg0 a).N) :
    defs₀ (F := F) .tc (cfg0 a).body ((cfg0 a).bodyArgs t ((cfg0 a).slots t)) = bodyAt a t := by
  unfold defs₀; rw [Defs.onTc_tc]

/-! ## When the result block is written back -/

theorem ix5 : ∀ t : Fin grid0.N, (cc0_transform_5 (grid0.coords t) 0 = t.val / 12 ∧ cc0_transform_5 (grid0.coords t) 1 = t.val % 12 - 4) := by decide +kernel

theorem flush5 (t : Fin (cfg0 a).N) (ht : t.val % 12 < 4) : ((cfg0 a).win 5).flush t = false := by
  have e : ((cfg0 a).win 5).flush t = (true && (decide (t.val + 1 = grid0.N) || decide (∃ h : t.val + 1 < grid0.N, cc0_transform_5 (grid0.coords ⟨t.val + 1, h⟩) ≠ cc0_transform_5 (grid0.coords t)))) := rfl
  have hN := N_0
  have hl := lt_N t
  rw [e, decide_eq_false (by omega), decide_eq_false]
  · rfl
  rintro ⟨h, hne⟩
  refine hne (funext fun b => ?_)
  have h1 := ix5 ⟨t.val + 1, h⟩
  have h2 := ix5 t
  dsimp only at h1
  obtain ⟨b, hb⟩ := b
  have : b = 0 ∨ b = 1 := by omega
  rcases this with rfl | rfl
  · refine h1.1.trans (Eq.trans ?_ h2.1.symm); omega
  · refine h1.2.trans (Eq.trans ?_ h2.2.symm); omega

end Regions
end Cert.Kernel3Ideal.Moe
-- ==== Proof.MoeObl.lean ====
module

public import proofs.«01_k».proof.Proof.MoeDat

/-! The body obligation of the experts call. -/

@[expose] public section
set_option maxRecDepth 16384
noncomputable section
namespace Cert.Kernel3Ideal.Moe
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg0 (F := F)).Adm)
variable (V : (c : Dev nD) → (b : Ref sig .tc) → Buf (Elt F) ((c : Thread nD τ).loc b))

theorem liveB_iff (t : Fin (cfg0 a).N) : liveB (grid0.coords t) (nW a) = 1#1 ↔ liveQ a (t.val / 12) := by
  unfold liveB liveQ; rw [(coords_eq t).1]

theorem outB_congr {h0 h1 h2 h3 g0 g1 g2 g3 : Vec F S1x1024x512 .bf16} (x3 : Vec F S1x2048x512 .bf16) (x4 : Vec F S1024x1 .f32)
    (e0 : h0 = g0) (e1 : h1 = g1) (e2 : h2 = g2) (e3 : h3 = g3) : outB h0 h1 h2 h3 x3 x4 = outB g0 g1 g2 g3 x3 x4 := by
  rw [e0, e1, e2, e3]

theorem Inv_keep (c : Dev nD) (t : ℕ) (z) (h : 4 ≤ t % 12 ∨ ¬ liveQ a (t / 12)) (hz : Inv a V c t z) : Inv a V c (t + 1) z := by
  intro k hk hl
  have h12 : (t + 1) / 12 = t / 12 := by omega
  rw [h12] at hl ⊢
  rcases h with h | h
  · exact hz k (by omega) hl
  · exact absurd hl h

theorem Inv_store (c : Dev nD) (t : Fin (cfg0 a).N) (z) (off : Fin 3 → Nat) (h : ∀ a, off a + S1x1024x512.size a ≤ S4x1024x512.size a)
    (ho : off = ![t.val % 12, 0, 0]) (hs : t.val % 12 < 4) (hz : Inv a V c t.val z) :
    Inv a V c (t.val + 1) ((Rect.unit (s := S4x1024x512) off S1x1024x512.size h).overlay z (hblk (iblk a V c 0 t) (iblk a V c 1 t) (iblk a V c 2 t))) := by
  subst ho
  rw [← hsl_eq]
  change Inv a V c (t.val + 1) ((rS ⟨t.val % 12, hs⟩).overlay z (hsl a V c t.val))
  intro k hk hl
  have h12 : (t.val + 1) / 12 = t.val / 12 := by omega
  rw [h12] at hl ⊢
  by_cases e : k = ⟨t.val % 12, hs⟩
  · subst e
    rw [ld_overlay_same]
    exact congrArg (hsl a V c) (show t.val = 12 * (t.val / 12) + t.val % 12 by omega)
  · rw [ld_overlay_ne _ _ _ e]
    have : k.val ≠ t.val % 12 := fun h => e (Fin.ext h)
    exact hz k (by omega) hl

/-- What the body leaves of the result window's buffer. -/
def post5 (c : Dev nD) (t : Fin (cfg0 a).N) : sProp (MM F) :=
  match (cfg0 a).idle 5 ((cfg0 a).grid.coords t) with
  | true =>
    match ((cfg0 a).win 5).flush t with
    | false => iprop(∃ d, owns (c : Thread nD τ) (st_5 a t) fullShare ((dat a V c).before 5 t d))
    | true => owns (c : Thread nD τ) (st_5 a t) fullShare ((dat a V c).after 5 t)
  | false => owns (c : Thread nD τ) (st_5 a t) fullShare ((dat a V c).after 5 t)

theorem idle5_eq (t : Fin (cfg0 a).N) : (cfg0 a).idle 5 ((cfg0 a).grid.coords t)
    = (!(k0_cond2 (grid0.coords t) (nW a) == 1#1) && !(k0_cond3 (grid0.coords t) (nW a) == 1#1)) := rfl

theorem post5_out (c : Dev nD) (t : Fin (cfg0 a).N) (h : (cfg0 a).idle 5 ((cfg0 a).grid.coords t) = false) :
    post5 a V c t = owns (c : Thread nD τ) (st_5 a t) fullShare (outAt a V c t) := by
  unfold post5; rw [h, after_5]

theorem post5_idle (c : Dev nD) (t : Fin (cfg0 a).N) (h : (cfg0 a).idle 5 ((cfg0 a).grid.coords t) = true) (hs : t.val % 12 < 4) :
    post5 a V c t = iprop(∃ d, owns (c : Thread nD τ) (st_5 a t) fullShare ((dat a V c).before 5 t d)) := by
  unfold post5; rw [h, flush5 a t hs]

/-- What the body is called with at point `t`. -/
def bodyPre (c : Dev nD) (t : Fin (cfg0 a).N) : sProp (MM F) :=
  iprop(ΦM a V c t.val ∗ (dat a V c).owesAt () t.castSucc
    ∗ (∃ d, owns (c : Thread nD τ) (st_0 a t) fullShare ((dat a V c).before 0 t d))
    ∗ (∃ d, owns (c : Thread nD τ) (st_1 a t) fullShare ((dat a V c).before 1 t d))
    ∗ (∃ d, owns (c : Thread nD τ) (st_2 a t) fullShare ((dat a V c).before 2 t d))
    ∗ (∃ d, owns (c : Thread nD τ) (st_3 a t) fullShare ((dat a V c).before 3 t d))
    ∗ (∃ d, owns (c : Thread nD τ) (st_4 a t) fullShare ((dat a V c).before 4 t d))
    ∗ (∃ d, owns (c : Thread nD τ) (st_5 a t) fullShare ((dat a V c).before 5 t d)))

/-- and what it returns. -/
def bodyPost (c : Dev nD) (t : Fin (cfg0 a).N) : sProp (MM F) :=
  iprop(ΦM a V c (t.val + 1) ∗ (dat a V c).owesAt () t.castSucc
    ∗ owns (c : Thread nD τ) (st_0 a t) fullShare (iblk a V c 0 t)
    ∗ owns (c : Thread nD τ) (st_1 a t) fullShare (iblk a V c 1 t)
    ∗ owns (c : Thread nD τ) (st_2 a t) fullShare (iblk a V c 2 t)
    ∗ owns (c : Thread nD τ) (st_3 a t) fullShare (iblk a V c 3 t)
    ∗ owns (c : Thread nD τ) (st_4 a t) fullShare (iblk a V c 4 t)
    ∗ post5 a V c t)

theorem sound_body (c : Dev nD) (t : Fin (cfg0 a).N) :
    bodyPre a V c t ⊢ wp frame (wpE (defs₀ (F := F)) Variants.none c none) Set.univ (bodyAt a t) (fun _ => bodyPost a V c t) := by
  have hc1 := cond1_iff (grid0.coords t) (nW a)
  have hc2 := cond2_iff (grid0.coords t) (nW a)
  have hc3 := cond3_iff (grid0.coords t) (nW a)
  rw [liveB_iff, (coords_eq t).2] at hc1 hc2
  rw [show (liveB (grid0.coords t) (nW a) ≠ 1#1) = ¬ liveQ a (t.val / 12) from propext (not_congr (liveB_iff a t)), (coords_eq t).2] at hc3
  have hoff := off2_eq (grid0.coords t)
  rw [(coords_eq t).2] at hoff
  have hidle := idle5_eq a t
  unfold bodyPre bodyPost bodyAt ΦM
  simp only [before_0, before_1, before_2, before_3, before_4]
  iintro ⟨⟨HT, Hn, Hp, %z, %hz, Hz⟩, Ho, ⟨%d0, H0⟩, ⟨%d1, H1⟩, ⟨%d2, H2⟩, ⟨%d3, H3⟩, ⟨%d4, H4⟩, ⟨%d5, H5⟩⟩
  by_cases hl : liveQ a (t.val / 12)
  · by_cases hs : t.val % 12 < 4
    · have h1 := hc1.2 ⟨hl, hs⟩
      have h2 : ¬ k0_cond2 (grid0.coords t) (nW a) = 1#1 := fun h => absurd (hc2.1 h).2 (by omega)
      have h3 : ¬ k0_cond3 (grid0.coords t) (nW a) = 1#1 := fun h => absurd (hc3.1 h).2 (by omega)
      rw [post5_idle a V c t (by rw [hidle]; simp [h2, h3]) hs]
      iapply (sound_A c Set.univ (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (nTab a) (iblk a V c 0 t) (iblk a V c 1 t) (iblk a V c 2 t) z (nW a) (nTab_eq a) h1 h2 h3 _)
      isplitl [Hn]; · iexact Hn
      isplitl [H0]; · iexact H0
      isplitl [H1]; · iexact H1
      isplitl [H2]; · iexact H2
      isplitl [Hz]; · iexact Hz
      iintro ⟨Hn, H0, H1, H2, Hz⟩
      isplitl [HT Hn Hp Hz]
      · isplitl [HT]; · iexact HT
        isplitl [Hn]; · iexact Hn
        isplitl [Hp]; · iexact Hp
        iexists _
        isplitr
        · ipureintro
          exact Inv_store a V c t z (k0_off2 (grid0.coords t)) (k0_off2_inb (grid0.coords t) (nW a) (chk (grid0.coords t) (nW a)) h1) hoff hs hz
        iexact Hz
      isplitl [Ho]; · iexact Ho
      isplitl [H0]; · iexact H0
      isplitl [H1]; · iexact H1
      isplitl [H2]; · iexact H2
      isplitl [H3]; · iexact H3
      isplitl [H4]; · iexact H4
      iexists _; iexact H5
    · have h1 : ¬ k0_cond1 (grid0.coords t) (nW a) = 1#1 := fun h => absurd (hc1.1 h).2 hs
      have h2 := hc2.2 ⟨hl, by omega⟩
      have h3 : ¬ k0_cond3 (grid0.coords t) (nW a) = 1#1 := fun h => (hc3.1 h).1 hl
      rw [post5_out a V c t (by rw [hidle]; simp [h2])]
      have hout : outB (View.ld z rS0) (View.ld z rS1) (View.ld z rS2) (View.ld z rS3) (iblk a V c 3 t) (iblk a V c 4 t) = outAt a V c t := by
        unfold outAt
        rw [if_pos hl]
        have e0 := hz 0 (show 0 < t.val % 12 by omega) hl
        have e1 := hz 1 (show 1 < t.val % 12 by omega) hl
        have e2 := hz 2 (show 2 < t.val % 12 by omega) hl
        have e3 := hz 3 (show 3 < t.val % 12 by omega) hl
        exact outB_congr _ _ e0 e1 e2 e3
      rw [← hout]
      iapply (sound_B c Set.univ (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (nTab a) (iblk a V c 3 t) (iblk a V c 4 t) z (nW a) (nTab_eq a) h1 h2 h3 _)
      isplitl [Hn]; · iexact Hn
      isplitl [H3]; · iexact H3
      isplitl [H4]; · iexact H4
      isplitl [Hz]; · iexact Hz
      isplitl [H5]; · iexists _; iexact H5
      iintro ⟨Hn, H3, H4, Hz, H5⟩
      isplitl [HT Hn Hp Hz]
      · isplitl [HT]; · iexact HT
        isplitl [Hn]; · iexact Hn
        isplitl [Hp]; · iexact Hp
        iexists _
        isplitr
        · ipureintro
          exact Inv_keep a V c t.val z (.inl (by omega)) hz
        iexact Hz
      isplitl [Ho]; · iexact Ho
      isplitl [H0]; · iexact H0
      isplitl [H1]; · iexact H1
      isplitl [H2]; · iexact H2
      isplitl [H3]; · iexact H3
      isplitl [H4]; · iexact H4
      iexact H5
  · have h1 : ¬ k0_cond1 (grid0.coords t) (nW a) = 1#1 := fun h => hl (hc1.1 h).1
    have h2 : ¬ k0_cond2 (grid0.coords t) (nW a) = 1#1 := fun h => hl (hc2.1 h).1
    by_cases hs : t.val % 12 < 4
    · have h3 : ¬ k0_cond3 (grid0.coords t) (nW a) = 1#1 := fun h => absurd (hc3.1 h).2 (by omega)
      rw [post5_idle a V c t (by rw [hidle]; simp [h2, h3]) hs]
      iapply (sound_D c Set.univ (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (nTab a) (nW a) (nTab_eq a) h1 h2 h3 _)
      isplitl [Hn]; · iexact Hn
      iintro Hn
      isplitl [HT Hn Hp Hz]
      · isplitl [HT]; · iexact HT
        isplitl [Hn]; · iexact Hn
        isplitl [Hp]; · iexact Hp
        iexists _
        isplitr
        · ipureintro
          exact Inv_keep a V c t.val z (.inr hl) hz
        iexact Hz
      isplitl [Ho]; · iexact Ho
      isplitl [H0]; · iexact H0
      isplitl [H1]; · iexact H1
      isplitl [H2]; · iexact H2
      isplitl [H3]; · iexact H3
      isplitl [H4]; · iexact H4
      iexists _; iexact H5
    · have h3 := hc3.2 ⟨hl, by omega⟩
      rw [post5_out a V c t (by rw [hidle]; simp [h3]), show outAt a V c t = outZ from by unfold outAt; rw [if_neg hl]]
      iapply (sound_C c Set.univ (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (nTab a) (nW a) (nTab_eq a) h1 h2 h3 _)
      isplitl [Hn]; · iexact Hn
      isplitl [H5]; · iexists _; iexact H5
      iintro ⟨Hn, H5⟩
      isplitl [HT Hn Hp Hz]
      · isplitl [HT]; · iexact HT
        isplitl [Hn]; · iexact Hn
        isplitl [Hp]; · iexact Hp
        iexists _
        isplitr
        · ipureintro
          exact Inv_keep a V c t.val z (.inr hl) hz
        iexact Hz
      isplitl [Ho]; · iexact Ho
      isplitl [H0]; · iexact H0
      isplitl [H1]; · iexact H1
      isplitl [H2]; · iexact H2
      isplitl [H3]; · iexact H3
      isplitl [H4]; · iexact H4
      iexact H5

/-- The body obligation at every point. -/
theorem body_obligation (c : Dev nD) : BodyObligation (dat a V c) (defs₀ (F := F)) Variants.none () Set.univ := fun t => by
  rw [bigSep_W0, bigSep_W0, defs₀_row]
  exact triple_restated (sound_body a V c t) rfl .rfl fun _ => .rfl

end Cert.Kernel3Ideal.Moe
-- ==== Proof.MoeRun.lean ====
module

public import proofs.«01_k».proof.Proof.MoeObl

/-! The run of the experts call, with what it leaves in every buffer. -/

@[expose] public section
set_option maxRecDepth 16384
noncomputable section
namespace Cert.Kernel3Ideal.Moe
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
variable (a : (pcfg0 (F := F)).Adm)

/-! ## The buffers' contents at each boundary -/

theorem hostOps0_fresh : (hostOps0 : List (HloOp τ sig (Elt F))).Forall fun op => op.fresh = ∅ := by
  simp only [List.Forall]; repeat' constructor
/-- What the host operations write, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl

/-- At launch. -/
abbrev W0 : Dev nD → Valuation τ sig (Elt F) := fun c b => m ((c : Dev nD), b)
/-- After the host operations. -/
abbrev W1 : Dev nD → Valuation τ sig (Elt F) := fun c => StableHlo.after hostOps0 (W0 m c)
theorem W1_of (c : Dev nD) (r : Ref sig .tc) (h : r ∉ hostOps0_W) : W1 m c (Proc.devRef .tc r) = m ((c : Thread nD τ).loc r) :=
  StableHlo.after_of_writes_sub hostOps0 _ hostOps0_writes h
/-- The same at the TensorCore's references. -/
abbrev V1 : (c : Dev nD) → (b : Ref sig .tc) → Buf (Elt F) ((c : Thread nD τ).loc b) := fun c b => W1 m c b
/-- After the call. -/
def W2 (c : Dev nD) : Valuation τ sig (Elt F) :=
  Pipeline.withArrays spec0 c (W1 m c) fun w => (dat a (V1 m) c).arrAt w (cfg0 a).N
theorem W2_arr (c : Dev nD) (w : Fin (cfg0 a).W) :
    W2 m a c (Proc.devRef .tc (Pipeline.arrRef spec0 w)) = (dat a (V1 m) c).arrAt w (cfg0 a).N := by
  unfold W2; exact Pipeline.withArrays_arr spec0 winFacts0.arr_inj c _ _ w
theorem W2_of_ne (c : Dev nD) (b : Ref sig .tc) (hb : ∀ w, Pipeline.arrRef spec0 w ≠ b) :
    W2 m a c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m a c b
theorem hF0 (c : Dev nD) (w : Fin (cfg0 a).W) : (dat a (V1 m) c).arrAt w (cfg0 a).N = V2 m a c (Pipeline.arrRef spec0 w) :=
  (W2_arr m a c w).symm
theorem hrest0 (c : Dev nD) : ∀ b, b ∉ Finset.univ.image (Pipeline.arrRef spec0) → V2 m a c b = V1 m c b :=
  fun b hb => W2_of_ne m a c b fun w e => hb (Finset.mem_image.mpr ⟨w, Finset.mem_univ _, e⟩)

/-! ## The proof data and the thread state -/

abbrev adm : (p : Fin 1) → (pcfgs (F := F) p).Adm := fun _ => a
def pdats : (p : Fin 1) → (c : Dev nD) → Dat τ (Elt F) Unit ℕ (UR sig nD τ) ℕ (Pipeline.pin (pcfgs (F := F)) (adm a) p) c
  | ⟨0, _⟩ => fun c => dat a (V1 m) c
abbrev 𝒱₀ : Variants := Variants.none
abbrev L : GSem nD τ sig → Finset Unit := fun _ => ∅
abbrev lv : GSem nD τ sig → Unit → ℕ := fun _ _ => 0
abbrev R (c : Dev nD) : sProp (MM F) := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp (MM F) := iprop(StableHlo.held (c : Thread nD τ) (Pipeline.ucRefs τ sig) (W2 m a c) ∗ ∃ r, prngReg c r)

/-- The two tables, one by one. -/
theorem prefHeld_two (c : Dev nD) (v : pre0.Contents (Elt F)) :
    (Pipeline.prefHeld pre0 c (fun _ => fullShare) v : sProp (MM F))
      = iprop((((c : Thread nD τ).loc main_arg1) ↦{fullShare} (show Buf (Elt F) ((c : Thread nD τ).loc main_arg1) from v 0))
        ∗ (((c : Thread nD τ).loc main_arg2) ↦{fullShare} (show Buf (Elt F) ((c : Thread nD τ).loc main_arg2) from v 1))) := by
  unfold Pipeline.prefHeld
  rw [show (Finset.univ : Finset (Fin 2)) = insert 0 {1} from by decide, BI.bigSep_insert (by decide), BI.bigSep_singleton]
  rfl

variable (ha : ∀ (c : Dev nD) (k : Fin pre0.K), m ((c : Thread nD τ).loc (pre0.ref k)) = a.1 k)

include ha in
theorem tables (c : Dev nD) : (fun k => V1 m c (pre0.ref k)) = a.1 := funext fun k =>
  (W1_of m c (pre0.ref k) (by revert k; decide)).trans (ha c k)

theorem Φ_zero (c : Dev nD) : (pdats m a 0 c).Φ 0 = ΦM a (V1 m) c 0 := rfl
theorem Φ_last (c : Dev nD) : (pdats m a 0 c).Φ (Fin.last _) = ΦM a (V1 m) c grid0.N := rfl

include ha in
theorem tables_split (c : Dev nD) : (Pipeline.unscopedRest spec0 c (V1 m c) : sProp (MM F))
    = iprop(Pipeline.prefHeld pre0 c (fun _ => fullShare) a.1 ∗ Pipeline.unscopedRestP pre0 spec0 c (V1 m c)) :=
  (Pipeline.unscopedRest_split preFacts0 c (V1 m c)).trans (by rw [tables m a ha c])

include ha in
theorem tables_out (c : Dev nD) : (Pipeline.unscopedRest spec0 c (V1 m c) : sProp (MM F))
    ⊢ iprop(Pipeline.prefHeld pre0 c (fun _ => fullShare) a.1 ∗ Pipeline.unscopedRestP pre0 spec0 c (V1 m c)) := by
  rw [tables_split m a ha c]

include ha in
theorem tables_in (c : Dev nD) : iprop(Pipeline.prefHeld pre0 c (fun _ => fullShare) a.1 ∗ Pipeline.unscopedRestP pre0 spec0 c (V1 m c))
    ⊢ (Pipeline.unscopedRest spec0 c (V1 m c) : sProp (MM F)) := by
  rw [tables_split m a ha c]

/-- The invariant at the first point. -/
theorem Φ_intro (c : Dev nD) : iprop((∃ r, prngReg c r) ∗ Pipeline.prefHeld pre0 c (fun _ => fullShare) a.1 ∗ Pipeline.scopedRest spec0 c)
    ⊢ ΦM a (V1 m) c 0 := by
  unfold ΦM
  rw [scopedRest0_eq, prefHeld_two]
  iintro ⟨Hp, ⟨H1, H2⟩, %f, Hf⟩
  isplitl [H1]; · iexact H1
  isplitl [H2]
  · rw [owns_whole]; iexact H2
  isplitl [Hp]; · iexact Hp
  iexists f
  isplitr
  · ipureintro; exact fun k hk => absurd hk (Nat.not_lt_zero _)
  rw [owns_whole]
  iexact Hf

/-- What the invariant gives back at any point. -/
theorem Φ_elim (c : Dev nD) (n : ℕ) : ΦM a (V1 m) c n
    ⊢ iprop(((∃ r, prngReg c r) ∗ Pipeline.prefHeld pre0 c (fun _ => fullShare) a.1) ∗ BI.emp ∗ Pipeline.scopedRest spec0 c) := by
  unfold ΦM
  rw [scopedRest0_eq, prefHeld_two]
  rw [owns_whole]
  iintro ⟨H1, H2, Hp, %z, -, Hz⟩
  isplitl [Hp H1 H2]
  · isplitl [Hp]; · iexact Hp
    isplitl [H1]; · iexact H1
    iexact H2
  isplitr; · iempintro
  iexists z
  iapply (show owns (c : Thread nD τ) (Memref.whole cc0_scratch0) fullShare z ⊢ (((c : Thread nD τ).loc cc0_scratch0) ↦{fullShare} z : sProp (MM F)) from by rw [owns_whole])
  iexact Hz

set_option backward.isDefEq.respectTransparency.types false in
/-- The call as a segment. -/
def reg0 : Pipeline.RegionSeg (pcfgs (F := F)) (adm a) (pdats m a) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation a (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(Tₙ m a c ∗ ∃ W, owes (c : Thread nD τ) (0 : CellTallies nD τ sig Unit) W)
  X c := iprop(∃ r, prngReg c r)
  Y c := iprop((∃ r, prngReg c r) ∗ Pipeline.prefHeld pre0 c (fun _ => fullShare) a.1)
  Z c := Pipeline.unscopedRestP (Ix := Unit) (Name := ℕ) (U := UR sig nD τ) (Lvl := ℕ) pre0 spec0 c (V1 m c)
  hentry c := by
    rw [Pipeline.ownSems0_none]
    have hsplit := Pipeline.arrays_of_unscopedBufs (p := 0) (pcfgs (F := F)) (adm a) (pdats m a) (launch0 (F := F)).win (launch0 (F := F)).arr_whole c
      ((pdats m a 0 c).share_full fun _ => rfl) (V1 m c) (A_eq a (V1 m) c)
    rw [Pipeline.unscopedBufs_held] at hsplit
    iintro ⟨⟨Hub, Hp, HO⟩, -, -⟩
    ihave H := hsplit $$ Hub
    icases H with ⟨Ha, Hrest⟩
    ihave H' := (tables_out m a ha c) $$ Hrest
    icases H' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [Φ_zero]; exact Φ_intro m a c
  hout c := by
    rw [Pipeline.ownSems0_none, Φ_last]; exact Φ_elim m a c _
  hexit c := by
    have hjoin := Pipeline.unscopedBufs_of_arrays (p := 0) (pcfgs (F := F)) (adm a) (Ix := Unit) (Name := ℕ) (U := UR sig nD τ) (Lvl := ℕ)
      (launch0 (F := F)).win (launch0 (F := F)).arr_whole c (pdats m a) ((pdats m a 0 c).share_full fun _ => rfl)
      (V1 m c) (V2 m a c) ((pdats m a 0 c).arrAt · (cfg0 a).N) (hF0 m a c) (hrest0 m a c)
    rw [Pipeline.unscopedBufs_held] at hjoin
    iintro ⟨Ha, HO, ⟨HY, Ht⟩, Hrest⟩
    imodintro
    isplitl [Ha Hrest Ht HY]
    · isplitl [Ha Hrest Ht]
      · iapply hjoin
        isplitl [Ha]; · iexact Ha
        iapply (tables_in m a ha c)
        isplitl [Ht] <;> iassumption
      iexact HY
    unfold Pipeline.Dat.owesAt Pipeline.owesWithin
    icases HO with ⟨%W, -, HO⟩; iexists W; iexact HO

/-- The program's segments. -/
abbrev segs : List (Pipeline.Seg (pcfgs (F := F)) (adm a) (pdats m a) () defs₀ 𝒱₀ L lv) :=
  [ .host (hseg hostOps0 hostOps0_sub hostOps0_fresh (W0 m)), .region (reg0 m a ha) ]

theorem main_run (c : Dev nD) : main (F := F) c = Pipeline.Seg.run (segs m a ha) := (main_chain c).trans (by chain_rfl)

theorem no_unscoped : ∀ sm : SemLoc sig, sm.isScoped .tc = true := by decide

set_option backward.isDefEq.respectTransparency.types false in
include ha in
/-- Every run ends with each buffer of the program holding its contents after the call, and every counter at zero. -/
theorem run : θ_run defs (onTc (τ := τ) (main (F := F))) ⟨m, fun _ => 0, ρ⟩ (fun r => (∀ c : Dev nD,
      ∀ b ∈ Pipeline.ucRefs τ sig, r.2.mem ((c : Thread nD τ).1, b) = W2 m a c b) ∧ r.2.sem = fun _ => 0) :=
  Pipeline.θ_run_regions_kit_sems (pcfgs (F := F)) (adm a) (pdats m a) () (cellOf_inj (adm a)) emb₁ defs₀ 𝒱₀ L lv m ρ main (segs m a ha)
    (fun c Q => by rw [main_run m a ha c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a)) (cellOf_inj (adm a))) (Pipeline.launchToks (Pipeline.pin (pcfgs (F := F)) (adm a)) (cellOf_inj (adm a))))
    (hu₀ := by
      iintro Hu; imodintro
      isplitl [Hu]
      · iapply (show (ownU (initOf (Pipeline.cells (Pipeline.pin (pcfgs (F := F)) (adm a)) (cellOf_inj (adm a))) (Pipeline.launchToks (Pipeline.pin (pcfgs (F := F)) (adm a)) (cellOf_inj (adm a)))) : sProp (MM F))
            ⊢ BI.own (emb₁ (initOf (Pipeline.cells (Pipeline.pin (pcfgs (F := F)) (adm a)) (cellOf_inj (adm a))) (Pipeline.launchToks (Pipeline.pin (pcfgs (F := F)) (adm a)) (cellOf_inj (adm a))))) from .rfl)
        iexact Hu
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (W0 m c) ∗ R c)) (Tₙ := Tₙ m a)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m a c b)
    (hfin := fun c s' => by
      iintro ⟨⟨Hh, -⟩, HSI⟩
      unfold StableHlo.held
      imodintro
      iapply (pointsTo_read_all (Pipeline.ucRefs τ sig) (fun b => (((c : Thread nD τ)).1, b)) (W2 m a c) s')
      isplitl [Hh] <;> iassumption)
    (hQ := fun s h hz => ⟨h, funext fun g => hz g (.inr (no_unscoped g.2))⟩)

theorem W2_arg (c : Dev nD) (r : Ref sig .tc) (h : ∀ w, Pipeline.arrRef spec0 w ≠ r) (h' : r ∉ hostOps0_W) :
    W2 m a c (Proc.devRef .tc r) = m ((c : Thread nD τ).loc r) := (W2_of_ne m a c r h).trans (W1_of m c r h')

include ha in
/-- Every run ends with the result buffer as after the call, the arguments unchanged, and every counter at zero. -/
theorem run_result : θ_run defs (onTc (τ := τ) (main (F := F))) ⟨m, fun _ => 0, ρ⟩ (fun r => (∀ c : Dev nD,
      r.2.mem ((c.tc : Thread nD τ).loc main_v5) = (dat a (V1 m) c).arrAt 5 (cfg0 a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1 c _ (mem_uc main_v5 (by decide))).trans (W2_arr m a c 5),
     (h.1 c _ (mem_uc main_arg0 (by decide))).trans (W2_arg m a c main_arg0 (by decide) (by decide)),
     (h.1 c _ (mem_uc main_arg1 (by decide))).trans (W2_arg m a c main_arg1 (by decide) (by decide)),
     (h.1 c _ (mem_uc main_arg2 (by decide))).trans (W2_arg m a c main_arg2 (by decide) (by decide)),
     (h.1 c _ (mem_uc main_arg3 (by decide))).trans (W2_arg m a c main_arg3 (by decide) (by decide)),
     (h.1 c _ (mem_uc main_arg4 (by decide))).trans (W2_arg m a c main_arg4 (by decide) (by decide)),
     (h.1 c _ (mem_uc main_arg5 (by decide))).trans (W2_arg m a c main_arg5 (by decide) (by decide)),
     (h.1 c _ (mem_uc main_arg6 (by decide))).trans (W2_arg m a c main_arg6 (by decide) (by decide))⟩, h.2⟩) (run m ρ a ha)

end Cert.Kernel3Ideal.Moe
-- ==== Proof.MoeOk.lean ====
module

public import proofs.«01_k».proof.Proof.MoeRun
public import proofs.«01_k».proof.Proof.Gen.Pre_routed
public import Idealize.ShloMosaic.Lib.ReduceAll
public import Idealize.ShloMosaic.Lib.Pointwise

/-! Tables in their ranges keep every block of the experts call inside its array, and what the block indices then are. -/

@[expose] public section
set_option maxRecDepth 16384
noncomputable section
namespace Cert.Kernel3Ideal.Moe
open Cert.Kernel3Ideal Cert.Kernel3Ideal.Gen
open Idealize.ShloMosaic Idealize.ShloMosaic.TcCoe

variable {F : FTy → Type} [FloatOps F]

/-! ## Block indices as words -/

theorem cap_eq : ∀ (i : Fin 32) (n : Fin 33), 1 ≤ n.val →
    (Scalar.minsi (BitVec.ofNat 32 i.val) (Scalar.subi (BitVec.ofNat 32 n.val) 1#32)).toNat = min i.val (n.val - 1) := by decide +kernel

theorem lt_eq : ∀ (i : Fin 32) (n : Fin 33), Scalar.cmpi .slt (BitVec.ofNat 32 i.val) (BitVec.ofNat 32 n.val) = 1#1 ↔ i.val < n.val := by
  decide +kernel

theorem up_eq : ∀ (b : BitVec 1) (j : Fin 12), (Scalar.select b (Scalar.minsi (BitVec.ofNat 32 j.val) 3#32) 3#32).toNat
    = if b = 1#1 then min j.val 3 else 3 := by decide +kernel

theorem down_eq : ∀ (b : BitVec 1) (j : Fin 12),
    (Scalar.select b (Scalar.minsi 7#32 (Scalar.maxsi 0#32 (Scalar.subi (BitVec.ofNat 32 j.val) 4#32))) 7#32).toNat
    = if b = 1#1 then j.val - 4 else 7 := by decide +kernel

theorem vec2 {a a' b b' : ℕ} (h : a = a') (k : b = b') : ![a, b] = ![a', b'] := by rw [h, k]
theorem vec3 {a a' b b' c c' : ℕ} (h : a = a') (k : b = b') (l : c = c') : ![a, b, c] = ![a', b', c'] := by rw [h, k, l]

/-- The table of experts. -/
abbrev T0 (pf : pre0.Contents (Elt F)) : IVec S32 32 := pf 0
/-- The table of the count. -/
abbrev T1 (pf : pre0.Contents (Elt F)) : IVec S1 32 := pf 1
/-- The expert of tile `q`. -/
def teN (pf : pre0.Contents (Elt F)) (q : Fin 32) : BitVec 32 := T0 pf (ix1 q)
/-- The count of used tiles. -/
def nuN (pf : pre0.Contents (Elt F)) : BitVec 32 := T1 pf (ix1 0)

theorem at1 (pf : pre0.Contents (Elt F)) (h) (h1) : pf.at 1 (Rect.unit (s := S1) ![0] S1.size h) h1 = nuN pf := by
  refine congrArg (T1 pf) (funext fun b => Fin.ext ?_)
  obtain ⟨b, hb⟩ := b
  obtain rfl : b = 0 := by change b < 1 at hb; omega
  rfl

theorem cast_toNat : ∀ q : Fin 32, (Scalar.indexCast (BitVec.ofNat 32 q.val)).toNat = q.val := by decide +kernel

theorem at0 (pf : pre0.Contents (Elt F)) (i : grid0.Coords) (h) (h1) :
    pf.at 0 (Rect.unit (s := S32) ![(Scalar.indexCast (BitVec.ofNat 32 (i 0).val)).toNat] S1.size h) h1 = teN pf (i 0) := by
  refine congrArg (T0 pf) (funext fun b => Fin.ext ?_)
  obtain ⟨b, hb⟩ := b
  obtain rfl : b = 0 := by change b < 1 at hb; omega
  exact cast_toNat (i 0)

/-- The tables' ranges. -/
structure InRange (pf : pre0.Contents (Elt F)) : Prop where
  te : ∀ q, (teN pf q).toNat < 8
  nu : 1 ≤ (nuN pf).toNat ∧ (nuN pf).toNat ≤ 32

section
variable (pf : pre0.Contents (Elt F)) (hr : InRange pf) (i : grid0.Coords)

theorem nu_eq : nuN pf = BitVec.ofNat 32 (nuN pf).toNat := by simp

include hr in
theorem live_iff : Scalar.cmpi .slt (BitVec.ofNat 32 (i 0).val) (nuN pf) = 1#1 ↔ (i 0).val < (nuN pf).toNat := by
  have h := lt_eq (i 0) ⟨(nuN pf).toNat, by have := hr.nu.2; omega⟩
  rw [nu_eq pf]
  simpa using h

include hr in
theorem t0_eq (h) (h1) : cc0_transform_0 h h1 pf i = ![min (i 0).val ((nuN pf).toNat - 1), 0] := by
  have e := cap_eq (i 0) ⟨(nuN pf).toNat, by have := hr.nu.2; omega⟩ hr.nu.1
  rw [← nu_eq pf] at e
  exact vec2 ((congrArg (fun w => (Scalar.minsi (BitVec.ofNat 32 (i 0).val) (Scalar.subi w 1#32)).toNat) (at1 pf _ _)).trans e) rfl

include hr in
theorem t4_eq (h) (h1) : cc0_transform_4 h h1 pf i = ![min (i 0).val ((nuN pf).toNat - 1), 0] := t0_eq pf hr i h h1

/-- The column block of the first two products. -/
def upN (n : ℕ) : ℕ := if (i 0).val < n then min (i 1).val 3 else 3
/-- The column block of the last product. -/
def downN (n : ℕ) : ℕ := if (i 0).val < n then (i 1).val - 4 else 7

include hr in
theorem t1_eq (h) (h1) (h2) : cc0_transform_1 h h1 h2 pf i = ![(teN pf (i 0)).toNat, 0, upN i (nuN pf).toNat] := by
  refine vec3 (congrArg BitVec.toNat (at0 pf i _ _)) rfl ?_
  refine (congrArg (fun w => (Scalar.select (Scalar.cmpi .slt (BitVec.ofNat 32 (i 0).val) w) (Scalar.minsi (BitVec.ofNat 32 (i 1).val) 3#32) 3#32).toNat)
    (at1 pf _ _)).trans ((up_eq _ (i 1)).trans ?_)
  exact if_congr (live_iff pf hr i) rfl rfl

include hr in
theorem t2_eq (h) (h1) (h2) : cc0_transform_2 h h1 h2 pf i = ![(teN pf (i 0)).toNat, 0, upN i (nuN pf).toNat] := t1_eq pf hr i h h1 h2

include hr in
theorem t3_eq (h) (h1) (h2) : cc0_transform_3 h h1 h2 pf i = ![(teN pf (i 0)).toNat, 0, downN i (nuN pf).toNat] := by
  refine vec3 (congrArg BitVec.toNat (at0 pf i _ _)) rfl ?_
  refine (congrArg (fun w => (Scalar.select (Scalar.cmpi .slt (BitVec.ofNat 32 (i 0).val) w)
      (Scalar.minsi 7#32 (Scalar.maxsi 0#32 (Scalar.subi (BitVec.ofNat 32 (i 1).val) 4#32))) 7#32).toNat)
    (at1 pf _ _)).trans ((down_eq _ (i 1)).trans ?_)
  exact if_congr (live_iff pf hr i) rfl rfl

theorem upN_lt (n : ℕ) : upN i n < 4 := by unfold upN; split <;> omega
theorem downN_lt (n : ℕ) : downN i n < 8 := by have := (i 1).isLt; change (i 1).val < 12 at this; unfold downN; split <;> omega

theorem lt2 {a b x y X Y : ℕ} (h : (a + 1) * x ≤ X) (k : (b + 1) * y ≤ Y) : ∀ c : Fin 2, (![a, b] c + 1) * (![x, y] : Fin 2 → ℕ) c ≤ (![X, Y] : Fin 2 → ℕ) c
  | ⟨0, _⟩ => h
  | ⟨1, _⟩ => k
theorem lt3 {a b d x y z X Y Z : ℕ} (h : (a + 1) * x ≤ X) (k : (b + 1) * y ≤ Y) (l : (d + 1) * z ≤ Z) :
    ∀ c : Fin 3, (![a, b, d] c + 1) * (![x, y, z] : Fin 3 → ℕ) c ≤ (![X, Y, Z] : Fin 3 → ℕ) c
  | ⟨0, _⟩ => h
  | ⟨1, _⟩ => k
  | ⟨2, _⟩ => l

include hr in
/-- Tables in their ranges keep every block inside its array. -/
theorem ok_of : ok0 pf := by
  have l0 : ∀ i : grid0.Coords, (i 0).val < 32 := fun i => (i 0).isLt
  have hn := hr.nu
  have b0 : ∀ (i : grid0.Coords) a, (cc0_transform_0 inb_S1_S1_0 numel1_S1 pf i a + 1) * S1024x4096.size a ≤ S32768x4096.size a := fun i => by
    rw [t0_eq pf hr i]; have := l0 i; exact lt2 (by omega) (by omega)
  have b4 : ∀ (i : grid0.Coords) a, (cc0_transform_4 inb_S1_S1_0 numel1_S1 pf i a + 1) * S1024x1.size a ≤ S32768x1.size a := fun i => by
    rw [t4_eq pf hr i]; have := l0 i; exact lt2 (by omega) (by omega)
  have b1 : ∀ (i : grid0.Coords) a, (cc0_transform_1 k0_off1_inb numel1_S1 inb_S1_S1_0 pf i a + 1) * S1x4096x512.size a ≤ S8x4096x2048.size a := fun i => by
    rw [t1_eq pf hr i]; have := hr.te (i 0); have := upN_lt i (nuN pf).toNat; exact lt3 (by omega) (by omega) (by omega)
  have b3 : ∀ (i : grid0.Coords) a, (cc0_transform_3 k0_off1_inb numel1_S1 inb_S1_S1_0 pf i a + 1) * S1x2048x512.size a ≤ S8x2048x4096.size a := fun i => by
    rw [t3_eq pf hr i]; have := hr.te (i 0); have := downN_lt i (nuN pf).toNat; exact lt3 (by omega) (by omega) (by omega)
  refine ⟨fun i => ⟨b0 i, .inr (.inl (.inr ⟨by decide, rfl, .inl ⟨?_, ?_⟩⟩))⟩, fun i => ⟨b1 i, .inr (.inr ⟨by decide, rfl, rfl, rfl⟩)⟩,
    fun i => ⟨b1 i, .inr (.inr ⟨by decide, rfl, rfl, rfl⟩)⟩, fun i => ⟨b3 i, .inr (.inr ⟨by decide, rfl, rfl, rfl⟩)⟩, fun i => ⟨b4 i, .inl rfl⟩⟩
  · exact Dvd.dvd.mul_left (show 2 ∣ 1024 by decide) _
  · exact (show 2 ∣ 1024 by decide)
end

/-! ## The precondition, read -/

instance : Subsingleton Cert.Pre_routed.S_.Idx := ⟨fun a b => funext fun k => k.elim0⟩

theorem ge_of (x : BitVec 32) (h : Scalar.cmpi .sge x 0#32 = 1#1) (k : Scalar.cmpi .slt x 8#32 = 1#1) : x.toNat < 8 := by
  have h' : BitVec.ofBool ((0#32).sle x) = 1#1 := h
  have k' : BitVec.ofBool (x.slt 8#32) = 1#1 := k
  have h2 : (0#32).sle x = true := by cases e : (0#32).sle x <;> simp_all
  have k2 : x.slt 8#32 = true := by cases e : x.slt 8#32 <;> simp_all
  simp only [BitVec.sle, BitVec.slt, decide_eq_true_eq] at h2 k2
  rw [show (0#32).toInt = 0 from rfl] at h2
  rw [show (8#32).toInt = 8 from rfl] at k2
  have := BitVec.toInt_eq_toNat_cond x
  have := x.isLt
  split at * <;> omega

theorem nu_of (x : BitVec 32) (h : Scalar.cmpi .sge x 1#32 = 1#1) (k : Scalar.cmpi .sle x 32#32 = 1#1) : 1 ≤ x.toNat ∧ x.toNat ≤ 32 := by
  have h' : BitVec.ofBool ((1#32).sle x) = 1#1 := h
  have k' : BitVec.ofBool (x.sle 32#32) = 1#1 := k
  have h2 : (1#32).sle x = true := by cases e : (1#32).sle x <;> simp_all
  have k2 : x.sle 32#32 = true := by cases e : x.sle 32#32 <;> simp_all
  simp only [BitVec.sle, decide_eq_true_eq] at h2 k2
  rw [show (1#32).toInt = 1 from rfl] at h2
  rw [show (32#32).toInt = 32 from rfl] at k2
  have := BitVec.toInt_eq_toNat_cond x
  have := x.isLt
  split at * <;> omega

/-- The precondition, read: the tables are in their ranges. -/
theorem ranges (x0 : FVec F Cert.Pre_routed.S32768x4096 .f32) (x1 : IVec S32 32) (x2 : IVec S1 32) (x3 : FVec F Cert.Pre_routed.S32768 .f32)
    (x4 x5 : FVec F Cert.Pre_routed.S8x4096x2048 .f32) (x6 : FVec F Cert.Pre_routed.S8x2048x4096 .f32)
    (h : Cert.Pre_routed.fn (F := F) x0 x1 x2 x3 x4 x5 x6 = fun _ => 1#1) :
    (∀ i, (x1 i).toNat < 8) ∧ ∀ i, 1 ≤ (x2 i).toNat ∧ (x2 i).toNat ≤ 32 := by
  have h' := congrFun h (fun k => k.elim0)
  dsimp only [Cert.Pre_routed.fn] at h'
  obtain ⟨h', h4⟩ := IntOp.andi_eq_one.mp h'
  obtain ⟨h', h3⟩ := IntOp.andi_eq_one.mp h'
  obtain ⟨h1, h2⟩ := IntOp.andi_eq_one.mp h'
  exact ⟨fun i => ge_of _ (Host.reduce_andi_all _ _ _ _ _ h1 i) (Host.reduce_andi_all _ _ _ _ _ h2 i),
    fun i => nu_of _ (Host.reduce_andi_all _ _ _ _ _ h3 i) (Host.reduce_andi_all _ _ _ _ _ h4 i)⟩

/-! ## The tables as the region reads them -/

section
variable (m : (ℓ : Loc nD τ sig) → Buf (Elt F) ℓ)

/-- The tables at launch. -/
def tabs : pre0.Contents (Elt F) := fun k => m (((⟨0, by decide⟩ : Dev nD) : Thread nD τ).loc (pre0.ref k))

theorem tabs_eq (c : Dev nD) (k : Fin pre0.K) : m ((c : Thread nD τ).loc (pre0.ref k)) = tabs m k := by
  obtain rfl : c = ⟨0, by decide⟩ := Subsingleton.elim _ _
  rfl

theorem tabs_inRange (x0 : FVec F Cert.Pre_routed.S32768x4096 .f32) (x3 : FVec F Cert.Pre_routed.S32768 .f32)
    (x4 x5 : FVec F Cert.Pre_routed.S8x4096x2048 .f32) (x6 : FVec F Cert.Pre_routed.S8x2048x4096 .f32)
    (h : Cert.Pre_routed.fn (F := F) x0 (m (((⟨0, by decide⟩ : Dev nD) : Thread nD τ).loc main_arg1)) (m (((⟨0, by decide⟩ : Dev nD) : Thread nD τ).loc main_arg2))
      x3 x4 x5 x6 = fun _ => 1#1) : InRange (tabs m) :=
  ⟨fun q => (ranges _ _ _ _ _ _ _ h).1 _, (ranges _ _ _ _ _ _ _ h).2 _⟩

/-- The tables at launch, with their blocks inside the arrays. -/
def admOf (hr : InRange (tabs m)) : (pcfg0 (F := F)).Adm := ⟨tabs m, ok_of _ hr⟩
end

end Cert.Kernel3Ideal.Moe
-- ==== Proof.MoeValue.lean ====
module

public import proofs.«01_k».proof.Proof.MoeOk
public import Idealize.ShloMosaic.Lib.Pipeline.Value
public import Idealize.ShloMosaic.Lib.Pipeline.ValueKit
public import Idealize.ShloMosaic.Lib.StableHlo.RunRead
public import Idealize.ShloMosaic.Lib.UnfoldOut

/-! What the experts call leaves in its result, element by element. -/

@[expose] public section
set_option maxRecDepth 16384
noncomputable section
namespace Cert.Kernel3Ideal.Moe
open Cert.Kernel3Ideal Cert.Kernel3Ideal.Gen
open Idealize.ShloMosaic Idealize.ShloMosaic.TcCoe Idealize.SL.Sem

/-- One hidden unit: the first product through the gate, times the second. -/
def unit (x w1 w2 : Fin 4096 → EReal) : EReal :=
  (∑ k, x k * w1 k) * Ideal.logistic (∑ k, x k * w1 k) * ∑ k, x k * w2 k

/-- One block of hidden activations, element by element. -/
theorem hblk_at (x0 : Vec Ideal S1024x4096 .bf16) (x1 x2 : Vec Ideal S1x4096x512 .bf16) (z : Fin 1) (p : Fin 1024) (j : Fin 512) :
    hblk (F := Ideal) x0 x1 x2 (ix3 z p j) =
      unit (fun k => x0 (ix2 p k)) (fun k => x1 (ix3 (0 : Fin 1) k j)) (fun k => x2 (ix3 (0 : Fin 1) k j)) := by
  unfold hblk
  pointwise [k0_pay1, unit]

/-- The result block of an unused tile. -/
theorem outZ_at (y : S1024x512.Idx) : outZ (F := Ideal) y = (0 : EReal) := by
  unfold outZ
  canon_tiles y h
  pointwise [k0_pay2]

/-- The result block of a used tile, element by element. -/
theorem outB_at (h0 h1 h2 h3 : Vec Ideal S1x1024x512 .bf16) (x3 : Vec Ideal S1x2048x512 .bf16) (x4 : Vec Ideal S1024x1 .f32) (y : S1024x512.Idx) :
    outB (F := Ideal) h0 h1 h2 h3 x3 x4 y = x4 (ix2 (y 0) (0 : Fin 1)) *
      ((∑ k : Fin 512, h0 (ix3 (0 : Fin 1) (y 0) k) * x3 (ix3 (0 : Fin 1) (⟨k.val, by omega⟩ : Fin 2048) (y 1)))
      + (∑ k : Fin 512, h1 (ix3 (0 : Fin 1) (y 0) k) * x3 (ix3 (0 : Fin 1) (⟨512 + k.val, by omega⟩ : Fin 2048) (y 1)))
      + (∑ k : Fin 512, h2 (ix3 (0 : Fin 1) (y 0) k) * x3 (ix3 (0 : Fin 1) (⟨1024 + k.val, by omega⟩ : Fin 2048) (y 1)))
      + (∑ k : Fin 512, h3 (ix3 (0 : Fin 1) (y 0) k) * x3 (ix3 (0 : Fin 1) (⟨1536 + k.val, by omega⟩ : Fin 2048) (y 1)))) := by
  unfold outB
  canon_tiles y h
  rename_i z
  obtain rfl : z = y := funext fun a => match a with
    | ⟨0, _⟩ => Fin.ext h0
    | ⟨1, _⟩ => Fin.ext h1
  pointwise [k0_pay3]

section
variable (a : (pcfg0 (F := Ideal)).Adm) (hr : InRange a.1)
variable (V : (c : Dev nD) → (b : Ref sig .tc) → Buf (Elt Ideal) ((c : Thread nD τ).loc b)) (c : Dev nD)

/-! ## The blocks -/

theorem c0 (t : Fin grid0.N) : (grid0.coords t 0).val = t.val / 12 := (coords_eq t).1
theorem c1 (t : Fin grid0.N) : (grid0.coords t 1).val = t.val % 12 := (coords_eq t).2

/-- The count of used tiles. -/
abbrev nn : ℕ := (nuN a.1).toNat
/-- The tile of a point. -/
def tile (t : Fin grid0.N) : Fin 32 := grid0.coords t 0
theorem tile_val (t : Fin grid0.N) : (tile t).val = t.val / 12 := c0 t
/-- The expert of a point's tile. -/
def ex (q : Fin 32) : Fin 8 := ⟨(teN a.1 q).toNat, hr.te q⟩

include hr in
theorem idx_0 (t : Fin (cfg0 a).N) : ((cfg0 a).win 0).index t = ![min (t.val / 12) (nn a - 1), 0] := by
  refine (t0_eq a.1 hr (grid0.coords t) _ _).trans ?_; rw [c0]
include hr in
theorem idx_4 (t : Fin (cfg0 a).N) : ((cfg0 a).win 4).index t = ![min (t.val / 12) (nn a - 1), 0] := by
  refine (t4_eq a.1 hr (grid0.coords t) _ _).trans ?_; rw [c0]
theorem idx_1 (t : Fin (cfg0 a).N) : ((cfg0 a).win 1).index t = ![(ex a hr (tile t)).val, 0, if t.val / 12 < nn a then min (t.val % 12) 3 else 3] := by
  refine (t1_eq a.1 hr (grid0.coords t) _ _ _).trans ?_; unfold upN; rw [c0, c1]; rfl
theorem idx_2 (t : Fin (cfg0 a).N) : ((cfg0 a).win 2).index t = ![(ex a hr (tile t)).val, 0, if t.val / 12 < nn a then min (t.val % 12) 3 else 3] := by
  refine (t2_eq a.1 hr (grid0.coords t) _ _ _).trans ?_; unfold upN; rw [c0, c1]; rfl
theorem idx_3 (t : Fin (cfg0 a).N) : ((cfg0 a).win 3).index t = ![(ex a hr (tile t)).val, 0, if t.val / 12 < nn a then t.val % 12 - 4 else 7] := by
  refine (t3_eq a.1 hr (grid0.coords t) _ _ _).trans ?_; unfold downN; rw [c0, c1]; rfl
theorem idx_5 (t : Fin (cfg0 a).N) : ((cfg0 a).win 5).index t = ![t.val / 12, t.val % 12 - 4] := by
  refine funext fun b => ?_
  obtain ⟨b, hb⟩ := b
  have : b = 0 ∨ b = 1 := by change b < 2 at hb; omega
  rcases this with rfl | rfl
  · exact (ix5 t).1
  · exact (ix5 t).2

variable (t : Fin (cfg0 a).N)

include hr in
theorem iblk_0 (h : t.val / 12 < nn a) (p : Fin 1024) (k : Fin 4096) :
    (show Vec Ideal S1024x4096 .bf16 from iblk a V c 0 t) (ix2 p k) = (show Vec Ideal S32768x4096 .bf16 from V c main_v0) (ix2 (⟨1024 * (t.val / 12) + p.val, by have := lt_N t; omega⟩ : Fin 32768) k) := by
  blk_ext [iblk, idx_0 a hr t]

theorem iblk_1 (h : t.val / 12 < nn a) (z : Fin 1) (k : Fin 4096) (j : Fin 512) :
    (show Vec Ideal S1x4096x512 .bf16 from iblk a V c 1 t) (ix3 z k j) = (show Vec Ideal S8x4096x2048 .bf16 from V c main_v1)
      (ix3 (ex a hr (tile t)) k (⟨512 * min (t.val % 12) 3 + j.val, by omega⟩ : Fin 2048)) := by
  blk_ext [iblk, idx_1 a hr t]
  rw [if_pos h]; omega

theorem iblk_2 (h : t.val / 12 < nn a) (z : Fin 1) (k : Fin 4096) (j : Fin 512) :
    (show Vec Ideal S1x4096x512 .bf16 from iblk a V c 2 t) (ix3 z k j) = (show Vec Ideal S8x4096x2048 .bf16 from V c main_v2)
      (ix3 (ex a hr (tile t)) k (⟨512 * min (t.val % 12) 3 + j.val, by omega⟩ : Fin 2048)) := by
  blk_ext [iblk, idx_2 a hr t]
  rw [if_pos h]; omega

theorem iblk_3 (h : t.val / 12 < nn a) (z : Fin 1) (k : Fin 2048) (j : Fin 512) :
    (show Vec Ideal S1x2048x512 .bf16 from iblk a V c 3 t) (ix3 z k j) = (show Vec Ideal S8x2048x4096 .bf16 from V c main_v3)
      (ix3 (ex a hr (tile t)) k (⟨512 * (t.val % 12 - 4) + j.val, by omega⟩ : Fin 4096)) := by
  blk_ext [iblk, idx_3 a hr t]
  rw [if_pos h]; omega

include hr in
theorem iblk_4 (h : t.val / 12 < nn a) (p : Fin 1024) (z : Fin 1) :
    (show Vec Ideal S1024x1 .f32 from iblk a V c 4 t) (ix2 p z) = (show Vec Ideal S32768x1 .f32 from V c main_v4) (ix2 (⟨1024 * (t.val / 12) + p.val, by have := lt_N t; omega⟩ : Fin 32768) z) := by
  blk_ext [iblk, idx_4 a hr t]

/-! ## The whole result -/

/-- Row `p` of tile `q`. -/
abbrev row (q : Fin 32) (p : Fin 1024) : Fin 32768 := ⟨1024 * q.val + p.val, by omega⟩

/-- Hidden unit `f` of row `i` through expert `e`. -/
def hid (A0 : Vec Ideal S32768x4096 .bf16) (A1 A2 : Vec Ideal S8x4096x2048 .bf16) (e : Fin 8) (i : Fin 32768) (f : Fin 2048) : EReal :=
  unit (fun k => A0 (ix2 i k)) (fun k => A1 (ix3 e k f)) (fun k => A2 (ix3 e k f))

/-- A row's expert output: its gate times the projection of its hidden units. -/
def expert (A0 : Vec Ideal S32768x4096 .bf16) (A1 A2 : Vec Ideal S8x4096x2048 .bf16) (A3 : Vec Ideal S8x2048x4096 .bf16) (A4 : Vec Ideal S32768x1 .f32)
    (e : Fin 8) (i : Fin 32768) (d : Fin 4096) : EReal :=
  A4 (ix2 i (0 : Fin 1)) * ∑ f : Fin 2048, hid A0 A1 A2 e i f * A3 (ix3 e f d)

/-- The tile of a row. -/
abbrev rowTile (i : Fin 32768) : Fin 32 := ⟨i.val / 1024, by omega⟩

/-- The call's result: every row of a used tile through its tile's expert, and zeros in the other tiles. -/
def result (n : ℕ) (e : Fin 32 → Fin 8) (A0 : Vec Ideal S32768x4096 .bf16) (A1 A2 : Vec Ideal S8x4096x2048 .bf16) (A3 : Vec Ideal S8x2048x4096 .bf16)
    (A4 : Vec Ideal S32768x1 .f32) : Vec Ideal S32768x4096 .f32 := fun i =>
  if (i 0).val / 1024 < n then expert A0 A1 A2 A3 A4 (e (rowTile (i 0))) (i 0) (i 1) else 0

/-- The slab of hidden activations a used tile's point computes. -/
theorem hsl_at (q : Fin 32) (h : q.val < nn a) (s : Fin 4) (z : Fin 1) (p : Fin 1024) (j : Fin 512) :
    hsl a V c (12 * q.val + s.val) (ix3 z p j) =
      hid (V c main_v0) (V c main_v1) (V c main_v2) (ex a hr q) (row q p) (⟨512 * s.val + j.val, by omega⟩ : Fin 2048) := by
  have hN := N_0
  have hs : (12 * q.val + s.val) % grid0.N = 12 * q.val + s.val := Nat.mod_eq_of_lt (by omega)
  generalize ht : (⟨(12 * q.val + s.val) % grid0.N, Nat.mod_lt _ N_pos⟩ : Fin grid0.N) = t
  have hv : t.val = 12 * q.val + s.val := by rw [← ht]; exact hs
  have hq : t.val / 12 = q.val := by omega
  have hm : min (t.val % 12) 3 = s.val := by omega
  have hl : t.val / 12 < nn a := by rw [hq]; exact h
  have htile : tile t = q := Fin.ext ((tile_val t).trans hq)
  unfold hsl
  rw [ht]
  refine (hblk_at _ _ _ z p j).trans ?_
  have e0 : ∀ k : Fin 4096, (show Vec Ideal S1024x4096 .bf16 from iblk a V c 0 t) (ix2 p k) = (show Vec Ideal S32768x4096 .bf16 from V c main_v0) (ix2 (row q p) k) := fun k => by
    refine (iblk_0 a hr V c t hl p k).trans (congrArg (fun i => (show Vec Ideal S32768x4096 .bf16 from V c main_v0) (ix2 i k)) (Fin.ext ?_))
    show 1024 * (t.val / 12) + p.val = 1024 * q.val + p.val
    rw [hq]
  have e1 : ∀ k : Fin 4096, (show Vec Ideal S1x4096x512 .bf16 from iblk a V c 1 t) (ix3 (0 : Fin 1) k j) = (show Vec Ideal S8x4096x2048 .bf16 from V c main_v1)
      (ix3 (ex a hr q) k (⟨512 * s.val + j.val, by omega⟩ : Fin 2048)) := fun k => by
    refine (iblk_1 a hr V c t hl 0 k j).trans ?_
    rw [htile]
    refine (congrArg (fun i => (show Vec Ideal S8x4096x2048 .bf16 from V c main_v1) (ix3 (ex a hr q) k i)) (Fin.ext ?_))
    show 512 * min (t.val % 12) 3 + j.val = 512 * s.val + j.val
    rw [hm]
  have e2 : ∀ k : Fin 4096, (show Vec Ideal S1x4096x512 .bf16 from iblk a V c 2 t) (ix3 (0 : Fin 1) k j) = (show Vec Ideal S8x4096x2048 .bf16 from V c main_v2)
      (ix3 (ex a hr q) k (⟨512 * s.val + j.val, by omega⟩ : Fin 2048)) := fun k => by
    refine (iblk_2 a hr V c t hl 0 k j).trans ?_
    rw [htile]
    refine (congrArg (fun i => (show Vec Ideal S8x4096x2048 .bf16 from V c main_v2) (ix3 (ex a hr q) k i)) (Fin.ext ?_))
    show 512 * min (t.val % 12) 3 + j.val = 512 * s.val + j.val
    rw [hm]
  unfold hid
  exact congr (congrArg₂ unit (funext e0) (funext e1)) (funext e2)

/-- A sum over the hidden units is the sum of its four blocks of 512. -/
theorem sum_four (f : Fin 2048 → EReal) : ∑ k, f k =
    (∑ k : Fin 512, f ⟨k.val, by omega⟩) + (∑ k : Fin 512, f ⟨512 + k.val, by omega⟩) + (∑ k : Fin 512, f ⟨1024 + k.val, by omega⟩)
      + ∑ k : Fin 512, f ⟨1536 + k.val, by omega⟩ := by
  refine (Fin.sum_univ_add (a := 1536) (b := 512) f).trans (congrArg₂ (· + ·) ?_ rfl)
  refine (Fin.sum_univ_add (a := 1024) (b := 512) fun k => f (Fin.castAdd 512 k)).trans (congrArg₂ (· + ·) ?_ rfl)
  exact (Fin.sum_univ_add (a := 512) (b := 512) fun k => f (Fin.castAdd 512 (Fin.castAdd 512 k)))

include hr in
theorem liveQ_iff : liveQ a (t.val / 12) ↔ t.val / 12 < nn a := by
  have h := live_iff a.1 hr (grid0.coords t)
  rw [c0] at h
  have e : nW a = nuN a.1 := (nTab_eq a (ix1 0)).symm
  unfold liveQ
  rw [e]
  exact h

/-- What a point that writes the result leaves. -/
theorem outAt_at (ht : 4 ≤ t.val % 12) (p : Fin 1024) (j : Fin 512) : outAt a V c t (ix2 p j) =
    result (nn a) (ex a hr) (V c main_v0) (V c main_v1) (V c main_v2) (V c main_v3) (V c main_v4)
      (ix2 (row (tile t) p) (⟨512 * (t.val % 12 - 4) + j.val, by omega⟩ : Fin 4096)) := by
  have hv := tile_val t
  have hrt : rowTile (row (tile t) p) = tile t := Fin.ext (show (1024 * (tile t).val + p.val) / 1024 = (tile t).val by omega)
  have hdiv : (row (tile t) p).val / 1024 = t.val / 12 := (congrArg Fin.val hrt).trans hv
  unfold outAt result
  by_cases h : t.val / 12 < nn a
  · rw [if_pos ((liveQ_iff a hr t).mpr h)]
    refine Eq.trans ?_ (if_pos (show (row (tile t) p).val / 1024 < nn a by rw [hdiv]; exact h)).symm
    refine Eq.trans ?_ (congrArg (fun q => expert (V c main_v0) (V c main_v1) (V c main_v2) (V c main_v3) (V c main_v4) (ex a hr q) (row (tile t) p)
      (⟨512 * (t.val % 12 - 4) + j.val, by omega⟩ : Fin 4096)) hrt.symm)
    have hlt : (tile t).val < nn a := by rw [hv]; exact h
    rw [← hv]
    refine (outB_at _ _ _ _ _ _ _).trans ?_
    unfold expert
    refine congrArg₂ (· * ·) ?_ (Eq.trans ?_ (sum_four _).symm)
    · refine (iblk_4 a hr V c t h p 0).trans (congrArg (fun i => (show Vec Ideal S32768x1 .f32 from V c main_v4) (ix2 i (0 : Fin 1))) (Fin.ext ?_))
      show 1024 * (t.val / 12) + p.val = 1024 * (tile t).val + p.val
      rw [hv]
    · refine congrArg₂ (· + ·) (congrArg₂ (· + ·) (congrArg₂ (· + ·) ?_ ?_) ?_) ?_
      · refine Finset.sum_congr rfl fun k _ => congrArg₂ (· * ·) ((hsl_at a hr V c (tile t) hlt 0 0 p k).trans ?_) (iblk_3 a hr V c t h 0 _ j)
        refine congrArg (hid _ _ _ _ _) (Fin.ext ?_); show 512 * 0 + k.val = k.val; omega
      · refine Finset.sum_congr rfl fun k _ => congrArg₂ (· * ·) ((hsl_at a hr V c (tile t) hlt 1 0 p k).trans ?_) (iblk_3 a hr V c t h 0 _ j)
        refine congrArg (hid _ _ _ _ _) (Fin.ext ?_); show 512 * 1 + k.val = 512 + k.val; omega
      · refine Finset.sum_congr rfl fun k _ => congrArg₂ (· * ·) ((hsl_at a hr V c (tile t) hlt 2 0 p k).trans ?_) (iblk_3 a hr V c t h 0 _ j)
        refine congrArg (hid _ _ _ _ _) (Fin.ext ?_); show 512 * 2 + k.val = 1024 + k.val; omega
      · refine Finset.sum_congr rfl fun k _ => congrArg₂ (· * ·) ((hsl_at a hr V c (tile t) hlt 3 0 p k).trans ?_) (iblk_3 a hr V c t h 0 _ j)
        refine congrArg (hid _ _ _ _ _) (Fin.ext ?_); show 512 * 3 + k.val = 1536 + k.val; omega
  · rw [if_neg (fun g => h ((liveQ_iff a hr t).mp g))]
    refine (outZ_at _).trans (if_neg (show ¬ (row (tile t) p).val / 1024 < nn a by rw [hdiv]; exact h)).symm

theorem flush5' (ht : 4 ≤ t.val % 12) : ((cfg0 a).win 5).flush t = true := by
  have e : ((cfg0 a).win 5).flush t = (true && (decide (t.val + 1 = grid0.N) || decide (∃ h : t.val + 1 < grid0.N, cc0_transform_5 (grid0.coords ⟨t.val + 1, h⟩) ≠ cc0_transform_5 (grid0.coords t)))) := rfl
  have hN := N_0
  have hl := lt_N t
  rw [e]
  by_cases hlast : t.val + 1 = grid0.N
  · rw [decide_eq_true hlast]; rfl
  have hne : ∃ h : t.val + 1 < grid0.N, cc0_transform_5 (grid0.coords ⟨t.val + 1, h⟩) ≠ cc0_transform_5 (grid0.coords t) := by
    refine ⟨by omega, fun g => ?_⟩
    have h1 := ix5 ⟨t.val + 1, by omega⟩
    have h2 := ix5 t
    dsimp only at h1
    rw [g, h2.1, h2.2] at h1
    omega
  rw [decide_eq_true hne]
  simp

theorem covers5 : ((cfg0 a).win 5).Covers := by
  refine ⟨fun b => ?_, fun β => ?_⟩
  · revert b; exact (by decide : ∀ b : Fin 2, 0 < S1024x512.size b)
  · have hN := N_0
    have b0 : (β (0 : Fin 2)).val < 32 := lt_of_lt_of_eq (β (0 : Fin 2)).isLt (show (32768 + 1024 - 1) / 1024 = 32 by norm_num)
    have b1 : (β (1 : Fin 2)).val < 8 := lt_of_lt_of_eq (β (1 : Fin 2)).isLt (show (4096 + 512 - 1) / 512 = 8 by norm_num)
    refine ⟨⟨12 * (β (0 : Fin 2)).val + 4 + (β (1 : Fin 2)).val, by show _ < grid0.N; omega⟩, flush5' a _ (by dsimp only; omega), fun b => ⟨?_, .inl rfl⟩⟩
    rw [idx_5]
    obtain ⟨b, hb⟩ := b
    have : b = 0 ∨ b = 1 := by change b < 2 at hb; omega
    rcases this with rfl | rfl
    · show (12 * (β (0 : Fin 2)).val + 4 + (β (1 : Fin 2)).val) / 12 = (β (0 : Fin 2)).val; omega
    · show (12 * (β (0 : Fin 2)).val + 4 + (β (1 : Fin 2)).val) % 12 - 4 = (β (1 : Fin 2)).val; omega

set_option maxHeartbeats 1000000 in
/-- What the call leaves in its result. -/
theorem final : (dat a V c).arrAt 5 (cfg0 a).N = result (nn a) (ex a hr) (V c main_v0) (V c main_v1) (V c main_v2) (V c main_v3) (V c main_v4) := by
  refine (dat a V c).arrAt_eq_of_covers 5 _ (covers5 a) fun t hf y => ?_
  have ht : 4 ≤ t.val % 12 := by
    by_contra hc
    rw [flush5 a t (by omega)] at hf
    exact absurd hf (by decide)
  rw [after_5]
  obtain ⟨p, j, rfl⟩ : ∃ (p : Fin 1024) (j : Fin 512), y = ix2 p j := ⟨y (0 : Fin 2), y (1 : Fin 2), (ix2_eta (n0 := 1024) (n1 := 512) y).symm⟩
  refine (outAt_at a hr V c t ht p j).trans ?_
  refine congrArg _ ?_
  blk_ext [idx_5 a t]
  rw [tile_val]; omega
end
end Cert.Kernel3Ideal.Moe
-- ==== Proof.MoeRef.lean ====
module

public import proofs.«01_k».proof.Proof.Gen.Reference3Ideal.Read
public import Idealize.ShloMosaic.Lib.Pipeline.ValueKit
public import proofs.«01_k».proof.Proof.MoeValue

/-! The plain experts sum, element by element. -/

@[expose] public section
set_option maxRecDepth 16384
noncomputable section
namespace Cert.MoeRef
open Cert.Reference3Ideal Cert.Reference3Ideal.Gen Idealize.ShloMosaic Idealize.ShloMosaic.TcCoe Idealize.SL.Sem
open Cert.Reference3Ideal.Read
open Cert.Kernel3Ideal.Moe (unit rowTile)

/-- What expert `e` adds to row `i` before its coefficient. -/
def part (x0 : Vec Ideal S32768x4096 .f32) (x4 x5 : Vec Ideal S8x4096x2048 .f32) (x6 : Vec Ideal S8x2048x4096 .f32)
    (e : Fin 8) (i : Fin 32768) (d : Fin 4096) : EReal :=
  ∑ f : Fin 2048, unit (fun k => x0 (ix2 i k)) (fun k => x4 (ix3 e k f)) (fun k => x5 (ix3 e k f)) * x6 (ix3 e f d)

/-- Row `i`'s coefficient of expert `e`. -/
def coef (x1 : (⟨S32, .i32⟩ : BufTy).Contents (Elt Ideal)) (x2 : (⟨S1, .i32⟩ : BufTy).Contents (Elt Ideal)) (x3 : (⟨S32768, .f32⟩ : BufTy).Contents (Elt Ideal)) (e : Fin 8) (i : Fin 32768) : EReal :=
  val_main_v11 (F := Ideal) x1 x2 x3 (ix2 i e)

/-- A hidden unit of expert 0. -/
theorem hid0 (x0 : (⟨S32768x4096, .f32⟩ : BufTy).Contents (Elt Ideal)) (x4 x5 : (⟨S8x4096x2048, .f32⟩ : BufTy).Contents (Elt Ideal)) (i : Fin 32768) (f : Fin 2048) :
    val_main_v24 (F := Ideal) x0 x4 x5 (ix3 (0 : Fin 1) i f) = unit (fun k => x0 (ix2 i k)) (fun k => x4 (ix3 (0 : Fin 8) k f)) (fun k => x5 (ix3 (0 : Fin 8) k f)) := by
  unfold unit
  pointwise [val_main_v24, val_main_v23, val_main_v22, val_main_v21, val_main_v18, val_main_v17, val_main_v16, val_main_v15, val_main_v14, val_main_call2_v5, val_main_call2_v4, val_main_call2_v3, val_main_call2_v2, val_main_call2_v1, val_main_call2_v0, val_main_call2_cst, val_main_call2_cst_0]
  rfl

/-- The product of expert 0. -/
theorem part0 (x0 : (⟨S32768x4096, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v26 (F := Ideal) x0 x4 x5 x6 (ix2 i d) = part x0 x4 x5 x6 0 i d := by
  simp only [part, ← hid0]
  pointwise [val_main_v26, val_main_v25, val_main_v20, val_main_v19]

/-- What expert 0 adds to a row. -/
theorem term0 (x0 : (⟨S32768x4096, .f32⟩ : BufTy).Contents (Elt Ideal)) (x1 : (⟨S32, .i32⟩ : BufTy).Contents (Elt Ideal)) (x2 : (⟨S1, .i32⟩ : BufTy).Contents (Elt Ideal)) (x3 : (⟨S32768, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v28 (F := Ideal) x0 x1 x2 x3 x4 x5 x6 (ix2 i d) = coef x1 x2 x3 0 i * part x0 x4 x5 x6 0 i d := by
  rw [← part0]
  unfold coef
  pointwise [val_main_v28, val_main_v27, val_main_v13]

/-- A hidden unit of expert 1. -/
theorem hid1 (x0 : (⟨S32768x4096, .f32⟩ : BufTy).Contents (Elt Ideal)) (x4 x5 : (⟨S8x4096x2048, .f32⟩ : BufTy).Contents (Elt Ideal)) (i : Fin 32768) (f : Fin 2048) :
    val_main_v41 (F := Ideal) x0 x4 x5 (ix3 (0 : Fin 1) i f) = unit (fun k => x0 (ix2 i k)) (fun k => x4 (ix3 (1 : Fin 8) k f)) (fun k => x5 (ix3 (1 : Fin 8) k f)) := by
  unfold unit
  pointwise [val_main_v41, val_main_v40, val_main_v39, val_main_v38, val_main_v35, val_main_v34, val_main_v33, val_main_v32, val_main_v31, val_main_call3_v5, val_main_call3_v4, val_main_call3_v3, val_main_call3_v2, val_main_call3_v1, val_main_call3_v0, val_main_call3_cst, val_main_call3_cst_0]
  rfl

/-- The product of expert 1. -/
theorem part1 (x0 : (⟨S32768x4096, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v43 (F := Ideal) x0 x4 x5 x6 (ix2 i d) = part x0 x4 x5 x6 1 i d := by
  simp only [part, ← hid1]
  pointwise [val_main_v43, val_main_v42, val_main_v37, val_main_v36]

/-- What expert 1 adds to a row. -/
theorem term1 (x0 : (⟨S32768x4096, .f32⟩ : BufTy).Contents (Elt Ideal)) (x1 : (⟨S32, .i32⟩ : BufTy).Contents (Elt Ideal)) (x2 : (⟨S1, .i32⟩ : BufTy).Contents (Elt Ideal)) (x3 : (⟨S32768, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v45 (F := Ideal) x0 x1 x2 x3 x4 x5 x6 (ix2 i d) = coef x1 x2 x3 1 i * part x0 x4 x5 x6 1 i d := by
  rw [← part1]
  unfold coef
  pointwise [val_main_v45, val_main_v44, val_main_v30]

/-- A hidden unit of expert 2. -/
theorem hid2 (x0 : (⟨S32768x4096, .f32⟩ : BufTy).Contents (Elt Ideal)) (x4 x5 : (⟨S8x4096x2048, .f32⟩ : BufTy).Contents (Elt Ideal)) (i : Fin 32768) (f : Fin 2048) :
    val_main_v58 (F := Ideal) x0 x4 x5 (ix3 (0 : Fin 1) i f) = unit (fun k => x0 (ix2 i k)) (fun k => x4 (ix3 (2 : Fin 8) k f)) (fun k => x5 (ix3 (2 : Fin 8) k f)) := by
  unfold unit
  pointwise [val_main_v58, val_main_v57, val_main_v56, val_main_v55, val_main_v52, val_main_v51, val_main_v50, val_main_v49, val_main_v48, val_main_call4_v5, val_main_call4_v4, val_main_call4_v3, val_main_call4_v2, val_main_call4_v1, val_main_call4_v0, val_main_call4_cst, val_main_call4_cst_0]
  rfl

/-- The product of expert 2. -/
theorem part2 (x0 : (⟨S32768x4096, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v60 (F := Ideal) x0 x4 x5 x6 (ix2 i d) = part x0 x4 x5 x6 2 i d := by
  simp only [part, ← hid2]
  pointwise [val_main_v60, val_main_v59, val_main_v54, val_main_v53]

/-- What expert 2 adds to a row. -/
theorem term2 (x0 : (⟨S32768x4096, .f32⟩ : BufTy).Contents (Elt Ideal)) (x1 : (⟨S32, .i32⟩ : BufTy).Contents (Elt Ideal)) (x2 : (⟨S1, .i32⟩ : BufTy).Contents (Elt Ideal)) (x3 : (⟨S32768, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v62 (F := Ideal) x0 x1 x2 x3 x4 x5 x6 (ix2 i d) = coef x1 x2 x3 2 i * part x0 x4 x5 x6 2 i d := by
  rw [← part2]
  unfold coef
  pointwise [val_main_v62, val_main_v61, val_main_v47]

/-- A hidden unit of expert 3. -/
theorem hid3 (x0 : (⟨S32768x4096, .f32⟩ : BufTy).Contents (Elt Ideal)) (x4 x5 : (⟨S8x4096x2048, .f32⟩ : BufTy).Contents (Elt Ideal)) (i : Fin 32768) (f : Fin 2048) :
    val_main_v75 (F := Ideal) x0 x4 x5 (ix3 (0 : Fin 1) i f) = unit (fun k => x0 (ix2 i k)) (fun k => x4 (ix3 (3 : Fin 8) k f)) (fun k => x5 (ix3 (3 : Fin 8) k f)) := by
  unfold unit
  pointwise [val_main_v75, val_main_v74, val_main_v73, val_main_v72, val_main_v69, val_main_v68, val_main_v67, val_main_v66, val_main_v65, val_main_call5_v5, val_main_call5_v4, val_main_call5_v3, val_main_call5_v2, val_main_call5_v1, val_main_call5_v0, val_main_call5_cst, val_main_call5_cst_0]
  rfl

/-- The product of expert 3. -/
theorem part3 (x0 : (⟨S32768x4096, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v77 (F := Ideal) x0 x4 x5 x6 (ix2 i d) = part x0 x4 x5 x6 3 i d := by
  simp only [part, ← hid3]
  pointwise [val_main_v77, val_main_v76, val_main_v71, val_main_v70]

/-- What expert 3 adds to a row. -/
theorem term3 (x0 : (⟨S32768x4096, .f32⟩ : BufTy).Contents (Elt Ideal)) (x1 : (⟨S32, .i32⟩ : BufTy).Contents (Elt Ideal)) (x2 : (⟨S1, .i32⟩ : BufTy).Contents (Elt Ideal)) (x3 : (⟨S32768, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v79 (F := Ideal) x0 x1 x2 x3 x4 x5 x6 (ix2 i d) = coef x1 x2 x3 3 i * part x0 x4 x5 x6 3 i d := by
  rw [← part3]
  unfold coef
  pointwise [val_main_v79, val_main_v78, val_main_v64]

/-- A hidden unit of expert 4. -/
theorem hid4 (x0 : (⟨S32768x4096, .f32⟩ : BufTy).Contents (Elt Ideal)) (x4 x5 : (⟨S8x4096x2048, .f32⟩ : BufTy).Contents (Elt Ideal)) (i : Fin 32768) (f : Fin 2048) :
    val_main_v92 (F := Ideal) x0 x4 x5 (ix3 (0 : Fin 1) i f) = unit (fun k => x0 (ix2 i k)) (fun k => x4 (ix3 (4 : Fin 8) k f)) (fun k => x5 (ix3 (4 : Fin 8) k f)) := by
  unfold unit
  pointwise [val_main_v92, val_main_v91, val_main_v90, val_main_v89, val_main_v86, val_main_v85, val_main_v84, val_main_v83, val_main_v82, val_main_call6_v5, val_main_call6_v4, val_main_call6_v3, val_main_call6_v2, val_main_call6_v1, val_main_call6_v0, val_main_call6_cst, val_main_call6_cst_0]
  rfl

/-- The product of expert 4. -/
theorem part4 (x0 : (⟨S32768x4096, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v94 (F := Ideal) x0 x4 x5 x6 (ix2 i d) = part x0 x4 x5 x6 4 i d := by
  simp only [part, ← hid4]
  pointwise [val_main_v94, val_main_v93, val_main_v88, val_main_v87]

/-- What expert 4 adds to a row. -/
theorem term4 (x0 : (⟨S32768x4096, .f32⟩ : BufTy).Contents (Elt Ideal)) (x1 : (⟨S32, .i32⟩ : BufTy).Contents (Elt Ideal)) (x2 : (⟨S1, .i32⟩ : BufTy).Contents (Elt Ideal)) (x3 : (⟨S32768, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v96 (F := Ideal) x0 x1 x2 x3 x4 x5 x6 (ix2 i d) = coef x1 x2 x3 4 i * part x0 x4 x5 x6 4 i d := by
  rw [← part4]
  unfold coef
  pointwise [val_main_v96, val_main_v95, val_main_v81]

/-- A hidden unit of expert 5. -/
theorem hid5 (x0 : (⟨S32768x4096, .f32⟩ : BufTy).Contents (Elt Ideal)) (x4 x5 : (⟨S8x4096x2048, .f32⟩ : BufTy).Contents (Elt Ideal)) (i : Fin 32768) (f : Fin 2048) :
    val_main_v109 (F := Ideal) x0 x4 x5 (ix3 (0 : Fin 1) i f) = unit (fun k => x0 (ix2 i k)) (fun k => x4 (ix3 (5 : Fin 8) k f)) (fun k => x5 (ix3 (5 : Fin 8) k f)) := by
  unfold unit
  pointwise [val_main_v109, val_main_v108, val_main_v107, val_main_v106, val_main_v103, val_main_v102, val_main_v101, val_main_v100, val_main_v99, val_main_call7_v5, val_main_call7_v4, val_main_call7_v3, val_main_call7_v2, val_main_call7_v1, val_main_call7_v0, val_main_call7_cst, val_main_call7_cst_0]
  rfl

/-- The product of expert 5. -/
theorem part5 (x0 : (⟨S32768x4096, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v111 (F := Ideal) x0 x4 x5 x6 (ix2 i d) = part x0 x4 x5 x6 5 i d := by
  simp only [part, ← hid5]
  pointwise [val_main_v111, val_main_v110, val_main_v105, val_main_v104]

/-- What expert 5 adds to a row. -/
theorem term5 (x0 : (⟨S32768x4096, .f32⟩ : BufTy).Contents (Elt Ideal)) (x1 : (⟨S32, .i32⟩ : BufTy).Contents (Elt Ideal)) (x2 : (⟨S1, .i32⟩ : BufTy).Contents (Elt Ideal)) (x3 : (⟨S32768, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v113 (F := Ideal) x0 x1 x2 x3 x4 x5 x6 (ix2 i d) = coef x1 x2 x3 5 i * part x0 x4 x5 x6 5 i d := by
  rw [← part5]
  unfold coef
  pointwise [val_main_v113, val_main_v112, val_main_v98]

/-- A hidden unit of expert 6. -/
theorem hid6 (x0 : (⟨S32768x4096, .f32⟩ : BufTy).Contents (Elt Ideal)) (x4 x5 : (⟨S8x4096x2048, .f32⟩ : BufTy).Contents (Elt Ideal)) (i : Fin 32768) (f : Fin 2048) :
    val_main_v126 (F := Ideal) x0 x4 x5 (ix3 (0 : Fin 1) i f) = unit (fun k => x0 (ix2 i k)) (fun k => x4 (ix3 (6 : Fin 8) k f)) (fun k => x5 (ix3 (6 : Fin 8) k f)) := by
  unfold unit
  pointwise [val_main_v126, val_main_v125, val_main_v124, val_main_v123, val_main_v120, val_main_v119, val_main_v118, val_main_v117, val_main_v116, val_main_call8_v5, val_main_call8_v4, val_main_call8_v3, val_main_call8_v2, val_main_call8_v1, val_main_call8_v0, val_main_call8_cst, val_main_call8_cst_0]
  rfl

/-- The product of expert 6. -/
theorem part6 (x0 : (⟨S32768x4096, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v128 (F := Ideal) x0 x4 x5 x6 (ix2 i d) = part x0 x4 x5 x6 6 i d := by
  simp only [part, ← hid6]
  pointwise [val_main_v128, val_main_v127, val_main_v122, val_main_v121]

/-- What expert 6 adds to a row. -/
theorem term6 (x0 : (⟨S32768x4096, .f32⟩ : BufTy).Contents (Elt Ideal)) (x1 : (⟨S32, .i32⟩ : BufTy).Contents (Elt Ideal)) (x2 : (⟨S1, .i32⟩ : BufTy).Contents (Elt Ideal)) (x3 : (⟨S32768, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v130 (F := Ideal) x0 x1 x2 x3 x4 x5 x6 (ix2 i d) = coef x1 x2 x3 6 i * part x0 x4 x5 x6 6 i d := by
  rw [← part6]
  unfold coef
  pointwise [val_main_v130, val_main_v129, val_main_v115]

/-- A hidden unit of expert 7. -/
theorem hid7 (x0 : (⟨S32768x4096, .f32⟩ : BufTy).Contents (Elt Ideal)) (x4 x5 : (⟨S8x4096x2048, .f32⟩ : BufTy).Contents (Elt Ideal)) (i : Fin 32768) (f : Fin 2048) :
    val_main_v143 (F := Ideal) x0 x4 x5 (ix3 (0 : Fin 1) i f) = unit (fun k => x0 (ix2 i k)) (fun k => x4 (ix3 (7 : Fin 8) k f)) (fun k => x5 (ix3 (7 : Fin 8) k f)) := by
  unfold unit
  pointwise [val_main_v143, val_main_v142, val_main_v141, val_main_v140, val_main_v137, val_main_v136, val_main_v135, val_main_v134, val_main_v133, val_main_call9_v5, val_main_call9_v4, val_main_call9_v3, val_main_call9_v2, val_main_call9_v1, val_main_call9_v0, val_main_call9_cst, val_main_call9_cst_0]
  rfl

/-- The product of expert 7. -/
theorem part7 (x0 : (⟨S32768x4096, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v145 (F := Ideal) x0 x4 x5 x6 (ix2 i d) = part x0 x4 x5 x6 7 i d := by
  simp only [part, ← hid7]
  pointwise [val_main_v145, val_main_v144, val_main_v139, val_main_v138]

/-- What expert 7 adds to a row. -/
theorem term7 (x0 : (⟨S32768x4096, .f32⟩ : BufTy).Contents (Elt Ideal)) (x1 : (⟨S32, .i32⟩ : BufTy).Contents (Elt Ideal)) (x2 : (⟨S1, .i32⟩ : BufTy).Contents (Elt Ideal)) (x3 : (⟨S32768, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v147 (F := Ideal) x0 x1 x2 x3 x4 x5 x6 (ix2 i d) = coef x1 x2 x3 7 i * part x0 x4 x5 x6 7 i d := by
  rw [← part7]
  unfold coef
  pointwise [val_main_v147, val_main_v146, val_main_v132]

/-- The plain program's result. -/
theorem total (x0 : (⟨S32768x4096, .f32⟩ : BufTy).Contents (Elt Ideal)) (x1 : (⟨S32, .i32⟩ : BufTy).Contents (Elt Ideal)) (x2 : (⟨S1, .i32⟩ : BufTy).Contents (Elt Ideal)) (x3 : (⟨S32768, .f32⟩ : BufTy).Contents (Elt Ideal)) (x4 x5 : (⟨S8x4096x2048, .f32⟩ : BufTy).Contents (Elt Ideal)) (x6 : (⟨S8x2048x4096, .f32⟩ : BufTy).Contents (Elt Ideal)) (i : Fin 32768) (d : Fin 4096) :
    val_main_v148 (F := Ideal) x0 x1 x2 x3 x4 x5 x6 (ix2 i d) = ∑ e : Fin 8, coef x1 x2 x3 e i * part x0 x4 x5 x6 e i d := by
  have z : val_main_v12 (F := Ideal) (ix2 i d) = 0 := by
    pointwise [val_main_v12, val_main_cst_0]
  rw [Fin.sum_univ_eight]
  rw [val_main_v148_apply, val_main_v131_apply, val_main_v114_apply, val_main_v97_apply, val_main_v80_apply, val_main_v63_apply, val_main_v46_apply, val_main_v29_apply, z]
  rw [term0, term1, term2, term3, term4, term5, term6, term7]
  exact congrArg (fun s : EReal => s + _ + _ + _ + _ + _ + _ + _) (zero_add _)

/-- A coefficient: one of the row's own expert, the gate of a used row. -/
theorem coef_at (x1 : (⟨S32, .i32⟩ : BufTy).Contents (Elt Ideal)) (x2 : (⟨S1, .i32⟩ : BufTy).Contents (Elt Ideal)) (x3 : (⟨S32768, .f32⟩ : BufTy).Contents (Elt Ideal)) (e : Fin 8) (i : Fin 32768) :
    coef x1 x2 x3 e i = (if x1 (ix1 (rowTile i)) = BitVec.ofNat 32 e.val then (1 : EReal) else 0)
      * (if (BitVec.ofNat 32 i.val).slt (1024#32 * x2 (ix1 (0 : Fin 1))) then x3 (ix1 i) else 0) := by
  have h3 : ∀ j, val_main_v3 (F := Ideal) x2 j = x2 (ix1 (0 : Fin 1)) := by
    intro j
    rw [val_main_v3]
    refine congrArg x2 (funext fun a => ?_)
    have hs : ∀ u v : Fin 1, u = v := by decide
    obtain rfl : a = 0 := hs a 0
    exact hs _ _
  unfold coef
  pointwise [val_main_v11, val_main_v10, val_main_v9, val_main_v8, val_main_v7, val_main_v6, val_main_v5, val_main_v4, val_main_v2, val_main_v1, val_main_v0, val_main_c, val_main_cst, val_main_call0_v4, val_main_call0_v3, val_main_call0_v2, val_main_call0_v1, val_main_call0_v0, val_main_call1_v1, val_main_call1_v0, h3]
  congr 1
  · by_cases h : x1 (ix1 (rowTile i)) = BitVec.ofNat 32 e.val
    · rw [if_pos h]
      have h1 : IntOp.cmpi .eq (x1 (ix1 (rowTile i))) (BitVec.ofNat 32 e.val) = 1#1 := by
        rw [h]; simp [IntOp.cmpi]
      refine (congrArg (FloatOps.uitofp (F := Ideal) .f32) h1).trans ?_
      show (((1#1 : BitVec 1).toNat : ℝ) : EReal) = 1
      norm_num
    · rw [if_neg h]
      have h1 : IntOp.cmpi .eq (x1 (ix1 (rowTile i))) (BitVec.ofNat 32 e.val) = 0#1 :=
        congrArg BitVec.ofBool (beq_eq_false_iff_ne.2 h)
      refine (congrArg (FloatOps.uitofp (F := Ideal) .f32) h1).trans ?_
      show (((0#1 : BitVec 1).toNat : ℝ) : EReal) = 0
      norm_num
  · unfold Scalar.select IntOp.cmpi
    cases h : (BitVec.ofNat 32 i.val).slt (1024#32 * x2 (ix1 (0 : Fin 1)))
    · simp [IntOp.muli, h]
      pointwise []
    · simp [IntOp.muli, h]

/-- A row lies in a used tile when its number is below the used tiles' rows. -/
theorem used_iff (n : BitVec 32) (hn : n.toNat ≤ 32) (i : Fin 32768) :
    (BitVec.ofNat 32 i.val).slt (1024#32 * n) = true ↔ i.val / 1024 < n.toNat := by
  have hi := i.isLt
  have h1 : (BitVec.ofNat 32 i.val).toNat = i.val := by rw [BitVec.toNat_ofNat]; omega
  have h2 : (1024#32 * n).toNat = 1024 * n.toNat := by
    rw [BitVec.toNat_mul, show (1024#32 : BitVec 32).toNat = 1024 from rfl]; omega
  rw [BitVec.slt_iff_toInt_lt, BitVec.toInt_eq_toNat_of_lt (by rw [h1]; omega), BitVec.toInt_eq_toNat_of_lt (by rw [h2]; omega), h1, h2]
  omega

/-- The plain experts sum is the experts call's result. -/
theorem total_eq (x0 : (⟨S32768x4096, .f32⟩ : BufTy).Contents (Elt Ideal)) (x1 : (⟨S32, .i32⟩ : BufTy).Contents (Elt Ideal)) (x2 : (⟨S1, .i32⟩ : BufTy).Contents (Elt Ideal)) (x3 : (⟨S32768, .f32⟩ : BufTy).Contents (Elt Ideal)) (x4 x5 : (⟨S8x4096x2048, .f32⟩ : BufTy).Contents (Elt Ideal)) (x6 : (⟨S8x2048x4096, .f32⟩ : BufTy).Contents (Elt Ideal)) (n : ℕ) (e : Fin 32 → Fin 8)
    (A4 : Vec Ideal S32768x1 .f32) (hA4 : ∀ i, A4 (ix2 i (0 : Fin 1)) = x3 (ix1 i))
    (hn : (x2 (ix1 (0 : Fin 1))).toNat = n) (hn32 : n ≤ 32) (he : ∀ q, (x1 (ix1 q)).toNat = (e q).val) :
    val_main_v148 (F := Ideal) x0 x1 x2 x3 x4 x5 x6 = Cert.Kernel3Ideal.Moe.result n e x0 x4 x5 x6 A4 := by
  funext y
  obtain ⟨i, d, rfl⟩ : ∃ (i : Fin 32768) (d : Fin 4096), y = ix2 i d := ⟨y 0, y 1, (ix2_eta y).symm⟩
  rw [total]
  have hu := used_iff (x2 (ix1 (0 : Fin 1))) (by omega) i
  rw [hn] at hu
  show _ = if i.val / 1024 < n then Cert.Kernel3Ideal.Moe.expert x0 x4 x5 x6 A4 (e (rowTile i)) i d else 0
  by_cases h : i.val / 1024 < n
  · rw [if_pos h, Finset.sum_eq_single (e (rowTile i))]
    · rw [coef_at, if_pos (hu.2 h), if_pos (by apply BitVec.eq_of_toNat_eq; rw [he, BitVec.toNat_ofNat]; have := (e (rowTile i)).isLt; omega), one_mul,
        Cert.Kernel3Ideal.Moe.expert, hA4]
      rfl
    · intro b _ hb
      rw [coef_at, if_neg (fun hc => hb (by
        have h1 := congrArg BitVec.toNat hc
        rw [he, BitVec.toNat_ofNat] at h1
        apply Fin.ext; have := b.isLt; omega)), zero_mul, zero_mul]
    · exact fun hc => absurd (Finset.mem_univ _) hc
  · rw [if_neg h]
    refine Finset.sum_eq_zero fun b _ => ?_
    rw [coef_at, if_neg (fun hc => h (hu.1 hc)), mul_zero, zero_mul]

/-- Equal arguments, equal results. -/
theorem same {x0 y0 : (⟨S32768x4096, .f32⟩ : BufTy).Contents (Elt Ideal)} {x1 y1 : (⟨S32, .i32⟩ : BufTy).Contents (Elt Ideal)}
    {x2 y2 : (⟨S1, .i32⟩ : BufTy).Contents (Elt Ideal)} {x3 y3 : (⟨S32768, .f32⟩ : BufTy).Contents (Elt Ideal)}
    {x4 y4 x5 y5 : (⟨S8x4096x2048, .f32⟩ : BufTy).Contents (Elt Ideal)} {x6 y6 : (⟨S8x2048x4096, .f32⟩ : BufTy).Contents (Elt Ideal)}
    (h0 : y0 = x0) (h1 : y1 = x1) (h2 : y2 = x2) (h3 : y3 = x3) (h4 : y4 = x4) (h5 : y5 = x5) (h6 : y6 = x6) :
    val_main_v148 (F := Ideal) x0 x1 x2 x3 x4 x5 x6 = val_main_v148 (F := Ideal) y0 y1 y2 y3 y4 y5 y6 := by
  subst h0 h1 h2 h3 h4 h5 h6
  rfl

end Cert.MoeRef
-- ==== Proof.MoeHost.lean ====
module

public import proofs.«01_k».proof.Proof.MoeRef
public import Idealize.ShloMosaic.Lib.StableHlo.RunRead

/-! The arrays that the experts call reads, as functions of the arguments, and the program's result. -/

@[expose] public section
set_option maxRecDepth 16384
noncomputable section
namespace Cert.Kernel3Ideal.Moe
open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The rows as the call finds them. -/
theorem V_main_v0 : V1 m c main_v0 = m ((c : Thread nD τ).loc main_arg0) := by
  simp only [V1, W1, hostOps0]
  after_results_simp <;> rfl

/-- The first weight as the call finds it. -/
theorem V_main_v1 : V1 m c main_v1 = m ((c : Thread nD τ).loc main_arg4) := by
  simp only [V1, W1, hostOps0]
  after_results_simp <;> rfl

/-- The second weight as the call finds it. -/
theorem V_main_v2 : V1 m c main_v2 = m ((c : Thread nD τ).loc main_arg5) := by
  simp only [V1, W1, hostOps0]
  after_results_simp <;> rfl

/-- The third weight as the call finds it. -/
theorem V_main_v3 : V1 m c main_v3 = m ((c : Thread nD τ).loc main_arg6) := by
  simp only [V1, W1, hostOps0]
  after_results_simp <;> rfl

/-- The gates as the call finds them: one column. -/
theorem V_main_v4 : V1 m c main_v4 = shapeCast S32768x1 (m ((c : Thread nD τ).loc main_arg3)) shapeCasts_S32768_S32768x1 := by
  simp only [V1, W1, hostOps0]
  after_results_simp <;> rfl

/-- A gate of the column. -/
theorem gate_at (x : (⟨S32768, .f32⟩ : BufTy).Contents (Elt Ideal)) (i : Fin 32768) :
    shapeCast S32768x1 x shapeCasts_S32768_S32768x1 (ix2 i (0 : Fin 1)) = x (ix1 i) := by
  pointwise []

/-- The program's result is the plain experts sum of the arguments. -/
theorem value (hr : InRange (tabs m)) :
    (dat (admOf m hr) (V1 m) c).arrAt 5 (cfg0 (admOf m hr)).N = Cert.Reference3Ideal.Read.val_main_v148 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (final (admOf m hr) hr (V1 m) c).trans ?_
  rw [V_main_v0, V_main_v1, V_main_v2, V_main_v3, V_main_v4]
  refine (Cert.MoeRef.total_eq _ _ _ _ _ _ _ (nn (admOf m hr)) (ex (admOf m hr) hr) _ (gate_at _) ?_ hr.nu.2 ?_).symm
  · exact congrArg (fun z : (⟨S1, .i32⟩ : BufTy).Contents (Elt Ideal) => (z (ix1 (0 : Fin 1))).toNat) (tabs_eq m c 1)
  · exact fun q => congrArg (fun z : (⟨S32, .i32⟩ : BufTy).Contents (Elt Ideal) => (z (ix1 q)).toNat) (tabs_eq m c 0)

end Cert.Kernel3Ideal.Moe
-- ==== Proof.InRun.lean ====
module

public import proofs.«01_k».proof.Proof.Gen.Kernel4Ideal.Frame

/-! The run of the input projection, with what it leaves in every buffer. -/

@[expose] public section
set_option maxRecDepth 16384
noncomputable section
namespace Cert.InRun
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with each buffer of the program holding its contents after the last call. -/
theorem run : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- Every run ends with the result buffer as after the last call, and the arguments unchanged. -/
theorem run_result : θ_run defs (onTc (τ := τ) (main (F := F))) ⟨m, fun _ => 0, ρ⟩ (fun r => ∀ c : Dev nD,
      r.2.mem ((c.tc : Thread nD τ).loc main_v21) = W3 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v21 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run m ρ)

end Cert.InRun
-- ==== Proof.InBlock.lean ====
module

public import proofs.«01_k».proof.Proof.Gen.Kernel4Ideal.Frame
public import Idealize.ShloMosaic.Lib.Pipeline.Value
public import Idealize.ShloMosaic.Lib.Pipeline.ValueKit
public import Idealize.ShloMosaic.Lib.UnfoldOut
public import proofs.«01_k».proof.Proof.FfnMath

/-! What each of the two calls of the input projection leaves in its output array, element by element. -/

@[expose] public section
set_option maxRecDepth 16384
noncomputable section
namespace Cert.InBlock
open Cert.Kernel4Ideal Cert.Kernel4Ideal.Gen Idealize.ShloMosaic Idealize.ShloMosaic.TcCoe Idealize.SL.Sem
open Cert.FfnMath

/-- What a point of the normalization call writes. -/
theorem out0_at (x0 : Vec Ideal S256x4096 .f32) (x1 : Vec Ideal S1x4096 .f32) (x2 x3 : Vec Ideal S1x1x4096 .f32)
    (y : S256x4096.Idx) : out0_4 (F := Ideal) x0 x1 x2 x3 y =
      modulated (fun k => x0 (ix2 (y 0) k)) (fun k => x1 (ix2 (0 : Fin 1) k)) (fun k => x2 (ix3 (0 : Fin 1) (0 : Fin 1) k))
        (fun k => x3 (ix3 (0 : Fin 1) (0 : Fin 1) k)) (y 1) := by
  unfold out0_4
  canon_tiles y h
  rename_i z
  obtain rfl : z = y := funext fun a => match a with
    | ⟨0, _⟩ => Fin.ext h0
    | ⟨1, _⟩ => Fin.ext h1
  pointwise [k0_pay1, modulated]

/-- What a point of the product's call writes. -/
theorem out1_at (x0 : Vec Ideal S1024x4096 .bf16) (x1 : Vec Ideal S4096x512 .bf16) (y : S1024x512.Idx) :
    out1_2 (F := Ideal) x0 x1 y = ∑ k : Fin 4096, x0 (ix2 (y 0) k) * x1 (ix2 k (y 1)) := by
  unfold out1_2
  canon_tiles y h
  rename_i z
  obtain rfl : z = y := funext fun a => match a with
    | ⟨0, _⟩ => Fin.ext h0
    | ⟨1, _⟩ => Fin.ext h1
  pointwise [k1_pay1]

/-- The index maps of the normalization call's windows, over the grid's points. -/
theorem idx0 : ∀ t : Fin cfg0.N, win0_0.index t = ![t.val, 0] ∧ win0_1.index t = ![0, 0]
    ∧ win0_2.index t = ![if t.val < 32 then 0 else 1 + (t.val - 32) / 8, 0, 0]
    ∧ win0_3.index t = ![if t.val < 32 then 0 else 1 + (t.val - 32) / 8, 0, 0]
    ∧ win0_4.index t = ![t.val, 0] :=
  (by decide +kernel : ∀ t : Fin grid0.N, _)

/-- The index maps of the product's call's windows. -/
theorem idx1 : ∀ t : Fin cfg1.N, win1_0.index t = ![t.val / 11, 0] ∧ win1_1.index t = ![0, t.val % 11]
    ∧ win1_2.index t = ![t.val / 11, t.val % 11] :=
  (by decide +kernel : ∀ t : Fin grid1.N, _)

/-- The normalized rows over the arrays the call is given: every row modulated by its own token's entry. -/
def rows (A2 : Vec Ideal S12288x4096 .f32) (A13 : Vec Ideal S1x4096 .f32) (A4 A5 : Vec Ideal S8x1x4096 .f32) :
    Vec Ideal S12288x4096 .bf16 := fun i =>
  modulated (fun k => A2 (ix2 (i 0) k)) (fun k => A13 (ix2 (0 : Fin 1) k)) (fun k => A4 (ix3 (sel (i 0)) (0 : Fin 1) k))
    (fun k => A5 (ix3 (sel (i 0)) (0 : Fin 1) k)) (i 1)

/-- The product over the arrays the call is given. -/
def product (H : Vec Ideal S12288x4096 .bf16) (A : Vec Ideal S4096x5632 .bf16) : Vec Ideal S12288x5632 .f32 := fun i =>
  ∑ k : Fin 4096, H (ix2 (i 0) k) * A (ix2 k (i 1))

/-- Equal factors give equal sums of products. -/
theorem dot_congr {a b a' b' : Fin 4096 → EReal} (ha : ∀ k, a k = a' k) (hb : ∀ k, b k = b' k) :
    ∑ k, a k * b k = ∑ k, a' k * b' k := Finset.sum_congr rfl fun k _ => congrArg₂ (· * ·) (ha k) (hb k)

variable (V : (c : Dev nD) → (b : Ref sig .tc) → Buf (Elt Ideal) ((c : Thread nD τ).loc b)) (c : Dev nD)

set_option maxHeartbeats 1000000 in
/-- What the normalization call leaves. -/
theorem final0 : (dat0 V c).arrAt 4 cfg0.N = rows (V c main_v2) (V c main_v19) (V c main_v4) (V c main_v5) := by
  unfold rows
  refine (dat0 V c).arrAt_eq_of_covers 4 _ (by decide +kernel) fun t hf y => ?_
  blk_simp
  rw [after0_4]
  refine Eq.trans (out0_at _ _ _ _ _) ?_
  unfold modulated
  beta_reduce
  refine congrArg₂ (· + ·) (congrArg₂ (· * ·) (congrArg₂ (· * ·) (congrArg₂ (· * ·) ?_ (congrArg Ideal.rsqrt (congrArg₂ (· + ·)
    (congrArg₂ Ideal.div (Finset.sum_congr rfl fun k _ => congrArg₂ (· * ·) ?_ ?_) rfl) rfl))) ?_) (congrArg₂ (· + ·) rfl ?_)) ?_
  · blk_ext [iblk0, idx0 t]
  · blk_ext [iblk0, idx0 t]
  · blk_ext [iblk0, idx0 t]
  · blk_ext [iblk0, idx0 t]
  · blk_ext [iblk0, idx0 t, sel]
    split <;> split <;> omega
  · blk_ext [iblk0, idx0 t, sel]
    split <;> split <;> omega

set_option maxHeartbeats 1000000 in
/-- What the product's call leaves. -/
theorem final1 : (dat1 V c).arrAt 2 cfg1.N = product (V c main_v20) (V c main_v18) := by
  unfold product
  refine (dat1 V c).arrAt_eq_of_covers 2 _ (by decide +kernel) fun t hf y => ?_
  blk_simp
  rw [after1_2]
  refine Eq.trans (out1_at _ _ _) ?_
  refine dot_congr (fun k => ?_) (fun k => ?_)
  all_goals blk_ext [iblk1, idx1 t]

end Cert.InBlock
-- ==== Proof.InHost.lean ====
module

public import proofs.«01_k».proof.Proof.Gen.Kernel4Ideal.Frame
public import Idealize.ShloMosaic.Lib.Pipeline.ValueKit
public import Idealize.ShloMosaic.Lib.StableHlo.RunRead
public import proofs.«01_k».proof.Proof.FfnMath

/-! The arrays that the input projection's calls read, as functions of the arguments, and their elements. -/

@[expose] public section
set_option maxRecDepth 16384
noncomputable section
namespace Cert.InHost
open Cert.Kernel4Ideal Cert.Kernel4Ideal.Gen Idealize.ShloMosaic Idealize.ShloMosaic.TcCoe Idealize.SL.Sem Cert.FfnMath

/-- Within each group of 32 rotary lanes, the two halves of 16 trade places. -/
def swap (j : Fin 64) : Fin 64 := ⟨if j.val % 32 < 16 then j.val + 16 else j.val - 16, by split <;> omega⟩

/-- The column of the given weight that column `j` of the prepared weight holds. -/
def src (j : Fin 5632) : Fin 5440 := ⟨if j.val < 512 then 768 + j.val
  else if j.val < 640 then 1280 + (j.val - 512) % 64
  else if j.val < 768 then (if (j.val - 640) % 32 < 16 then 1280 + (j.val - 640) % 64 + 16 else 1280 + (j.val - 640) % 64 - 16)
  else if j.val < 1536 then j.val - 768 else 1344 + (j.val - 1536), by split_ifs <;> omega⟩

/-- All tokens, one row each: the prompt's, then the samples'. -/
def tokens (x : (⟨S32x256x4096, .f32⟩ : BufTy).Contents (Elt Ideal)) (y : (⟨S2x2048x4096, .f32⟩ : BufTy).Contents (Elt Ideal)) :
    (⟨S12288x4096, .f32⟩ : BufTy).Contents (Elt Ideal) :=
  concatenate S12288x4096 0 [⟨S8192x4096, shapeCast S8192x4096 x shapeCasts_S32x256x4096_S8192x4096⟩,
    ⟨S4096x4096, shapeCast S4096x4096 y shapeCasts_S2x2048x4096_S4096x4096⟩] concatenates_S8192x4096_S4096x4096_S12288x4096_d0

/-- A modulation table: the prompt's entry, the two samples' entries, five rows of zeros. -/
def table (x : (⟨S1x1x4096, .f32⟩ : BufTy).Contents (Elt Ideal)) (y : (⟨S2x1x4096, .f32⟩ : BufTy).Contents (Elt Ideal)) :
    (⟨S8x1x4096, .f32⟩ : BufTy).Contents (Elt Ideal) :=
  concatenate S8x1x4096 0 [⟨S1x1x4096, x⟩, ⟨S2x1x4096, y⟩,
    ⟨S5x1x4096, broadcastInDim S5x1x4096 ![] bcast_S_S5x1x4096 (constant (F := Ideal) S_ .f32 0x00000000#32)⟩]
    concatenates_S1x1x4096_S2x1x4096_S5x1x4096_S8x1x4096_d0

/-- A prompt token's row. -/
theorem tokens_prompt (x : (⟨S32x256x4096, .f32⟩ : BufTy).Contents (Elt Ideal)) (y : (⟨S2x2048x4096, .f32⟩ : BufTy).Contents (Elt Ideal))
    (r : Fin 12288) (h : r.val < 8192) (d : Fin 4096) : tokens x y (ix2 r d) =
      x (ix3 (⟨r.val / 256, by omega⟩ : Fin 32) (⟨r.val % 256, by omega⟩ : Fin 256) d) := by
  pointwise [tokens]
  rw [dif_pos h]

/-- A sample token's row. -/
theorem tokens_sample (x : (⟨S32x256x4096, .f32⟩ : BufTy).Contents (Elt Ideal)) (y : (⟨S2x2048x4096, .f32⟩ : BufTy).Contents (Elt Ideal))
    (r : Fin 12288) (h : ¬ r.val < 8192) (d : Fin 4096) : tokens x y (ix2 r d) =
      y (ix3 (⟨(r.val - 8192) / 2048, by omega⟩ : Fin 2) (⟨(r.val - 8192) % 2048, by omega⟩ : Fin 2048) d) := by
  pointwise [tokens]
  rw [dif_neg h]

/-- The prompt's entry of a modulation table. -/
theorem table_prompt (x : (⟨S1x1x4096, .f32⟩ : BufTy).Contents (Elt Ideal)) (y : (⟨S2x1x4096, .f32⟩ : BufTy).Contents (Elt Ideal))
    (r : Fin 12288) (h : r.val < 8192) (d : Fin 4096) : table x y (ix3 (sel r) (0 : Fin 1) d) = x (ix3 (0 : Fin 1) (0 : Fin 1) d) := by
  have e : sel r = 0 := Fin.ext (by unfold sel; exact if_pos h)
  rw [e]
  pointwise [table]

/-- A sample's entry of a modulation table. -/
theorem table_sample (x : (⟨S1x1x4096, .f32⟩ : BufTy).Contents (Elt Ideal)) (y : (⟨S2x1x4096, .f32⟩ : BufTy).Contents (Elt Ideal))
    (r : Fin 12288) (h : ¬ r.val < 8192) (d : Fin 4096) : table x y (ix3 (sel r) (0 : Fin 1) d) =
      y (ix3 (⟨(r.val - 8192) / 2048, by omega⟩ : Fin 2) (0 : Fin 1) d) := by
  have e : (sel r).val = 1 + (r.val - 8192) / 2048 := by unfold sel; exact if_neg h
  generalize sel r = s at e
  pointwise [table]
  rw [dif_neg (show ¬ s.val < 1 by omega), dif_pos (show s.val - 1 < 2 by omega)]
  exact congrArg (fun u => y (ix3 u (0 : Fin 1) d)) (Fin.ext (by show s.val - 1 = (r.val - 8192) / 2048; omega))

/-- The norm's weight as one row. -/
def row (w : (⟨S4096, .f32⟩ : BufTy).Contents (Elt Ideal)) : (⟨S1x4096, .f32⟩ : BufTy).Contents (Elt Ideal) :=
  shapeCast S1x4096 w shapeCasts_S4096_S1x4096

/-- The norm's weight, read as a row. -/
theorem row_at (w : (⟨S4096, .f32⟩ : BufTy).Contents (Elt Ideal)) (d : Fin 4096) : row w (ix2 (0 : Fin 1) d) = w (ix1 d) := by
  pointwise [row]

/-- The permutation's literal table. -/
def tab : (⟨S64, .i32⟩ : BufTy).Contents (Elt Ideal) := fun i => lit0 (S64.rowMajor i)

/-- The permutation as the gather reads it: one column of lane numbers, a negative one counted from the end. -/
def perm : (⟨S64x1, .i32⟩ : BufTy).Contents (Elt Ideal) :=
  broadcastInDim S64x1 ![0] bcast_S64_S64x1_0 (select
    (cmpi .slt tab (broadcastInDim S64 ![] bcast_S_S64 (constantI S_ 32 0#32)))
    (addi tab (broadcastInDim S64 ![] bcast_S_S64 (constantI S_ 32 64#32))) tab)

theorem perm_at (j : Fin 64) : perm (ix2 j (0 : Fin 1)) = BitVec.ofNat 32 (swap j).val := by
  revert j
  decide +kernel

theorem swap_word (j : Fin 64) : min (BitVec.ofNat 32 (swap j).val).toInt.toNat 63 = (swap j).val := by
  revert j
  decide +kernel

/-- The host's gather reads column `swap j`. -/
theorem gather_at (x : (⟨S4096x64, .f32⟩ : BufTy).Contents (Elt Ideal)) (r : Fin 4096) (j : Fin 64) :
    Host.gather gather_S4096x64_S64x1_S4096x64_0_1_n_n_1_1_40961 x perm (ix2 r j) = x (ix2 r (swap j)) := by
  unfold Host.gather
  refine congrArg x (funext fun a => Fin.ext ?_)
  have hb : ∀ a' : Fin 2, a' ∉ gather_S4096x64_S64x1_S4096x64_0_1_n_n_1_1_40961.operandBatchingDims :=
    fun a' => List.not_mem_nil
  match a with
  | ⟨0, _⟩ =>
    show GatherDims.start _ (ix2 r j) perm 0 + GatherDims.batchCoord _ (ix2 r j) 0 + GatherDims.offCoord _ (ix2 r j) 0 = r.val
    rw [GatherDims.batchCoord_eq_zero _ _ _ (hb 0)]
    unfold GatherDims.start
    rw [dif_neg (by decide)]
    simp only [Nat.zero_add]
    rfl
  | ⟨1, _⟩ =>
    show GatherDims.start _ (ix2 r j) perm 1 + GatherDims.batchCoord _ (ix2 r j) 1 + GatherDims.offCoord _ (ix2 r j) 1 = (swap j).val
    rw [GatherDims.batchCoord_eq_zero _ _ _ (hb 1),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x64_S64x1_S4096x64_0_1_n_n_1_1_40961.startIndexMap from
      List.mem_singleton.mpr rfl)]
    refine Eq.trans ?_ (swap_word j)
    rw [← perm_at j]
    have hsi : gather_S4096x64_S64x1_S4096x64_0_1_n_n_1_1_40961.siIdx (ix2 r j)
        ⟨List.idxOf (1 : Fin 2) gather_S4096x64_S64x1_S4096x64_0_1_n_n_1_1_40961.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-- The rotary columns of the given weight. -/
def rot (w : (⟨S4096x5440, .f32⟩ : BufTy).Contents (Elt Ideal)) : (⟨S4096x64, .f32⟩ : BufTy).Contents (Elt Ideal) :=
  extractStridedSlice S4096x64 ![0, 1280] w slices_S4096x5440_S4096x64_0_1280

/-- The rotary columns with the halves swapped. -/
def rotSw (w : (⟨S4096x5440, .f32⟩ : BufTy).Contents (Elt Ideal)) : (⟨S4096x64, .f32⟩ : BufTy).Contents (Elt Ideal) :=
  Host.gather gather_S4096x64_S64x1_S4096x64_0_1_n_n_1_1_40961 (rot w) perm

theorem rot_at (w : (⟨S4096x5440, .f32⟩ : BufTy).Contents (Elt Ideal)) (k : Fin 4096) (j : Fin 64) :
    rot w (ix2 k j) = w (ix2 k (⟨1280 + j.val, by omega⟩ : Fin 5440)) := by
  pointwise [rot]

theorem rotSw_at (w : (⟨S4096x5440, .f32⟩ : BufTy).Contents (Elt Ideal)) (k : Fin 4096) (j : Fin 64) :
    rotSw w (ix2 k j) = w (ix2 k (⟨1280 + (swap j).val, by omega⟩ : Fin 5440)) :=
  (gather_at (rot w) k j).trans (rot_at w k (swap j))

/-- The prepared weight before its cast. -/
def wide32 (w : (⟨S4096x5440, .f32⟩ : BufTy).Contents (Elt Ideal)) : (⟨S4096x5632, .f32⟩ : BufTy).Contents (Elt Ideal) :=
  concatenate S4096x5632 1 [⟨S4096x512, extractStridedSlice S4096x512 ![0, 768] w slices_S4096x5440_S4096x512_0_768⟩,
    ⟨S4096x64, rot w⟩,
    ⟨S4096x64, rot w⟩,
    ⟨S4096x64, rotSw w⟩,
    ⟨S4096x64, rotSw w⟩,
    ⟨S4096x768, extractStridedSlice S4096x768 ![0, 0] w slices_S4096x5440_S4096x768_0_0⟩,
    ⟨S4096x4096, extractStridedSlice S4096x4096 ![0, 1344] w slices_S4096x5440_S4096x4096_0_1344⟩] concatenates_S4096x512_S4096x64_S4096x64_S4096x64_S4096x64_S4096x768_S4096x4096_S4096x5632_d1

/-- The prepared weight. -/
def wide (w : (⟨S4096x5440, .f32⟩ : BufTy).Contents (Elt Ideal)) : (⟨S4096x5632, .bf16⟩ : BufTy).Contents (Elt Ideal) :=
  truncf (F := Ideal) (s := S4096x5632) (φ := .f32) .bf16 (wide32 w) bitsLt_bf16_f32

/-- Column `j` of the prepared weight is column `src j` of the given one. -/
theorem wide_at (w : (⟨S4096x5440, .f32⟩ : BufTy).Contents (Elt Ideal)) (k : Fin 4096) (j : Fin 5632) :
    wide w (ix2 k j) = w (ix2 k (src j)) := by
  pointwise [wide, wide32]
  simp only [rot_at, rotSw_at]
  split_ifs
  all_goals
    refine congrArg (fun u => w (ix2 k u)) (Fin.ext ?_)
    simp only [src, swap]
    split_ifs <;> omega

variable (m : (ℓ : Loc nD τ sig) → Buf (Elt Ideal) ℓ) (ρ : Dev nD → PrngReg) (c : Dev nD)

/-- The tokens as the calls find them. -/
theorem V_main_v2 : V1 m ρ c main_v2 = tokens (m ((c : Thread nD τ).loc main_arg0)) (m ((c : Thread nD τ).loc main_arg1)) := by
  simp only [V1, W1, hostOps0]
  after_results_simp <;> rfl

/-- The shift table as the calls find it. -/
theorem V_main_v4 : V1 m ρ c main_v4 = table (m ((c : Thread nD τ).loc main_arg3)) (m ((c : Thread nD τ).loc main_arg5)) := by
  simp only [V1, W1, hostOps0]
  after_results_simp <;> rfl

/-- The scale table as the calls find it. -/
theorem V_main_v5 : V1 m ρ c main_v5 = table (m ((c : Thread nD τ).loc main_arg4)) (m ((c : Thread nD τ).loc main_arg6)) := by
  simp only [V1, W1, hostOps0]
  after_results_simp <;> rfl

/-- The prepared weight as the calls find it. -/
theorem V_main_v18 : V1 m ρ c main_v18 = wide (m ((c : Thread nD τ).loc main_arg7)) := by
  simp only [V1, W1, hostOps0]
  after_results_simp <;> rfl

/-- The norm's weight as the calls find it. -/
theorem V_main_v19 : V1 m ρ c main_v19 = row (m ((c : Thread nD τ).loc main_arg2)) := by
  simp only [V1, W1, hostOps0]
  after_results_simp <;> rfl

end Cert.InHost
-- ==== Proof.InRef.lean ====
module

public import proofs.«01_k».proof.Proof.Gen.Reference4Ideal.Read
public import Idealize.ShloMosaic.Lib.Pipeline.ValueKit
public import proofs.«01_k».proof.Proof.FfnMath
public import proofs.«01_k».proof.Proof.InHost

/-! The plain input projection, element by element. -/

@[expose] public section
set_option maxRecDepth 16384
noncomputable section
namespace Cert.InRef
open Cert.Reference4Ideal Cert.Reference4Ideal.Gen Idealize.ShloMosaic Idealize.ShloMosaic.TcCoe Idealize.SL.Sem
open Cert.Reference4Ideal.Read Cert.FfnMath
open Cert.InHost (src)

/-- A prompt token's modulated row. -/
theorem prompt_row (x0 : (⟨S32x256x4096, .f32⟩ : BufTy).Contents (Elt Ideal)) (x2 : (⟨S4096, .f32⟩ : BufTy).Contents (Elt Ideal)) (x3 x4 : (⟨S1x1x4096, .f32⟩ : BufTy).Contents (Elt Ideal))
    (b : Fin 32) (t : Fin 256) (d : Fin 4096) :
    val_main_v18 (F := Ideal) x0 x2 x3 x4 (ix3 b t d) = modulated (fun k => x0 (ix3 b t k)) (fun k => x2 (ix1 k))
      (fun k => x3 (ix3 (0 : Fin 1) (0 : Fin 1) k)) (fun k => x4 (ix3 (0 : Fin 1) (0 : Fin 1) k)) d := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, modulated]

/-- A prompt token's projection. -/
theorem prompt_out (x0 : (⟨S32x256x4096, .f32⟩ : BufTy).Contents (Elt Ideal)) (x2 : (⟨S4096, .f32⟩ : BufTy).Contents (Elt Ideal)) (x3 x4 : (⟨S1x1x4096, .f32⟩ : BufTy).Contents (Elt Ideal)) (x7 : (⟨S4096x5440, .f32⟩ : BufTy).Contents (Elt Ideal))
    (b : Fin 32) (t : Fin 256) (j : Fin 5440) :
    val_main_v19 (F := Ideal) x0 x2 x3 x4 x7 (ix3 b t j) = ∑ u : Fin 4096, modulated (fun k => x0 (ix3 b t k)) (fun k => x2 (ix1 k))
      (fun k => x3 (ix3 (0 : Fin 1) (0 : Fin 1) k)) (fun k => x4 (ix3 (0 : Fin 1) (0 : Fin 1) k)) u * x7 (ix2 u j) := by
  simp only [← prompt_row]
  pointwise [val_main_v19]

/-- A sample token's modulated row. -/
theorem sample_row (x1 : (⟨S2x2048x4096, .f32⟩ : BufTy).Contents (Elt Ideal)) (x2 : (⟨S4096, .f32⟩ : BufTy).Contents (Elt Ideal)) (x5 x6 : (⟨S2x1x4096, .f32⟩ : BufTy).Contents (Elt Ideal))
    (b : Fin 2) (t : Fin 2048) (d : Fin 4096) :
    val_main_v38 (F := Ideal) x1 x2 x5 x6 (ix3 b t d) = modulated (fun k => x1 (ix3 b t k)) (fun k => x2 (ix1 k))
      (fun k => x5 (ix3 b (0 : Fin 1) k)) (fun k => x6 (ix3 b (0 : Fin 1) k)) d := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst, val_main_cst_0, val_main_cst_1, val_main_cst_2, val_main_cst_3, val_main_cst_4, val_main_cst_5, val_main_cst_6, modulated]

/-- A sample token's projection. -/
theorem sample_out (x1 : (⟨S2x2048x4096, .f32⟩ : BufTy).Contents (Elt Ideal)) (x2 : (⟨S4096, .f32⟩ : BufTy).Contents (Elt Ideal)) (x5 x6 : (⟨S2x1x4096, .f32⟩ : BufTy).Contents (Elt Ideal)) (x7 : (⟨S4096x5440, .f32⟩ : BufTy).Contents (Elt Ideal))
    (b : Fin 2) (t : Fin 2048) (j : Fin 5440) :
    val_main_v39 (F := Ideal) x1 x2 x5 x6 x7 (ix3 b t j) = ∑ u : Fin 4096, modulated (fun k => x1 (ix3 b t k)) (fun k => x2 (ix1 k))
      (fun k => x5 (ix3 b (0 : Fin 1) k)) (fun k => x6 (ix3 b (0 : Fin 1) k)) u * x7 (ix2 u j) := by
  simp only [← sample_row]
  pointwise [val_main_v39]

/-- Equal columns hold equal elements. -/
theorem at_col (z : (⟨S12288x5440, .f32⟩ : BufTy).Contents (Elt Ideal)) (r : Fin 12288) {a b : Fin 5440} (h : a.val = b.val) :
    z (ix2 r a) = z (ix2 r b) := by rw [Fin.ext h]

/-- A choice both of whose sides are `v` is `v`. -/
theorem step {α : Type} {p : Prop} [Decidable p] {a : p → α} {b : ¬ p → α} {v : α} (ha : ∀ h, a h = v) (hb : ∀ h, b h = v) :
    dite p a b = v := by
  by_cases h : p
  · rw [dif_pos h]; exact ha h
  · rw [dif_neg h]; exact hb h

set_option maxHeartbeats 4000000 in
/-- The columns of the result are the projection's, in the order `src`. -/
theorem columns (x0 : (⟨S32x256x4096, .f32⟩ : BufTy).Contents (Elt Ideal)) (x1 : (⟨S2x2048x4096, .f32⟩ : BufTy).Contents (Elt Ideal)) (x2 : (⟨S4096, .f32⟩ : BufTy).Contents (Elt Ideal)) (x3 x4 : (⟨S1x1x4096, .f32⟩ : BufTy).Contents (Elt Ideal)) (x5 x6 : (⟨S2x1x4096, .f32⟩ : BufTy).Contents (Elt Ideal)) (x7 : (⟨S4096x5440, .f32⟩ : BufTy).Contents (Elt Ideal))
    (r : Fin 12288) (j : Fin 5632) : val_main_v51 (F := Ideal) x0 x1 x2 x3 x4 x5 x6 x7 (ix2 r j) =
    val_main_v42 (F := Ideal) x0 x1 x2 x3 x4 x5 x6 x7 (ix2 r (src j)) := by
  pointwise [val_main_v51, val_main_v50, val_main_v49, val_main_v48, val_main_v47, val_main_v46, val_main_v45, val_main_v44, val_main_v43]
  refine step (fun _ => at_col _ r ?_) fun _ => step (fun _ => at_col _ r ?_) fun _ => step (fun _ => at_col _ r ?_) fun _ =>
    step (fun _ => at_col _ r ?_) fun _ => step (fun _ => at_col _ r ?_) fun _ => step (fun _ => at_col _ r ?_) fun _ =>
    step (fun _ => at_col _ r ?_) fun _ => step (fun _ => at_col _ r ?_) fun _ => step (fun _ => at_col _ r ?_) fun _ =>
    step (fun _ => at_col _ r ?_) fun _ => step (fun _ => at_col _ r ?_) fun _ => step (fun _ => at_col _ r ?_) fun _ =>
    at_col _ r ?_
  all_goals
    simp only [src]
    split_ifs <;> omega

end Cert.InRef
-- ==== Proof.InValue.lean ====
module

public import proofs.«01_k».proof.Proof.InBlock
public import proofs.«01_k».proof.Proof.InHost
public import proofs.«01_k».proof.Proof.InRef

/-! The input projection's calls leave what the plain input projection computes. -/

@[expose] public section
set_option maxRecDepth 16384
noncomputable section
namespace Cert.InValue
open Cert.Kernel4Ideal Cert.Kernel4Ideal.Gen Idealize.ShloMosaic Idealize.ShloMosaic.TcCoe Idealize.SL.Sem
open Cert.FfnMath Cert.InHost Cert.InBlock

section
variable (x0 : (⟨S32x256x4096, .f32⟩ : BufTy).Contents (Elt Ideal)) (x1 : (⟨S2x2048x4096, .f32⟩ : BufTy).Contents (Elt Ideal)) (x2 : (⟨S4096, .f32⟩ : BufTy).Contents (Elt Ideal)) (x3 x4 : (⟨S1x1x4096, .f32⟩ : BufTy).Contents (Elt Ideal)) (x5 x6 : (⟨S2x1x4096, .f32⟩ : BufTy).Contents (Elt Ideal)) (x7 : (⟨S4096x5440, .f32⟩ : BufTy).Contents (Elt Ideal))

/-- What the two calls leave, as a function of the arguments. -/
def out : (⟨S12288x5632, .f32⟩ : BufTy).Contents (Elt Ideal) :=
  product (rows (tokens x0 x1) (row x2) (table x3 x5) (table x4 x6)) (wide x7)

/-- The calls' output is the plain output. -/
theorem value : out x0 x1 x2 x3 x4 x5 x6 x7 = Cert.Reference4Ideal.Read.val_main_v51 (F := Ideal) x0 x1 x2 x3 x4 x5 x6 x7 := by
  funext i
  obtain ⟨r, j, rfl⟩ : ∃ (r : Fin 12288) (j : Fin 5632), i = ix2 r j := ⟨i 0, i 1, (ix2_eta i).symm⟩
  have lhs : out x0 x1 x2 x3 x4 x5 x6 x7 (ix2 r j) = ∑ u : Fin 4096, modulated (fun k => tokens x0 x1 (ix2 r k))
      (fun k => row x2 (ix2 (0 : Fin 1) k)) (fun k => table x3 x5 (ix3 (sel r) (0 : Fin 1) k))
      (fun k => table x4 x6 (ix3 (sel r) (0 : Fin 1) k)) u * wide x7 (ix2 u j) := rfl
  rw [lhs]
  refine Eq.trans ?_ (InRef.columns x0 x1 x2 x3 x4 x5 x6 x7 r j).symm
  simp only [wide_at]
  generalize src j = q
  by_cases h : r.val < 8192
  · simp only [tokens_prompt _ _ r h, table_prompt _ _ r h, row_at]
    pointwise [Cert.Reference4Ideal.Read.val_main_v42, Cert.Reference4Ideal.Read.val_main_v41, Cert.Reference4Ideal.Read.val_main_v40]
    rw [dif_pos h]
    exact (InRef.prompt_out x0 x2 x3 x4 x7 _ _ q).symm
  · simp only [tokens_sample _ _ r h, table_sample _ _ r h, row_at]
    pointwise [Cert.Reference4Ideal.Read.val_main_v42, Cert.Reference4Ideal.Read.val_main_v41, Cert.Reference4Ideal.Read.val_main_v40]
    rw [dif_neg h]
    exact (InRef.sample_out x1 x2 x5 x6 x7 _ _ q).symm
end

variable (m : (ℓ : Loc nD τ sig) → Buf (Elt Ideal) ℓ) (ρ : Dev nD → PrngReg) (c : Dev nD)

/-- The program's result buffer after the last call. -/
theorem result : W3 m ρ c (Proc.devRef .tc main_v21) = out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  have h20 : V2 m ρ c main_v20 = rows (V1 m ρ c main_v2) (V1 m ρ c main_v19) (V1 m ρ c main_v4) (V1 m ρ c main_v5) :=
    (W2_arr m ρ c 4).trans (final0 (V1 m ρ) c)
  have h21 : W3 m ρ c (Proc.devRef .tc main_v21) = product (V2 m ρ c main_v20) (V2 m ρ c main_v18) :=
    (W3_arr m ρ c 2).trans (final1 (V2 m ρ) c)
  have h18 : V2 m ρ c main_v18 = V1 m ρ c main_v18 := W2_of m ρ c main_v18 (by decide)
  rw [h21, h20, h18, V_main_v2, V_main_v4, V_main_v5, V_main_v18, V_main_v19]
  rfl

end Cert.InValue
-- ==== Proof.OutValue.lean ====
module

public import proofs.«01_k».proof.Proof.Gen.Kernel5Ideal.Value
public import proofs.«01_k».proof.Proof.Gen.Reference5Ideal.Read
public import Idealize.ShloMosaic.Lib.Pipeline.Value
public import Idealize.ShloMosaic.Lib.Pipeline.ValueKit
public import Idealize.ShloMosaic.Lib.StableHlo.RunRead
public import Idealize.ShloMosaic.Lib.UnfoldOut
public import proofs.«01_k».proof.Proof.FfnMath

/-! The output projection's call leaves what the plain output projection computes. -/

@[expose] public section
set_option maxRecDepth 16384
noncomputable section
namespace Cert.OutValue
open Cert.Kernel5Ideal Cert.Kernel5Ideal.Gen Idealize.ShloMosaic Idealize.ShloMosaic.TcCoe Idealize.SL.Sem
open Cert.FfnMath

/-- What a point of the call writes. -/
theorem out_at (x0 : Vec Ideal S1024x4096 .bf16) (x1 : Vec Ideal S4096x512 .bf16) (x2 : Vec Ideal S1024x512 .f32)
    (x3 : Vec Ideal S1x1x512 .f32) (y : S1024x512.Idx) : out0_4 (F := Ideal) x0 x1 x2 x3 y =
      x2 y + x3 (ix3 (0 : Fin 1) (0 : Fin 1) (y 1)) * ∑ k : Fin 4096, x0 (ix2 (y 0) k) * x1 (ix2 k (y 1)) := by
  unfold out0_4
  canon_tiles y h
  rename_i z
  obtain rfl : z = y := funext fun a => match a with
    | ⟨0, _⟩ => Fin.ext h0
    | ⟨1, _⟩ => Fin.ext h1
  pointwise [k0_pay1]

/-- The index maps of the call's windows, over the grid's points. -/
theorem idx : ∀ t : Fin cfg0.N, win0_0.index t = ![t.val / 8, 0] ∧ win0_1.index t = ![0, t.val % 8]
    ∧ win0_2.index t = ![t.val / 8, t.val % 8]
    ∧ win0_3.index t = ![if t.val / 8 < 8 then 0 else 1 + (t.val / 8 - 8) / 2, 0, t.val % 8]
    ∧ win0_4.index t = ![t.val / 8, t.val % 8] :=
  (by decide +kernel : ∀ t : Fin grid0.N, _)

/-- The output over the arrays the call is given: the input plus the gated projection. -/
def down (U : Vec Ideal S12288x4096 .bf16) (A : Vec Ideal S4096x4096 .bf16) (X : Vec Ideal S12288x4096 .f32)
    (G : Vec Ideal S8x1x4096 .f32) : Vec Ideal S12288x4096 .f32 := fun i =>
  X (ix2 (i 0) (i 1)) + G (ix3 (sel (i 0)) (0 : Fin 1) (i 1)) * ∑ k : Fin 4096, U (ix2 (i 0) k) * A (ix2 k (i 1))

/-- All tokens, one row each: the prompt's, then the samples'. -/
def tokens (x : (⟨S32x256x4096, .f32⟩ : BufTy).Contents (Elt Ideal)) (y : (⟨S2x2048x4096, .f32⟩ : BufTy).Contents (Elt Ideal)) :
    (⟨S12288x4096, .f32⟩ : BufTy).Contents (Elt Ideal) :=
  concatenate S12288x4096 0 [⟨S8192x4096, shapeCast S8192x4096 x shapeCasts_S32x256x4096_S8192x4096⟩,
    ⟨S4096x4096, shapeCast S4096x4096 y shapeCasts_S2x2048x4096_S4096x4096⟩] concatenates_S8192x4096_S4096x4096_S12288x4096_d0

/-- The gate table: the prompt's entry, the two samples' entries, five rows of zeros. -/
def table (x : (⟨S1x1x4096, .f32⟩ : BufTy).Contents (Elt Ideal)) (y : (⟨S2x1x4096, .f32⟩ : BufTy).Contents (Elt Ideal)) :
    (⟨S8x1x4096, .f32⟩ : BufTy).Contents (Elt Ideal) :=
  concatenate S8x1x4096 0 [⟨S1x1x4096, x⟩, ⟨S2x1x4096, y⟩,
    ⟨S5x1x4096, broadcastInDim S5x1x4096 ![] bcast_S_S5x1x4096 (constant (F := Ideal) S_ .f32 0x00000000#32)⟩]
    concatenates_S1x1x4096_S2x1x4096_S5x1x4096_S8x1x4096_d0

/-- A prompt token's row. -/
theorem tokens_prompt (x : (⟨S32x256x4096, .f32⟩ : BufTy).Contents (Elt Ideal)) (y : (⟨S2x2048x4096, .f32⟩ : BufTy).Contents (Elt Ideal))
    (r : Fin 12288) (h : r.val < 8192) (d : Fin 4096) : tokens x y (ix2 r d) =
      x (ix3 (⟨r.val / 256, by omega⟩ : Fin 32) (⟨r.val % 256, by omega⟩ : Fin 256) d) := by
  pointwise [tokens]
  rw [dif_pos h]

/-- A sample token's row. -/
theorem tokens_sample (x : (⟨S32x256x4096, .f32⟩ : BufTy).Contents (Elt Ideal)) (y : (⟨S2x2048x4096, .f32⟩ : BufTy).Contents (Elt Ideal))
    (r : Fin 12288) (h : ¬ r.val < 8192) (d : Fin 4096) : tokens x y (ix2 r d) =
      y (ix3 (⟨(r.val - 8192) / 2048, by omega⟩ : Fin 2) (⟨(r.val - 8192) % 2048, by omega⟩ : Fin 2048) d) := by
  pointwise [tokens]
  rw [dif_neg h]

/-- The prompt's entry of the table. -/
theorem table_prompt (x : (⟨S1x1x4096, .f32⟩ : BufTy).Contents (Elt Ideal)) (y : (⟨S2x1x4096, .f32⟩ : BufTy).Contents (Elt Ideal))
    (r : Fin 12288) (h : r.val < 8192) (d : Fin 4096) : table x y (ix3 (sel r) (0 : Fin 1) d) = x (ix3 (0 : Fin 1) (0 : Fin 1) d) := by
  have e : sel r = 0 := Fin.ext (by unfold sel; exact if_pos h)
  rw [e]
  pointwise [table]

/-- A sample's entry of the table. -/
theorem table_sample (x : (⟨S1x1x4096, .f32⟩ : BufTy).Contents (Elt Ideal)) (y : (⟨S2x1x4096, .f32⟩ : BufTy).Contents (Elt Ideal))
    (r : Fin 12288) (h : ¬ r.val < 8192) (d : Fin 4096) : table x y (ix3 (sel r) (0 : Fin 1) d) =
      y (ix3 (⟨(r.val - 8192) / 2048, by omega⟩ : Fin 2) (0 : Fin 1) d) := by
  have e : (sel r).val = 1 + (r.val - 8192) / 2048 := by unfold sel; exact if_neg h
  generalize sel r = s at e
  pointwise [table]
  rw [dif_neg (show ¬ s.val < 1 by omega), dif_pos (show s.val - 1 < 2 by omega)]
  exact congrArg (fun u => y (ix3 u (0 : Fin 1) d)) (Fin.ext (by show s.val - 1 = (r.val - 8192) / 2048; omega))

section
variable (x0 : (⟨S32x256x4096, .f32⟩ : BufTy).Contents (Elt Ideal)) (x1 : (⟨S2x2048x4096, .f32⟩ : BufTy).Contents (Elt Ideal))
  (x2 : (⟨S32x256x4096, .f32⟩ : BufTy).Contents (Elt Ideal)) (x3 : (⟨S2x2048x4096, .f32⟩ : BufTy).Contents (Elt Ideal))
  (x4 : (⟨S1x1x4096, .f32⟩ : BufTy).Contents (Elt Ideal)) (x5 : (⟨S2x1x4096, .f32⟩ : BufTy).Contents (Elt Ideal))
  (x6 : (⟨S4096x4096, .f32⟩ : BufTy).Contents (Elt Ideal))

/-- A prompt token's plain output. -/
theorem prompt_out (b : Fin 32) (t : Fin 256) (d : Fin 4096) :
    Cert.Reference5Ideal.Read.val_main_v3 (F := Ideal) x0 x2 x4 x6 (ix3 b t d) = x2 (ix3 b t d) + x4 (ix3 (0 : Fin 1) (0 : Fin 1) d) *
      ∑ k : Fin 4096, x0 (ix3 b t k) * x6 (ix2 k d) := by
  pointwise [Cert.Reference5Ideal.Read.val_main_v3, Cert.Reference5Ideal.Read.val_main_v2, Cert.Reference5Ideal.Read.val_main_v1,
    Cert.Reference5Ideal.Read.val_main_v0]

/-- A sample token's plain output. -/
theorem sample_out (b : Fin 2) (t : Fin 2048) (d : Fin 4096) :
    Cert.Reference5Ideal.Read.val_main_v7 (F := Ideal) x1 x3 x5 x6 (ix3 b t d) = x3 (ix3 b t d) + x5 (ix3 b (0 : Fin 1) d) *
      ∑ k : Fin 4096, x1 (ix3 b t k) * x6 (ix2 k d) := by
  pointwise [Cert.Reference5Ideal.Read.val_main_v7, Cert.Reference5Ideal.Read.val_main_v6, Cert.Reference5Ideal.Read.val_main_v5,
    Cert.Reference5Ideal.Read.val_main_v4]

/-- What the call leaves, as a function of the arguments. -/
def out : (⟨S12288x4096, .f32⟩ : BufTy).Contents (Elt Ideal) :=
  down (truncf (F := Ideal) (s := S12288x4096) (φ := .f32) .bf16 (tokens x0 x1) bitsLt_bf16_f32)
    (truncf (F := Ideal) (s := S4096x4096) (φ := .f32) .bf16 x6 bitsLt_bf16_f32) (tokens x2 x3) (table x4 x5)

/-- The call's output is the plain output. -/
theorem value : out x0 x1 x2 x3 x4 x5 x6 = Cert.Reference5Ideal.Read.val_main_v10 (F := Ideal) x0 x1 x2 x3 x4 x5 x6 := by
  funext i
  obtain ⟨r, d, rfl⟩ : ∃ (r : Fin 12288) (d : Fin 4096), i = ix2 r d := ⟨i 0, i 1, (ix2_eta i).symm⟩
  have lhs : out x0 x1 x2 x3 x4 x5 x6 (ix2 r d) = tokens x2 x3 (ix2 r d) + table x4 x5 (ix3 (sel r) (0 : Fin 1) d) *
      ∑ k : Fin 4096, tokens x0 x1 (ix2 r k) * x6 (ix2 k d) := rfl
  rw [lhs]
  by_cases h : r.val < 8192
  · simp only [tokens_prompt _ _ r h, table_prompt _ _ r h]
    pointwise [Cert.Reference5Ideal.Read.val_main_v10, Cert.Reference5Ideal.Read.val_main_v9, Cert.Reference5Ideal.Read.val_main_v8]
    rw [dif_pos h]
    exact (prompt_out x0 x2 x4 x6 _ _ d).symm
  · simp only [tokens_sample _ _ r h, table_sample _ _ r h]
    pointwise [Cert.Reference5Ideal.Read.val_main_v10, Cert.Reference5Ideal.Read.val_main_v9, Cert.Reference5Ideal.Read.val_main_v8]
    rw [dif_neg h]
    exact (sample_out x1 x3 x5 x6 _ _ d).symm
end

variable (m : (ℓ : Loc nD τ sig) → Buf (Elt Ideal) ℓ) (c : Dev nD)

set_option maxHeartbeats 1000000 in
/-- What the call leaves over the arrays it is given. -/
theorem final : (dats m 0 c).arrAt 4 cfg0.N = down (V m c main_v6) (V m c main_v9) (V m c main_v2) (V m c main_v8) := by
  unfold down
  refine (dats m 0 c).arrAt_eq_of_covers 4 _ (by decide +kernel) fun t hf y => ?_
  blk_simp
  rw [after0_4]
  refine Eq.trans (out_at _ _ _ _ _) ?_
  refine congrArg₂ (· + ·) ?_ (congrArg₂ (· * ·) ?_ (Finset.sum_congr rfl fun k _ => congrArg₂ (· * ·) ?_ ?_))
  · blk_ext [iblk, idx t]
  · blk_ext [iblk, idx t, sel]
    split <;> split <;> omega
  · blk_ext [iblk, idx t]
  · blk_ext [iblk, idx t]

/-- The tokens as the call finds them. -/
theorem V_main_v2 : V m c main_v2 = tokens (m ((c : Thread nD τ).loc main_arg2)) (m ((c : Thread nD τ).loc main_arg3)) := by
  simp only [V, hostOps0]
  after_results_simp <;> rfl

/-- The merged sequences as the call finds them. -/
theorem V_main_v6 : V m c main_v6 = truncf (F := Ideal) (s := S12288x4096) (φ := .f32) .bf16
    (tokens (m ((c : Thread nD τ).loc main_arg0)) (m ((c : Thread nD τ).loc main_arg1))) bitsLt_bf16_f32 := by
  simp only [V, hostOps0]
  after_results_simp <;> rfl

/-- The gate table as the call finds it. -/
theorem V_main_v8 : V m c main_v8 = table (m ((c : Thread nD τ).loc main_arg4)) (m ((c : Thread nD τ).loc main_arg5)) := by
  simp only [V, hostOps0]
  after_results_simp <;> rfl

/-- The weight as the call finds it. -/
theorem V_main_v9 : V m c main_v9 = truncf (F := Ideal) (s := S4096x4096) (φ := .f32) .bf16
    (m ((c : Thread nD τ).loc main_arg6)) bitsLt_bf16_f32 := by
  simp only [V, hostOps0]
  after_results_simp <;> rfl

/-- The call's output array. -/
theorem result : (dats m 0 c).arrAt 4 cfg0.N = out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  rw [final, V_main_v2, V_main_v6, V_main_v8, V_main_v9]
  rfl

end Cert.OutValue
-- ==== Proof.RmsMath.lean ====
module

public import Idealize.ShloMosaic.Lib.Pipeline.ValueKit
public import Idealize.ShloMosaic.Lib.Pointwise

/-! A row normalized by its root mean square, and sums of products. -/

@[expose] public section
noncomputable section
namespace Cert.RmsMath
open Idealize.ShloMosaic

/-- Element `d` of a row normalized by its root mean square and weighted by `g`; `w` is the row's length. -/
def normed {n : Nat} (w : EReal) (x g : Fin n → EReal) (d : Fin n) : EReal :=
  x d * Ideal.rsqrt (Ideal.div (∑ k, x k * x k) w + Ideal.ofBits .f32 897988541#32) * g d

/-- Equal rows give equal normalized rows. -/
theorem normed_congr {n : Nat} (w : EReal) {x g x' g' : Fin n → EReal} (hx : ∀ k, x k = x' k) (hg : ∀ k, g k = g' k) (d : Fin n) :
    normed w x g d = normed w x' g' d := by rw [funext hx, funext hg]

/-- Equal factors give equal sums of products. -/
theorem dot_congr {n : Nat} {a b a' b' : Fin n → EReal} (ha : ∀ k, a k = a' k) (hb : ∀ k, b k = b' k) :
    ∑ k, a k * b k = ∑ k, a' k * b' k := Finset.sum_congr rfl fun k _ => congrArg₂ (· * ·) (ha k) (hb k)

end Cert.RmsMath
-- ==== Proof.QValue.lean ====
module

public import proofs.«01_k».proof.Proof.Gen.Kernel6Ideal.Value
public import proofs.«01_k».proof.Proof.Gen.Reference6Ideal.Read
public import Idealize.ShloMosaic.Lib.Pipeline.Value
public import Idealize.ShloMosaic.Lib.Pipeline.ValueKit
public import Idealize.ShloMosaic.Lib.StableHlo.RunRead
public import Idealize.ShloMosaic.Lib.UnfoldOut
public import Idealize.ShloMosaic.Lib.VecWindow
public import proofs.«01_k».proof.Proof.RmsMath

/-! The query call leaves what the plain query projection computes. -/

@[expose] public section
set_option maxRecDepth 16384
noncomputable section
namespace Cert.QValue
open Cert.Kernel6Ideal Cert.Kernel6Ideal.Gen Idealize.ShloMosaic Idealize.ShloMosaic.TcCoe Idealize.SL.Sem
open Cert.RmsMath

/-- Within each group of 32 rotary lanes, the two halves of 16 trade places. -/
def swap (j : Fin 64) : Fin 64 := ⟨if j.val % 32 < 16 then j.val + 16 else j.val - 16, by split <;> omega⟩

/-- The column of the given weight that column `j` of the prepared weight holds. -/
def src (j : Fin 4096) : Fin 3072 := ⟨if j.val % 256 < 192 then j.val / 256 * 192 + j.val % 256
  else if (j.val % 256 - 192) % 32 < 16 then j.val / 256 * 192 + 128 + (j.val % 256 - 192) + 16
  else j.val / 256 * 192 + 128 + (j.val % 256 - 192) - 16, by split_ifs <;> omega⟩

/-- A row of 768 elements normalized and weighted. -/
def nrow (x g : Fin 768 → EReal) (d : Fin 768) : EReal := normed (Ideal.ofBits .f32 0x44400000#32) x g d

/-! ## The arrays the call reads -/

/-- A permutation table as the gather reads it: one column of lane numbers, a negative one counted from the end. -/
def perm (t : (⟨S64, .i32⟩ : BufTy).Contents (Elt Ideal)) : (⟨S64x1, .i32⟩ : BufTy).Contents (Elt Ideal) :=
  broadcastInDim S64x1 ![0] bcast_S64_S64x1_0 (select
    (cmpi .slt t (broadcastInDim S64 ![] bcast_S_S64 (constantI S_ 32 0#32)))
    (addi t (broadcastInDim S64 ![] bcast_S_S64 (constantI S_ 32 64#32))) t)

/-- The weight's permutation table. -/
def tab : (⟨S64, .i32⟩ : BufTy).Contents (Elt Ideal) := fun i => lit0 (S64.rowMajor i)

/-- The latents' permutation table. -/
def tabZ : (⟨S64, .i32⟩ : BufTy).Contents (Elt Ideal) := fun i => lit1 (S64.rowMajor i)

theorem perm_at (j : Fin 64) : perm tab (ix2 j (0 : Fin 1)) = BitVec.ofNat 32 (swap j).val := by
  revert j
  decide +kernel

theorem swap_word (j : Fin 64) : min (BitVec.ofNat 32 (swap j).val).toInt.toNat 63 = (swap j).val := by
  revert j
  decide +kernel

/-- The host's gather reads lane `swap j`. -/
theorem gather_at (x : (⟨S768x16x64, .f32⟩ : BufTy).Contents (Elt Ideal)) (r : Fin 768) (h : Fin 16) (j : Fin 64) :
    Host.gather gather_S768x16x64_S64x1_S768x16x64_01_2_n_n_2_1_768161 x (perm tab) (ix3 r h j)
      = x (ix3 r h (swap j)) := by
  unfold Host.gather
  refine congrArg x (funext fun a => Fin.ext ?_)
  have hb : ∀ a' : Fin 3, a' ∉ gather_S768x16x64_S64x1_S768x16x64_01_2_n_n_2_1_768161.operandBatchingDims :=
    fun a' => List.not_mem_nil
  match a with
  | ⟨0, _⟩ =>
    show GatherDims.start _ (ix3 r h j) (perm tab) 0 + GatherDims.batchCoord _ (ix3 r h j) 0
      + GatherDims.offCoord _ (ix3 r h j) 0 = r.val
    rw [GatherDims.batchCoord_eq_zero _ _ _ (hb 0)]
    unfold GatherDims.start
    rw [dif_neg (by decide)]
    simp only [Nat.zero_add]
    rfl
  | ⟨1, _⟩ =>
    show GatherDims.start _ (ix3 r h j) (perm tab) 1 + GatherDims.batchCoord _ (ix3 r h j) 1
      + GatherDims.offCoord _ (ix3 r h j) 1 = h.val
    rw [GatherDims.batchCoord_eq_zero _ _ _ (hb 1)]
    unfold GatherDims.start
    rw [dif_neg (by decide)]
    simp only [Nat.zero_add]
    rfl
  | ⟨2, _⟩ =>
    show GatherDims.start _ (ix3 r h j) (perm tab) 2 + GatherDims.batchCoord _ (ix3 r h j) 2
      + GatherDims.offCoord _ (ix3 r h j) 2 = (swap j).val
    rw [GatherDims.batchCoord_eq_zero _ _ _ (hb 2),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S768x16x64_S64x1_S768x16x64_01_2_n_n_2_1_768161.startIndexMap from
      List.mem_singleton.mpr rfl)]
    refine Eq.trans ?_ (swap_word j)
    rw [← perm_at j]
    have hsi : gather_S768x16x64_S64x1_S768x16x64_01_2_n_n_2_1_768161.siIdx (ix3 r h j)
        ⟨List.idxOf (2 : Fin 3) gather_S768x16x64_S64x1_S768x16x64_01_2_n_n_2_1_768161.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

section
variable (w : (⟨S768x3072, .f32⟩ : BufTy).Contents (Elt Ideal))

/-- The weight by heads. -/
def heads : (⟨S768x16x192, .f32⟩ : BufTy).Contents (Elt Ideal) := shapeCast S768x16x192 w shapeCasts_S768x3072_S768x16x192

/-- The rotary columns of each head. -/
def rot : (⟨S768x16x64, .f32⟩ : BufTy).Contents (Elt Ideal) :=
  extractStridedSlice S768x16x64 ![0, 0, 128] (heads w) slices_S768x16x192_S768x16x64_0_0_128

/-- The rotary columns with the halves swapped. -/
def rotSw : (⟨S768x16x64, .f32⟩ : BufTy).Contents (Elt Ideal) :=
  Host.gather gather_S768x16x64_S64x1_S768x16x64_01_2_n_n_2_1_768161 (rot w) (perm tab)

/-- The prepared weight by heads. -/
def wideHeads : (⟨S768x16x256, .f32⟩ : BufTy).Contents (Elt Ideal) :=
  concatenate S768x16x256 2 [⟨S768x16x128, extractStridedSlice S768x16x128 ![0, 0, 0] (heads w) slices_S768x16x192_S768x16x128_0_0_0⟩,
    ⟨S768x16x64, rot w⟩, ⟨S768x16x64, rotSw w⟩] concatenates_S768x16x128_S768x16x64_S768x16x64_S768x16x256_d2

/-- The prepared weight. -/
def wide : (⟨S768x4096, .bf16⟩ : BufTy).Contents (Elt Ideal) :=
  truncf (F := Ideal) (s := S768x4096) (φ := .f32) .bf16 (shapeCast S768x4096 (wideHeads w) shapeCasts_S768x16x256_S768x4096) bitsLt_bf16_f32

theorem rot_at (k : Fin 768) (h : Fin 16) (j : Fin 64) :
    rot w (ix3 k h j) = w (ix2 k (⟨h.val * 192 + 128 + j.val, by omega⟩ : Fin 3072)) := by
  pointwise [rot, heads]
  exact congrArg (fun u => w (ix2 k u)) (Fin.ext (by show h.val * 192 + (128 + j.val) = h.val * 192 + 128 + j.val; omega))

theorem rotSw_at (k : Fin 768) (h : Fin 16) (j : Fin 64) :
    rotSw w (ix3 k h j) = w (ix2 k (⟨h.val * 192 + 128 + (swap j).val, by omega⟩ : Fin 3072)) :=
  (gather_at (rot w) k h j).trans (rot_at w k h (swap j))

/-- Column `j` of the prepared weight is column `src j` of the given one. -/
theorem wide_at (k : Fin 768) (j : Fin 4096) : wide w (ix2 k j) = w (ix2 k (src j)) := by
  pointwise [wide, wideHeads, heads]
  simp only [rot_at, rotSw_at]
  split_ifs
  all_goals
    refine congrArg (fun u => w (ix2 k u)) (Fin.ext ?_)
    simp only [src, swap]
    split_ifs <;> omega
end

section
variable (z : (⟨S12288x5440, .f32⟩ : BufTy).Contents (Elt Ideal))

/-- The rotary columns of the latents. -/
def rotZ : (⟨S12288x64, .f32⟩ : BufTy).Contents (Elt Ideal) :=
  extractStridedSlice S12288x64 ![0, 1280] z slices_S12288x5440_S12288x64_0_1280

/-- The rotary columns of the latents with the halves swapped. -/
def rotSwZ : (⟨S12288x64, .f32⟩ : BufTy).Contents (Elt Ideal) :=
  Host.gather gather_S12288x64_S64x1_S12288x64_0_1_n_n_1_1_122881 (rotZ z) (perm tabZ)

/-- The latents as the input projection leaves them. -/
def packed : (⟨S12288x5632, .f32⟩ : BufTy).Contents (Elt Ideal) :=
  concatenate S12288x5632 1 [⟨S12288x512, extractStridedSlice S12288x512 ![0, 768] z slices_S12288x5440_S12288x512_0_768⟩,
    ⟨S12288x64, rotZ z⟩,
    ⟨S12288x64, rotZ z⟩,
    ⟨S12288x64, rotSwZ z⟩,
    ⟨S12288x64, rotSwZ z⟩,
    ⟨S12288x768, extractStridedSlice S12288x768 ![0, 0] z slices_S12288x5440_S12288x768_0_0⟩,
    ⟨S12288x4096, extractStridedSlice S12288x4096 ![0, 1344] z slices_S12288x5440_S12288x4096_0_1344⟩] concatenates_S12288x512_S12288x64_S12288x64_S12288x64_S12288x64_S12288x768_S12288x4096_S12288x5632_d1

/-- The query latents stand in columns 768 to 1535. -/
theorem packed_at (r : Fin 12288) (k : Fin 768) :
    packed z (ix2 r (⟨768 + k.val, by omega⟩ : Fin 5632)) = z (ix2 r (⟨k.val, by omega⟩ : Fin 5440)) := by
  pointwise [packed]
  split_ifs
  all_goals first
    | (exfalso; omega)
    | exact congrArg (fun u => z (ix2 r u)) (Fin.ext (by first | omega | (simp only []; omega)))
end

/-- The norm's weight as one row. -/
def row (g : (⟨S768, .f32⟩ : BufTy).Contents (Elt Ideal)) : (⟨S1x768, .f32⟩ : BufTy).Contents (Elt Ideal) :=
  shapeCast S1x768 g shapeCasts_S768_S1x768

/-- The norm's weight, read as a row. -/
theorem row_at (g : (⟨S768, .f32⟩ : BufTy).Contents (Elt Ideal)) (d : Fin 768) : row g (ix2 (0 : Fin 1) d) = g (ix1 d) := by
  pointwise [row]

/-! ## The plain query projection, element by element -/

section
open Cert.Reference6Ideal.Read
variable (z : (⟨S12288x5440, .f32⟩ : BufTy).Contents (Elt Ideal)) (g : (⟨S768, .f32⟩ : BufTy).Contents (Elt Ideal))
  (w : (⟨S768x3072, .f32⟩ : BufTy).Contents (Elt Ideal))

/-- A token's normalized query latents. -/
theorem ref_row (r : Fin 12288) (d : Fin 768) : val_main_v16 (F := Ideal) z g (ix2 r d) =
    nrow (fun k => z (ix2 r (⟨k.val, by omega⟩ : Fin 5440))) (fun k => g (ix1 k)) d := by
  pointwise [val_main_v16, val_main_v15, val_main_v14, val_main_v13, val_main_v12, val_main_v11, val_main_v10, val_main_v9, val_main_v8,
    val_main_v7, val_main_v6, val_main_v5, val_main_v4, val_main_v0, val_main_cst, val_main_cst_0, val_main_cst_1, nrow, normed]

/-- A token's queries. -/
theorem ref_dot (r : Fin 12288) (j : Fin 3072) : val_main_v17 (F := Ideal) z g w (ix2 r j) = ∑ u : Fin 768,
    nrow (fun k => z (ix2 r (⟨k.val, by omega⟩ : Fin 5440))) (fun k => g (ix1 k)) u * w (ix2 u j) := by
  simp only [← ref_row]
  pointwise [val_main_v17]

/-- Equal columns hold equal elements. -/
theorem at_col (q : (⟨Cert.Reference6Ideal.S12288x3072, .f32⟩ : BufTy).Contents (Elt Ideal)) (r : Fin 12288) {a b : Fin 3072} (h : a.val = b.val) :
    q (ix2 r a) = q (ix2 r b) := by rw [Fin.ext h]

/-- A choice both of whose sides are `v` is `v`. -/
theorem step {α : Type} {p : Prop} [Decidable p] {a : p → α} {b : ¬ p → α} {v : α} (ha : ∀ h, a h = v) (hb : ∀ h, b h = v) :
    dite p a b = v := by
  by_cases h : p
  · rw [dif_pos h]; exact ha h
  · rw [dif_neg h]; exact hb h

set_option maxHeartbeats 4000000 in
/-- The columns of the result are the queries', in the order `src`. -/
theorem columns (r : Fin 12288) (j : Fin 4096) : val_main_v26 (F := Ideal) z g w (ix2 r j) =
    val_main_v17 (F := Ideal) z g w (ix2 r (src j)) := by
  pointwise [val_main_v26, val_main_v25, val_main_v24, val_main_v23, val_main_v22, val_main_v21, val_main_v20, val_main_v19, val_main_v18]
  refine step (fun _ => at_col _ r ?_) fun _ => step (fun _ => at_col _ r ?_) fun _ => step (fun _ => at_col _ r ?_) fun _ =>
    step (fun _ => at_col _ r ?_) fun _ => at_col _ r ?_
  all_goals
    simp only [src]
    split_ifs <;> omega
end

/-! ## The call -/

/-- What a point of the call writes. -/
theorem out_at (c : Dev nD) (i : grid0.Coords) (a2 : Memref sig .tc .vmem S256x768 .f32) (h2 : a2.IsWhole)
    (a3 : Memref sig .tc .vmem S1x768 .f32) (h3 : a3.IsWhole) (a4 : Memref sig .tc .vmem S768x4096 .bf16) (h4 : a4.IsWhole)
    (a5 : Memref sig .tc .vmem S256x4096 .bf16) (h5 : a5.IsWhole)
    (x0 : Vec Ideal S256x768 .f32) (x1 : Vec Ideal S1x768 .f32) (x2 : Vec Ideal S768x4096 .bf16) (y : S256x4096.Idx) :
    out0_A_3 (F := Ideal) c i a2 h2 a3 h3 a4 h4 a5 h5 x0 x1 x2 y =
      ∑ u : Fin 768, nrow (fun k => x0 (ix2 (y 0) k)) (fun k => x1 (ix2 (0 : Fin 1) k)) u * x2 (ix2 u (y 1)) := by
  have hz : (![0, 0] : Fin 2 → Nat) = fun _ => 0 := funext fun a => by fin_cases a <;> rfl
  have e : out0_A_3 (F := Ideal) c i a2 h2 a3 h3 a4 h4 a5 h5 x0 x1 x2 = k0_pay1 (F := Ideal) x0 x1 x2 := by
    unfold out0_A_3
    rw [View.read_writes_eq_canon _ _ _ (cover0_A_3 c i a2 h2 a3 h3 a4 h4 a5 h5 x0 x1 x2)]
    unfold kernelRun0_A
    dsimp only
    rw [View.canon_unit_zero hz]
    simp only [View.readAt_eq_ld, h2.read_unread, h3.read_unread, h4.read_unread, View.ld_unit_zero (S := S256x768) hz,
      View.ld_unit_zero (S := S1x768) hz, View.ld_unit_zero (S := S768x4096) hz]
  rw [e]
  pointwise [k0_pay1, nrow, normed]

/-- The index maps of the call's windows, over the grid's points. -/
theorem idx : ∀ t : Fin cfg0.N, win0_0.index t = ![t.val, 1] ∧ win0_1.index t = ![0, 0] ∧ win0_2.index t = ![0, 0] ∧ win0_3.index t = ![t.val, 0] :=
  (by decide +kernel : ∀ t : Fin grid0.N, _)

/-- The queries over the arrays the call is given. -/
def queries (Z : Vec Ideal S12288x5632 .f32) (G : Vec Ideal S1x768 .f32) (A : Vec Ideal S768x4096 .bf16) : Vec Ideal S12288x4096 .bf16 := fun i =>
  ∑ u : Fin 768, nrow (fun k => Z (ix2 (i 0) (⟨768 + k.val, by omega⟩ : Fin 5632))) (fun k => G (ix2 (0 : Fin 1) k)) u * A (ix2 u (i 1))

variable (m : (ℓ : Loc nD τ sig) → Buf (Elt Ideal) ℓ) (c : Dev nD)

/-- The latents' block at a point. -/
theorem block_at (t : Fin cfg0.N) (p : Fin 256) (k : Fin 768) : X0_0 (F := Ideal) m c t (ix2 p k) =
    V m c main_v24 (ix2 (⟨t.val * 256 + p.val, by have h : t.val < 48 := t.isLt; omega⟩ : Fin 12288) (⟨768 + k.val, by omega⟩ : Fin 5632)) := by
  have h : t.val < 48 := t.isLt
  unfold X0_0 Pipeline.Window.fill
  rw [dif_pos (moved0_0 t (ix2 p k))]
  blk_ext [iblk, idx t]

set_option maxHeartbeats 1000000 in
/-- What the call leaves over the arrays it is given. -/
theorem final : (dats m 0 c).arrAt 3 cfg0.N = queries (V m c main_v24) (V m c main_v25) (V m c main_v12) := by
  unfold queries
  refine (dats m 0 c).arrAt_eq_of_covers 3 _ (by decide +kernel) fun t hf y => ?_
  have h : t.val < 48 := t.isLt
  blk_simp
  rw [after0_3]
  unfold outsAt0
  refine Eq.trans (out_at _ _ _ _ _ _ _ _ _ _ _ _ _ _) ?_
  refine dot_congr (fun u => normed_congr _ (fun k => (block_at m c t _ k).trans ?_) (fun k => ?_) u) (fun u => ?_)
  all_goals blk_ext [iblk, idx t]

/-- The latents as the call finds them. -/
theorem V_main_v24 : V m c main_v24 = packed (m ((c : Thread nD τ).loc main_arg0)) := by
  simp only [V, hostOps0]
  after_results_simp <;> rfl

/-- The norm's weight as the call finds it. -/
theorem V_main_v25 : V m c main_v25 = row (m ((c : Thread nD τ).loc main_arg1)) := by
  simp only [V, hostOps0]
  after_results_simp <;> rfl

/-- The projection's weight as the call finds it. -/
theorem V_main_v12 : V m c main_v12 = wide (m ((c : Thread nD τ).loc main_arg2)) := by
  simp only [V, hostOps0]
  after_results_simp <;> rfl

/-- What the call leaves, as a function of the arguments. -/
def out (z : (⟨S12288x5440, .f32⟩ : BufTy).Contents (Elt Ideal)) (g : (⟨S768, .f32⟩ : BufTy).Contents (Elt Ideal))
    (w : (⟨S768x3072, .f32⟩ : BufTy).Contents (Elt Ideal)) : (⟨S12288x4096, .bf16⟩ : BufTy).Contents (Elt Ideal) :=
  queries (packed z) (row g) (wide w)

/-- The call's output array. -/
theorem result : (dats m 0 c).arrAt 3 cfg0.N = out (m ((c : Thread nD τ).loc main_arg0)) (m ((c : Thread nD τ).loc main_arg1))
    (m ((c : Thread nD τ).loc main_arg2)) := by
  rw [final, V_main_v24, V_main_v25, V_main_v12]
  rfl

/-- The call's output is the plain queries. -/
theorem value (z : (⟨S12288x5440, .f32⟩ : BufTy).Contents (Elt Ideal)) (g : (⟨S768, .f32⟩ : BufTy).Contents (Elt Ideal))
    (w : (⟨S768x3072, .f32⟩ : BufTy).Contents (Elt Ideal)) :
    out z g w = Cert.Reference6Ideal.Read.val_main_v26 (F := Ideal) z g w := by
  funext i
  obtain ⟨r, j, rfl⟩ : ∃ (r : Fin 12288) (j : Fin 4096), i = ix2 r j := ⟨i 0, i 1, (ix2_eta i).symm⟩
  refine Eq.trans ?_ ((columns z g w r j).trans (ref_dot z g w r (src j))).symm
  exact dot_congr (fun u => normed_congr _ (fun k => packed_at z r k) (fun k => row_at g k) u) (fun u => wide_at w u j)

end Cert.QValue
-- ==== Proof.KvPrep.lean ====
module

public import proofs.«01_k».proof.Proof.Gen.Kernel7Ideal.Value
public import proofs.«01_k».proof.Proof.AttnPrep
public import Idealize.ShloMosaic.Lib.Pipeline.ValueKit
public import Idealize.ShloMosaic.Lib.StableHlo.RunRead

@[expose] public section

/-! The arrays that the key/value call reads, as functions of the arguments; the rotary table is made of the attention
    call's two halves. -/

noncomputable section

namespace Cert.KvPrep

open Cert.Kernel7Ideal Cert.Kernel7Ideal.Gen Idealize.ShloMosaic Idealize.ShloMosaic.TcCoe Idealize.SL.Sem
open Cert.AttnPrep (upto_read congr_four h_v23 h_v24 h_v25 h_v26 h_v27 h_v29 h_v30 h_v32 h_v33 h_v34 h_v35 h_v36 h_v37 h_v38 h_v39 h_v40 h_v41 h_v42 h_v43 h_v44)

/-- A permutation table as the gather reads it: one column of lane numbers, a negative one counted from the end. -/
def perm : (⟨S64x1, .i32⟩ : BufTy).Contents (Elt Ideal) :=
  broadcastInDim S64x1 ![0] bcast_S64_S64x1_0 (select
    (cmpi .slt (fun i => lit0 (S64.rowMajor i) : (⟨S64, .i32⟩ : BufTy).Contents (Elt Ideal)) (broadcastInDim S64 ![] bcast_S_S64 (constantI S_ 32 0#32)))
    (addi (fun i => lit0 (S64.rowMajor i) : (⟨S64, .i32⟩ : BufTy).Contents (Elt Ideal)) (broadcastInDim S64 ![] bcast_S_S64 (constantI S_ 32 64#32)))
    (fun i => lit0 (S64.rowMajor i) : (⟨S64, .i32⟩ : BufTy).Contents (Elt Ideal)))

section
variable (z : (⟨S12288x5440, .f32⟩ : BufTy).Contents (Elt Ideal))

/-- The rotary columns of the latents. -/
def rotZ : (⟨S12288x64, .f32⟩ : BufTy).Contents (Elt Ideal) :=
  extractStridedSlice S12288x64 ![0, 1280] z slices_S12288x5440_S12288x64_0_1280

/-- The rotary columns of the latents with the halves swapped. -/
def rotSwZ : (⟨S12288x64, .f32⟩ : BufTy).Contents (Elt Ideal) :=
  Host.gather gather_S12288x64_S64x1_S12288x64_0_1_n_n_1_1_122881 (rotZ z) perm

/-- The latents as the input projection leaves them. -/
def packed : (⟨S12288x5632, .f32⟩ : BufTy).Contents (Elt Ideal) :=
  concatenate S12288x5632 1 [⟨S12288x512, extractStridedSlice S12288x512 ![0, 768] z slices_S12288x5440_S12288x512_0_768⟩,
    ⟨S12288x64, rotZ z⟩,
    ⟨S12288x64, rotZ z⟩,
    ⟨S12288x64, rotSwZ z⟩,
    ⟨S12288x64, rotSwZ z⟩,
    ⟨S12288x768, extractStridedSlice S12288x768 ![0, 0] z slices_S12288x5440_S12288x768_0_0⟩,
    ⟨S12288x4096, extractStridedSlice S12288x4096 ![0, 1344] z slices_S12288x5440_S12288x4096_0_1344⟩] concatenates_S12288x512_S12288x64_S12288x64_S12288x64_S12288x64_S12288x768_S12288x4096_S12288x5632_d1
end

/-- The norm's weight as one row. -/
def row (g : (⟨S512, .f32⟩ : BufTy).Contents (Elt Ideal)) : (⟨S1x512, .f32⟩ : BufTy).Contents (Elt Ideal) :=
  shapeCast S1x512 g shapeCasts_S512_S1x512

/-- The up-projection's weight in the narrower format. -/
def narrow (w : (⟨S512x4096, .f32⟩ : BufTy).Contents (Elt Ideal)) : (⟨S512x4096, .bf16⟩ : BufTy).Contents (Elt Ideal) :=
  truncf (F := Ideal) (s := S512x4096) (φ := .f32) .bf16 w bitsLt_bf16_f32

/-- The rotary table: the cosines twice, then the signed sines twice. -/
def table : (⟨S12288x256, .f32⟩ : BufTy).Contents (Elt Ideal) :=
  concatenate S12288x256 1 [⟨S12288x64, h_v39 (F := Ideal)⟩, ⟨S12288x64, h_v39 (F := Ideal)⟩, ⟨S12288x64, h_v44 (F := Ideal)⟩, ⟨S12288x64, h_v44 (F := Ideal)⟩] concatenates_S12288x64_S12288x64_S12288x64_S12288x64_S12288x256_d1

variable (m : (ℓ : Loc nD τ sig) → Buf (Elt Ideal) ℓ) (c : Dev nD)

/-- The host operations before the call, in one list. -/
abbrev pre : List (HloOp τ sig (Elt Ideal)) := List.flatten [hostOps0, hostOps0_1, hostOps0_2, hostOps0_3, hostOps0_4]

set_option maxHeartbeats 2000000 in
set_option maxRecDepth 8192 in
/-- What the host code leaves in `main_v23`. -/
theorem V_main_v23 : V m c main_v23 = h_v23 (F := Ideal) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v24`. -/
theorem V_main_v24 : V m c main_v24 = h_v24 (F := Ideal) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v25`. -/
theorem V_main_v25 : V m c main_v25 = h_v25 (F := Ideal) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v26`. -/
theorem V_main_v26 : V m c main_v26 = h_v26 (F := Ideal) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v29`. -/
theorem V_main_v29 : V m c main_v29 = h_v29 (F := Ideal) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v30`. -/
theorem V_main_v30 : V m c main_v30 = h_v30 (F := Ideal) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v32`. -/
theorem V_main_v32 : V m c main_v32 = h_v32 (F := Ideal) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v33`. -/
theorem V_main_v33 : V m c main_v33 = h_v33 (F := Ideal) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v35`. -/
theorem V_main_v35 : V m c main_v35 = h_v35 (F := Ideal) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v40`. -/
theorem V_main_v40 : V m c main_v40 = h_v40 (F := Ideal) := by
  simp only [V, hostOps0, hostOps0_1, hostOps0_2, hostOps0_3, hostOps0_4, List.flatten_cons, List.flatten_nil, List.append_nil, List.cons_append, List.nil_append]
  after_results_simp <;> rfl

set_option maxRecDepth 8192 in
/-- What the host code leaves in `main_v27`. -/
theorem V_main_v27 : V m c main_v27 = h_v27 (F := Ideal) := by
  have h := StableHlo.after_last_write (ops := pre) (i := 69) (r := main_v27) [main_v28, main_v29, main_v30, main_v31, main_v32, main_v33, main_v34, main_cst_4, main_v35, main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl rfl (by decide) (fun b => m (c, b))
  have e0 := (upto_read (ops := pre) 69 [main_v27, main_v28, main_v29, main_v30, main_v31, main_v32, main_v33, main_v34, main_cst_4, main_v35, main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v23) (by decide) (fun b => m (c, b))).trans (V_main_v23 m c)
  have e1 := (upto_read (ops := pre) 69 [main_v27, main_v28, main_v29, main_v30, main_v31, main_v32, main_v33, main_v34, main_cst_4, main_v35, main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v24) (by decide) (fun b => m (c, b))).trans (V_main_v24 m c)
  have e2 := (upto_read (ops := pre) 69 [main_v27, main_v28, main_v29, main_v30, main_v31, main_v32, main_v33, main_v34, main_cst_4, main_v35, main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v25) (by decide) (fun b => m (c, b))).trans (V_main_v25 m c)
  have e3 := (upto_read (ops := pre) 69 [main_v27, main_v28, main_v29, main_v30, main_v31, main_v32, main_v33, main_v34, main_cst_4, main_v35, main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v26) (by decide) (fun b => m (c, b))).trans (V_main_v26 m c)
  rw [StableHlo.nary4_result] at h
  generalize StableHlo.upto pre (fun b => m (c, b)) 69 = U at h e0 e1 e2 e3
  exact h.trans (congr_four (fun a b c d => (concatenate S2048x64 1 [⟨S2048x16, a⟩, ⟨S2048x16, b⟩, ⟨S2048x16, c⟩, ⟨S2048x16, d⟩] concatenates_S2048x16_S2048x16_S2048x16_S2048x16_S2048x64_d1 : (⟨S2048x64, .f32⟩ : BufTy).Contents (Elt Ideal))) e0 e1 e2 e3)

set_option maxRecDepth 8192 in
/-- What the host code leaves in `main_v34`. -/
theorem V_main_v34 : V m c main_v34 = h_v34 (F := Ideal) := by
  have h := StableHlo.after_last_write (ops := pre) (i := 76) (r := main_v34) [main_cst_4, main_v35, main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl rfl (by decide) (fun b => m (c, b))
  have e0 := (upto_read (ops := pre) 76 [main_v34, main_cst_4, main_v35, main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v29) (by decide) (fun b => m (c, b))).trans (V_main_v29 m c)
  have e1 := (upto_read (ops := pre) 76 [main_v34, main_cst_4, main_v35, main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v30) (by decide) (fun b => m (c, b))).trans (V_main_v30 m c)
  have e2 := (upto_read (ops := pre) 76 [main_v34, main_cst_4, main_v35, main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v32) (by decide) (fun b => m (c, b))).trans (V_main_v32 m c)
  have e3 := (upto_read (ops := pre) 76 [main_v34, main_cst_4, main_v35, main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v33) (by decide) (fun b => m (c, b))).trans (V_main_v33 m c)
  rw [StableHlo.nary4_result] at h
  generalize StableHlo.upto pre (fun b => m (c, b)) 76 = U at h e0 e1 e2 e3
  exact h.trans (congr_four (fun a b c d => (concatenate S2048x64 1 [⟨S2048x16, a⟩, ⟨S2048x16, b⟩, ⟨S2048x16, c⟩, ⟨S2048x16, d⟩] concatenates_S2048x16_S2048x16_S2048x16_S2048x16_S2048x64_d1 : (⟨S2048x64, .f32⟩ : BufTy).Contents (Elt Ideal))) e0 e1 e2 e3)

set_option maxRecDepth 8192 in
/-- What the host code leaves in `main_v36`. -/
theorem V_main_v36 : V m c main_v36 = h_v36 (F := Ideal) := by
  have h := StableHlo.after_last_write (ops := pre) (i := 79) (r := main_v36) [main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl rfl (by decide) (fun b => m (c, b))
  have e0 := (upto_read (ops := pre) 79 [main_v36, main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v27) (by decide) (fun b => m (c, b))).trans (V_main_v27 m c)
  rw [StableHlo.reshape_result] at h
  exact h.trans (congrArg (fun x : (⟨S2048x64, .f32⟩ : BufTy).Contents (Elt Ideal) => (shapeCast _ x shapeCasts_S2048x64_S1x2048x1x64 : (⟨S1x2048x1x64, .f32⟩ : BufTy).Contents (Elt Ideal))) e0)

set_option maxRecDepth 8192 in
/-- What the host code leaves in `main_v37`. -/
theorem V_main_v37 : V m c main_v37 = h_v37 (F := Ideal) := by
  have h := StableHlo.after_last_write (ops := pre) (i := 80) (r := main_v37) [main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl rfl (by decide) (fun b => m (c, b))
  have e0 := (upto_read (ops := pre) 80 [main_v37, main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v36) (by decide) (fun b => m (c, b))).trans (V_main_v36 m c)
  rw [StableHlo.unary_result] at h
  exact h.trans (congrArg (broadcastInDim S2x2048x1x64 ![0, 1, 2, 3] bcast_S1x2048x1x64_S2x2048x1x64_0_1_2_3 : (⟨S1x2048x1x64, .f32⟩ : BufTy).Contents (Elt Ideal) → (⟨S2x2048x1x64, .f32⟩ : BufTy).Contents (Elt Ideal)) e0)

set_option maxRecDepth 8192 in
/-- What the host code leaves in `main_v38`. -/
theorem V_main_v38 : V m c main_v38 = h_v38 (F := Ideal) := by
  have h := StableHlo.after_last_write (ops := pre) (i := 81) (r := main_v38) [main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl rfl (by decide) (fun b => m (c, b))
  have e0 := (upto_read (ops := pre) 81 [main_v38, main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v37) (by decide) (fun b => m (c, b))).trans (V_main_v37 m c)
  rw [StableHlo.reshape_result] at h
  exact h.trans (congrArg (fun x : (⟨S2x2048x1x64, .f32⟩ : BufTy).Contents (Elt Ideal) => (shapeCast _ x shapeCasts_S2x2048x1x64_S4096x64 : (⟨S4096x64, .f32⟩ : BufTy).Contents (Elt Ideal))) e0)

set_option maxRecDepth 8192 in
/-- What the host code leaves in `main_v41`. -/
theorem V_main_v41 : V m c main_v41 = h_v41 (F := Ideal) := by
  have h := StableHlo.after_last_write (ops := pre) (i := 85) (r := main_v41) [main_v42, main_v43, main_v44, main_v45, main_v46, main_v47, main_c_6, main_v48, main_v49, main_c_7, main_v50, main_v51, main_v52, main_v53, main_v54, main_v55, main_v56, main_v57, main_v58, main_v59, main_v60] rfl rfl (by decide) (fun b => m (c, b))
  have e0 := (upto_read (ops := pre) 85 [main_v41, main_v42, main_v43, main_v44, main_v45, main_v46, main_v47, main_c_6, main_v48, main_v49, main_c_7, main_v50, main_v51, main_v52, main_v53, main_v54, main_v55, main_v56, main_v57, main_v58, main_v59, main_v60] rfl (r := main_v34) (by decide) (fun b => m (c, b))).trans (V_main_v34 m c)
  rw [StableHlo.reshape_result] at h
  exact h.trans (congrArg (fun x : (⟨S2048x64, .f32⟩ : BufTy).Contents (Elt Ideal) => (shapeCast _ x shapeCasts_S2048x64_S1x2048x1x64 : (⟨S1x2048x1x64, .f32⟩ : BufTy).Contents (Elt Ideal))) e0)

set_option maxRecDepth 8192 in
/-- What the host code leaves in `main_v42`. -/
theorem V_main_v42 : V m c main_v42 = h_v42 (F := Ideal) := by
  have h := StableHlo.after_last_write (ops := pre) (i := 86) (r := main_v42) [main_v43, main_v44, main_v45, main_v46, main_v47, main_c_6, main_v48, main_v49, main_c_7, main_v50, main_v51, main_v52, main_v53, main_v54, main_v55, main_v56, main_v57, main_v58, main_v59, main_v60] rfl rfl (by decide) (fun b => m (c, b))
  have e0 := (upto_read (ops := pre) 86 [main_v42, main_v43, main_v44, main_v45, main_v46, main_v47, main_c_6, main_v48, main_v49, main_c_7, main_v50, main_v51, main_v52, main_v53, main_v54, main_v55, main_v56, main_v57, main_v58, main_v59, main_v60] rfl (r := main_v41) (by decide) (fun b => m (c, b))).trans (V_main_v41 m c)
  rw [StableHlo.unary_result] at h
  exact h.trans (congrArg (broadcastInDim S2x2048x1x64 ![0, 1, 2, 3] bcast_S1x2048x1x64_S2x2048x1x64_0_1_2_3 : (⟨S1x2048x1x64, .f32⟩ : BufTy).Contents (Elt Ideal) → (⟨S2x2048x1x64, .f32⟩ : BufTy).Contents (Elt Ideal)) e0)

set_option maxRecDepth 8192 in
/-- What the host code leaves in `main_v43`. -/
theorem V_main_v43 : V m c main_v43 = h_v43 (F := Ideal) := by
  have h := StableHlo.after_last_write (ops := pre) (i := 87) (r := main_v43) [main_v44, main_v45, main_v46, main_v47, main_c_6, main_v48, main_v49, main_c_7, main_v50, main_v51, main_v52, main_v53, main_v54, main_v55, main_v56, main_v57, main_v58, main_v59, main_v60] rfl rfl (by decide) (fun b => m (c, b))
  have e0 := (upto_read (ops := pre) 87 [main_v43, main_v44, main_v45, main_v46, main_v47, main_c_6, main_v48, main_v49, main_c_7, main_v50, main_v51, main_v52, main_v53, main_v54, main_v55, main_v56, main_v57, main_v58, main_v59, main_v60] rfl (r := main_v42) (by decide) (fun b => m (c, b))).trans (V_main_v42 m c)
  rw [StableHlo.reshape_result] at h
  exact h.trans (congrArg (fun x : (⟨S2x2048x1x64, .f32⟩ : BufTy).Contents (Elt Ideal) => (shapeCast _ x shapeCasts_S2x2048x1x64_S4096x64 : (⟨S4096x64, .f32⟩ : BufTy).Contents (Elt Ideal))) e0)

set_option maxRecDepth 8192 in
/-- What the host code leaves in `main_v39`. -/
theorem V_main_v39 : V m c main_v39 = h_v39 (F := Ideal) := by
  have h := StableHlo.after_last_write (ops := pre) (i := 82) (r := main_v39) [main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl rfl (by decide) (fun b => m (c, b))
  have e0 := (upto_read (ops := pre) 82 [main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v35) (by decide) (fun b => m (c, b))).trans (V_main_v35 m c)
  have e1 := (upto_read (ops := pre) 82 [main_v39, main_cst_5, main_v40, main_v41, main_v42, main_v43, main_v44, main_v45, main_v46, main_v47, main_c_6, main_v48, main_v49, main_c_7, main_v50, main_v51, main_v52, main_v53, main_v54, main_v55, main_v56, main_v57, main_v58, main_v59, main_v60] rfl (r := main_v38) (by decide) (fun b => m (c, b))).trans (V_main_v38 m c)
  rw [StableHlo.binary_result] at h
  exact h.trans (congrArg₂ ((fun a b => concatenate S12288x64 0 [⟨S8192x64, a⟩, ⟨S4096x64, b⟩] concatenates_S8192x64_S4096x64_S12288x64_d0) : (⟨S8192x64, .f32⟩ : BufTy).Contents (Elt Ideal) → (⟨S4096x64, .f32⟩ : BufTy).Contents (Elt Ideal) → (⟨S12288x64, .f32⟩ : BufTy).Contents (Elt Ideal)) e0 e1)

set_option maxRecDepth 8192 in
/-- What the host code leaves in `main_v44`. -/
theorem V_main_v44 : V m c main_v44 = h_v44 (F := Ideal) := by
  have h := StableHlo.after_last_write (ops := pre) (i := 88) (r := main_v44) [main_v45, main_v46, main_v47, main_c_6, main_v48, main_v49, main_c_7, main_v50, main_v51, main_v52, main_v53, main_v54, main_v55, main_v56, main_v57, main_v58, main_v59, main_v60] rfl rfl (by decide) (fun b => m (c, b))
  have e0 := (upto_read (ops := pre) 88 [main_v44, main_v45, main_v46, main_v47, main_c_6, main_v48, main_v49, main_c_7, main_v50, main_v51, main_v52, main_v53, main_v54, main_v55, main_v56, main_v57, main_v58, main_v59, main_v60] rfl (r := main_v40) (by decide) (fun b => m (c, b))).trans (V_main_v40 m c)
  have e1 := (upto_read (ops := pre) 88 [main_v44, main_v45, main_v46, main_v47, main_c_6, main_v48, main_v49, main_c_7, main_v50, main_v51, main_v52, main_v53, main_v54, main_v55, main_v56, main_v57, main_v58, main_v59, main_v60] rfl (r := main_v43) (by decide) (fun b => m (c, b))).trans (V_main_v43 m c)
  rw [StableHlo.binary_result] at h
  exact h.trans (congrArg₂ ((fun a b => concatenate S12288x64 0 [⟨S8192x64, a⟩, ⟨S4096x64, b⟩] concatenates_S8192x64_S4096x64_S12288x64_d0) : (⟨S8192x64, .f32⟩ : BufTy).Contents (Elt Ideal) → (⟨S4096x64, .f32⟩ : BufTy).Contents (Elt Ideal) → (⟨S12288x64, .f32⟩ : BufTy).Contents (Elt Ideal)) e0 e1)

set_option maxRecDepth 8192 in
/-- What the host code leaves in `main_v46`. -/
theorem V_main_v46 : V m c main_v46 = table := by
  have h := StableHlo.after_last_write (ops := pre) (i := 90) (r := main_v46) [main_v47, main_c_6, main_v48, main_v49, main_c_7, main_v50, main_v51, main_v52, main_v53, main_v54, main_v55, main_v56, main_v57, main_v58, main_v59, main_v60] rfl rfl (by decide) (fun b => m (c, b))
  have e0 := (upto_read (ops := pre) 90 [main_v46, main_v47, main_c_6, main_v48, main_v49, main_c_7, main_v50, main_v51, main_v52, main_v53, main_v54, main_v55, main_v56, main_v57, main_v58, main_v59, main_v60] rfl (r := main_v39) (by decide) (fun b => m (c, b))).trans (V_main_v39 m c)
  have e1 := (upto_read (ops := pre) 90 [main_v46, main_v47, main_c_6, main_v48, main_v49, main_c_7, main_v50, main_v51, main_v52, main_v53, main_v54, main_v55, main_v56, main_v57, main_v58, main_v59, main_v60] rfl (r := main_v39) (by decide) (fun b => m (c, b))).trans (V_main_v39 m c)
  have e2 := (upto_read (ops := pre) 90 [main_v46, main_v47, main_c_6, main_v48, main_v49, main_c_7, main_v50, main_v51, main_v52, main_v53, main_v54, main_v55, main_v56, main_v57, main_v58, main_v59, main_v60] rfl (r := main_v44) (by decide) (fun b => m (c, b))).trans (V_main_v44 m c)
  have e3 := (upto_read (ops := pre) 90 [main_v46, main_v47, main_c_6, main_v48, main_v49, main_c_7, main_v50, main_v51, main_v52, main_v53, main_v54, main_v55, main_v56, main_v57, main_v58, main_v59, main_v60] rfl (r := main_v44) (by decide) (fun b => m (c, b))).trans (V_main_v44 m c)
  rw [StableHlo.nary4_result] at h
  generalize StableHlo.upto pre (fun b => m (c, b)) 90 = U at h e0 e1 e2 e3
  exact h.trans (congr_four (fun a b c d => (concatenate S12288x256 1 [⟨S12288x64, a⟩, ⟨S12288x64, b⟩, ⟨S12288x64, c⟩, ⟨S12288x64, d⟩] concatenates_S12288x64_S12288x64_S12288x64_S12288x64_S12288x256_d1 : (⟨S12288x256, .f32⟩ : BufTy).Contents (Elt Ideal))) e0 e1 e2 e3)

set_option maxHeartbeats 2000000 in
set_option maxRecDepth 8192 in
/-- What the host code leaves in `main_v58`. -/
theorem V_main_v58 : V m c main_v58 = packed (m ((c : Thread nD τ).loc main_arg0)) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v60`. -/
theorem V_main_v60 : V m c main_v60 = row (m ((c : Thread nD τ).loc main_arg1)) := by
  simp only [V, hostOps0, hostOps0_1, hostOps0_2, hostOps0_3, hostOps0_4, List.flatten_cons, List.flatten_nil, List.append_nil, List.cons_append, List.nil_append]
  after_results_simp <;> rfl

set_option maxHeartbeats 2000000 in
set_option maxRecDepth 8192 in
/-- What the host code leaves in `main_v59`. -/
theorem V_main_v59 : V m c main_v59 = narrow (m ((c : Thread nD τ).loc main_arg2)) := by
  simp only [V, hostOps0, hostOps0_1, hostOps0_2, hostOps0_3, hostOps0_4, List.flatten_cons, List.flatten_nil, List.append_nil, List.cons_append, List.nil_append]
  after_results_simp <;> rfl

end Cert.KvPrep

end
-- ==== Proof.KvRef.lean ====
module

public import proofs.«01_k».proof.Proof.Gen.Reference7Ideal.Read
public import proofs.«01_k».proof.Proof.AttnIn
public import Idealize.ShloMosaic.Lib.Pipeline.ValueKit
public import proofs.«01_k».proof.Proof.RmsMath

/-! The plain keys and values, element by element. -/

@[expose] public section
set_option maxRecDepth 16384
noncomputable section
namespace Cert.KvRef
open Cert.Reference7Ideal Cert.Reference7Ideal.Gen Idealize.ShloMosaic Idealize.ShloMosaic.TcCoe Idealize.SL.Sem
open Cert.Reference7Ideal.Read Cert.RmsMath
open Cert.AttnIn (swap v15_at v22_at v27_at v34_at)
open Cert.AttnPrep (h_v8 h_v7 h_v6 h_v5 h_v4 h_v3 h_v2 h_v1 h_cst_1 h_cst h_cst_0 h_v15 h_v22 h_v27 h_v34)

/-- A row of 512 elements normalized and weighted. -/
def nrow (x g : Fin 512 → EReal) (d : Fin 512) : EReal := normed (Ideal.ofBits .f32 0x44000000#32) x g d

section
variable (z : (⟨S12288x5440, .f32⟩ : BufTy).Contents (Elt Ideal)) (g : (⟨S512, .f32⟩ : BufTy).Contents (Elt Ideal))
  (w : (⟨S512x4096, .f32⟩ : BufTy).Contents (Elt Ideal))

/-- A token's normalized key/value latents. -/
theorem ref_row (r : Fin 12288) (d : Fin 512) : val_main_v16 (F := Ideal) z g (ix2 r d) =
    nrow (fun k => z (ix2 r (⟨768 + k.val, by omega⟩ : Fin 5440))) (fun k => g (ix1 k)) d := by
  pointwise [val_main_v16, val_main_v15, val_main_v14, val_main_v13, val_main_v12, val_main_v11, val_main_v10, val_main_v9, val_main_v8,
    val_main_v7, val_main_v6, val_main_v5, val_main_v4, val_main_v1, val_main_cst, val_main_cst_0, val_main_cst_1, nrow, normed]

/-- A token's keys and values. -/
theorem ref_dot (r : Fin 12288) (j : Fin 4096) : val_main_v90 (F := Ideal) z g w (ix2 r j) = ∑ u : Fin 512,
    nrow (fun k => z (ix2 r (⟨768 + k.val, by omega⟩ : Fin 5440))) (fun k => g (ix1 k)) u * w (ix2 u j) := by
  simp only [← ref_row]
  pointwise [val_main_v90, val_main_v17]
end

/-- The row number of token `i` on the 64-wide grid. -/
theorem row_at (i : Fin 2048) : val_main_v30 (F := Ideal) (ix1 i) = BitVec.ofNat 32 (i.val / 64) := by
  revert i
  decide +kernel

/-- The column number of token `i` on the 64-wide grid. -/
theorem col_at (i : Fin 2048) : val_main_v37 (F := Ideal) (ix1 i) = BitVec.ofNat 32 (i.val % 64) := by
  revert i
  decide +kernel

/-- Both sides take the same inverse frequencies. -/
theorem freq_at (f : Fin 16) : val_main_v29 (F := Ideal) (ix1 f) = h_v8 (F := Ideal) (ix1 f) := by
  pointwise [h_v8, h_v7, h_v6, h_v5, h_v4, h_v3, h_v2, h_v1, h_cst_1, h_cst, h_cst_0,
    val_main_v29, val_main_v28, val_main_v27, val_main_v26, val_main_v25, val_main_v24, val_main_v23, val_main_v22,
    val_main_cst_4, val_main_cst_3, val_main_cst_2]

/-- The row angles agree. -/
theorem row_eq (i : Fin 2048) (f : Fin 16) : val_main_v36 (F := Ideal) (ix2 i f) = h_v15 (F := Ideal) (ix2 i f) := by
  rw [v15_at, ← freq_at]
  pointwise [val_main_v36, val_main_v35, val_main_v34, val_main_v33, val_main_v32, val_main_v31]
  rw [row_at]

/-- The column angles agree. -/
theorem col_eq (i : Fin 2048) (f : Fin 16) : val_main_v43 (F := Ideal) (ix2 i f) = h_v22 (F := Ideal) (ix2 i f) := by
  rw [v22_at, ← freq_at]
  pointwise [val_main_v43, val_main_v42, val_main_v41, val_main_v40, val_main_v39, val_main_v38]
  rw [col_at]

section
variable (x0 : (⟨S12288x5440, .f32⟩ : BufTy).Contents (Elt Ideal))

/-- The rotated samples' rotary keys, by quarter of the 64 lanes. -/
theorem a_at (b : Fin 2) (i : Fin 2048) (d : Fin 64) :
    val_main_v86 (F := Ideal) x0 (ix3 b i d) =
      if g1 : d.val < 16 then
        val_main_v45 (F := Ideal) x0 (ix3 b i d) * Ideal.cos (val_main_v36 (F := Ideal) (ix2 i (⟨d.val, g1⟩ : Fin 16)))
        - val_main_v45 (F := Ideal) x0 (ix3 b i (⟨16 + d.val, by omega⟩ : Fin 64))
          * Ideal.sin (val_main_v36 (F := Ideal) (ix2 i (⟨d.val, g1⟩ : Fin 16)))
      else if g2 : d.val < 32 then
        val_main_v45 (F := Ideal) x0 (ix3 b i d)
          * Ideal.cos (val_main_v36 (F := Ideal) (ix2 i (⟨d.val - 16, by omega⟩ : Fin 16)))
        + val_main_v45 (F := Ideal) x0 (ix3 b i (⟨d.val - 16, by omega⟩ : Fin 64))
          * Ideal.sin (val_main_v36 (F := Ideal) (ix2 i (⟨d.val - 16, by omega⟩ : Fin 16)))
      else if g3 : d.val < 48 then
        val_main_v45 (F := Ideal) x0 (ix3 b i d)
          * Ideal.cos (val_main_v43 (F := Ideal) (ix2 i (⟨d.val - 32, by omega⟩ : Fin 16)))
        - val_main_v45 (F := Ideal) x0 (ix3 b i (⟨16 + d.val, by omega⟩ : Fin 64))
          * Ideal.sin (val_main_v43 (F := Ideal) (ix2 i (⟨d.val - 32, by omega⟩ : Fin 16)))
      else
        val_main_v45 (F := Ideal) x0 (ix3 b i d)
          * Ideal.cos (val_main_v43 (F := Ideal) (ix2 i (⟨d.val - 48, by omega⟩ : Fin 16)))
        + val_main_v45 (F := Ideal) x0 (ix3 b i (⟨d.val - 16, by omega⟩ : Fin 64))
          * Ideal.sin (val_main_v43 (F := Ideal) (ix2 i (⟨d.val - 48, by omega⟩ : Fin 16))) := by
  have p1 : ∀ e : Fin 16, val_main_v58 (F := Ideal) x0 (ix3 b i e)
      = val_main_v45 (F := Ideal) x0 (ix3 b i (⟨e.val, by omega⟩ : Fin 64)) * Ideal.cos (val_main_v36 (F := Ideal) (ix2 i e))
        - val_main_v45 (F := Ideal) x0 (ix3 b i (⟨16 + e.val, by omega⟩ : Fin 64))
          * Ideal.sin (val_main_v36 (F := Ideal) (ix2 i e)) := by
    intro e
    pointwise [val_main_v58, val_main_v57, val_main_v56, val_main_v55, val_main_v54, val_main_v53, val_main_v52, val_main_v51,
      val_main_v50, val_main_v49, val_main_v48, val_main_v46]
  have p2 : ∀ e : Fin 16, val_main_v65 (F := Ideal) x0 (ix3 b i e)
      = val_main_v45 (F := Ideal) x0 (ix3 b i (⟨16 + e.val, by omega⟩ : Fin 64)) * Ideal.cos (val_main_v36 (F := Ideal) (ix2 i e))
        + val_main_v45 (F := Ideal) x0 (ix3 b i (⟨e.val, by omega⟩ : Fin 64))
          * Ideal.sin (val_main_v36 (F := Ideal) (ix2 i e)) := by
    intro e
    pointwise [val_main_v65, val_main_v64, val_main_v63, val_main_v62, val_main_v61, val_main_v60, val_main_v59, val_main_v51,
      val_main_v50, val_main_v49, val_main_v48, val_main_v46]
  have p3 : ∀ e : Fin 16, val_main_v77 (F := Ideal) x0 (ix3 b i e)
      = val_main_v45 (F := Ideal) x0 (ix3 b i (⟨32 + e.val, by omega⟩ : Fin 64)) * Ideal.cos (val_main_v43 (F := Ideal) (ix2 i e))
        - val_main_v45 (F := Ideal) x0 (ix3 b i (⟨32 + (16 + e.val), by omega⟩ : Fin 64))
          * Ideal.sin (val_main_v43 (F := Ideal) (ix2 i e)) := by
    intro e
    pointwise [val_main_v77, val_main_v76, val_main_v75, val_main_v74, val_main_v73, val_main_v72, val_main_v71, val_main_v70,
      val_main_v69, val_main_v68, val_main_v67, val_main_v47]
  have p4 : ∀ e : Fin 16, val_main_v84 (F := Ideal) x0 (ix3 b i e)
      = val_main_v45 (F := Ideal) x0 (ix3 b i (⟨32 + (16 + e.val), by omega⟩ : Fin 64)) * Ideal.cos (val_main_v43 (F := Ideal) (ix2 i e))
        + val_main_v45 (F := Ideal) x0 (ix3 b i (⟨32 + e.val, by omega⟩ : Fin 64))
          * Ideal.sin (val_main_v43 (F := Ideal) (ix2 i e)) := by
    intro e
    pointwise [val_main_v84, val_main_v83, val_main_v82, val_main_v81, val_main_v80, val_main_v79, val_main_v78, val_main_v70,
      val_main_v69, val_main_v68, val_main_v67, val_main_v47]
  have at_eq : ∀ e e' : Fin 64, e.val = e'.val → val_main_v45 (F := Ideal) x0 (ix3 b i e)
      = val_main_v45 (F := Ideal) x0 (ix3 b i e') := fun e e' g => by rw [Fin.ext g]
  pointwise [val_main_v86, val_main_v85, val_main_v66]
  by_cases g1 : d.val < 16
  · rw [dif_pos (show d.val < 32 by omega), dif_pos g1, dif_pos g1]
    exact p1 (⟨d.val, g1⟩ : Fin 16)
  by_cases g2 : d.val < 32
  · rw [dif_pos g2, dif_neg g1, dif_neg g1, dif_pos g2]
    refine (p2 (⟨d.val - 16, by omega⟩ : Fin 16)).trans ?_
    rw [at_eq (⟨16 + (d.val - 16), by omega⟩ : Fin 64) d (by show 16 + (d.val - 16) = d.val; omega)]
  by_cases g3 : d.val < 48
  · rw [dif_neg g2, dif_pos (show d.val - 32 < 16 by omega), dif_neg g1, dif_neg g2, dif_pos g3]
    refine (p3 (⟨d.val - 32, by omega⟩ : Fin 16)).trans ?_
    rw [at_eq (⟨32 + (d.val - 32), by omega⟩ : Fin 64) d (by show 32 + (d.val - 32) = d.val; omega),
      at_eq (⟨32 + (16 + (d.val - 32)), by omega⟩ : Fin 64) (⟨16 + d.val, by omega⟩ : Fin 64)
        (by show 32 + (16 + (d.val - 32)) = 16 + d.val; omega)]
  · rw [dif_neg g2, dif_neg (show ¬ d.val - 32 < 16 by omega), dif_neg g1, dif_neg g2, dif_neg g3]
    refine (p4 (⟨d.val - 48, by omega⟩ : Fin 16)).trans ?_
    rw [at_eq (⟨32 + (d.val - 48), by omega⟩ : Fin 64) (⟨d.val - 16, by omega⟩ : Fin 64)
        (by show 32 + (d.val - 48) = d.val - 16; omega),
      at_eq (⟨32 + (16 + (d.val - 48)), by omega⟩ : Fin 64) d (by show 32 + (16 + (d.val - 48)) = d.val; omega)]

/-- The rotation is the lanes times cosine plus the swapped lanes times signed sine. -/
theorem rot_at (b : Fin 2) (i : Fin 2048) (d : Fin 64) :
    val_main_v86 (F := Ideal) x0 (ix3 b i d) =
      val_main_v45 (F := Ideal) x0 (ix3 b i d) * h_v27 (F := Ideal) (ix2 i d)
      + val_main_v45 (F := Ideal) x0 (ix3 b i (swap d)) * h_v34 (F := Ideal) (ix2 i d) := by
  rw [a_at x0 b i d, v27_at, v34_at]
  have sub : ∀ a x y : EReal, a - x * y = a + x * -y := fun a x y => by rw [sub_eq_add_neg, mul_neg]
  have sw : ∀ e : Fin 64, (swap d).val = e.val → val_main_v45 (F := Ideal) x0 (ix3 b i (swap d))
      = val_main_v45 (F := Ideal) x0 (ix3 b i e) := fun e g => by rw [Fin.ext g]
  by_cases g1 : d.val < 16
  · rw [dif_pos g1, dif_pos g1, dif_pos g1, row_eq, sub, sw (⟨16 + d.val, by omega⟩ : Fin 64) (by
      show (if d.val % 32 < 16 then d.val + 16 else d.val - 16) = 16 + d.val
      split <;> omega)]
  by_cases g2 : d.val < 32
  · rw [dif_neg g1, dif_neg g1, dif_neg g1, dif_pos g2, dif_pos g2, dif_pos g2, row_eq,
      sw (⟨d.val - 16, by omega⟩ : Fin 64) (by
      show (if d.val % 32 < 16 then d.val + 16 else d.val - 16) = d.val - 16
      split <;> omega)]
  by_cases g3 : d.val < 48
  · rw [dif_neg g1, dif_neg g1, dif_neg g1, dif_neg g2, dif_neg g2, dif_neg g2, dif_pos g3, dif_pos g3, dif_pos g3, col_eq,
      sub, sw (⟨16 + d.val, by omega⟩ : Fin 64) (by
      show (if d.val % 32 < 16 then d.val + 16 else d.val - 16) = 16 + d.val
      split <;> omega)]
  · rw [dif_neg g1, dif_neg g1, dif_neg g1, dif_neg g2, dif_neg g2, dif_neg g2, dif_neg g3, dif_neg g3, dif_neg g3, col_eq,
      sw (⟨d.val - 16, by omega⟩ : Fin 64) (by
      show (if d.val % 32 < 16 then d.val + 16 else d.val - 16) = d.val - 16
      split <;> omega)]

/-- Equal positions in a two-axis array hold the same element. -/
theorem at2 {a b : Nat} (x : (⟨2, ![a, b]⟩ : Shape).Idx → EReal) {r r' : Fin a} {c c' : Fin b} (hr : r.val = r'.val)
    (hc : c.val = c'.val) : x (ix2 r c) = x (ix2 r' c') := by
  rw [Fin.ext hr, Fin.ext hc]

/-- A sample token's rotary key, before the rotation. -/
theorem key_at (b : Fin 2) (i : Fin 2048) (d : Fin 64) : val_main_v45 (F := Ideal) x0 (ix3 b i d) =
    x0 (ix2 (⟨8192 + (b.val * 2048 + i.val), by omega⟩ : Fin 12288) (⟨1280 + d.val, by omega⟩ : Fin 5440)) := by
  pointwise [val_main_v45, val_main_v44, val_main_v2]

/-- Lane `d` of a token's rotary key: a prompt's as it is, a sample's rotated. -/
def rotKey (r : Fin 12288) (d : Fin 64) : EReal :=
  if r.val < 8192 then x0 (ix2 r (⟨1280 + d.val, by omega⟩ : Fin 5440))
  else x0 (ix2 r (⟨1280 + d.val, by omega⟩ : Fin 5440)) * h_v27 (F := Ideal) (ix2 (⟨(r.val - 8192) % 2048, by omega⟩ : Fin 2048) d)
    + x0 (ix2 r (⟨1280 + (swap d).val, by omega⟩ : Fin 5440))
      * h_v34 (F := Ideal) (ix2 (⟨(r.val - 8192) % 2048, by omega⟩ : Fin 2048) d)

/-- The rotary keys of all tokens. -/
theorem keys_at (r : Fin 12288) (d : Fin 64) : val_main_v89 (F := Ideal) x0 (ix2 r d) = rotKey x0 r d := by
  unfold rotKey
  by_cases h : r.val < 8192
  · rw [if_pos h]
    pointwise [val_main_v89, val_main_v88, val_main_v2]
    rw [dif_pos h]
  · rw [if_neg h]
    have e : val_main_v89 (F := Ideal) x0 (ix2 r d) = val_main_v86 (F := Ideal) x0
        (ix3 (⟨(r.val - 8192) / 2048, by omega⟩ : Fin 2) (⟨(r.val - 8192) % 2048, by omega⟩ : Fin 2048) d) := by
      pointwise [val_main_v89, val_main_v87]
      rw [dif_neg h]
    rw [e, rot_at, key_at, key_at]
    refine congrArg₂ (· + ·) (congrArg₂ (· * ·) (at2 x0 ?_ rfl) rfl) (congrArg₂ (· * ·) (at2 x0 ?_ rfl) rfl)
    all_goals
      show 8192 + ((r.val - 8192) / 2048 * 2048 + (r.val - 8192) % 2048) = r.val
      omega

/-- The result has each rotary key twice. -/
theorem ref_rot (r : Fin 12288) (j : Fin 128) :
    val_main_v92 (F := Ideal) x0 (ix2 r j) = rotKey x0 r (⟨j.val % 64, by omega⟩ : Fin 64) := by
  rw [← keys_at]
  pointwise [val_main_v92, val_main_v91]
  by_cases h : j.val < 64
  · rw [dif_pos h]
    exact at2 (val_main_v89 (F := Ideal) x0) rfl (by show j.val = j.val % 64; omega)
  · rw [dif_neg h]
    exact at2 (val_main_v89 (F := Ideal) x0) rfl (by show j.val - 64 = j.val % 64; omega)
end

end Cert.KvRef
-- ==== Proof.KvValue.lean ====
module

public import proofs.«01_k».proof.Proof.KvPrep
public import proofs.«01_k».proof.Proof.KvRef
public import Idealize.ShloMosaic.Lib.Pipeline.Value
public import Idealize.ShloMosaic.Lib.UnfoldOut
public import Idealize.ShloMosaic.Lib.VecWindow

/-! The key/value call leaves the plain keys and values, latents and rotary keys. -/

@[expose] public section
set_option maxRecDepth 16384
noncomputable section
namespace Cert.KvValue
open Cert.Kernel7Ideal Cert.Kernel7Ideal.Gen Idealize.ShloMosaic Idealize.ShloMosaic.TcCoe Idealize.SL.Sem
open Cert.RmsMath Cert.KvPrep
open Cert.AttnIn (swap swap_word v39_at v44_at)
open Cert.AttnPrep (h_v35 h_v36 h_v37 h_v38 h_v39 h_v40 h_v41 h_v42 h_v43 h_v44 h_cst_4 h_cst_5 h_v27 h_v34)
open Cert.KvRef (nrow rotKey at2)

/-! ## The arrays the call reads -/

theorem perm_at (j : Fin 64) : perm (ix2 j (0 : Fin 1)) = BitVec.ofNat 32 (swap j).val := by
  revert j
  decide +kernel

/-- The host's gather reads lane `swap j`. -/
theorem gather_at (x : (⟨S12288x64, .f32⟩ : BufTy).Contents (Elt Ideal)) (r : Fin 12288) (j : Fin 64) :
    Host.gather gather_S12288x64_S64x1_S12288x64_0_1_n_n_1_1_122881 x perm (ix2 r j)
      = x (ix2 r (swap j)) := by
  unfold Host.gather
  refine congrArg x (funext fun a => Fin.ext ?_)
  have hb : ∀ a' : Fin 2, a' ∉ gather_S12288x64_S64x1_S12288x64_0_1_n_n_1_1_122881.operandBatchingDims :=
    fun a' => List.not_mem_nil
  match a with
  | ⟨0, _⟩ =>
    show GatherDims.start _ (ix2 r j) perm 0 + GatherDims.batchCoord _ (ix2 r j) 0
      + GatherDims.offCoord _ (ix2 r j) 0 = r.val
    rw [GatherDims.batchCoord_eq_zero _ _ _ (hb 0)]
    unfold GatherDims.start
    rw [dif_neg (by decide)]
    simp only [Nat.zero_add]
    rfl
  | ⟨1, _⟩ =>
    show GatherDims.start _ (ix2 r j) perm 1 + GatherDims.batchCoord _ (ix2 r j) 1
      + GatherDims.offCoord _ (ix2 r j) 1 = (swap j).val
    rw [GatherDims.batchCoord_eq_zero _ _ _ (hb 1),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S12288x64_S64x1_S12288x64_0_1_n_n_1_1_122881.startIndexMap from
      List.mem_singleton.mpr rfl)]
    refine Eq.trans ?_ (swap_word j)
    rw [← perm_at j]
    have hsi : gather_S12288x64_S64x1_S12288x64_0_1_n_n_1_1_122881.siIdx (ix2 r j)
        ⟨List.idxOf (1 : Fin 2) gather_S12288x64_S64x1_S12288x64_0_1_n_n_1_1_122881.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

section
variable (z : (⟨S12288x5440, .f32⟩ : BufTy).Contents (Elt Ideal))

/-- The key/value latents stand in columns 0 to 511. -/
theorem packed_at (r : Fin 12288) (k : Fin 512) :
    packed z (ix2 r (⟨k.val, by omega⟩ : Fin 5632)) = z (ix2 r (⟨768 + k.val, by omega⟩ : Fin 5440)) := by
  pointwise [packed]

theorem rotZ_at (r : Fin 12288) (d : Fin 64) : rotZ z (ix2 r d) = z (ix2 r (⟨1280 + d.val, by omega⟩ : Fin 5440)) := by
  pointwise [rotZ]

theorem rotSwZ_at (r : Fin 12288) (d : Fin 64) : rotSwZ z (ix2 r d) = z (ix2 r (⟨1280 + (swap d).val, by omega⟩ : Fin 5440)) :=
  (gather_at (rotZ z) r d).trans (rotZ_at z r (swap d))

/-- A choice both of whose sides are `v` is `v`. -/
theorem step {α : Type} {p : Prop} [Decidable p] {a : p → α} {b : ¬ p → α} {v : α} (ha : ∀ h, a h = v) (hb : ∀ h, b h = v) :
    dite p a b = v := by
  by_cases h : p
  · rw [dif_pos h]; exact ha h
  · rw [dif_neg h]; exact hb h

/-- The rotary columns stand twice in columns 512 to 639. -/
theorem packed_rot (r : Fin 12288) (j : Fin 128) : packed z (ix2 r (⟨512 + j.val, by omega⟩ : Fin 5632)) =
    z (ix2 r (⟨1280 + j.val % 64, by omega⟩ : Fin 5440)) := by
  pointwise [packed]
  refine step (fun h => ?_) fun _ => step (fun h => ?_) fun _ => step (fun h => ?_) fun h => ?_
  · refine (rotZ_at z r _).trans (at2 z rfl ?_)
    simp only []; omega
  · refine (rotZ_at z r _).trans (at2 z rfl ?_)
    simp only []; omega
  · exfalso; omega
  · exfalso; omega

/-- The rotary columns with the halves swapped stand twice in columns 640 to 767. -/
theorem packed_sw (r : Fin 12288) (j : Fin 128) : packed z (ix2 r (⟨640 + j.val, by omega⟩ : Fin 5632)) =
    z (ix2 r (⟨1280 + (swap (⟨j.val % 64, by omega⟩ : Fin 64)).val, by omega⟩ : Fin 5440)) := by
  pointwise [packed]
  refine step (fun h => ?_) fun _ => step (fun h => ?_) fun _ => step (fun h => ?_) fun _ => step (fun h => ?_) fun _ =>
    step (fun h => ?_) fun h => ?_
  · exfalso; omega
  · exfalso; omega
  · exfalso; omega
  · refine (rotSwZ_at z r _).trans (at2 z rfl (congrArg (fun d : Fin 64 => 1280 + (swap d).val) (Fin.ext ?_)))
    simp only []; omega
  · refine (rotSwZ_at z r _).trans (at2 z rfl (congrArg (fun d : Fin 64 => 1280 + (swap d).val) (Fin.ext ?_)))
    simp only []; omega
  · exfalso; omega
end

/-- The table's left half has the cosines twice. -/
theorem table_cos (r : Fin 12288) (j : Fin 128) : table (ix2 r (⟨j.val, by omega⟩ : Fin 256)) =
    h_v39 (F := Ideal) (ix2 r (⟨j.val % 64, by omega⟩ : Fin 64)) := by
  pointwise [table]
  refine step (fun h => ?_) fun _ => step (fun h => ?_) fun h => ?_
  · exact at2 (h_v39 (F := Ideal)) rfl (by simp only []; omega)
  · exact at2 (h_v39 (F := Ideal)) rfl (by simp only []; omega)
  · exfalso; omega

/-- The table's right half has the signed sines twice. -/
theorem table_sin (r : Fin 12288) (j : Fin 128) : table (ix2 r (⟨128 + j.val, by omega⟩ : Fin 256)) =
    h_v44 (F := Ideal) (ix2 r (⟨j.val % 64, by omega⟩ : Fin 64)) := by
  pointwise [table]
  refine step (fun h => ?_) fun _ => step (fun h => ?_) fun _ => step (fun h => ?_) fun h => ?_
  · exfalso; omega
  · exfalso; omega
  · exact at2 (h_v44 (F := Ideal)) rfl (by simp only []; omega)
  · exact at2 (h_v44 (F := Ideal)) rfl (by simp only []; omega)

/-- On the prompt's rows the cosines are one. -/
theorem cos_prompt (r : Fin 12288) (hr : r.val < 8192) (d : Fin 64) : h_v39 (F := Ideal) (ix2 r d) = 1 := by
  pointwise [h_v39, h_v35, h_cst_4]
  rw [dif_pos hr]

/-- On the prompt's rows the sines are zero. -/
theorem sin_prompt (r : Fin 12288) (hr : r.val < 8192) (d : Fin 64) : h_v44 (F := Ideal) (ix2 r d) = 0 := by
  pointwise [h_v44, h_v40, h_cst_5]
  rw [dif_pos hr]

/-- The norm's weight, read as a row. -/
theorem row_at (g : (⟨S512, .f32⟩ : BufTy).Contents (Elt Ideal)) (d : Fin 512) : row g (ix2 (0 : Fin 1) d) = g (ix1 d) := by
  pointwise [row]

/-! ## The call -/

section
variable (c : Dev nD) (i : grid0.Coords) (a2 : Memref sig .tc .vmem S256x512 .f32) (h2 : a2.IsWhole)
  (a3 : Memref sig .tc .vmem S1x512 .f32) (h3 : a3.IsWhole) (a4 : Memref sig .tc .vmem S256x256 .f32) (h4 : a4.IsWhole)
  (a5 : Memref sig .tc .vmem S256x256 .f32) (h5 : a5.IsWhole) (a6 : Memref sig .tc .vmem S512x4096 .bf16) (h6 : a6.IsWhole)
  (a7 : Memref sig .tc .vmem S256x4096 .bf16) (h7 : a7.IsWhole) (a8 : Memref sig .tc .vmem S256x512 .f32) (h8 : a8.IsWhole)
  (a9 : Memref sig .tc .vmem S256x128 .bf16) (h9 : a9.IsWhole) (hc : cond0_0 i)
  (x0 : Vec Ideal S256x512 .f32) (x1 : Vec Ideal S1x512 .f32) (x2 : Vec Ideal S256x256 .f32) (x3 : Vec Ideal S256x256 .f32)
  (x4 : Vec Ideal S512x4096 .bf16)

/-- The keys and values that a point of the call writes. -/
theorem kv_at (y : S256x4096.Idx) : out0_A_5 (F := Ideal) c i a2 h2 a3 h3 a4 h4 a5 h5 a6 h6 a7 h7 a8 h8 a9 h9 hc x0 x1 x2 x3 x4 y =
    ∑ u : Fin 512, nrow (fun k => x0 (ix2 (y 0) k)) (fun k => x1 (ix2 (0 : Fin 1) k)) u * x4 (ix2 u (y 1)) := by
  have hz : (![0, 0] : Fin 2 → Nat) = fun _ => 0 := funext fun a => by fin_cases a <;> rfl
  have e : out0_A_5 (F := Ideal) c i a2 h2 a3 h3 a4 h4 a5 h5 a6 h6 a7 h7 a8 h8 a9 h9 hc x0 x1 x2 x3 x4
      = k0_pay2 (F := Ideal) x0 x1 x4 := by
    unfold out0_A_5
    rw [View.read_writes_eq_canon _ _ _ (cover0_A_5 c i a2 h2 a3 h3 a4 h4 a5 h5 a6 h6 a7 h7 a8 h8 a9 h9 hc x0 x1 x2 x3 x4)]
    unfold kernelRun0_A
    dsimp only
    rw [View.canon_unit_zero hz]
    simp only [View.readAt_eq_ld, h2.read_unread, h3.read_unread, h6.read_unread, View.ld_unit_zero (S := S256x512) hz,
      View.ld_unit_zero (S := S1x512) hz, View.ld_unit_zero (S := S512x4096) hz]
  rw [e]
  pointwise [k0_pay2, k0_pay1, nrow, normed]

/-- The latents that a point of the call writes. -/
theorem ckv_at (y : S256x512.Idx) : out0_A_6 (F := Ideal) c i a2 h2 a3 h3 a4 h4 a5 h5 a6 h6 a7 h7 a8 h8 a9 h9 hc x0 x1 x2 x3 x4 y =
    nrow (fun k => x0 (ix2 (y 0) k)) (fun k => x1 (ix2 (0 : Fin 1) k)) (y 1) := by
  have hz : (![0, 0] : Fin 2 → Nat) = fun _ => 0 := funext fun a => by fin_cases a <;> rfl
  have e : out0_A_6 (F := Ideal) c i a2 h2 a3 h3 a4 h4 a5 h5 a6 h6 a7 h7 a8 h8 a9 h9 hc x0 x1 x2 x3 x4
      = k0_pay1 (F := Ideal) x0 x1 := by
    unfold out0_A_6
    rw [View.read_writes_eq_canon _ _ _ (cover0_A_6 c i a2 h2 a3 h3 a4 h4 a5 h5 a6 h6 a7 h7 a8 h8 a9 h9 hc x0 x1 x2 x3 x4)]
    unfold kernelRun0_A
    dsimp only
    rw [View.canon_unit_zero hz]
    simp only [View.readAt_eq_ld, h2.read_unread, h3.read_unread, View.ld_unit_zero (S := S256x512) hz,
      View.ld_unit_zero (S := S1x512) hz]
  rw [e]
  pointwise [k0_pay1, nrow, normed]

/-- The rotary keys that a point of the call writes. -/
theorem krot_at (y : S256x128.Idx) : out0_A_7 (F := Ideal) c i a2 h2 a3 h3 a4 h4 a5 h5 a6 h6 a7 h7 a8 h8 a9 h9 hc x0 x1 x2 x3 x4 y =
    x2 (ix2 (y 0) (⟨(y 1).val, (y 1).isLt.trans (by decide)⟩ : Fin 256)) * x3 (ix2 (y 0) (⟨(y 1).val, (y 1).isLt.trans (by decide)⟩ : Fin 256))
    + x2 (ix2 (y 0) (⟨128 + (y 1).val, Nat.add_lt_add_left (y 1).isLt 128⟩ : Fin 256))
      * x3 (ix2 (y 0) (⟨128 + (y 1).val, Nat.add_lt_add_left (y 1).isLt 128⟩ : Fin 256)) := by
  have hz : (![0, 0] : Fin 2 → Nat) = fun _ => 0 := funext fun a => by fin_cases a <;> rfl
  have e : out0_A_7 (F := Ideal) c i a2 h2 a3 h3 a4 h4 a5 h5 a6 h6 a7 h7 a8 h8 a9 h9 hc x0 x1 x2 x3 x4
      = k0_pay3 (F := Ideal) x2 x3 := by
    unfold out0_A_7
    rw [View.read_writes_eq_canon _ _ _ (cover0_A_7 c i a2 h2 a3 h3 a4 h4 a5 h5 a6 h6 a7 h7 a8 h8 a9 h9 hc x0 x1 x2 x3 x4)]
    unfold kernelRun0_A
    dsimp only
    rw [View.canon_unit_zero hz]
    simp only [View.readAt_eq_ld, h4.read_unread, h5.read_unread, View.ld_unit_zero (S := S256x256) hz]
  rw [e]
  pointwise [k0_pay3]
end

/-- The index maps of the call's windows, over the grid's points. -/
theorem idx : ∀ t : Fin cfg0.N, win0_0.index t = ![t.val, 0] ∧ win0_1.index t = ![0, 0] ∧ win0_2.index t = ![t.val, 2] ∧
    win0_3.index t = ![t.val, 0] ∧ win0_4.index t = ![0, 0] ∧ win0_5.index t = ![t.val, 0] ∧ win0_6.index t = ![t.val, 0] ∧
    win0_7.index t = ![t.val, 0] :=
  (by decide +kernel : ∀ t : Fin grid0.N, _)

/-- A token's latents over the arrays the call is given. -/
def latents (Z : Vec Ideal S12288x5632 .f32) (G : Vec Ideal S1x512 .f32) : Vec Ideal S12288x512 .f32 := fun i =>
  nrow (fun k => Z (ix2 (i 0) (⟨k.val, by omega⟩ : Fin 5632))) (fun k => G (ix2 (0 : Fin 1) k)) (i 1)

/-- A token's keys and values over the arrays the call is given. -/
def keysValues (Z : Vec Ideal S12288x5632 .f32) (G : Vec Ideal S1x512 .f32) (A : Vec Ideal S512x4096 .bf16) : Vec Ideal S12288x4096 .bf16 :=
  fun i => ∑ u : Fin 512, nrow (fun k => Z (ix2 (i 0) (⟨k.val, by omega⟩ : Fin 5632))) (fun k => G (ix2 (0 : Fin 1) k)) u * A (ix2 u (i 1))

/-- A token's rotary keys over the arrays the call is given. -/
def rotary (Z : Vec Ideal S12288x5632 .f32) (T : Vec Ideal S12288x256 .f32) : Vec Ideal S12288x128 .bf16 := fun i =>
  Z (ix2 (i 0) (⟨512 + (i 1).val, Nat.add_lt_add_left ((i 1).isLt.trans (by decide : 128 < 5120)) 512⟩ : Fin 5632))
    * T (ix2 (i 0) (⟨(i 1).val, (i 1).isLt.trans (by decide)⟩ : Fin 256))
  + Z (ix2 (i 0) (⟨640 + (i 1).val, Nat.add_lt_add_left ((i 1).isLt.trans (by decide : 128 < 4992)) 640⟩ : Fin 5632))
    * T (ix2 (i 0) (⟨128 + (i 1).val, Nat.add_lt_add_left (i 1).isLt 128⟩ : Fin 256))

variable (m : (ℓ : Loc nD τ sig) → Buf (Elt Ideal) ℓ) (c : Dev nD)

set_option maxHeartbeats 1000000 in
/-- The keys and values the call leaves, over the arrays it is given. -/
theorem final_kv : (dats m 0 c).arrAt 5 cfg0.N = keysValues (V m c main_v58) (V m c main_v60) (V m c main_v59) := by
  unfold keysValues
  refine (dats m 0 c).arrAt_eq_of_covers 5 _ (by decide +kernel) fun t hf y => ?_
  have h : t.val < 48 := t.isLt
  blk_simp
  rw [after0_5]
  unfold outsAt0
  dsimp only
  refine Eq.trans (kv_at _ _ _ _ _ _ _ _ _ _ _ _ _ _ _ _ _ _ _ _ _ _ _ _ _) ?_
  refine dot_congr (fun u => normed_congr _ (fun k => ?_) (fun k => ?_) u) (fun u => ?_)
  all_goals blk_ext [iblk, idx t]

set_option maxHeartbeats 1000000 in
/-- The latents the call leaves, over the arrays it is given. -/
theorem final_ckv : (dats m 0 c).arrAt 6 cfg0.N = latents (V m c main_v58) (V m c main_v60) := by
  unfold latents nrow
  refine (dats m 0 c).arrAt_eq_of_covers 6 _ (by decide +kernel) fun t hf y => ?_
  have h : t.val < 48 := t.isLt
  blk_simp
  rw [after0_6]
  unfold outsAt0
  dsimp only
  refine Eq.trans (ckv_at _ _ _ _ _ _ _ _ _ _ _ _ _ _ _ _ _ _ _ _ _ _ _ _ _) ?_
  unfold nrow
  refine (normed_congr _ (fun k => ?_) (fun k => ?_) _).trans (congrArg _ ?_)
  · blk_ext [iblk, idx t]
  · blk_ext [iblk, idx t]
  · refine Fin.ext ?_
    blk_simp [idx t]
    try simp only [Fin.val_zero, Fin.val_one, Fin.val_mk, Fin.isValue]
    try omega

set_option maxHeartbeats 1000000 in
/-- The rotary keys the call leaves, over the arrays it is given. -/
theorem final_rot : (dats m 0 c).arrAt 7 cfg0.N = rotary (V m c main_v58) (V m c main_v46) := by
  unfold rotary
  refine (dats m 0 c).arrAt_eq_of_covers 7 _ (by decide +kernel) fun t hf y => ?_
  have h : t.val < 48 := t.isLt
  blk_simp
  rw [after0_7]
  unfold outsAt0
  dsimp only
  refine Eq.trans (krot_at _ _ _ _ _ _ _ _ _ _ _ _ _ _ _ _ _ _ _ _ _ _ _ _ _) ?_
  refine congrArg₂ (· + ·) (congrArg₂ (· * ·) ?_ ?_) (congrArg₂ (· * ·) ?_ ?_)
  all_goals blk_ext [iblk, idx t]

/-- The keys and values the call leaves, as a function of the arguments. -/
def outKv (z : (⟨S12288x5440, .f32⟩ : BufTy).Contents (Elt Ideal)) (g : (⟨S512, .f32⟩ : BufTy).Contents (Elt Ideal))
    (w : (⟨S512x4096, .f32⟩ : BufTy).Contents (Elt Ideal)) : (⟨S12288x4096, .bf16⟩ : BufTy).Contents (Elt Ideal) :=
  keysValues (packed z) (row g) (narrow w)

/-- The latents the call leaves, as a function of the arguments. -/
def outCkv (z : (⟨S12288x5440, .f32⟩ : BufTy).Contents (Elt Ideal)) (g : (⟨S512, .f32⟩ : BufTy).Contents (Elt Ideal)) :
    (⟨S12288x512, .f32⟩ : BufTy).Contents (Elt Ideal) :=
  latents (packed z) (row g)

/-- The rotary keys the call leaves, as a function of the arguments. -/
def outRot (z : (⟨S12288x5440, .f32⟩ : BufTy).Contents (Elt Ideal)) : (⟨S12288x128, .bf16⟩ : BufTy).Contents (Elt Ideal) :=
  rotary (packed z) table

/-- The call's first output array. -/
theorem result_kv : (dats m 0 c).arrAt 5 cfg0.N = outKv (m ((c : Thread nD τ).loc main_arg0)) (m ((c : Thread nD τ).loc main_arg1))
    (m ((c : Thread nD τ).loc main_arg2)) := by
  rw [final_kv, V_main_v58, V_main_v60, V_main_v59]
  rfl

/-- The call's second output array. -/
theorem result_ckv : (dats m 0 c).arrAt 6 cfg0.N = outCkv (m ((c : Thread nD τ).loc main_arg0)) (m ((c : Thread nD τ).loc main_arg1)) := by
  rw [final_ckv, V_main_v58, V_main_v60]
  rfl

/-- The call's third output array. -/
theorem result_rot : (dats m 0 c).arrAt 7 cfg0.N = outRot (m ((c : Thread nD τ).loc main_arg0)) := by
  rw [final_rot, V_main_v58, V_main_v46]
  rfl

/-- The call's first output is the plain keys and values. -/
theorem value_kv (z : (⟨S12288x5440, .f32⟩ : BufTy).Contents (Elt Ideal)) (g : (⟨S512, .f32⟩ : BufTy).Contents (Elt Ideal))
    (w : (⟨S512x4096, .f32⟩ : BufTy).Contents (Elt Ideal)) :
    outKv z g w = Cert.Reference7Ideal.Read.val_main_v90 (F := Ideal) z g w := by
  funext i
  obtain ⟨r, j, rfl⟩ : ∃ (r : Fin 12288) (j : Fin 4096), i = ix2 r j := ⟨i 0, i 1, (ix2_eta i).symm⟩
  refine Eq.trans ?_ (Cert.KvRef.ref_dot z g w r j).symm
  exact dot_congr (fun u => normed_congr _ (fun k => packed_at z r k) (fun k => row_at g k) u) (fun u => rfl)

/-- The call's second output is the plain latents. -/
theorem value_ckv (z : (⟨S12288x5440, .f32⟩ : BufTy).Contents (Elt Ideal)) (g : (⟨S512, .f32⟩ : BufTy).Contents (Elt Ideal)) :
    outCkv z g = Cert.Reference7Ideal.Read.val_main_v16 (F := Ideal) z g := by
  funext i
  obtain ⟨r, j, rfl⟩ : ∃ (r : Fin 12288) (j : Fin 512), i = ix2 r j := ⟨i 0, i 1, (ix2_eta i).symm⟩
  refine Eq.trans ?_ (Cert.KvRef.ref_row z g r j).symm
  exact normed_congr _ (fun k => packed_at z r k) (fun k => row_at g k) j

/-- The call's third output is the plain rotary keys. -/
theorem value_rot (z : (⟨S12288x5440, .f32⟩ : BufTy).Contents (Elt Ideal)) :
    outRot z = Cert.Reference7Ideal.Read.val_main_v92 (F := Ideal) z := by
  funext i
  obtain ⟨r, j, rfl⟩ : ∃ (r : Fin 12288) (j : Fin 128), i = ix2 r j := ⟨i 0, i 1, (ix2_eta i).symm⟩
  refine Eq.trans ?_ (Cert.KvRef.ref_rot z r j).symm
  refine Eq.trans (congrArg₂ (· + ·) (congrArg₂ (· * ·) (packed_rot z r j) (table_cos r j))
    (congrArg₂ (· * ·) (packed_sw z r j) (table_sin r j))) ?_
  unfold rotKey
  by_cases h : r.val < 8192
  · rw [if_pos h, cos_prompt r h, sin_prompt r h, mul_one, mul_zero, add_zero]
  · rw [if_neg h]
    have e : (⟨8192 + (r.val - 8192), by omega⟩ : Fin 12288) = r := Fin.ext (by show 8192 + (r.val - 8192) = r.val; omega)
    have a := v39_at (⟨r.val - 8192, by omega⟩ : Fin 4096) (⟨j.val % 64, by omega⟩ : Fin 64)
    have b := v44_at (⟨r.val - 8192, by omega⟩ : Fin 4096) (⟨j.val % 64, by omega⟩ : Fin 64)
    rw [e] at a b
    exact congrArg₂ (· + ·) (congrArg₂ (· * ·) rfl a) (congrArg₂ (· * ·) rfl b)

end Cert.KvValue
-- ==== Proof.CacheValue.lean ====
module

public import proofs.«01_k».proof.Proof.Gen.Kernel8Ideal.Value
public import proofs.«01_k».proof.Proof.Gen.Reference8Ideal.Read
public import Idealize.ShloMosaic.Lib.Pipeline.Value
public import Idealize.ShloMosaic.Lib.Pipeline.ValueKit
public import Idealize.ShloMosaic.Lib.StableHlo.RunRead
public import Idealize.ShloMosaic.Lib.UnfoldOut

/-! The call for the cached key/value latents leaves what the plain up-projection of the cache computes. -/

@[expose] public section
set_option maxRecDepth 16384
noncomputable section
namespace Cert.CacheValue
open Cert.Kernel8Ideal Cert.Kernel8Ideal.Gen Idealize.ShloMosaic Idealize.ShloMosaic.TcCoe Idealize.SL.Sem

/-- What a point of the call writes. -/
theorem out_at (x0 : Vec Ideal S256x512 .f32) (x1 : Vec Ideal S512x4096 .bf16) (y : S256x4096.Idx) :
    out0_2 (F := Ideal) x0 x1 y = ∑ k : Fin 512, x0 (ix2 (y 0) k) * x1 (ix2 k (y 1)) := by
  unfold out0_2
  canon_tiles y h
  rename_i z
  obtain rfl : z = y := funext fun a => match a with
    | ⟨0, _⟩ => Fin.ext h0
    | ⟨1, _⟩ => Fin.ext h1
  pointwise [k0_pay1]

/-- The index maps of the call's windows, over the grid's points. -/
theorem idx : ∀ t : Fin cfg0.N, win0_0.index t = ![t.val, 0] ∧ win0_1.index t = ![0, 0] ∧ win0_2.index t = ![t.val, 0] :=
  (by decide +kernel : ∀ t : Fin grid0.N, _)

/-- The product over the arrays the call is given. -/
def product (X : Vec Ideal S512x512 .f32) (A : Vec Ideal S512x4096 .bf16) : Vec Ideal S512x4096 .bf16 := fun i =>
  ∑ k : Fin 512, X (ix2 (i 0) k) * A (ix2 k (i 1))

/-- Equal factors give equal sums of products. -/
theorem dot_congr {a b a' b' : Fin 512 → EReal} (ha : ∀ k, a k = a' k) (hb : ∀ k, b k = b' k) :
    ∑ k, a k * b k = ∑ k, a' k * b' k := Finset.sum_congr rfl fun k _ => congrArg₂ (· * ·) (ha k) (hb k)

/-- What the call leaves, as a function of the arguments. -/
def out (x0 : (⟨S2x256x512, .f32⟩ : BufTy).Contents (Elt Ideal)) (x1 : (⟨S512x4096, .f32⟩ : BufTy).Contents (Elt Ideal)) :
    (⟨S512x4096, .bf16⟩ : BufTy).Contents (Elt Ideal) :=
  product (shapeCast S512x512 x0 shapeCasts_S2x256x512_S512x512)
    (truncf (F := Ideal) (s := S512x4096) (φ := .f32) .bf16 x1 bitsLt_bf16_f32)

/-- The call's output is the plain output. -/
theorem value (x0 : (⟨S2x256x512, .f32⟩ : BufTy).Contents (Elt Ideal)) (x1 : (⟨S512x4096, .f32⟩ : BufTy).Contents (Elt Ideal)) :
    out x0 x1 = Cert.Reference8Ideal.Read.val_main_v2 (F := Ideal) x0 x1 := by
  funext i
  obtain ⟨r, d, rfl⟩ : ∃ (r : Fin 512) (d : Fin 4096), i = ix2 r d := ⟨i 0, i 1, (ix2_eta i).symm⟩
  have lhs : out x0 x1 (ix2 r d) = ∑ k : Fin 512, shapeCast S512x512 x0 shapeCasts_S2x256x512_S512x512 (ix2 r k) * x1 (ix2 k d) := rfl
  rw [lhs]
  pointwise [Cert.Reference8Ideal.Read.val_main_v2, Cert.Reference8Ideal.Read.val_main_v1, Cert.Reference8Ideal.Read.val_main_v0]

variable (m : (ℓ : Loc nD τ sig) → Buf (Elt Ideal) ℓ) (c : Dev nD)

set_option maxHeartbeats 1000000 in
/-- What the call leaves over the arrays it is given. -/
theorem final : (dats m 0 c).arrAt 2 cfg0.N = product (V m c main_v0) (V m c main_v1) := by
  unfold product
  refine (dats m 0 c).arrAt_eq_of_covers 2 _ (by decide +kernel) fun t hf y => ?_
  blk_simp
  rw [after0_2]
  refine Eq.trans (out_at _ _ _) ?_
  refine dot_congr (fun k => ?_) (fun k => ?_)
  all_goals blk_ext [iblk, idx t]

/-- The latents as the call finds them. -/
theorem V_main_v0 : V m c main_v0 = shapeCast S512x512 (m ((c : Thread nD τ).loc main_arg0)) shapeCasts_S2x256x512_S512x512 := by
  simp only [V, hostOps0]
  after_results_simp <;> rfl

/-- The weight as the call finds it. -/
theorem V_main_v1 : V m c main_v1 = truncf (F := Ideal) (s := S512x4096) (φ := .f32) .bf16
    (m ((c : Thread nD τ).loc main_arg1)) bitsLt_bf16_f32 := by
  simp only [V, hostOps0]
  after_results_simp <;> rfl

/-- The call's output array. -/
theorem result : (dats m 0 c).arrAt 2 cfg0.N = out (m ((c : Thread nD τ).loc main_arg0)) (m ((c : Thread nD τ).loc main_arg1)) := by
  rw [final, V_main_v0, V_main_v1]
  rfl

end Cert.CacheValue
-- ==== Proof.NormRun.lean ====
module

public import proofs.«01_k».proof.Proof.Gen.Kernel9Ideal.Frame

/-! The run of the final norms, with what it leaves in every buffer. -/

@[expose] public section
set_option maxRecDepth 16384
noncomputable section
namespace Cert.NormRun
open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with each buffer of the program holding its contents after the last call. -/
theorem run : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- Every run ends with the two result buffers as after the last host operation, and the arguments unchanged. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v5 (by decide)),
     h c _ (mem_uc main_v8 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run m ρ)

end Cert.NormRun
-- ==== Proof.NormValue.lean ====
module

public import proofs.«01_k».proof.Proof.Gen.Kernel9Ideal.Frame
public import proofs.«01_k».proof.Proof.Gen.Reference9Ideal.Read
public import Idealize.ShloMosaic.Lib.Pipeline.Value
public import Idealize.ShloMosaic.Lib.Pipeline.ValueKit
public import Idealize.ShloMosaic.Lib.StableHlo.RunRead
public import Idealize.ShloMosaic.Lib.UnfoldOut
public import proofs.«01_k».proof.Proof.RmsMath

/-! The two calls of the final norm leave what the plain norms of the two token groups compute. -/

@[expose] public section
set_option maxRecDepth 16384
noncomputable section
namespace Cert.NormValue
open Cert.Kernel9Ideal Cert.Kernel9Ideal.Gen Idealize.ShloMosaic Idealize.ShloMosaic.TcCoe Idealize.SL.Sem
open Cert.RmsMath

/-- A row of 4096 elements normalized and weighted. -/
def nrow (x g : Fin 4096 → EReal) (d : Fin 4096) : EReal := normed (Ideal.ofBits .f32 1166016512#32) x g d

/-- What a point of the first call writes. -/
theorem out0_at (x0 : Vec Ideal S256x4096 .f32) (x1 : Vec Ideal S1x4096 .f32) (y : S256x4096.Idx) :
    out0_2 (F := Ideal) x0 x1 y = nrow (fun k => x0 (ix2 (y 0) k)) (fun k => x1 (ix2 (0 : Fin 1) k)) (y 1) := by
  unfold out0_2
  canon_tiles y h
  rename_i z
  obtain rfl : z = y := funext fun a => match a with
    | ⟨0, _⟩ => Fin.ext h0
    | ⟨1, _⟩ => Fin.ext h1
  pointwise [k0_pay1, nrow, normed]

/-- What a point of the second call writes. -/
theorem out1_at (x0 : Vec Ideal S256x4096 .f32) (x1 : Vec Ideal S1x4096 .f32) (y : S256x4096.Idx) :
    out1_2 (F := Ideal) x0 x1 y = nrow (fun k => x0 (ix2 (y 0) k)) (fun k => x1 (ix2 (0 : Fin 1) k)) (y 1) := by
  unfold out1_2
  canon_tiles y h
  rename_i z
  obtain rfl : z = y := funext fun a => match a with
    | ⟨0, _⟩ => Fin.ext h0
    | ⟨1, _⟩ => Fin.ext h1
  pointwise [k1_pay1, nrow, normed]

/-- The index maps of the first call's windows, over the grid's points. -/
theorem idx0 : ∀ t : Fin cfg0.N, win0_0.index t = ![t.val, 0] ∧ win0_1.index t = ![0, 0] ∧ win0_2.index t = ![t.val, 0] :=
  (by decide +kernel : ∀ t : Fin grid0.N, _)

/-- The index maps of the second call's windows: its input starts at block 32, the samples' first. -/
theorem idx1 : ∀ t : Fin cfg1.N, win1_0.index t = ![32 + t.val, 0] ∧ win1_1.index t = ![0, 0] ∧ win1_2.index t = ![t.val, 0] :=
  (by decide +kernel : ∀ t : Fin grid1.N, _)

/-- The prompt's normalized rows over the arrays the call is given. -/
def prompt (X : Vec Ideal S12288x4096 .f32) (G : Vec Ideal S1x4096 .f32) : Vec Ideal S8192x4096 .f32 := fun i =>
  nrow (fun k => X (ix2 (⟨(i 0).val, by have h : (i 0).val < 8192 := (i 0).isLt; omega⟩ : Fin 12288) k)) (fun k => G (ix2 (0 : Fin 1) k)) (i 1)

/-- The samples' normalized rows over the arrays the call is given. -/
def sample (X : Vec Ideal S12288x4096 .f32) (G : Vec Ideal S1x4096 .f32) : Vec Ideal S4096x4096 .f32 := fun i =>
  nrow (fun k => X (ix2 (⟨8192 + (i 0).val, by have h : (i 0).val < 4096 := (i 0).isLt; omega⟩ : Fin 12288) k)) (fun k => G (ix2 (0 : Fin 1) k)) (i 1)

/-- All tokens, one row each: the prompt's, then the samples'. -/
def tokens (x : (⟨S32x256x4096, .f32⟩ : BufTy).Contents (Elt Ideal)) (y : (⟨S2x2048x4096, .f32⟩ : BufTy).Contents (Elt Ideal)) :
    (⟨S12288x4096, .f32⟩ : BufTy).Contents (Elt Ideal) :=
  concatenate S12288x4096 0 [⟨S8192x4096, shapeCast S8192x4096 x shapeCasts_S32x256x4096_S8192x4096⟩,
    ⟨S4096x4096, shapeCast S4096x4096 y shapeCasts_S2x2048x4096_S4096x4096⟩] concatenates_S8192x4096_S4096x4096_S12288x4096_d0

/-- A prompt token's row. -/
theorem tokens_prompt (x : (⟨S32x256x4096, .f32⟩ : BufTy).Contents (Elt Ideal)) (y : (⟨S2x2048x4096, .f32⟩ : BufTy).Contents (Elt Ideal))
    (r : Fin 12288) (h : r.val < 8192) (d : Fin 4096) : tokens x y (ix2 r d) =
      x (ix3 (⟨r.val / 256, by omega⟩ : Fin 32) (⟨r.val % 256, by omega⟩ : Fin 256) d) := by
  pointwise [tokens]
  rw [dif_pos h]

/-- A sample token's row. -/
theorem tokens_sample (x : (⟨S32x256x4096, .f32⟩ : BufTy).Contents (Elt Ideal)) (y : (⟨S2x2048x4096, .f32⟩ : BufTy).Contents (Elt Ideal))
    (r : Fin 12288) (h : ¬ r.val < 8192) (d : Fin 4096) : tokens x y (ix2 r d) =
      y (ix3 (⟨(r.val - 8192) / 2048, by omega⟩ : Fin 2) (⟨(r.val - 8192) % 2048, by omega⟩ : Fin 2048) d) := by
  pointwise [tokens]
  rw [dif_neg h]

/-- The norm's weight as one row. -/
def row (w : (⟨S4096, .f32⟩ : BufTy).Contents (Elt Ideal)) : (⟨S1x4096, .f32⟩ : BufTy).Contents (Elt Ideal) :=
  shapeCast S1x4096 w shapeCasts_S4096_S1x4096

/-- The norm's weight, read as a row. -/
theorem row_at (w : (⟨S4096, .f32⟩ : BufTy).Contents (Elt Ideal)) (d : Fin 4096) : row w (ix2 (0 : Fin 1) d) = w (ix1 d) := by
  pointwise [row]

section
variable (x0 : (⟨S32x256x4096, .f32⟩ : BufTy).Contents (Elt Ideal)) (x1 : (⟨S2x2048x4096, .f32⟩ : BufTy).Contents (Elt Ideal))
  (x2 : (⟨S4096, .f32⟩ : BufTy).Contents (Elt Ideal))

/-- The first result, as a function of the arguments. -/
def outPrompt : (⟨S32x256x4096, .f32⟩ : BufTy).Contents (Elt Ideal) :=
  shapeCast S32x256x4096 (prompt (tokens x0 x1) (row x2)) shapeCasts_S8192x4096_S32x256x4096

/-- The second result, as a function of the arguments. -/
def outSample : (⟨S2x2048x4096, .f32⟩ : BufTy).Contents (Elt Ideal) :=
  shapeCast S2x2048x4096 (sample (tokens x0 x1) (row x2)) shapeCasts_S4096x4096_S2x2048x4096

/-- The first result is the plain norm of the prompt's tokens. -/
theorem value_prompt : outPrompt x0 x1 x2 = Cert.Reference9Ideal.Read.val_main_v12 (F := Ideal) x0 x2 := by
  funext i
  obtain ⟨b, t, d, rfl⟩ : ∃ (b : Fin 32) (t : Fin 256) (d : Fin 4096), i = ix3 b t d := ⟨i 0, i 1, i 2, (ix3_eta i).symm⟩
  have rhs : Cert.Reference9Ideal.Read.val_main_v12 (F := Ideal) x0 x2 (ix3 b t d) = nrow (fun k => x0 (ix3 b t k)) (fun k => x2 (ix1 k)) d := by
    pointwise [Cert.Reference9Ideal.Read.val_main_v12, Cert.Reference9Ideal.Read.val_main_v11, Cert.Reference9Ideal.Read.val_main_v10,
      Cert.Reference9Ideal.Read.val_main_v9, Cert.Reference9Ideal.Read.val_main_v8, Cert.Reference9Ideal.Read.val_main_v7,
      Cert.Reference9Ideal.Read.val_main_v6, Cert.Reference9Ideal.Read.val_main_v5, Cert.Reference9Ideal.Read.val_main_v4,
      Cert.Reference9Ideal.Read.val_main_v3, Cert.Reference9Ideal.Read.val_main_v2, Cert.Reference9Ideal.Read.val_main_v1,
      Cert.Reference9Ideal.Read.val_main_v0, Cert.Reference9Ideal.Read.val_main_cst, Cert.Reference9Ideal.Read.val_main_cst_0,
      Cert.Reference9Ideal.Read.val_main_cst_1, nrow, normed]
  rw [rhs]
  have lhs : outPrompt x0 x1 x2 (ix3 b t d) = prompt (tokens x0 x1) (row x2) (ix2 (⟨b.val * 256 + t.val, by omega⟩ : Fin 8192) d) := by
    pointwise [outPrompt]
  rw [lhs]
  unfold prompt nrow
  refine normed_congr _ (fun k => ?_) (fun k => row_at x2 k) d
  refine (tokens_prompt x0 x1 _ (by show b.val * 256 + t.val < 8192; omega) k).trans ?_
  exact congrArg₂ (fun u v => x0 (ix3 u v k)) (Fin.ext (by show (b.val * 256 + t.val) / 256 = b.val; omega))
    (Fin.ext (by show (b.val * 256 + t.val) % 256 = t.val; omega))

/-- The second result is the plain norm of the samples' tokens. -/
theorem value_sample : outSample x0 x1 x2 = Cert.Reference9Ideal.Read.val_main_v25 (F := Ideal) x1 x2 := by
  funext i
  obtain ⟨b, t, d, rfl⟩ : ∃ (b : Fin 2) (t : Fin 2048) (d : Fin 4096), i = ix3 b t d := ⟨i 0, i 1, i 2, (ix3_eta i).symm⟩
  have rhs : Cert.Reference9Ideal.Read.val_main_v25 (F := Ideal) x1 x2 (ix3 b t d) = nrow (fun k => x1 (ix3 b t k)) (fun k => x2 (ix1 k)) d := by
    pointwise [Cert.Reference9Ideal.Read.val_main_v25, Cert.Reference9Ideal.Read.val_main_v24, Cert.Reference9Ideal.Read.val_main_v23,
      Cert.Reference9Ideal.Read.val_main_v22, Cert.Reference9Ideal.Read.val_main_v21, Cert.Reference9Ideal.Read.val_main_v20,
      Cert.Reference9Ideal.Read.val_main_v19, Cert.Reference9Ideal.Read.val_main_v18, Cert.Reference9Ideal.Read.val_main_v17,
      Cert.Reference9Ideal.Read.val_main_v16, Cert.Reference9Ideal.Read.val_main_v15, Cert.Reference9Ideal.Read.val_main_v14,
      Cert.Reference9Ideal.Read.val_main_v13, Cert.Reference9Ideal.Read.val_main_cst_2, Cert.Reference9Ideal.Read.val_main_cst_3,
      Cert.Reference9Ideal.Read.val_main_cst_4, nrow, normed]
  rw [rhs]
  have lhs : outSample x0 x1 x2 (ix3 b t d) = sample (tokens x0 x1) (row x2) (ix2 (⟨b.val * 2048 + t.val, by omega⟩ : Fin 4096) d) := by
    pointwise [outSample]
  rw [lhs]
  unfold sample nrow
  refine normed_congr _ (fun k => ?_) (fun k => row_at x2 k) d
  refine (tokens_sample x0 x1 _ (by show ¬ 8192 + (b.val * 2048 + t.val) < 8192; omega) k).trans ?_
  exact congrArg₂ (fun u v => x1 (ix3 u v k)) (Fin.ext (by show (8192 + (b.val * 2048 + t.val) - 8192) / 2048 = b.val; omega))
    (Fin.ext (by show (8192 + (b.val * 2048 + t.val) - 8192) % 2048 = t.val; omega))
end

section
variable (V : (c : Dev nD) → (b : Ref sig .tc) → Buf (Elt Ideal) ((c : Thread nD τ).loc b)) (c : Dev nD)

set_option maxHeartbeats 1000000 in
/-- What the first call leaves. -/
theorem final0 : (dat0 V c).arrAt 2 cfg0.N = prompt (V c main_v2) (V c main_v3) := by
  unfold prompt
  refine (dat0 V c).arrAt_eq_of_covers 2 _ (by decide +kernel) fun t hf y => ?_
  blk_simp
  rw [after0_2]
  refine Eq.trans (out0_at _ _ _) ?_
  unfold nrow normed
  beta_reduce
  refine congrArg₂ (· * ·) (congrArg₂ (· * ·) ?_ (congrArg Ideal.rsqrt (congrArg₂ (· + ·)
    (congrArg₂ Ideal.div (dot_congr (fun k => ?_) (fun k => ?_)) rfl) rfl))) ?_
  all_goals blk_ext [iblk0, idx0 t]

set_option maxHeartbeats 1000000 in
/-- What the second call leaves. -/
theorem final1 : (dat1 V c).arrAt 2 cfg1.N = sample (V c main_v2) (V c main_v6) := by
  unfold sample
  refine (dat1 V c).arrAt_eq_of_covers 2 _ (by decide +kernel) fun t hf y => ?_
  blk_simp
  rw [after1_2]
  refine Eq.trans (out1_at _ _ _) ?_
  unfold nrow normed
  beta_reduce
  refine congrArg₂ (· * ·) (congrArg₂ (· * ·) ?_ (congrArg Ideal.rsqrt (congrArg₂ (· + ·)
    (congrArg₂ Ideal.div (dot_congr (fun k => ?_) (fun k => ?_)) rfl) rfl))) ?_
  all_goals blk_ext [iblk1, idx1 t]
end

variable (m : (ℓ : Loc nD τ sig) → Buf (Elt Ideal) ℓ) (ρ : Dev nD → PrngReg) (c : Dev nD)

/-- The tokens as the first call finds them. -/
theorem V_main_v2 : V1 m ρ c main_v2 = tokens (m ((c : Thread nD τ).loc main_arg0)) (m ((c : Thread nD τ).loc main_arg1)) := by
  simp only [V1, W1, hostOps0]
  after_results_simp <;> rfl

/-- The weight as the first call finds it. -/
theorem V_main_v3 : V1 m ρ c main_v3 = row (m ((c : Thread nD τ).loc main_arg2)) := by
  simp only [V1, W1, hostOps0]
  after_results_simp <;> rfl

/-- The weight as the second call finds it. -/
theorem V_main_v6 : V3 m ρ c main_v6 = row (m ((c : Thread nD τ).loc main_arg2)) := by
  have h : W3 m ρ c (Proc.devRef .tc main_v6) = row (W2 m ρ c (Proc.devRef .tc main_arg2)) := by
    simp only [W3, hostOps1]
    after_results_simp <;> rfl
  exact h.trans (congrArg row (W2_args m ρ c main_arg2 (by decide)))

/-- The first result buffer after the run. -/
theorem result_prompt : W5 m ρ c (Proc.devRef .tc main_v5) = outPrompt (m ((c : Thread nD τ).loc main_arg0))
    (m ((c : Thread nD τ).loc main_arg1)) (m ((c : Thread nD τ).loc main_arg2)) := by
  have h4 : W2 m ρ c (Proc.devRef .tc main_v4) = prompt (V1 m ρ c main_v2) (V1 m ρ c main_v3) :=
    (W2_arr m ρ c 2).trans (final0 (V1 m ρ) c)
  have h5 : W3 m ρ c (Proc.devRef .tc main_v5) =
      shapeCast S32x256x4096 (W2 m ρ c (Proc.devRef .tc main_v4)) shapeCasts_S8192x4096_S32x256x4096 := by
    simp only [W3, hostOps1]
    after_results_simp <;> rfl
  refine (W5_of m ρ c main_v5 (by decide)).trans ((W4_of m ρ c main_v5 (by decide)).trans (h5.trans ?_))
  rw [h4, V_main_v2, V_main_v3]
  rfl

/-- The second result buffer after the run. -/
theorem result_sample : W5 m ρ c (Proc.devRef .tc main_v8) = outSample (m ((c : Thread nD τ).loc main_arg0))
    (m ((c : Thread nD τ).loc main_arg1)) (m ((c : Thread nD τ).loc main_arg2)) := by
  have h7 : W4 m ρ c (Proc.devRef .tc main_v7) = sample (V3 m ρ c main_v2) (V3 m ρ c main_v6) :=
    (W4_arr m ρ c 2).trans (final1 (V3 m ρ) c)
  have h2 : V3 m ρ c main_v2 = V1 m ρ c main_v2 := (W3_of m ρ c main_v2 (by decide)).trans (W2_of m ρ c main_v2 (by decide))
  have h8 : W5 m ρ c (Proc.devRef .tc main_v8) =
      shapeCast S2x2048x4096 (W4 m ρ c (Proc.devRef .tc main_v7)) shapeCasts_S4096x4096_S2x2048x4096 := by
    simp only [W5, hostOps2]
    after_results_simp <;> rfl
  refine h8.trans ?_
  rw [h7, h2, V_main_v2, V_main_v6]
  rfl

end Cert.NormValue
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.AttnPre
public import proofs.«01_k».proof.Proof.AttnValue
public import proofs.«01_k».proof.Proof.FfnRun
public import proofs.«01_k».proof.Proof.FfnValue
public import proofs.«01_k».proof.Proof.MoeHost
public import proofs.«01_k».proof.Proof.MoeBitsOk
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_routed
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.InRun
public import proofs.«01_k».proof.Proof.InValue
public import proofs.«01_k».proof.Proof.OutValue
public import proofs.«01_k».proof.Proof.QValue
public import proofs.«01_k».proof.Proof.KvValue
public import proofs.«01_k».proof.Proof.CacheValue
public import proofs.«01_k».proof.Proof.NormRun
public import proofs.«01_k».proof.Proof.NormValue
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import Idealize.ShloMosaic.Adequacy
public import Idealize.ShloMosaic.Init

@[expose] public section

noncomputable section

namespace Cert.Proof

open Idealize.ShloMosaic Idealize.SL.Sem Cert.Kernel

/-- The kernel at bits runs, keeps its arguments and ends quiescent. -/
theorem kernel_frame : quiescent_Kernel := fun m g _ => Cert.Kernel.Gen.frame m g

/-- The kernel at extended reals runs, keeps its arguments and ends quiescent. -/
theorem ideal_frame : quiescent_KernelIdeal := fun m g _ => Cert.KernelIdeal.Gen.frame m g

/-- The same under the precondition. -/
theorem ideal_frame_finite : quiescent_KernelIdeal_pre_finite := fun m g _ => Cert.KernelIdeal.Gen.frame m g

/-- The reference runs, keeps its arguments and ends quiescent. -/
theorem reference_frame : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same under the precondition. -/
theorem reference_frame_finite : quiescent_ReferenceIdeal_pre_finite := fun m g _ => reference_frame m g trivial

/-- The attention kernel and the plain attention end with the same result, for real arguments. -/
theorem attention : algebraic_KernelIdeal_ReferenceIdeal_pre_finite := by
  intro m g m' g' hpre hagree
  refine ⟨fun c => Cert.ReferenceIdeal.Value.res_main_v104 m' c, ?_, ?_⟩
  · refine (θ_run Cert.KernelIdeal.defs _ _).mono (fun r h c => ⟨(h c).1.trans ?_, (h c).2⟩)
      (Cert.KernelIdeal.Value.run_blocks m g)
    rw [Cert.AttnBlock.final m c]
    refine Eq.trans ?_ (Cert.ReferenceIdeal.Read.val_main_v104_eq m' c).symm
    obtain ⟨e0, e1, e2, e3, e4⟩ := hagree c
    obtain ⟨h0, h1, h2, h3, h4⟩ := Cert.AttnPre.real _ _ _ _ _ (hpre c)
    rw [e0, e1, e2, e3, e4]
    funext i
    rw [Cert.AttnPrep.V_main_v45, Cert.AttnPrep.V_main_v59, Cert.AttnPrep.V_main_v67, Cert.AttnPrep.V_main_v61,
      Cert.AttnPrep.V_main_v63, Cert.AttnPrep.V_main_v66]
    refine (Cert.AttnValue.value _ _ _ _ _ h0 h1 h2 h3 h4 (i 0) (i 1)).trans ?_
    exact congrArg _ (ix2_eta i)
  · exact Cert.ReferenceIdeal.Value.run m' g'

/-- The feed-forward kernel at bits runs, keeps its arguments and ends quiescent. -/
theorem ffn_kernel_frame : quiescent_Kernel2 := fun m g _ => Cert.Kernel2.Gen.frame m g

/-- The feed-forward kernel at extended reals runs, keeps its arguments and ends quiescent. -/
theorem ffn_ideal_frame : quiescent_Kernel2Ideal := fun m g _ => Cert.Kernel2Ideal.Gen.frame m g

/-- The plain feed-forward sublayer runs, keeps its arguments and ends quiescent. -/
theorem ffn_reference_frame : quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The feed-forward kernel and the plain feed-forward sublayer end with the same result, for all arguments. -/
theorem ffn : algebraic_Kernel2Ideal_Reference2Ideal := by
  intro m g m' g' hpre hagree
  refine ⟨fun c => Cert.Reference2Ideal.Value.res_main_v56 m' c, ?_, ?_⟩
  · refine (θ_run Cert.Kernel2Ideal.defs _ _).mono (fun r h c => ⟨(h c).1.trans ?_, (h c).2⟩)
      (Cert.FfnRun.run_result m g)
    refine (Cert.FfnValue.result m g c).trans ?_
    refine Eq.trans ?_ (Cert.Reference2Ideal.Read.val_main_v56_eq m' c).symm
    obtain ⟨e0, e1, e2, e3, e4, e5, e6, e7, e8, e9, e10, e11⟩ := hagree c
    rw [e0, e1, e2, e3, e4, e5, e6, e7, e8, e9, e10, e11]
    exact Cert.FfnValue.value _ _ _ _ _ _ _ _ _ _ _ _
  · exact Cert.Reference2Ideal.Value.run m' g'

/-- The experts kernel at bits runs, keeps its arguments and ends quiescent, for tables in their ranges. -/
theorem moe_kernel_frame : quiescent_Kernel3 := fun m g hpre =>
  have hr := Cert.Kernel3.Moe.tabs_inRange m _ _ _ _ _ (hpre ⟨0, by decide⟩)
  (θ_run Cert.Kernel3.defs _ _).mono (fun r h => ⟨fun c => (h.1 c).2, h.2⟩)
    (Cert.Kernel3.Moe.run_result m g (Cert.Kernel3.Moe.admOf m hr) (Cert.Kernel3.Moe.tabs_eq m))

/-- The experts kernel at extended reals runs, keeps its arguments and ends quiescent, for tables in their ranges. -/
theorem moe_ideal_frame : quiescent_Kernel3Ideal := fun m g hpre =>
  have hr := Cert.Kernel3Ideal.Moe.tabs_inRange m _ _ _ _ _ (hpre ⟨0, by decide⟩)
  (θ_run Cert.Kernel3Ideal.defs _ _).mono (fun r h => ⟨fun c => (h.1 c).2, h.2⟩)
    (Cert.Kernel3Ideal.Moe.run_result m g (Cert.Kernel3Ideal.Moe.admOf m hr) (Cert.Kernel3Ideal.Moe.tabs_eq m))

/-- The plain experts sum runs, keeps its arguments and ends quiescent. -/
theorem moe_reference_frame : quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The same under the precondition. -/
theorem moe_reference_frame_routed : quiescent_Reference3Ideal_pre_routed := fun m g _ => moe_reference_frame m g trivial

/-- The experts kernel and the plain experts sum end with the same result, for tables in their ranges. -/
theorem moe : algebraic_Kernel3Ideal_Reference3Ideal := by
  intro m g m' g' hpre hagree
  have hr := Cert.Kernel3Ideal.Moe.tabs_inRange m _ _ _ _ _ (hpre ⟨0, by decide⟩)
  refine ⟨fun c => Cert.Reference3Ideal.Value.res_main_v148 (StableHlo.launchContents m' c), ?_, ?_⟩
  · refine (θ_run Cert.Kernel3Ideal.defs _ _).mono (fun r h c => ⟨(h.1 c).1.trans ?_, (h.1 c).2⟩)
      (Cert.Kernel3Ideal.Moe.run_result m g (Cert.Kernel3Ideal.Moe.admOf m hr) (Cert.Kernel3Ideal.Moe.tabs_eq m))
    refine (Cert.Kernel3Ideal.Moe.value m c hr).trans ?_
    refine Eq.trans ?_ (Cert.Reference3Ideal.Read.val_main_v148_eq (StableHlo.launchContents m' c)).symm
    obtain ⟨e0, e1, e2, e3, e4, e5, e6⟩ := hagree c
    exact Cert.MoeRef.same e0 e1 e2 e3 e4 e5 e6
  · exact Cert.Reference3Ideal.Value.run m' g'

/-- The input projection kernel at bits runs, keeps its arguments and ends quiescent. -/
theorem in_kernel_frame : quiescent_Kernel4 := fun m g _ => Cert.Kernel4.Gen.frame m g

/-- The input projection kernel at extended reals runs, keeps its arguments and ends quiescent. -/
theorem in_ideal_frame : quiescent_Kernel4Ideal := fun m g _ => Cert.Kernel4Ideal.Gen.frame m g

/-- The plain input projection runs, keeps its arguments and ends quiescent. -/
theorem in_reference_frame : quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The output projection kernel at bits runs, keeps its arguments and ends quiescent. -/
theorem out_kernel_frame : quiescent_Kernel5 := fun m g _ => Cert.Kernel5.Gen.frame m g

/-- The output projection kernel at extended reals runs, keeps its arguments and ends quiescent. -/
theorem out_ideal_frame : quiescent_Kernel5Ideal := fun m g _ => Cert.Kernel5Ideal.Gen.frame m g

/-- The plain output projection runs, keeps its arguments and ends quiescent. -/
theorem out_reference_frame : quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The input projection kernel and the plain input projection end with the same result, for all arguments. -/
theorem input_projection : algebraic_Kernel4Ideal_Reference4Ideal := by
  intro m g m' g' hpre hagree
  refine ⟨fun c => Cert.Reference4Ideal.Value.res_main_v51 m' c, ?_, ?_⟩
  · refine (θ_run Cert.Kernel4Ideal.defs _ _).mono (fun r h c => ⟨(h c).1.trans ?_, (h c).2⟩)
      (Cert.InRun.run_result m g)
    refine (Cert.InValue.result m g c).trans ?_
    refine Eq.trans ?_ (Cert.Reference4Ideal.Read.val_main_v51_eq m' c).symm
    obtain ⟨e0, e1, e2, e3, e4, e5, e6, e7⟩ := hagree c
    rw [e0, e1, e2, e3, e4, e5, e6, e7]
    exact Cert.InValue.value _ _ _ _ _ _ _ _
  · exact Cert.Reference4Ideal.Value.run m' g'

/-- The output projection kernel and the plain output projection end with the same result, for all arguments. -/
theorem output_projection : algebraic_Kernel5Ideal_Reference5Ideal := by
  intro m g m' g' hpre hagree
  refine ⟨fun c => Cert.Reference5Ideal.Read.val_main_v10 (F := Ideal) (m' ((c.tc : Thread Cert.Reference5Ideal.nD Cert.Reference5Ideal.τ).loc Cert.Reference5Ideal.main_arg0))
    (m' ((c.tc : Thread Cert.Reference5Ideal.nD Cert.Reference5Ideal.τ).loc Cert.Reference5Ideal.main_arg1))
    (m' ((c.tc : Thread Cert.Reference5Ideal.nD Cert.Reference5Ideal.τ).loc Cert.Reference5Ideal.main_arg2))
    (m' ((c.tc : Thread Cert.Reference5Ideal.nD Cert.Reference5Ideal.τ).loc Cert.Reference5Ideal.main_arg3))
    (m' ((c.tc : Thread Cert.Reference5Ideal.nD Cert.Reference5Ideal.τ).loc Cert.Reference5Ideal.main_arg4))
    (m' ((c.tc : Thread Cert.Reference5Ideal.nD Cert.Reference5Ideal.τ).loc Cert.Reference5Ideal.main_arg5))
    (m' ((c.tc : Thread Cert.Reference5Ideal.nD Cert.Reference5Ideal.τ).loc Cert.Reference5Ideal.main_arg6)), ?_, ?_⟩
  · refine (θ_run Cert.Kernel5Ideal.defs _ _).mono (fun r h c => ⟨(h c).1.trans ?_, (h c).2⟩)
      (Cert.Kernel5Ideal.Value.run_blocks m g)
    refine (Cert.OutValue.result m c).trans ?_
    beta_reduce
    obtain ⟨e0, e1, e2, e3, e4, e5, e6⟩ := hagree c
    rw [e0, e1, e2, e3, e4, e5, e6]
    exact Cert.OutValue.value _ _ _ _ _ _ _
  · exact (θ_run Cert.Reference5Ideal.defs _ _).mono (fun r h c => ⟨(h c).1.trans
      (Cert.Reference5Ideal.Read.val_main_v10_eq _ _ _ _ _ _ _), (h c).2⟩) (Cert.Reference5Ideal.Value.run m' g')

/-- The query kernel at bits runs, keeps its arguments and ends quiescent. -/
theorem q_kernel_frame : quiescent_Kernel6 := fun m g _ => Cert.Kernel6.Gen.frame m g

/-- The query kernel at extended reals runs, keeps its arguments and ends quiescent. -/
theorem q_ideal_frame : quiescent_Kernel6Ideal := fun m g _ => Cert.Kernel6Ideal.Gen.frame m g

/-- The plain form of the query kernel runs, keeps its arguments and ends quiescent. -/
theorem q_reference_frame : quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The key/value kernel at bits runs, keeps its arguments and ends quiescent. -/
theorem kv_kernel_frame : quiescent_Kernel7 := fun m g _ => Cert.Kernel7.Gen.frame m g

/-- The key/value kernel at extended reals runs, keeps its arguments and ends quiescent. -/
theorem kv_ideal_frame : quiescent_Kernel7Ideal := fun m g _ => Cert.Kernel7Ideal.Gen.frame m g

/-- The plain form of the key/value kernel runs, keeps its arguments and ends quiescent. -/
theorem kv_reference_frame : quiescent_Reference7Ideal := fun m g _ =>
  (θ_run Cert.Reference7Ideal.defs _ _).mono (fun r h => ⟨fun c => (h c).2.2.2, sem_eq_zero_of_no_sems (by decide) r.2⟩)
    (Cert.Reference7Ideal.Value.run (F := Ideal) m g)

/-- The cached key/value kernel at bits runs, keeps its arguments and ends quiescent. -/
theorem cache_kernel_frame : quiescent_Kernel8 := fun m g _ => Cert.Kernel8.Gen.frame m g

/-- The cached key/value kernel at extended reals runs, keeps its arguments and ends quiescent. -/
theorem cache_ideal_frame : quiescent_Kernel8Ideal := fun m g _ => Cert.Kernel8Ideal.Gen.frame m g

/-- The plain form of the cached key/value kernel runs, keeps its arguments and ends quiescent. -/
theorem cache_reference_frame : quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- The final norm kernel at bits runs, keeps its arguments and ends quiescent. -/
theorem norm_kernel_frame : quiescent_Kernel9 := fun m g _ => Cert.Kernel9.Gen.frame m g

/-- The final norm kernel at extended reals runs, keeps its arguments and ends quiescent. -/
theorem norm_ideal_frame : quiescent_Kernel9Ideal := fun m g _ => Cert.Kernel9Ideal.Gen.frame m g

/-- The plain form of the final norm kernel runs, keeps its arguments and ends quiescent. -/
theorem norm_reference_frame : quiescent_Reference9Ideal := fun m g _ =>
  (θ_run Cert.Reference9Ideal.defs _ _).mono (fun r h => ⟨fun c => (h c).2.2, sem_eq_zero_of_no_sems (by decide) r.2⟩)
    (Cert.Reference9Ideal.Value.run (F := Ideal) m g)

/-- The query kernel and the plain queries end with the same result, for all arguments. -/
theorem q_projection : algebraic_Kernel6Ideal_Reference6Ideal := by
  intro m g m' g' hpre hagree
  refine ⟨fun c => Cert.Reference6Ideal.Value.res_main_v26 m' c, ?_, ?_⟩
  · refine (θ_run Cert.Kernel6Ideal.defs _ _).mono (fun r h c => ⟨(h c).1.trans ?_, (h c).2⟩)
      (Cert.Kernel6Ideal.Value.run_blocks m g)
    refine (Cert.QValue.result m c).trans ?_
    refine Eq.trans ?_ (Cert.Reference6Ideal.Read.val_main_v26_eq m' c).symm
    obtain ⟨e0, e1, e2⟩ := hagree c
    rw [e0, e1, e2]
    exact Cert.QValue.value _ _ _
  · exact Cert.Reference6Ideal.Value.run m' g'

set_option maxHeartbeats 4000000 in
/-- The key/value kernel and the plain keys and values end with the same three results, for all arguments. -/
theorem kv_projection : algebraic_Kernel7Ideal_Reference7Ideal := by
  intro m g m' g' hpre hagree
  refine ⟨fun c => Cert.Reference7Ideal.Read.val_main_v90 (F := Ideal) (m' ((c.tc : Thread Cert.Reference7Ideal.nD Cert.Reference7Ideal.τ).loc Cert.Reference7Ideal.main_arg0))
    (m' ((c.tc : Thread Cert.Reference7Ideal.nD Cert.Reference7Ideal.τ).loc Cert.Reference7Ideal.main_arg1))
    (m' ((c.tc : Thread Cert.Reference7Ideal.nD Cert.Reference7Ideal.τ).loc Cert.Reference7Ideal.main_arg2)),
    fun c => Cert.Reference7Ideal.Read.val_main_v16 (F := Ideal) (m' ((c.tc : Thread Cert.Reference7Ideal.nD Cert.Reference7Ideal.τ).loc Cert.Reference7Ideal.main_arg0))
    (m' ((c.tc : Thread Cert.Reference7Ideal.nD Cert.Reference7Ideal.τ).loc Cert.Reference7Ideal.main_arg1)),
    fun c => Cert.Reference7Ideal.Value.res_main_v92 m' c, ?_, ?_⟩
  · refine (θ_run Cert.Kernel7Ideal.defs _ _).mono (fun r h c => ⟨(h c).1.trans ?_, (h c).2.1.trans ?_, (h c).2.2.1.trans ?_, (h c).2.2.2⟩)
      (Cert.Kernel7Ideal.Value.run_blocks m g)
    · refine (Cert.KvValue.result_kv m c).trans ?_
      beta_reduce
      obtain ⟨e0, e1, e2⟩ := hagree c
      rw [e0, e1, e2]
      exact Cert.KvValue.value_kv _ _ _
    · refine (Cert.KvValue.result_ckv m c).trans ?_
      beta_reduce
      obtain ⟨e0, e1, e2⟩ := hagree c
      rw [e0, e1]
      exact Cert.KvValue.value_ckv _ _
    · refine (Cert.KvValue.result_rot m c).trans ?_
      refine Eq.trans ?_ (Cert.Reference7Ideal.Read.val_main_v92_eq m' c).symm
      obtain ⟨e0, e1, e2⟩ := hagree c
      rw [e0]
      exact Cert.KvValue.value_rot _
  · exact (θ_run Cert.Reference7Ideal.defs _ _).mono (fun r h c => ⟨(h c).1.trans
      (Cert.Reference7Ideal.Read.val_main_v90_eq _ _ _), (h c).2.1.trans
      (Cert.Reference7Ideal.Read.val_main_v16_eq _ _), (h c).2.2⟩) (Cert.Reference7Ideal.Value.run m' g')

/-- The kernel for the cached latents and the plain up-projection of the cache end with the same result, for all arguments. -/
theorem cache_projection : algebraic_Kernel8Ideal_Reference8Ideal := by
  intro m g m' g' hpre hagree
  refine ⟨fun c => Cert.Reference8Ideal.Read.val_main_v2 (F := Ideal) (m' ((c.tc : Thread Cert.Reference8Ideal.nD Cert.Reference8Ideal.τ).loc Cert.Reference8Ideal.main_arg0))
    (m' ((c.tc : Thread Cert.Reference8Ideal.nD Cert.Reference8Ideal.τ).loc Cert.Reference8Ideal.main_arg1)), ?_, ?_⟩
  · refine (θ_run Cert.Kernel8Ideal.defs _ _).mono (fun r h c => ⟨(h c).1.trans ?_, (h c).2⟩)
      (Cert.Kernel8Ideal.Value.run_blocks m g)
    refine (Cert.CacheValue.result m c).trans ?_
    beta_reduce
    obtain ⟨e0, e1⟩ := hagree c
    rw [e0, e1]
    exact Cert.CacheValue.value _ _
  · exact (θ_run Cert.Reference8Ideal.defs _ _).mono (fun r h c => ⟨(h c).1.trans
      (Cert.Reference8Ideal.Read.val_main_v2_eq _ _), (h c).2⟩) (Cert.Reference8Ideal.Value.run m' g')

/-- The two calls of the final norm and the plain norms end with the same results, for all arguments. -/
theorem final_norms : algebraic_Kernel9Ideal_Reference9Ideal := by
  intro m g m' g' hpre hagree
  refine ⟨fun c => Cert.Reference9Ideal.Read.val_main_v12 (F := Ideal) (m' ((c.tc : Thread Cert.Reference9Ideal.nD Cert.Reference9Ideal.τ).loc Cert.Reference9Ideal.main_arg0))
    (m' ((c.tc : Thread Cert.Reference9Ideal.nD Cert.Reference9Ideal.τ).loc Cert.Reference9Ideal.main_arg2)),
    fun c => Cert.Reference9Ideal.Read.val_main_v25 (F := Ideal) (m' ((c.tc : Thread Cert.Reference9Ideal.nD Cert.Reference9Ideal.τ).loc Cert.Reference9Ideal.main_arg1))
    (m' ((c.tc : Thread Cert.Reference9Ideal.nD Cert.Reference9Ideal.τ).loc Cert.Reference9Ideal.main_arg2)), ?_, ?_⟩
  · refine (θ_run Cert.Kernel9Ideal.defs _ _).mono (fun r h c => ⟨(h c).1.trans ?_, (h c).2.1.trans ?_, (h c).2.2⟩)
      (Cert.NormRun.run_result m g)
    · refine (Cert.NormValue.result_prompt m g c).trans ?_
      beta_reduce
      obtain ⟨e0, e1, e2⟩ := hagree c
      rw [e0, e2]
      exact Cert.NormValue.value_prompt _ _ _
    · refine (Cert.NormValue.result_sample m g c).trans ?_
      beta_reduce
      obtain ⟨e0, e1, e2⟩ := hagree c
      rw [e1, e2]
      exact Cert.NormValue.value_sample _ _ _
  · exact (θ_run Cert.Reference9Ideal.defs _ _).mono (fun r h c => ⟨(h c).1.trans
      (Cert.Reference9Ideal.Read.val_main_v12_eq _ _), (h c).2.1.trans
      (Cert.Reference9Ideal.Read.val_main_v25_eq _ _), (h c).2.2⟩) (Cert.Reference9Ideal.Value.run m' g')

/-- All claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_routed.Gen.facts, kernel_frame, ideal_frame, ideal_frame_finite, reference_frame,
  reference_frame_finite, ffn_kernel_frame, ffn_ideal_frame, ffn_reference_frame, moe_kernel_frame, moe_ideal_frame,
  moe_reference_frame, moe_reference_frame_routed, in_kernel_frame, in_ideal_frame, in_reference_frame, out_kernel_frame, out_ideal_frame,
  out_reference_frame, q_kernel_frame, q_ideal_frame, q_reference_frame,
  kv_kernel_frame, kv_ideal_frame, kv_reference_frame,
  cache_kernel_frame, cache_ideal_frame, cache_reference_frame,
  norm_kernel_frame, norm_ideal_frame, norm_reference_frame,
  trivial, attention, trivial, ffn, trivial, moe, trivial, input_projection, trivial, output_projection, trivial, q_projection, trivial, kv_projection, trivial, cache_projection, trivial, final_norms⟩

end Cert.Proof

end
